-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite [hPre_finite : Cert.Pre_finite.Facts] (m : (ℓ : Loc Cert.CrossIdeal.nD Cert.CrossIdeal.τ Cert.CrossIdeal.sig) → Buf (Elt Ideal) ℓ) : Prop :=
  ∀ c : Dev Cert.CrossIdeal.nD,
    (Cert.Pre_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))) = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite [hPre_finite : Cert.Pre_finite.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4))) = (fun _ => 1#1)

def Pre_CrossSample (m : (ℓ : Loc Cert.CrossSample.nD Cert.CrossSample.τ Cert.CrossSample.sig) → Buf (Elt Bits) ℓ) : Prop :=
  True

def Pre_CrossSampleIdeal (m : (ℓ : Loc Cert.CrossSampleIdeal.nD Cert.CrossSampleIdeal.τ Cert.CrossSampleIdeal.sig) → Buf (Elt Ideal) ℓ) : Prop :=
  True

def Pre_CrossSampleIdeal_finite_sample [hPre_finite_sample : Cert.Pre_finite_sample.Facts] (m : (ℓ : Loc Cert.CrossSampleIdeal.nD Cert.CrossSampleIdeal.τ Cert.CrossSampleIdeal.sig) → Buf (Elt Ideal) ℓ) : Prop :=
  ∀ c : Dev Cert.CrossSampleIdeal.nD,
    (Cert.Pre_finite_sample.fn (F := Ideal) (m ((c.tc : Thread Cert.CrossSampleIdeal.nD Cert.CrossSampleIdeal.τ).loc Cert.CrossSampleIdeal.main_arg0)) (m ((c.tc : Thread Cert.CrossSampleIdeal.nD Cert.CrossSampleIdeal.τ).loc Cert.CrossSampleIdeal.main_arg1)) (m ((c.tc : Thread Cert.CrossSampleIdeal.nD Cert.CrossSampleIdeal.τ).loc Cert.CrossSampleIdeal.main_arg2)) (m ((c.tc : Thread Cert.CrossSampleIdeal.nD Cert.CrossSampleIdeal.τ).loc Cert.CrossSampleIdeal.main_arg3)) (m ((c.tc : Thread Cert.CrossSampleIdeal.nD Cert.CrossSampleIdeal.τ).loc Cert.CrossSampleIdeal.main_arg4))) = (fun _ => 1#1)

def Pre_CrossSampleReferenceIdeal (m : (ℓ : Loc Cert.CrossSampleReferenceIdeal.nD Cert.CrossSampleReferenceIdeal.τ Cert.CrossSampleReferenceIdeal.sig) → Buf (Elt Ideal) ℓ) : Prop :=
  True

def Pre_CrossSampleReferenceIdeal_finite_sample [hPre_finite_sample : Cert.Pre_finite_sample.Facts] (m : (ℓ : Loc Cert.CrossSampleReferenceIdeal.nD Cert.CrossSampleReferenceIdeal.τ Cert.CrossSampleReferenceIdeal.sig) → Buf (Elt Ideal) ℓ) : Prop :=
  ∀ c : Dev Cert.CrossSampleReferenceIdeal.nD,
    (Cert.Pre_finite_sample.fn (F := Ideal) (m ((c.tc : Thread Cert.CrossSampleReferenceIdeal.nD Cert.CrossSampleReferenceIdeal.τ).loc Cert.CrossSampleReferenceIdeal.main_arg0)) (m ((c.tc : Thread Cert.CrossSampleReferenceIdeal.nD Cert.CrossSampleReferenceIdeal.τ).loc Cert.CrossSampleReferenceIdeal.main_arg1)) (m ((c.tc : Thread Cert.CrossSampleReferenceIdeal.nD Cert.CrossSampleReferenceIdeal.τ).loc Cert.CrossSampleReferenceIdeal.main_arg2)) (m ((c.tc : Thread Cert.CrossSampleReferenceIdeal.nD Cert.CrossSampleReferenceIdeal.τ).loc Cert.CrossSampleReferenceIdeal.main_arg3)) (m ((c.tc : Thread Cert.CrossSampleReferenceIdeal.nD Cert.CrossSampleReferenceIdeal.τ).loc Cert.CrossSampleReferenceIdeal.main_arg4))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossIdeal_pre_finite [hCrossIdeal : Cert.CrossIdeal.Facts] [hPre_finite : Cert.Pre_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4))
      ∧ r.2.sem = fun _ => 0)

def quiescent_CrossReferenceIdeal_pre_finite [hCrossReferenceIdeal : Cert.CrossReferenceIdeal.Facts] [hPre_finite : Cert.Pre_finite.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4))
      ∧ r.2.sem = fun _ => 0)

def quiescent_CrossSample [hCrossSample : Cert.CrossSample.Facts] : Prop :=
  ∀ (m : (ℓ : Loc Cert.CrossSample.nD Cert.CrossSample.τ Cert.CrossSample.sig) → Buf (Elt Bits) ℓ) (g : Dev Cert.CrossSample.nD → PrngReg), Pre_CrossSample m →
    θ_run (Cert.CrossSample.defs (F := Bits)) (onTc (τ := Cert.CrossSample.τ) (Cert.CrossSample.main (F := Bits))) ⟨m, fun _ => 0, g⟩ (fun r => (∀ c : Dev Cert.CrossSample.nD,
      r.2.mem ((c.tc : Thread Cert.CrossSample.nD Cert.CrossSample.τ).loc Cert.CrossSample.main_arg0) = m ((c.tc : Thread Cert.CrossSample.nD Cert.CrossSample.τ).loc Cert.CrossSample.main_arg0)
      ∧ r.2.mem ((c.tc : Thread Cert.CrossSample.nD Cert.CrossSample.τ).loc Cert.CrossSample.main_arg1) = m ((c.tc : Thread Cert.CrossSample.nD Cert.CrossSample.τ).loc Cert.CrossSample.main_arg1)
      ∧ r.2.mem ((c.tc : Thread Cert.CrossSample.nD Cert.CrossSample.τ).loc Cert.CrossSample.main_arg2) = m ((c.tc : Thread Cert.CrossSample.nD Cert.CrossSample.τ).loc Cert.CrossSample.main_arg2)
      ∧ r.2.mem ((c.tc : Thread Cert.CrossSample.nD Cert.CrossSample.τ).loc Cert.CrossSample.main_arg3) = m ((c.tc : Thread Cert.CrossSample.nD Cert.CrossSample.τ).loc Cert.CrossSample.main_arg3)
      ∧ r.2.mem ((c.tc : Thread Cert.CrossSample.nD Cert.CrossSample.τ).loc Cert.CrossSample.main_arg4) = m ((c.tc : Thread Cert.CrossSample.nD Cert.CrossSample.τ).loc Cert.CrossSample.main_arg4))
      ∧ r.2.sem = fun _ => 0)

def quiescent_CrossSampleIdeal [hCrossSampleIdeal : Cert.CrossSampleIdeal.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg), Pre_CrossSampleIdeal m →
    θ_run (Cert.CrossSampleIdeal.defs (F := Ideal)) (onTc (τ := Cert.CrossSampleIdeal.τ) (Cert.CrossSampleIdeal.main (F := Ideal))) ⟨m, fun _ => 0, g⟩ (fun r => (∀ c : Dev Cert.CrossSampleIdeal.nD,
      r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
      ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
      ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
      ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
      ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4))
      ∧ r.2.sem = fun _ => 0)

def quiescent_CrossSampleIdeal_pre_finite_sample [hCrossSampleIdeal : Cert.CrossSampleIdeal.Facts] [hPre_finite_sample : Cert.Pre_finite_sample.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg), Pre_CrossSampleIdeal_finite_sample m →
    θ_run (Cert.CrossSampleIdeal.defs (F := Ideal)) (onTc (τ := Cert.CrossSampleIdeal.τ) (Cert.CrossSampleIdeal.main (F := Ideal))) ⟨m, fun _ => 0, g⟩ (fun r => (∀ c : Dev Cert.CrossSampleIdeal.nD,
      r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
      ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
      ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
      ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
      ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4))
      ∧ r.2.sem = fun _ => 0)

def quiescent_CrossSampleReferenceIdeal [hCrossSampleReferenceIdeal : Cert.CrossSampleReferenceIdeal.Facts] : Prop :=
  ∀ (m : (ℓ : Loc Cert.CrossSampleReferenceIdeal.nD Cert.CrossSampleReferenceIdeal.τ Cert.CrossSampleReferenceIdeal.sig) → Buf (Elt Ideal) ℓ) (g : Dev Cert.CrossSampleReferenceIdeal.nD → PrngReg), Pre_CrossSampleReferenceIdeal m →
    θ_run (Cert.CrossSampleReferenceIdeal.defs (F := Ideal)) (onTc (τ := Cert.CrossSampleReferenceIdeal.τ) (Cert.CrossSampleReferenceIdeal.main (F := Ideal))) ⟨m, fun _ => 0, g⟩ (fun r => (∀ c : Dev Cert.CrossSampleReferenceIdeal.nD,
      r.2.mem ((c.tc : Thread Cert.CrossSampleReferenceIdeal.nD Cert.CrossSampleReferenceIdeal.τ).loc Cert.CrossSampleReferenceIdeal.main_arg0) = m ((c.tc : Thread Cert.CrossSampleReferenceIdeal.nD Cert.CrossSampleReferenceIdeal.τ).loc Cert.CrossSampleReferenceIdeal.main_arg0)
      ∧ r.2.mem ((c.tc : Thread Cert.CrossSampleReferenceIdeal.nD Cert.CrossSampleReferenceIdeal.τ).loc Cert.CrossSampleReferenceIdeal.main_arg1) = m ((c.tc : Thread Cert.CrossSampleReferenceIdeal.nD Cert.CrossSampleReferenceIdeal.τ).loc Cert.CrossSampleReferenceIdeal.main_arg1)
      ∧ r.2.mem ((c.tc : Thread Cert.CrossSampleReferenceIdeal.nD Cert.CrossSampleReferenceIdeal.τ).loc Cert.CrossSampleReferenceIdeal.main_arg2) = m ((c.tc : Thread Cert.CrossSampleReferenceIdeal.nD Cert.CrossSampleReferenceIdeal.τ).loc Cert.CrossSampleReferenceIdeal.main_arg2)
      ∧ r.2.mem ((c.tc : Thread Cert.CrossSampleReferenceIdeal.nD Cert.CrossSampleReferenceIdeal.τ).loc Cert.CrossSampleReferenceIdeal.main_arg3) = m ((c.tc : Thread Cert.CrossSampleReferenceIdeal.nD Cert.CrossSampleReferenceIdeal.τ).loc Cert.CrossSampleReferenceIdeal.main_arg3)
      ∧ r.2.mem ((c.tc : Thread Cert.CrossSampleReferenceIdeal.nD Cert.CrossSampleReferenceIdeal.τ).loc Cert.CrossSampleReferenceIdeal.main_arg4) = m ((c.tc : Thread Cert.CrossSampleReferenceIdeal.nD Cert.CrossSampleReferenceIdeal.τ).loc Cert.CrossSampleReferenceIdeal.main_arg4))
      ∧ r.2.sem = fun _ => 0)

def quiescent_CrossSampleReferenceIdeal_pre_finite_sample [hCrossSampleReferenceIdeal : Cert.CrossSampleReferenceIdeal.Facts] [hPre_finite_sample : Cert.Pre_finite_sample.Facts] : Prop :=
  ∀ (m : (ℓ : Loc Cert.CrossSampleReferenceIdeal.nD Cert.CrossSampleReferenceIdeal.τ Cert.CrossSampleReferenceIdeal.sig) → Buf (Elt Ideal) ℓ) (g : Dev Cert.CrossSampleReferenceIdeal.nD → PrngReg), Pre_CrossSampleReferenceIdeal_finite_sample m →
    θ_run (Cert.CrossSampleReferenceIdeal.defs (F := Ideal)) (onTc (τ := Cert.CrossSampleReferenceIdeal.τ) (Cert.CrossSampleReferenceIdeal.main (F := Ideal))) ⟨m, fun _ => 0, g⟩ (fun r => (∀ c : Dev Cert.CrossSampleReferenceIdeal.nD,
      r.2.mem ((c.tc : Thread Cert.CrossSampleReferenceIdeal.nD Cert.CrossSampleReferenceIdeal.τ).loc Cert.CrossSampleReferenceIdeal.main_arg0) = m ((c.tc : Thread Cert.CrossSampleReferenceIdeal.nD Cert.CrossSampleReferenceIdeal.τ).loc Cert.CrossSampleReferenceIdeal.main_arg0)
      ∧ r.2.mem ((c.tc : Thread Cert.CrossSampleReferenceIdeal.nD Cert.CrossSampleReferenceIdeal.τ).loc Cert.CrossSampleReferenceIdeal.main_arg1) = m ((c.tc : Thread Cert.CrossSampleReferenceIdeal.nD Cert.CrossSampleReferenceIdeal.τ).loc Cert.CrossSampleReferenceIdeal.main_arg1)
      ∧ r.2.mem ((c.tc : Thread Cert.CrossSampleReferenceIdeal.nD Cert.CrossSampleReferenceIdeal.τ).loc Cert.CrossSampleReferenceIdeal.main_arg2) = m ((c.tc : Thread Cert.CrossSampleReferenceIdeal.nD Cert.CrossSampleReferenceIdeal.τ).loc Cert.CrossSampleReferenceIdeal.main_arg2)
      ∧ r.2.mem ((c.tc : Thread Cert.CrossSampleReferenceIdeal.nD Cert.CrossSampleReferenceIdeal.τ).loc Cert.CrossSampleReferenceIdeal.main_arg3) = m ((c.tc : Thread Cert.CrossSampleReferenceIdeal.nD Cert.CrossSampleReferenceIdeal.τ).loc Cert.CrossSampleReferenceIdeal.main_arg3)
      ∧ r.2.mem ((c.tc : Thread Cert.CrossSampleReferenceIdeal.nD Cert.CrossSampleReferenceIdeal.τ).loc Cert.CrossSampleReferenceIdeal.main_arg4) = m ((c.tc : Thread Cert.CrossSampleReferenceIdeal.nD Cert.CrossSampleReferenceIdeal.τ).loc Cert.CrossSampleReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)
      ∧ m' ((c.tc : Thread Cert.MergeSampleReferenceIdeal.nD Cert.MergeSampleReferenceIdeal.τ).loc Cert.MergeSampleReferenceIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v3)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v3) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v34) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v48_0)) (v1 : (c : Dev Cert.ProjectIdeal.nD) → Buf (Elt Ideal) ((c.tc : Thread Cert.ProjectIdeal.nD Cert.ProjectIdeal.τ).loc Cert.ProjectIdeal.main_v48_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v48_0) = v0 c
          ∧ r.2.mem ((c.tc : Thread Cert.ProjectIdeal.nD Cert.ProjectIdeal.τ).loc Cert.ProjectIdeal.main_v48_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v69) = v0 c
          ∧ r.2.mem ((c.tc : Thread Cert.ProjectReferenceIdeal.nD Cert.ProjectReferenceIdeal.τ).loc Cert.ProjectReferenceIdeal.main_v71) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)) →
    ∃ (v0 : (c : Dev Cert.ProjectSampleIdeal.nD) → Buf (Elt Ideal) ((c.tc : Thread Cert.ProjectSampleIdeal.nD Cert.ProjectSampleIdeal.τ).loc Cert.ProjectSampleIdeal.main_v48_0)) (v1 : (c : Dev Cert.ProjectSampleIdeal.nD) → Buf (Elt Ideal) ((c.tc : Thread Cert.ProjectSampleIdeal.nD Cert.ProjectSampleIdeal.τ).loc Cert.ProjectSampleIdeal.main_v48_1)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v48_0) = v0 c
          ∧ r.2.mem ((c.tc : Thread Cert.ProjectSampleIdeal.nD Cert.ProjectSampleIdeal.τ).loc Cert.ProjectSampleIdeal.main_v48_1) = v1 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v69) = v0 c
          ∧ r.2.mem ((c.tc : Thread Cert.ProjectSampleReferenceIdeal.nD Cert.ProjectSampleReferenceIdeal.τ).loc Cert.ProjectSampleReferenceIdeal.main_v71) = v1 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v15) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Cross_CrossIdeal : Prop :=
  True

def algebraic_CrossIdeal_CrossReferenceIdeal_pre_finite [hCrossIdeal : Cert.CrossIdeal.Facts] [hCrossReferenceIdeal : Cert.CrossReferenceIdeal.Facts] [hPre_finite : Cert.Pre_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v39) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4))

def preserves_CrossSample_CrossSampleIdeal : Prop :=
  True

def algebraic_CrossSampleIdeal_CrossSampleReferenceIdeal_pre_finite_sample [hCrossSampleIdeal : Cert.CrossSampleIdeal.Facts] [hCrossSampleReferenceIdeal : Cert.CrossSampleReferenceIdeal.Facts] [hPre_finite_sample : Cert.Pre_finite_sample.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg)
    (m' : (ℓ : Loc Cert.CrossSampleReferenceIdeal.nD Cert.CrossSampleReferenceIdeal.τ Cert.CrossSampleReferenceIdeal.sig) → Buf (Elt Ideal) ℓ) (g' : Dev Cert.CrossSampleReferenceIdeal.nD → PrngReg), Pre_CrossSampleIdeal_finite_sample m →
    (∀ c : Dev Cert.CrossSampleIdeal.nD,
      m' ((c.tc : Thread Cert.CrossSampleReferenceIdeal.nD Cert.CrossSampleReferenceIdeal.τ).loc Cert.CrossSampleReferenceIdeal.main_arg0) = m ((c.tc : Thread Cert.CrossSampleIdeal.nD Cert.CrossSampleIdeal.τ).loc Cert.CrossSampleIdeal.main_arg0)
      ∧ m' ((c.tc : Thread Cert.CrossSampleReferenceIdeal.nD Cert.CrossSampleReferenceIdeal.τ).loc Cert.CrossSampleReferenceIdeal.main_arg1) = m ((c.tc : Thread Cert.CrossSampleIdeal.nD Cert.CrossSampleIdeal.τ).loc Cert.CrossSampleIdeal.main_arg1)
      ∧ m' ((c.tc : Thread Cert.CrossSampleReferenceIdeal.nD Cert.CrossSampleReferenceIdeal.τ).loc Cert.CrossSampleReferenceIdeal.main_arg2) = m ((c.tc : Thread Cert.CrossSampleIdeal.nD Cert.CrossSampleIdeal.τ).loc Cert.CrossSampleIdeal.main_arg2)
      ∧ m' ((c.tc : Thread Cert.CrossSampleReferenceIdeal.nD Cert.CrossSampleReferenceIdeal.τ).loc Cert.CrossSampleReferenceIdeal.main_arg3) = m ((c.tc : Thread Cert.CrossSampleIdeal.nD Cert.CrossSampleIdeal.τ).loc Cert.CrossSampleIdeal.main_arg3)
      ∧ m' ((c.tc : Thread Cert.CrossSampleReferenceIdeal.nD Cert.CrossSampleReferenceIdeal.τ).loc Cert.CrossSampleReferenceIdeal.main_arg4) = m ((c.tc : Thread Cert.CrossSampleIdeal.nD Cert.CrossSampleIdeal.τ).loc Cert.CrossSampleIdeal.main_arg4)) →
    ∃ (v0 : (c : Dev Cert.CrossSampleIdeal.nD) → Buf (Elt Ideal) ((c.tc : Thread Cert.CrossSampleIdeal.nD Cert.CrossSampleIdeal.τ).loc Cert.CrossSampleIdeal.main_v3)),
      θ_run (Cert.CrossSampleIdeal.defs (F := Ideal)) (onTc (τ := Cert.CrossSampleIdeal.τ) (Cert.CrossSampleIdeal.main (F := Ideal))) ⟨m, fun _ => 0, g⟩ (fun r => ∀ c : Dev Cert.CrossSampleIdeal.nD,
          r.2.mem ((c.tc : Thread Cert.CrossSampleIdeal.nD Cert.CrossSampleIdeal.τ).loc Cert.CrossSampleIdeal.main_v3) = v0 c
          ∧ r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
          ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
          ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
          ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
          ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4))
      ∧ θ_run (Cert.CrossSampleReferenceIdeal.defs (F := Ideal)) (onTc (τ := Cert.CrossSampleReferenceIdeal.τ) (Cert.CrossSampleReferenceIdeal.main (F := Ideal))) ⟨m', fun _ => 0, g'⟩ (fun r => ∀ c : Dev Cert.CrossSampleReferenceIdeal.nD,
          r.2.mem ((c.tc : Thread Cert.CrossSampleReferenceIdeal.nD Cert.CrossSampleReferenceIdeal.τ).loc Cert.CrossSampleReferenceIdeal.main_v39) = v0 c
          ∧ r.2.mem ((c.tc : Thread Cert.CrossSampleReferenceIdeal.nD Cert.CrossSampleReferenceIdeal.τ).loc Cert.CrossSampleReferenceIdeal.main_arg0) = m' ((c.tc : Thread Cert.CrossSampleReferenceIdeal.nD Cert.CrossSampleReferenceIdeal.τ).loc Cert.CrossSampleReferenceIdeal.main_arg0)
          ∧ r.2.mem ((c.tc : Thread Cert.CrossSampleReferenceIdeal.nD Cert.CrossSampleReferenceIdeal.τ).loc Cert.CrossSampleReferenceIdeal.main_arg1) = m' ((c.tc : Thread Cert.CrossSampleReferenceIdeal.nD Cert.CrossSampleReferenceIdeal.τ).loc Cert.CrossSampleReferenceIdeal.main_arg1)
          ∧ r.2.mem ((c.tc : Thread Cert.CrossSampleReferenceIdeal.nD Cert.CrossSampleReferenceIdeal.τ).loc Cert.CrossSampleReferenceIdeal.main_arg2) = m' ((c.tc : Thread Cert.CrossSampleReferenceIdeal.nD Cert.CrossSampleReferenceIdeal.τ).loc Cert.CrossSampleReferenceIdeal.main_arg2)
          ∧ r.2.mem ((c.tc : Thread Cert.CrossSampleReferenceIdeal.nD Cert.CrossSampleReferenceIdeal.τ).loc Cert.CrossSampleReferenceIdeal.main_arg3) = m' ((c.tc : Thread Cert.CrossSampleReferenceIdeal.nD Cert.CrossSampleReferenceIdeal.τ).loc Cert.CrossSampleReferenceIdeal.main_arg3)
          ∧ r.2.mem ((c.tc : Thread Cert.CrossSampleReferenceIdeal.nD Cert.CrossSampleReferenceIdeal.τ).loc Cert.CrossSampleReferenceIdeal.main_arg4) = m' ((c.tc : Thread Cert.CrossSampleReferenceIdeal.nD Cert.CrossSampleReferenceIdeal.τ).loc Cert.CrossSampleReferenceIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMergeSample : Cert.MergeSample.Facts) (hMergeSampleIdeal : Cert.MergeSampleIdeal.Facts) (hMergeSampleReferenceIdeal : Cert.MergeSampleReferenceIdeal.Facts) (hProject : Cert.Project.Facts) (hProjectIdeal : Cert.ProjectIdeal.Facts) (hProjectReferenceIdeal : Cert.ProjectReferenceIdeal.Facts) (hProjectSample : Cert.ProjectSample.Facts) (hProjectSampleIdeal : Cert.ProjectSampleIdeal.Facts) (hProjectSampleReferenceIdeal : Cert.ProjectSampleReferenceIdeal.Facts) (hMemory : Cert.Memory.Facts) (hMemoryIdeal : Cert.MemoryIdeal.Facts) (hMemoryReferenceIdeal : Cert.MemoryReferenceIdeal.Facts) (hCross : Cert.Cross.Facts) (hCrossIdeal : Cert.CrossIdeal.Facts) (hCrossReferenceIdeal : Cert.CrossReferenceIdeal.Facts) (hCrossSample : Cert.CrossSample.Facts) (hCrossSampleIdeal : Cert.CrossSampleIdeal.Facts) (hCrossSampleReferenceIdeal : Cert.CrossSampleReferenceIdeal.Facts) (hPre_routed : Cert.Pre_routed.Facts) (hPre_finite : Cert.Pre_finite.Facts) (hPre_finite_sample : Cert.Pre_finite_sample.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Cross (hCross := hCross)
    ∧ quiescent_CrossIdeal (hCrossIdeal := hCrossIdeal)
    ∧ quiescent_CrossIdeal_pre_finite (hCrossIdeal := hCrossIdeal) (hPre_finite := hPre_finite)
    ∧ quiescent_CrossReferenceIdeal (hCrossReferenceIdeal := hCrossReferenceIdeal)
    ∧ quiescent_CrossReferenceIdeal_pre_finite (hCrossReferenceIdeal := hCrossReferenceIdeal) (hPre_finite := hPre_finite)
    ∧ quiescent_CrossSample (hCrossSample := hCrossSample)
    ∧ quiescent_CrossSampleIdeal (hCrossSampleIdeal := hCrossSampleIdeal)
    ∧ quiescent_CrossSampleIdeal_pre_finite_sample (hCrossSampleIdeal := hCrossSampleIdeal) (hPre_finite_sample := hPre_finite_sample)
    ∧ quiescent_CrossSampleReferenceIdeal (hCrossSampleReferenceIdeal := hCrossSampleReferenceIdeal)
    ∧ quiescent_CrossSampleReferenceIdeal_pre_finite_sample (hCrossSampleReferenceIdeal := hCrossSampleReferenceIdeal) (hPre_finite_sample := hPre_finite_sample)
    ∧ preserves_Kernel_KernelIdeal
    ∧ algebraic_KernelIdeal_ReferenceIdeal (hKernelIdeal := hKernelIdeal) (hReferenceIdeal := hReferenceIdeal) (hPre_routed := hPre_routed)
    ∧ preserves_Merge_MergeIdeal
    ∧ algebraic_MergeIdeal_MergeReferenceIdeal (hMergeIdeal := hMergeIdeal) (hMergeReferenceIdeal := hMergeReferenceIdeal)
    ∧ preserves_MergeSample_MergeSampleIdeal
    ∧ algebraic_MergeSampleIdeal_MergeSampleReferenceIdeal (hMergeSampleIdeal := hMergeSampleIdeal) (hMergeSampleReferenceIdeal := hMergeSampleReferenceIdeal)
    ∧ preserves_Project_ProjectIdeal
    ∧ algebraic_ProjectIdeal_ProjectReferenceIdeal (hProjectIdeal := hProjectIdeal) (hProjectReferenceIdeal := hProjectReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_Memory_MemoryIdeal
    ∧ algebraic_MemoryIdeal_MemoryReferenceIdeal (hMemoryIdeal := hMemoryIdeal) (hMemoryReferenceIdeal := hMemoryReferenceIdeal)
    ∧ preserves_Cross_CrossIdeal
    ∧ algebraic_CrossIdeal_CrossReferenceIdeal_pre_finite (hCrossIdeal := hCrossIdeal) (hCrossReferenceIdeal := hCrossReferenceIdeal) (hPre_finite := hPre_finite)
    ∧ preserves_CrossSample_CrossSampleIdeal
    ∧ algebraic_CrossSampleIdeal_CrossSampleReferenceIdeal_pre_finite_sample (hCrossSampleIdeal := hCrossSampleIdeal) (hCrossSampleReferenceIdeal := hCrossSampleReferenceIdeal) (hPre_finite_sample := hPre_finite_sample)
-- ==== Pre_finite.lean ====
abbrev S4x4096x2048 : Shape := ⟨3, ![4, 4096, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S_ : Shape := ⟨0, ![]⟩

class Facts : Prop where
  reducesTo_S4x4096x2048_S_d0_1_2 : S4x4096x2048.ReducesTo [0, 1, 2] S_
  h_S_ : 0 < S_.numel
  bitsLt_bf16_f32 : FTy.bits .bf16 < FTy.bits .f32
  reducesTo_S4x256x1024_S_d0_1_2 : S4x256x1024.ReducesTo [0, 1, 2] S_
  reducesTo_S2048_S_d0 : S2048.ReducesTo [0] S_
  reducesTo_S2048x512_S_d0_1 : S2048x512.ReducesTo [0, 1] S_

variable [Facts]

def fn {F : FTy → Type} [FloatOps F] (main_arg0 : FVec F S4x4096x2048 .f32) (main_arg1 : FVec F S4x256x1024 .bf16) (main_arg2 : FVec F S2048 .f32) (main_arg3 : FVec F S2048x512 .f32) (main_arg4 : FVec F S512x2048 .f32) : IVec S_ 1 :=
  let main_v0 : FVec F S4x4096x2048 .f32 := Host.absf main_arg0
  let main_cst : FVec F S_ .f32 := constant S_ .f32 0xFF800000#32
  let main_v1 : FVec F S_ .f32 := (fun x v => Host.reduce FloatOps.maximumf x v reducesTo_S4x4096x2048_S_d0_1_2 h_S_) main_v0 main_cst
  let main_cst_0 : FVec F S_ .f32 := constant S_ .f32 0x7F800000#32
  let main_v2 : IVec S_ 1 := cmpf .olt main_v1 main_cst_0
  let main_v3 : FVec F S4x256x1024 .f32 := (extf .f32 · bitsLt_bf16_f32) main_arg1
  let main_v4 : FVec F S4x256x1024 .f32 := Host.absf main_v3
  let main_cst_1 : FVec F S_ .f32 := constant S_ .f32 0xFF800000#32
  let main_v5 : FVec F S_ .f32 := (fun x v => Host.reduce FloatOps.maximumf x v reducesTo_S4x256x1024_S_d0_1_2 h_S_) main_v4 main_cst_1
  let main_cst_2 : FVec F S_ .f32 := constant S_ .f32 0x7F800000#32
  let main_v6 : IVec S_ 1 := cmpf .olt main_v5 main_cst_2
  let main_v7 : IVec S_ 1 := andi main_v2 main_v6
  let main_v8 : FVec F S2048 .f32 := Host.absf main_arg2
  let main_cst_3 : FVec F S_ .f32 := constant S_ .f32 0xFF800000#32
  let main_v9 : FVec F S_ .f32 := (fun x v => Host.reduce FloatOps.maximumf x v reducesTo_S2048_S_d0 h_S_) main_v8 main_cst_3
  let main_cst_4 : FVec F S_ .f32 := constant S_ .f32 0x7F800000#32
  let main_v10 : IVec S_ 1 := cmpf .olt main_v9 main_cst_4
  let main_v11 : IVec S_ 1 := andi main_v7 main_v10
  let main_v12 : FVec F S2048x512 .f32 := Host.absf main_arg3
  let main_cst_5 : FVec F S_ .f32 := constant S_ .f32 0xFF800000#32
  let main_v13 : FVec F S_ .f32 := (fun x v => Host.reduce FloatOps.maximumf x v reducesTo_S2048x512_S_d0_1 h_S_) main_v12 main_cst_5
  let main_cst_6 : FVec F S_ .f32 := constant S_ .f32 0x7F800000#32
  let main_v14 : IVec S_ 1 := cmpf .olt main_v13 main_cst_6
  let main_v15 : IVec S_ 1 := andi main_v11 main_v14
  main_v15
-- ==== Pre_finite_sample.lean ====
abbrev S4x2048x2048 : Shape := ⟨3, ![4, 2048, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S_ : Shape := ⟨0, ![]⟩

class Facts : Prop where
  reducesTo_S4x2048x2048_S_d0_1_2 : S4x2048x2048.ReducesTo [0, 1, 2] S_
  h_S_ : 0 < S_.numel
  bitsLt_bf16_f32 : FTy.bits .bf16 < FTy.bits .f32
  reducesTo_S4x256x1024_S_d0_1_2 : S4x256x1024.ReducesTo [0, 1, 2] S_
  reducesTo_S2048_S_d0 : S2048.ReducesTo [0] S_
  reducesTo_S2048x512_S_d0_1 : S2048x512.ReducesTo [0, 1] S_

variable [Facts]

def fn {F : FTy → Type} [FloatOps F] (main_arg0 : FVec F S4x2048x2048 .f32) (main_arg1 : FVec F S4x256x1024 .bf16) (main_arg2 : FVec F S2048 .f32) (main_arg3 : FVec F S2048x512 .f32) (main_arg4 : FVec F S512x2048 .f32) : IVec S_ 1 :=
  let main_v0 : FVec F S4x2048x2048 .f32 := Host.absf main_arg0
  let main_cst : FVec F S_ .f32 := constant S_ .f32 0xFF800000#32
  let main_v1 : FVec F S_ .f32 := (fun x v => Host.reduce FloatOps.maximumf x v reducesTo_S4x2048x2048_S_d0_1_2 h_S_) main_v0 main_cst
  let main_cst_0 : FVec F S_ .f32 := constant S_ .f32 0x7F800000#32
  let main_v2 : IVec S_ 1 := cmpf .olt main_v1 main_cst_0
  let main_v3 : FVec F S4x256x1024 .f32 := (extf .f32 · bitsLt_bf16_f32) main_arg1
  let main_v4 : FVec F S4x256x1024 .f32 := Host.absf main_v3
  let main_cst_1 : FVec F S_ .f32 := constant S_ .f32 0xFF800000#32
  let main_v5 : FVec F S_ .f32 := (fun x v => Host.reduce FloatOps.maximumf x v reducesTo_S4x256x1024_S_d0_1_2 h_S_) main_v4 main_cst_1
  let main_cst_2 : FVec F S_ .f32 := constant S_ .f32 0x7F800000#32
  let main_v6 : IVec S_ 1 := cmpf .olt main_v5 main_cst_2
  let main_v7 : IVec S_ 1 := andi main_v2 main_v6
  let main_v8 : FVec F S2048 .f32 := Host.absf main_arg2
  let main_cst_3 : FVec F S_ .f32 := constant S_ .f32 0xFF800000#32
  let main_v9 : FVec F S_ .f32 := (fun x v => Host.reduce FloatOps.maximumf x v reducesTo_S2048_S_d0 h_S_) main_v8 main_cst_3
  let main_cst_4 : FVec F S_ .f32 := constant S_ .f32 0x7F800000#32
  let main_v10 : IVec S_ 1 := cmpf .olt main_v9 main_cst_4
  let main_v11 : IVec S_ 1 := andi main_v7 main_v10
  let main_v12 : FVec F S2048x512 .f32 := Host.absf main_arg3
  let main_cst_5 : FVec F S_ .f32 := constant S_ .f32 0xFF800000#32
  let main_v13 : FVec F S_ .f32 := (fun x v => Host.reduce FloatOps.maximumf x v reducesTo_S2048x512_S_d0_1 h_S_) main_v12 main_cst_5
  let main_cst_6 : FVec F S_ .f32 := constant S_ .f32 0x7F800000#32
  let main_v14 : IVec S_ 1 := cmpf .olt main_v13 main_cst_6
  let main_v15 : IVec S_ 1 := andi main_v11 main_v14
  main_v15
-- ==== Pre_routed.lean ====
abbrev S115200x1024 : Shape := ⟨2, ![115200, 1024]⟩
abbrev S32 : Shape := ⟨1, ![32]⟩
abbrev S32x2048x512 : Shape := ⟨3, ![32, 2048, 512]⟩
abbrev S32x512 : Shape := ⟨2, ![32, 512]⟩
abbrev S32x256x2048 : Shape := ⟨3, ![32, 256, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S115200x1024 32) (main_arg1 : IVec S32 32) (main_arg2 : FVec F S32x2048x512 .f32) (main_arg3 : FVec F S32x512 .f32) (main_arg4 : FVec F S32x256x2048 .f32) : IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 98304#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 32 := constantI S_ 32 2147483648#32
  let main_v5 : IVec S_ 32 := (fun x v => Host.reduce IntOp.maxsi x v reducesTo_S32_S_d0 h_S_) main_arg1 main_c_1
  let main_c_2 : IVec S_ 32 := constantI S_ 32 0#32
  let main_v6 : IVec S_ 1 := cmpi .sgt main_v5 main_c_2
  let main_v7 : IVec S32 1 := broadcastInDim S32 ![] bcast_S_S32 main_v6
  let main_v8 : IVec S32 1 := andi main_v4 main_v7
  main_v8
-- ==== Kernel.lean ====
abbrev S115200x1024 : Shape := ⟨2, ![115200, 1024]⟩
abbrev S32 : Shape := ⟨1, ![32]⟩
abbrev S32x2048x512 : Shape := ⟨3, ![32, 2048, 512]⟩
abbrev S32x512 : Shape := ⟨2, ![32, 512]⟩
abbrev S32x256x2048 : Shape := ⟨3, ![32, 256, 2048]⟩
abbrev S_ : Shape := ⟨0, ![]⟩
abbrev S1 : Shape := ⟨1, ![1]⟩
abbrev S225 : Shape := ⟨1, ![225]⟩
abbrev S1x32 : Shape := ⟨2, ![1, 32]⟩
abbrev S225x1 : Shape := ⟨2, ![225, 1]⟩
abbrev S225x32 : Shape := ⟨2, ![225, 32]⟩
abbrev S32x256x2 : Shape := ⟨3, ![32, 256, 2]⟩
abbrev S32x256x1 : Shape := ⟨3, ![32, 256, 1]⟩
abbrev S32x256 : Shape := ⟨2, ![32, 256]⟩
abbrev S32x1x512 : Shape := ⟨3, ![32, 1, 512]⟩
abbrev S512 : Shape := ⟨1, ![512]⟩
abbrev S512x512 : Shape := ⟨2, ![512, 512]⟩
abbrev S512x1 : Shape := ⟨2, ![512, 1]⟩
abbrev S512x2 : Shape := ⟨2, ![512, 2]⟩
abbrev S1x2048x512 : Shape := ⟨3, ![1, 2048, 512]⟩
abbrev S2048x512 : Shape := ⟨2, ![2048, 512]⟩
abbrev S115200x2048 : Shape := ⟨2, ![115200, 2048]⟩
abbrev S512x1024 : Shape := ⟨2, ![512, 1024]⟩
abbrev S1x1x512 : Shape := ⟨3, ![1, 1, 512]⟩
abbrev S1x256x2048 : Shape := ⟨3, ![1, 256, 2048]⟩
abbrev S512x2048 : Shape := ⟨2, ![512, 2048]⟩
abbrev S1x512 : Shape := ⟨2, ![1, 512]⟩
abbrev S512x256 : Shape := ⟨2, ![512, 256]⟩
abbrev S256x2048 : Shape := ⟨2, ![256, 2048]⟩

abbrev nBuf : Space → Nat
  | .hbm => 186
  | .vmem => 15
  | .smem => 3
  | _ => 0

abbrev hbmTy0_0 (i : Nat) : BufTy := match i % 128 with
  | 0 => ⟨S115200x1024, .i32⟩
  | 1 => ⟨S32, .i32⟩
  | 2 => ⟨S32x2048x512, .f32⟩
  | 3 => ⟨S32x512, .f32⟩
  | 4 => ⟨S32x256x2048, .f32⟩
  | 5 => ⟨S_, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S_, .i32⟩
  | 13 => ⟨S32, .i32⟩
  | 14 => ⟨S32, .i32⟩
  | 15 => ⟨S32, .i32⟩
  | 16 => ⟨S_, .i32⟩
  | 17 => ⟨S32, .i32⟩
  | 18 => ⟨S32, .i1⟩
  | 19 => ⟨S32, .i32⟩
  | 20 => ⟨S32, .i32⟩
  | 21 => ⟨S_, .i32⟩
  | 22 => ⟨S32, .i32⟩
  | 23 => ⟨S32, .i1⟩
  | 24 => ⟨S32, .i1⟩
  | 25 => ⟨S_, .i32⟩
  | 26 => ⟨S32, .i32⟩
  | 27 => ⟨S32, .i32⟩
  | 28 => ⟨S32, .i32⟩
  | 29 => ⟨S_, .i32⟩
  | 30 => ⟨S_, .i32⟩
  | 31 => ⟨S32, .i32⟩
  | 32 => ⟨S32, .i32⟩
  | 33 => ⟨S1, .i32⟩
  | 34 => ⟨S_, .i32⟩
  | 35 => ⟨S225, .i32⟩
  | 36 => ⟨S_, .i32⟩
  | 37 => ⟨S_, .i32⟩
  | 38 => ⟨S225, .i32⟩
  | 39 => ⟨S1x32, .i32⟩
  | 40 => ⟨S225x1, .i32⟩
  | 41 => ⟨S225x32, .i32⟩
  | 42 => ⟨S225x32, .i32⟩
  | 43 => ⟨S225x32, .i1⟩
  | 44 => ⟨S225x32, .i32⟩
  | 45 => ⟨S_, .i32⟩
  | 46 => ⟨S225, .i32⟩
  | 47 => ⟨S_, .i32⟩
  | 48 => ⟨S225, .i32⟩
  | 49 => ⟨S_, .i32⟩
  | 50 => ⟨S225, .i32⟩
  | 51 => ⟨S225, .i1⟩
  | 52 => ⟨S_, .i32⟩
  | 53 => ⟨S225, .i32⟩
  | 54 => ⟨S225, .i32⟩
  | 55 => ⟨S225, .i32⟩
  | 56 => ⟨S225x1, .i32⟩
  | 57 => ⟨S225, .i32⟩
  | 58 => ⟨S_, .i32⟩
  | 59 => ⟨S225, .i32⟩
  | 60 => ⟨S225, .i1⟩
  | 61 => ⟨S_, .i32⟩
  | 62 => ⟨S225, .i32⟩
  | 63 => ⟨S225, .i32⟩
  | 64 => ⟨S225, .i32⟩
  | 65 => ⟨S225x1, .i32⟩
  | 66 => ⟨S225, .i32⟩
  | 67 => ⟨S225, .i32⟩
  | 68 => ⟨S_, .i32⟩
  | 69 => ⟨S225, .i32⟩
  | 70 => ⟨S225, .i32⟩
  | 71 => ⟨S225, .i32⟩
  | 72 => ⟨S_, .i32⟩
  | 73 => ⟨S_, .i32⟩
  | 74 => ⟨S_, .i32⟩
  | 75 => ⟨S225, .i32⟩
  | 76 => ⟨S225, .i32⟩
  | 77 => ⟨S_, .i32⟩
  | 78 => ⟨S225, .i32⟩
  | 79 => ⟨S225, .i32⟩
  | 80 => ⟨S225, .i32⟩
  | 81 => ⟨S225, .i1⟩
  | 82 => ⟨S_, .i32⟩
  | 83 => ⟨S_, .i32⟩
  | 84 => ⟨S225, .i32⟩
  | 85 => ⟨S_, .i32⟩
  | 86 => ⟨S32, .i32⟩
  | 87 => ⟨S32, .i32⟩
  | 88 => ⟨S32x256x2, .f32⟩
  | 89 => ⟨S32x256x1, .f32⟩
  | 90 => ⟨S32x256, .f32⟩
  | 91 => ⟨S32x256x1, .f32⟩
  | 92 => ⟨S32x256, .f32⟩
  | 93 => ⟨S32x512, .f32⟩
  | 94 => ⟨S32x1x512, .f32⟩
  | 95 => ⟨S512, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S512, .i32⟩
  | 103 => ⟨S512, .i32⟩
  | 104 => ⟨S_, .i32⟩
  | 105 => ⟨S512, .i32⟩
  | 106 => ⟨S512, .i1⟩
  | 107 => ⟨S_, .i32⟩
  | 108 => ⟨S512, .i32⟩
  | 109 => ⟨S512, .i1⟩
  | 110 => ⟨S_, .i32⟩
  | 111 => ⟨S_, .i1⟩
  | 112 => ⟨S512, .i1⟩
  | 113 => ⟨S512, .i1⟩
  | 114 => ⟨S512, .i1⟩
  | 115 => ⟨S512, .i32⟩
  | 116 => ⟨S512, .i32⟩
  | 117 => ⟨S512, .i32⟩
  | 118 => ⟨S_, .i32⟩
  | 119 => ⟨S512, .i32⟩
  | 120 => ⟨S512, .i1⟩
  | 121 => ⟨S_, .i32⟩
  | 122 => ⟨S_, .i32⟩
  | 123 => ⟨S512, .i32⟩
  | 124 => ⟨S512, .i32⟩
  | 125 => ⟨S512, .i32⟩
  | 126 => ⟨S_, .i32⟩
  | 127 => ⟨S512, .i32⟩
  | _ => ⟨S115200x1024, .i32⟩

abbrev hbmTy0_1 (i : Nat) : BufTy := match i % 128 with
  | 0 => ⟨S512, .i1⟩
  | 1 => ⟨S512, .i32⟩
  | 2 => ⟨S512, .i32⟩
  | 3 => ⟨S_, .i32⟩
  | 4 => ⟨S512, .i32⟩
  | 5 => ⟨S512, .i1⟩
  | 6 => ⟨S512, .i1⟩
  | 7 => ⟨S_, .i32⟩
  | 8 => ⟨S512, .i32⟩
  | 9 => ⟨S512, .i32⟩
  | 10 => ⟨S512, .i32⟩
  | 11 => ⟨S_, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S512, .i32⟩
  | 20 => ⟨S512, .i32⟩
  | 21 => ⟨S_, .i32⟩
  | 22 => ⟨S512, .i32⟩
  | 23 => ⟨S512, .i1⟩
  | 24 => ⟨S512, .i1⟩
  | 25 => ⟨S_, .i32⟩
  | 26 => ⟨S512, .i32⟩
  | 27 => ⟨S512, .i32⟩
  | 28 => ⟨S512, .i32⟩
  | 29 => ⟨S_, .i32⟩
  | 30 => ⟨S512, .i32⟩
  | 31 => ⟨S512, .i32⟩
  | 32 => ⟨S512, .i32⟩
  | 33 => ⟨S_, .bf16⟩
  | 34 => ⟨S512x512, .bf16⟩
  | 35 => ⟨S_, .i32⟩
  | 36 => ⟨S512, .i32⟩
  | 37 => ⟨S512, .i1⟩
  | 38 => ⟨S_, .i32⟩
  | 39 => ⟨S512, .i32⟩
  | 40 => ⟨S512, .i32⟩
  | 41 => ⟨S512, .i32⟩
  | 42 => ⟨S_, .i32⟩
  | 43 => ⟨S512, .i32⟩
  | 44 => ⟨S512, .i1⟩
  | 45 => ⟨S_, .i32⟩
  | 46 => ⟨S512, .i32⟩
  | 47 => ⟨S512, .i32⟩
  | 48 => ⟨S512, .i32⟩
  | 49 => ⟨S512x1, .i32⟩
  | 50 => ⟨S512x1, .i32⟩
  | 51 => ⟨S512x2, .i32⟩
  | 52 => ⟨S_, .bf16⟩
  | 53 => ⟨S512, .bf16⟩
  | 54 => ⟨S512x512, .bf16⟩
  | 55 => ⟨S32x2048x512, .bf16⟩
  | 56 => ⟨S32x256x2048, .bf16⟩
  | 57 => ⟨S115200x2048, .bf16⟩
  | _ => ⟨S115200x1024, .i32⟩

abbrev hbmTy (i : Nat) : BufTy := match i / 128 with
  | 0 => hbmTy0_0 i
  | 1 => hbmTy0_1 i
  | _ => ⟨S115200x1024, .i32⟩

abbrev bufTy : (tb : Table) → Fin (tcTables nBuf tb) → BufTy
  | .hbm, ⟨i, _⟩ => hbmTy i
  | .local _ .vmem, ⟨0, _⟩ => ⟨S1x2048x512, .f32⟩
  | .local _ .vmem, ⟨1, _⟩ => ⟨S1x2048x512, .f32⟩
  | .local _ .vmem, ⟨2, _⟩ => ⟨S512x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S512x1024, .i32⟩
  | .local _ .vmem, ⟨6, _⟩ => ⟨S512x1024, .i32⟩
  | .local _ .vmem, ⟨7, _⟩ => ⟨S1x2048x512, .bf16⟩
  | .local _ .vmem, ⟨8, _⟩ => ⟨S1x2048x512, .bf16⟩
  | .local _ .vmem, ⟨9, _⟩ => ⟨S1x1x512, .f32⟩
  | .local _ .vmem, ⟨10, _⟩ => ⟨S1x1x512, .f32⟩
  | .local _ .vmem, ⟨11, _⟩ => ⟨S1x256x2048, .bf16⟩
  | .local _ .vmem, ⟨12, _⟩ => ⟨S1x256x2048, .bf16⟩
  | .local _ .vmem, ⟨13, _⟩ => ⟨S512x2048, .bf16⟩
  | .local _ .vmem, ⟨14, _⟩ => ⟨S512x2048, .bf16⟩
  | .local _ .smem, ⟨0, _⟩ => ⟨S225, .i32⟩
  | .local _ .smem, ⟨1, _⟩ => ⟨S225, .i32⟩
  | .local _ .smem, ⟨2, _⟩ => ⟨S225, .i32⟩
  | _, _ => ⟨S115200x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_c_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_c_11 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_12 : Ref sig .tc := ⟨.hbm, 82, rfl⟩
abbrev main_call3_v0 : Ref sig .tc := ⟨.hbm, 83, rfl⟩
abbrev main_call3_v1 : Ref sig .tc := ⟨.hbm, 84, rfl⟩
abbrev main_c_13 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_14 : Ref sig .tc := ⟨.hbm, 96, rfl⟩
abbrev main_call4_v0 : Ref sig .tc := ⟨.hbm, 97, rfl⟩
abbrev main_call4_c : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_c_1 : Ref sig .tc := ⟨.hbm, 104, rfl⟩
abbrev main_call4_v5 : Ref sig .tc := ⟨.hbm, 105, rfl⟩
abbrev main_call4_v6 : Ref sig .tc := ⟨.hbm, 106, rfl⟩
abbrev main_call4_c_2 : Ref sig .tc := ⟨.hbm, 107, rfl⟩
abbrev main_call4_v7 : Ref sig .tc := ⟨.hbm, 108, rfl⟩
abbrev main_call4_v8 : Ref sig .tc := ⟨.hbm, 109, rfl⟩
abbrev main_call4_c_3 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_v54 : Ref sig .tc := ⟨.hbm, 117, rfl⟩
abbrev main_c_15 : Ref sig .tc := ⟨.hbm, 118, rfl⟩
abbrev main_v55 : Ref sig .tc := ⟨.hbm, 119, rfl⟩
abbrev main_v56 : Ref sig .tc := ⟨.hbm, 120, rfl⟩
abbrev main_c_16 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_v8 : Ref sig .tc := ⟨.hbm, 130, rfl⟩
abbrev main_call5_c : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_0 : Ref sig .tc := ⟨.hbm, 135, rfl⟩
abbrev main_call5_v12 : Ref sig .tc := ⟨.hbm, 136, rfl⟩
abbrev main_call5_v13 : Ref sig .tc := ⟨.hbm, 137, rfl⟩
abbrev main_v57 : Ref sig .tc := ⟨.hbm, 138, rfl⟩
abbrev main_c_17 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_call6_v5 : Ref sig .tc := ⟨.hbm, 145, rfl⟩
abbrev main_call6_v6 : Ref sig .tc := ⟨.hbm, 146, rfl⟩
abbrev main_call6_v7 : Ref sig .tc := ⟨.hbm, 147, rfl⟩
abbrev main_call6_v8 : Ref sig .tc := ⟨.hbm, 148, rfl⟩
abbrev main_call6_c : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_c_0 : Ref sig .tc := ⟨.hbm, 153, rfl⟩
abbrev main_call6_v12 : Ref sig .tc := ⟨.hbm, 154, rfl⟩
abbrev main_call6_v13 : Ref sig .tc := ⟨.hbm, 155, rfl⟩
abbrev main_v58 : Ref sig .tc := ⟨.hbm, 156, rfl⟩
abbrev main_c_18 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_cst : Ref sig .tc := ⟨.hbm, 161, rfl⟩
abbrev main_v62 : Ref sig .tc := ⟨.hbm, 162, rfl⟩
abbrev main_c_19 : Ref sig .tc := ⟨.hbm, 163, rfl⟩
abbrev main_v63 : Ref sig .tc := ⟨.hbm, 164, rfl⟩
abbrev main_v64 : Ref sig .tc := ⟨.hbm, 165, rfl⟩
abbrev main_c_20 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_c_21 : Ref sig .tc := ⟨.hbm, 170, rfl⟩
abbrev main_v68 : Ref sig .tc := ⟨.hbm, 171, rfl⟩
abbrev main_v69 : Ref sig .tc := ⟨.hbm, 172, rfl⟩
abbrev main_c_22 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_cst_23 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v21 : Ref sig .tc := ⟨.smem, 0, rfl⟩
abbrev main_v43 : Ref sig .tc := ⟨.smem, 1, rfl⟩
abbrev main_v12 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![225], ![false]⟩

abbrev pre1 : Pipeline.Prefetch sig := ⟨3, ![main_v21.idx, main_v43.idx, main_v12.idx], fun | 0 => main_v21.names | 1 => main_v43.names | 2 => main_v12.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k1_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def cc1_transform_0 (k1_off1_inb : ∀ i : grid1.Coords, ∀ a, (k1_off1 i) a + S1.size a ≤ S225.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 2 (Rect.unit (s := S225) ![v0.toNat] S1.size (k1_off1_inb i)) numel1_S1
  let c0_i32 : BitVec 32 := 0#32
  let c0_i32_0 : BitVec 32 := 0#32
  ![v1.toNat, c0_i32.toNat]

def cc1_transform_1 (k1_off1_inb : ∀ i : grid1.Coords, ∀ a, (k1_off1 i) a + S1.size a ≤ S225.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S225) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S225.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S225) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S225.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S225) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S115200x1024 : Shape := ⟨2, ![115200, 1024]⟩
abbrev S32 : Shape := ⟨1, ![32]⟩
abbrev S32x2048x512 : Shape := ⟨3, ![32, 2048, 512]⟩
abbrev S32x512 : Shape := ⟨2, ![32, 512]⟩
abbrev S32x256x2048 : Shape := ⟨3, ![32, 256, 2048]⟩
abbrev S115200x1024x2 : Shape := ⟨3, ![115200, 1024, 2]⟩
abbrev S115200x1024x1 : Shape := ⟨3, ![115200, 1024, 1]⟩
abbrev S115200x2048 : Shape := ⟨2, ![115200, 2048]⟩
abbrev S_ : Shape := ⟨0, ![]⟩
abbrev S115200 : Shape := ⟨1, ![115200]⟩
abbrev S115200x1 : Shape := ⟨2, ![115200, 1]⟩
abbrev S1x32 : Shape := ⟨2, ![1, 32]⟩
abbrev S115200x32 : Shape := ⟨2, ![115200, 32]⟩
abbrev S115200x32x512 : Shape := ⟨3, ![115200, 32, 512]⟩
abbrev S1x32x512 : Shape := ⟨3, ![1, 32, 512]⟩
abbrev S115200x32x256 : Shape := ⟨3, ![115200, 32, 256]⟩
abbrev S115200x32x1 : Shape := ⟨3, ![115200, 32, 1]⟩

abbrev nBuf : Space → Nat
  | .hbm => 94
  | .vmem => 0
  | .smem => 0
  | _ => 0

abbrev bufTy : (tb : Table) → Fin (tcTables nBuf tb) → BufTy
  | .hbm, ⟨0, _⟩ => ⟨S115200x1024, .i32⟩
  | .hbm, ⟨1, _⟩ => ⟨S32, .i32⟩
  | .hbm, ⟨2, _⟩ => ⟨S32x2048x512, .f32⟩
  | .hbm, ⟨3, _⟩ => ⟨S32x512, .f32⟩
  | .hbm, ⟨4, _⟩ => ⟨S32x256x2048, .f32⟩
  | .hbm, ⟨5, _⟩ => ⟨S115200x1024x2, .bf16⟩
  | .hbm, ⟨6, _⟩ => ⟨S115200x1024x2, .f32⟩
  | .hbm, ⟨7, _⟩ => ⟨S115200x1024x1, .f32⟩
  | .hbm, ⟨8, _⟩ => ⟨S115200x1024, .f32⟩
  | .hbm, ⟨9, _⟩ => ⟨S115200x1024x1, .f32⟩
  | .hbm, ⟨10, _⟩ => ⟨S115200x1024, .f32⟩
  | .hbm, ⟨11, _⟩ => ⟨S115200x2048, .f32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S_, .i32⟩
  | .hbm, ⟨41, _⟩ => ⟨S32, .i32⟩
  | .hbm, ⟨42, _⟩ => ⟨S115200, .i32⟩
  | .hbm, ⟨43, _⟩ => ⟨S115200x1, .i32⟩
  | .hbm, ⟨44, _⟩ => ⟨S32, .i32⟩
  | .hbm, ⟨45, _⟩ => ⟨S1x32, .i32⟩
  | .hbm, ⟨46, _⟩ => ⟨S115200x32, .i32⟩
  | .hbm, ⟨47, _⟩ => ⟨S115200x32, .i32⟩
  | .hbm, ⟨48, _⟩ => ⟨S115200x32, .i1⟩
  | .hbm, ⟨49, _⟩ => ⟨S1x32, .i32⟩
  | .hbm, ⟨50, _⟩ => ⟨S115200x32, .i32⟩
  | .hbm, ⟨51, _⟩ => ⟨S115200x32, .i32⟩
  | .hbm, ⟨52, _⟩ => ⟨S115200x32, .i1⟩
  | .hbm, ⟨53, _⟩ => ⟨S115200x32, .i1⟩
  | .hbm, ⟨54, _⟩ => ⟨S115200x32, .i32⟩
  | .hbm, ⟨55, _⟩ => ⟨S115200x32, .f32⟩
  | .hbm, ⟨56, _⟩ => ⟨S115200x32x512, .f32⟩
  | .hbm, ⟨57, _⟩ => ⟨S1x32x512, .f32⟩
  | .hbm, ⟨58, _⟩ => ⟨S115200x32x512, .f32⟩
  | .hbm, ⟨59, _⟩ => ⟨S115200x32x512, .f32⟩
  | .hbm, ⟨60, _⟩ => ⟨S115200x32x256, .f32⟩
  | .hbm, ⟨61, _⟩ => ⟨S_, .f32⟩
  | .hbm, ⟨62, _⟩ => ⟨S115200x32x256, .f32⟩
  | .hbm, ⟨63, _⟩ => ⟨S115200x32x256, .f32⟩
  | .hbm, ⟨64, _⟩ => ⟨S115200x32x256, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S115200x32x256, .f32⟩
  | .hbm, ⟨69, _⟩ => ⟨S115200x32x256, .f32⟩
  | .hbm, ⟨70, _⟩ => ⟨S_, .f32⟩
  | .hbm, ⟨71, _⟩ => ⟨S115200x32x256, .f32⟩
  | .hbm, ⟨72, _⟩ => ⟨S115200x32x256, .f32⟩
  | .hbm, ⟨73, _⟩ => ⟨S_, .f32⟩
  | .hbm, ⟨74, _⟩ => ⟨S115200x32x256, .f32⟩
  | .hbm, ⟨75, _⟩ => ⟨S115200x32x256, .f32⟩
  | .hbm, ⟨76, _⟩ => ⟨S115200x32x256, .f32⟩
  | .hbm, ⟨77, _⟩ => ⟨S115200x32x256, .f32⟩
  | .hbm, ⟨78, _⟩ => ⟨S_, .f32⟩
  | .hbm, ⟨79, _⟩ => ⟨S115200x32x256, .f32⟩
  | .hbm, ⟨80, _⟩ => ⟨S115200x32x256, .f32⟩
  | .hbm, ⟨81, _⟩ => ⟨S_, .f32⟩
  | .hbm, ⟨82, _⟩ => ⟨S115200x32x256, .f32⟩
  | .hbm, ⟨83, _⟩ => ⟨S115200x32x256, .f32⟩
  | .hbm, ⟨84, _⟩ => ⟨S115200x32x256, .f32⟩
  | .hbm, ⟨85, _⟩ => ⟨S_, .f32⟩
  | .hbm, ⟨86, _⟩ => ⟨S115200x32x256, .f32⟩
  | .hbm, ⟨87, _⟩ => ⟨S115200x32x256, .f32⟩
  | .hbm, ⟨88, _⟩ => ⟨S115200x32x256, .f32⟩
  | .hbm, ⟨89, _⟩ => ⟨S115200x32x1, .f32⟩
  | .hbm, ⟨90, _⟩ => ⟨S115200x32x256, .f32⟩
  | .hbm, ⟨91, _⟩ => ⟨S115200x32x256, .f32⟩
  | .hbm, ⟨92, _⟩ => ⟨S115200x2048, .f32⟩
  | .hbm, ⟨93, _⟩ => ⟨S115200x2048, .bf16⟩
  | _, _ => ⟨S115200x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_c_2 : Ref sig .tc := ⟨.hbm, 36, rfl⟩
abbrev main_v12 : Ref sig .tc := ⟨.hbm, 37, rfl⟩
abbrev main_v13 : Ref sig .tc := ⟨.hbm, 38, rfl⟩
abbrev main_call1_call0_c : Ref sig .tc := ⟨.hbm, 39, rfl⟩
abbrev main_call1_call0_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_v43 : Ref sig .tc := ⟨.hbm, 80, rfl⟩
abbrev main_cst_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_8 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x9216 : Shape := ⟨2, ![16384, 9216]⟩
abbrev S2x2048 : Shape := ⟨2, ![2, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S1x2048 : Shape := ⟨2, ![1, 2048]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x9216, .bf16⟩
  | .hbm, ⟨4, _⟩ => ⟨S2x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2x2048, .f32⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeIdeal.lean ====
abbrev S16384x2048 : Shape := ⟨2, ![16384, 2048]⟩
abbrev S16384x1024 : Shape := ⟨2, ![16384, 1024]⟩
abbrev S16384x9216 : Shape := ⟨2, ![16384, 9216]⟩
abbrev S2x2048 : Shape := ⟨2, ![2, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S1x2048 : Shape := ⟨2, ![1, 2048]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x9216, .bf16⟩
  | .hbm, ⟨4, _⟩ => ⟨S2x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2x2048, .f32⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S16384x2048 : Shape := ⟨2, ![16384, 2048]⟩
abbrev S16384x1024 : Shape := ⟨2, ![16384, 1024]⟩
abbrev S16384x9216 : Shape := ⟨2, ![16384, 9216]⟩
abbrev S2x2048 : Shape := ⟨2, ![2, 2048]⟩
abbrev S1024x2048 : Shape := ⟨2, ![1024, 2048]⟩
abbrev S2048x2048 : Shape := ⟨2, ![2048, 2048]⟩
abbrev S16384x4096 : Shape := ⟨2, ![16384, 4096]⟩
abbrev S1x2048 : Shape := ⟨2, ![1, 2048]⟩
abbrev S2048 : Shape := ⟨1, ![2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x9216, .bf16⟩
  | .hbm, ⟨4, _⟩ => ⟨S2x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S16384x4096, .bf16⟩
  | .hbm, ⟨9, _⟩ => ⟨S16384x4096, .f32⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x1024, .f32⟩
  | .hbm, ⟨39, _⟩ => ⟨S16384x2048, .f32⟩
  | .hbm, ⟨40, _⟩ => ⟨S16384x2048, .f32⟩
  | .hbm, ⟨41, _⟩ => ⟨S16384x1024, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MergeSample.lean ====
abbrev S8192x2048 : Shape := ⟨2, ![8192, 2048]⟩
abbrev S8192x1024 : Shape := ⟨2, ![8192, 1024]⟩
abbrev S8192x9216 : Shape := ⟨2, ![8192, 9216]⟩
abbrev S2x2048 : Shape := ⟨2, ![2, 2048]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S1x2048 : Shape := ⟨2, ![1, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x9216, .bf16⟩
  | .hbm, ⟨4, _⟩ => ⟨S2x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2x2048, .f32⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeSampleReferenceIdeal.lean ====
abbrev S8192x2048 : Shape := ⟨2, ![8192, 2048]⟩
abbrev S8192x1024 : Shape := ⟨2, ![8192, 1024]⟩
abbrev S8192x9216 : Shape := ⟨2, ![8192, 9216]⟩
abbrev S2x2048 : Shape := ⟨2, ![2, 2048]⟩
abbrev S1024x2048 : Shape := ⟨2, ![1024, 2048]⟩
abbrev S2048x2048 : Shape := ⟨2, ![2048, 2048]⟩
abbrev S8192x4096 : Shape := ⟨2, ![8192, 4096]⟩
abbrev S1x2048 : Shape := ⟨2, ![1, 2048]⟩
abbrev S2048 : Shape := ⟨1, ![2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x9216, .bf16⟩
  | .hbm, ⟨4, _⟩ => ⟨S2x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S8192x4096, .bf16⟩
  | .hbm, ⟨9, _⟩ => ⟨S8192x4096, .f32⟩
  | .hbm, ⟨10, _⟩ => ⟨S8192x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x1024, .f32⟩
  | .hbm, ⟨39, _⟩ => ⟨S8192x2048, .f32⟩
  | .hbm, ⟨40, _⟩ => ⟨S8192x2048, .f32⟩
  | .hbm, ⟨41, _⟩ => ⟨S8192x1024, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Project.lean ====
abbrev S16384x2048 : Shape := ⟨2, ![16384, 2048]⟩
abbrev S2048 : Shape := ⟨1, ![2048]⟩
abbrev S2048x9248 : Shape := ⟨2, ![2048, 9248]⟩
abbrev S2048x4096 : Shape := ⟨2, ![2048, 4096]⟩
abbrev S2048x3072 : Shape := ⟨2, ![2048, 3072]⟩
abbrev S2048x2048 : Shape := ⟨2, ![2048, 2048]⟩
abbrev S2048x9216 : Shape := ⟨2, ![2048, 9216]⟩
abbrev S2048x32 : Shape := ⟨2, ![2048, 32]⟩
abbrev S_ : Shape := ⟨0, ![]⟩
abbrev S2048x128 : Shape := ⟨2, ![2048, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x2048 : Shape := ⟨2, ![1, 2048]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S16384x9216 : Shape := ⟨2, ![16384, 9216]⟩
abbrev S16384x128 : Shape := ⟨2, ![16384, 128]⟩
abbrev S1024x2048 : Shape := ⟨2, ![1024, 2048]⟩
abbrev S2048x1024 : Shape := ⟨2, ![2048, 1024]⟩
abbrev S1024x128 : Shape := ⟨2, ![1024, 128]⟩
abbrev S1024x512 : Shape := ⟨2, ![1024, 512]⟩
abbrev S512x512 : Shape := ⟨2, ![512, 512]⟩

abbrev nBuf : Space → Nat
  | .hbm => 84
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x9248, .f32⟩
  | .hbm, ⟨3, _⟩ => ⟨S2048x4096, .f32⟩
  | .hbm, ⟨4, _⟩ => ⟨S2048x3072, .f32⟩
  | .hbm, ⟨5, _⟩ => ⟨S2048x2048, .f32⟩
  | .hbm, ⟨6, _⟩ => ⟨S2048x9216, .f32⟩
  | .hbm, ⟨7, _⟩ => ⟨S2048x9216, .bf16⟩
  | .hbm, ⟨8, _⟩ => ⟨S2048x32, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x128, .f32⟩
  | .hbm, ⟨32, _⟩ => ⟨S4096x16, .f32⟩
  | .hbm, ⟨33, _⟩ => ⟨S_, .f32⟩
  | .hbm, ⟨34, _⟩ => ⟨S4096x96, .f32⟩
  | .hbm, ⟨35, _⟩ => ⟨S4096x128, .f32⟩
  | .hbm, ⟨36, _⟩ => ⟨S1x2048, .f32⟩
  | .hbm, ⟨37, _⟩ => ⟨S1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S_, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1x1024, .i32⟩
  | .hbm, ⟨72, _⟩ => ⟨S1024x1024, .i32⟩
  | .hbm, ⟨73, _⟩ => ⟨S1024x1024, .i32⟩
  | .hbm, ⟨74, _⟩ => ⟨S1024x1024, .i1⟩
  | .hbm, ⟨75, _⟩ => ⟨S1x1024, .i32⟩
  | .hbm, ⟨76, _⟩ => ⟨S_, .i32⟩
  | .hbm, ⟨77, _⟩ => ⟨S1x1024, .i32⟩
  | .hbm, ⟨78, _⟩ => ⟨S1x1024, .i1⟩
  | .hbm, ⟨79, _⟩ => ⟨S1024x1024, .i1⟩
  | .hbm, ⟨80, _⟩ => ⟨S1024x1024, .i1⟩
  | .hbm, ⟨81, _⟩ => ⟨S1024x1024, .bf16⟩
  | .hbm, ⟨82, _⟩ => ⟨S16384x9216, .bf16⟩
  | .hbm, ⟨83, _⟩ => ⟨S16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .bf16⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48_0 : Ref sig .tc := ⟨.hbm, 82, rfl⟩
abbrev main_v48_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32 : BitVec 32 := 8#32
  let v10 : BitVec 1 := Scalar.cmpi .eq arg1 c8_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c7_i32_6 : BitVec 32 := 7#32
  let v13 : BitVec 1 := Scalar.cmpi .ne arg1 c7_i32_6
  let c8_i32_7 : BitVec 32 := 8#32
  let v14 : BitVec 1 := Scalar.cmpi .ne arg1 c8_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjectIdeal.lean ====
abbrev S16384x2048 : Shape := ⟨2, ![16384, 2048]⟩
abbrev S2048 : Shape := ⟨1, ![2048]⟩
abbrev S2048x9248 : Shape := ⟨2, ![2048, 9248]⟩
abbrev S2048x4096 : Shape := ⟨2, ![2048, 4096]⟩
abbrev S2048x3072 : Shape := ⟨2, ![2048, 3072]⟩
abbrev S2048x2048 : Shape := ⟨2, ![2048, 2048]⟩
abbrev S2048x9216 : Shape := ⟨2, ![2048, 9216]⟩
abbrev S2048x32 : Shape := ⟨2, ![2048, 32]⟩
abbrev S_ : Shape := ⟨0, ![]⟩
abbrev S2048x128 : Shape := ⟨2, ![2048, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x2048 : Shape := ⟨2, ![1, 2048]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S16384x9216 : Shape := ⟨2, ![16384, 9216]⟩
abbrev S16384x128 : Shape := ⟨2, ![16384, 128]⟩
abbrev S1024x2048 : Shape := ⟨2, ![1024, 2048]⟩
abbrev S2048x1024 : Shape := ⟨2, ![2048, 1024]⟩
abbrev S1024x128 : Shape := ⟨2, ![1024, 128]⟩
abbrev S1024x512 : Shape := ⟨2, ![1024, 512]⟩
abbrev S512x512 : Shape := ⟨2, ![512, 512]⟩

abbrev nBuf : Space → Nat
  | .hbm => 84
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x9248, .f32⟩
  | .hbm, ⟨3, _⟩ => ⟨S2048x4096, .f32⟩
  | .hbm, ⟨4, _⟩ => ⟨S2048x3072, .f32⟩
  | .hbm, ⟨5, _⟩ => ⟨S2048x2048, .f32⟩
  | .hbm, ⟨6, _⟩ => ⟨S2048x9216, .f32⟩
  | .hbm, ⟨7, _⟩ => ⟨S2048x9216, .bf16⟩
  | .hbm, ⟨8, _⟩ => ⟨S2048x32, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x128, .f32⟩
  | .hbm, ⟨32, _⟩ => ⟨S4096x16, .f32⟩
  | .hbm, ⟨33, _⟩ => ⟨S_, .f32⟩
  | .hbm, ⟨34, _⟩ => ⟨S4096x96, .f32⟩
  | .hbm, ⟨35, _⟩ => ⟨S4096x128, .f32⟩
  | .hbm, ⟨36, _⟩ => ⟨S1x2048, .f32⟩
  | .hbm, ⟨37, _⟩ => ⟨S1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S_, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1x1024, .i32⟩
  | .hbm, ⟨72, _⟩ => ⟨S1024x1024, .i32⟩
  | .hbm, ⟨73, _⟩ => ⟨S1024x1024, .i32⟩
  | .hbm, ⟨74, _⟩ => ⟨S1024x1024, .i1⟩
  | .hbm, ⟨75, _⟩ => ⟨S1x1024, .i32⟩
  | .hbm, ⟨76, _⟩ => ⟨S_, .i32⟩
  | .hbm, ⟨77, _⟩ => ⟨S1x1024, .i32⟩
  | .hbm, ⟨78, _⟩ => ⟨S1x1024, .i1⟩
  | .hbm, ⟨79, _⟩ => ⟨S1024x1024, .i1⟩
  | .hbm, ⟨80, _⟩ => ⟨S1024x1024, .i1⟩
  | .hbm, ⟨81, _⟩ => ⟨S1024x1024, .bf16⟩
  | .hbm, ⟨82, _⟩ => ⟨S16384x9216, .bf16⟩
  | .hbm, ⟨83, _⟩ => ⟨S16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .bf16⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48_0 : Ref sig .tc := ⟨.hbm, 82, rfl⟩
abbrev main_v48_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32 : BitVec 32 := 8#32
  let v10 : BitVec 1 := Scalar.cmpi .eq arg1 c8_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c7_i32_6 : BitVec 32 := 7#32
  let v13 : BitVec 1 := Scalar.cmpi .ne arg1 c7_i32_6
  let c8_i32_7 : BitVec 32 := 8#32
  let v14 : BitVec 1 := Scalar.cmpi .ne arg1 c8_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjectReferenceIdeal.lean ====
abbrev S16384x2048 : Shape := ⟨2, ![16384, 2048]⟩
abbrev S2048 : Shape := ⟨1, ![2048]⟩
abbrev S2048x9248 : Shape := ⟨2, ![2048, 9248]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x9248 : Shape := ⟨2, ![16384, 9248]⟩
abbrev S16384x3072 : Shape := ⟨2, ![16384, 3072]⟩
abbrev S16384x32 : Shape := ⟨2, ![16384, 32]⟩
abbrev S16384x1024 : Shape := ⟨2, ![16384, 1024]⟩
abbrev S16384x512 : Shape := ⟨2, ![16384, 512]⟩
abbrev S16384x4096 : Shape := ⟨2, ![16384, 4096]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S4x4096x8x128 : Shape := ⟨4, ![4, 4096, 8, 128]⟩
abbrev S4x4096x8x16 : Shape := ⟨4, ![4, 4096, 8, 16]⟩
abbrev S4x4096x8x96 : Shape := ⟨4, ![4, 4096, 8, 96]⟩
abbrev S4x4096x4x128 : Shape := ⟨4, ![4, 4096, 4, 128]⟩
abbrev S4x4096x4x16 : Shape := ⟨4, ![4, 4096, 4, 16]⟩
abbrev S4x4096x4x96 : Shape := ⟨4, ![4, 4096, 4, 96]⟩
abbrev S16384x9216 : Shape := ⟨2, ![16384, 9216]⟩
abbrev S16384x128 : Shape := ⟨2, ![16384, 128]⟩

abbrev nBuf : Space → Nat
  | .hbm => 82
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x9248, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x9248, .f32⟩
  | .hbm, ⟨20, _⟩ => ⟨S16384x3072, .f32⟩
  | .hbm, ⟨21, _⟩ => ⟨S16384x32, .f32⟩
  | .hbm, ⟨22, _⟩ => ⟨S16384x1024, .f32⟩
  | .hbm, ⟨23, _⟩ => ⟨S16384x512, .f32⟩
  | .hbm, ⟨24, _⟩ => ⟨S16384x512, .f32⟩
  | .hbm, ⟨25, _⟩ => ⟨S16384x4096, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S4096, .f32⟩
  | .hbm, ⟨35, _⟩ => ⟨S4096x1, .f32⟩
  | .hbm, ⟨36, _⟩ => ⟨S1x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S1x4096x1x16, .f32⟩
  | .hbm, ⟨42, _⟩ => ⟨S4096x16, .f32⟩
  | .hbm, ⟨43, _⟩ => ⟨S1x4096x1x16, .f32⟩
  | .hbm, ⟨44, _⟩ => ⟨S4x4096x8x128, .f32⟩
  | .hbm, ⟨45, _⟩ => ⟨S4x4096x8x16, .f32⟩
  | .hbm, ⟨46, _⟩ => ⟨S4x4096x8x16, .f32⟩
  | .hbm, ⟨47, _⟩ => ⟨S4x4096x8x16, .f32⟩
  | .hbm, ⟨48, _⟩ => ⟨S4x4096x8x16, .f32⟩
  | .hbm, ⟨49, _⟩ => ⟨S4x4096x8x16, .f32⟩
  | .hbm, ⟨50, _⟩ => ⟨S4x4096x8x16, .f32⟩
  | .hbm, ⟨51, _⟩ => ⟨S4x4096x8x16, .f32⟩
  | .hbm, ⟨52, _⟩ => ⟨S4x4096x8x16, .f32⟩
  | .hbm, ⟨53, _⟩ => ⟨S4x4096x8x16, .f32⟩
  | .hbm, ⟨54, _⟩ => ⟨S4x4096x8x16, .f32⟩
  | .hbm, ⟨55, _⟩ => ⟨S4x4096x8x16, .f32⟩
  | .hbm, ⟨56, _⟩ => ⟨S4x4096x8x16, .f32⟩
  | .hbm, ⟨57, _⟩ => ⟨S4x4096x8x96, .f32⟩
  | .hbm, ⟨58, _⟩ => ⟨S4x4096x8x128, .f32⟩
  | .hbm, ⟨59, _⟩ => ⟨S16384x1024, .f32⟩
  | .hbm, ⟨60, _⟩ => ⟨S4x4096x4x128, .f32⟩
  | .hbm, ⟨61, _⟩ => ⟨S4x4096x4x16, .f32⟩
  | .hbm, ⟨62, _⟩ => ⟨S4x4096x4x16, .f32⟩
  | .hbm, ⟨63, _⟩ => ⟨S4x4096x4x16, .f32⟩
  | .hbm, ⟨64, _⟩ => ⟨S4x4096x4x16, .f32⟩
  | .hbm, ⟨65, _⟩ => ⟨S4x4096x4x16, .f32⟩
  | .hbm, ⟨66, _⟩ => ⟨S4x4096x4x16, .f32⟩
  | .hbm, ⟨67, _⟩ => ⟨S4x4096x4x16, .f32⟩
  | .hbm, ⟨68, _⟩ => ⟨S4x4096x4x16, .f32⟩
  | .hbm, ⟨69, _⟩ => ⟨S4x4096x4x16, .f32⟩
  | .hbm, ⟨70, _⟩ => ⟨S4x4096x4x16, .f32⟩
  | .hbm, ⟨71, _⟩ => ⟨S4x4096x4x16, .f32⟩
  | .hbm, ⟨72, _⟩ => ⟨S4x4096x4x16, .f32⟩
  | .hbm, ⟨73, _⟩ => ⟨S4x4096x4x96, .f32⟩
  | .hbm, ⟨74, _⟩ => ⟨S4x4096x4x128, .f32⟩
  | .hbm, ⟨75, _⟩ => ⟨S16384x512, .f32⟩
  | .hbm, ⟨76, _⟩ => ⟨S16384x9216, .f32⟩
  | .hbm, ⟨77, _⟩ => ⟨S16384x9216, .bf16⟩
  | .hbm, ⟨78, _⟩ => ⟨S_, .i32⟩
  | .hbm, ⟨79, _⟩ => ⟨S_, .f32⟩
  | .hbm, ⟨80, _⟩ => ⟨S16384x128, .f32⟩
  | .hbm, ⟨81, _⟩ => ⟨S16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_c : Ref sig .tc := ⟨.hbm, 78, rfl⟩
abbrev main_call0_v0 : Ref sig .tc := ⟨.hbm, 79, rfl⟩
abbrev main_v70 : Ref sig .tc := ⟨.hbm, 80, rfl⟩
abbrev main_v71 : Ref sig .tc := ⟨.hbm, 81, rfl⟩

abbrev nD : Nat := 1
abbrev τ : Topo := Topo.v7x

variable {F : FTy → Type} [FloatOps F]
-- ==== ProjectSample.lean ====
abbrev S8192x2048 : Shape := ⟨2, ![8192, 2048]⟩
abbrev S2048 : Shape := ⟨1, ![2048]⟩
abbrev S2048x9248 : Shape := ⟨2, ![2048, 9248]⟩
abbrev S2048x4096 : Shape := ⟨2, ![2048, 4096]⟩
abbrev S2048x3072 : Shape := ⟨2, ![2048, 3072]⟩
abbrev S2048x2048 : Shape := ⟨2, ![2048, 2048]⟩
abbrev S2048x9216 : Shape := ⟨2, ![2048, 9216]⟩
abbrev S2048x32 : Shape := ⟨2, ![2048, 32]⟩
abbrev S_ : Shape := ⟨0, ![]⟩
abbrev S2048x128 : Shape := ⟨2, ![2048, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S1x2048 : Shape := ⟨2, ![1, 2048]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8192x9216 : Shape := ⟨2, ![8192, 9216]⟩
abbrev S8192x128 : Shape := ⟨2, ![8192, 128]⟩
abbrev S1024x2048 : Shape := ⟨2, ![1024, 2048]⟩
abbrev S2048x1024 : Shape := ⟨2, ![2048, 1024]⟩
abbrev S1024x128 : Shape := ⟨2, ![1024, 128]⟩
abbrev S1024x512 : Shape := ⟨2, ![1024, 512]⟩
abbrev S512x512 : Shape := ⟨2, ![512, 512]⟩

abbrev nBuf : Space → Nat
  | .hbm => 84
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9248, .f32⟩
  | .hbm, ⟨3, _⟩ => ⟨S2048x4096, .f32⟩
  | .hbm, ⟨4, _⟩ => ⟨S2048x3072, .f32⟩
  | .hbm, ⟨5, _⟩ => ⟨S2048x2048, .f32⟩
  | .hbm, ⟨6, _⟩ => ⟨S2048x9216, .f32⟩
  | .hbm, ⟨7, _⟩ => ⟨S2048x9216, .bf16⟩
  | .hbm, ⟨8, _⟩ => ⟨S2048x32, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S_, .f32⟩
  | .hbm, ⟨30, _⟩ => ⟨S2048x96, .f32⟩
  | .hbm, ⟨31, _⟩ => ⟨S2048x128, .f32⟩
  | .hbm, ⟨32, _⟩ => ⟨S2048x16, .f32⟩
  | .hbm, ⟨33, _⟩ => ⟨S_, .f32⟩
  | .hbm, ⟨34, _⟩ => ⟨S2048x96, .f32⟩
  | .hbm, ⟨35, _⟩ => ⟨S2048x128, .f32⟩
  | .hbm, ⟨36, _⟩ => ⟨S1x2048, .f32⟩
  | .hbm, ⟨37, _⟩ => ⟨S1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S_, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1024x1, .i32⟩
  | .hbm, ⟨71, _⟩ => ⟨S1x1024, .i32⟩
  | .hbm, ⟨72, _⟩ => ⟨S1024x1024, .i32⟩
  | .hbm, ⟨73, _⟩ => ⟨S1024x1024, .i32⟩
  | .hbm, ⟨74, _⟩ => ⟨S1024x1024, .i1⟩
  | .hbm, ⟨75, _⟩ => ⟨S1x1024, .i32⟩
  | .hbm, ⟨76, _⟩ => ⟨S_, .i32⟩
  | .hbm, ⟨77, _⟩ => ⟨S1x1024, .i32⟩
  | .hbm, ⟨78, _⟩ => ⟨S1x1024, .i1⟩
  | .hbm, ⟨79, _⟩ => ⟨S1024x1024, .i1⟩
  | .hbm, ⟨80, _⟩ => ⟨S1024x1024, .i1⟩
  | .hbm, ⟨81, _⟩ => ⟨S1024x1024, .bf16⟩
  | .hbm, ⟨82, _⟩ => ⟨S8192x9216, .bf16⟩
  | .hbm, ⟨83, _⟩ => ⟨S8192x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48_0 : Ref sig .tc := ⟨.hbm, 82, rfl⟩
abbrev main_v48_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c8_i32 : BitVec 32 := 8#32
  let v10 : BitVec 1 := Scalar.cmpi .eq arg1 c8_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg1 : BitVec 32 := BitVec.ofNat 32 (i 1).val
  let c7_i32_6 : BitVec 32 := 7#32
  let v13 : BitVec 1 := Scalar.cmpi .ne arg1 c7_i32_6
  let c8_i32_7 : BitVec 32 := 8#32
  let v14 : BitVec 1 := Scalar.cmpi .ne arg1 c8_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjectSampleReferenceIdeal.lean ====
abbrev S8192x2048 : Shape := ⟨2, ![8192, 2048]⟩
abbrev S2048 : Shape := ⟨1, ![2048]⟩
abbrev S2048x9248 : Shape := ⟨2, ![2048, 9248]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x9248 : Shape := ⟨2, ![8192, 9248]⟩
abbrev S8192x3072 : Shape := ⟨2, ![8192, 3072]⟩
abbrev S8192x32 : Shape := ⟨2, ![8192, 32]⟩
abbrev S8192x1024 : Shape := ⟨2, ![8192, 1024]⟩
abbrev S8192x512 : Shape := ⟨2, ![8192, 512]⟩
abbrev S8192x4096 : Shape := ⟨2, ![8192, 4096]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x8x128 : Shape := ⟨4, ![4, 2048, 8, 128]⟩
abbrev S4x2048x8x16 : Shape := ⟨4, ![4, 2048, 8, 16]⟩
abbrev S4x2048x8x96 : Shape := ⟨4, ![4, 2048, 8, 96]⟩
abbrev S4x2048x4x128 : Shape := ⟨4, ![4, 2048, 4, 128]⟩
abbrev S4x2048x4x16 : Shape := ⟨4, ![4, 2048, 4, 16]⟩
abbrev S4x2048x4x96 : Shape := ⟨4, ![4, 2048, 4, 96]⟩
abbrev S8192x9216 : Shape := ⟨2, ![8192, 9216]⟩
abbrev S8192x128 : Shape := ⟨2, ![8192, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x9248, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x9248, .f32⟩
  | .hbm, ⟨20, _⟩ => ⟨S8192x3072, .f32⟩
  | .hbm, ⟨21, _⟩ => ⟨S8192x32, .f32⟩
  | .hbm, ⟨22, _⟩ => ⟨S8192x1024, .f32⟩
  | .hbm, ⟨23, _⟩ => ⟨S8192x512, .f32⟩
  | .hbm, ⟨24, _⟩ => ⟨S8192x512, .f32⟩
  | .hbm, ⟨25, _⟩ => ⟨S8192x4096, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2048, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S1x2048x1x16, .f32⟩
  | .hbm, ⟨42, _⟩ => ⟨S2048x16, .f32⟩
  | .hbm, ⟨43, _⟩ => ⟨S1x2048x1x16, .f32⟩
  | .hbm, ⟨44, _⟩ => ⟨S4x2048x8x128, .f32⟩
  | .hbm, ⟨45, _⟩ => ⟨S4x2048x8x16, .f32⟩
  | .hbm, ⟨46, _⟩ => ⟨S4x2048x8x16, .f32⟩
  | .hbm, ⟨47, _⟩ => ⟨S4x2048x8x16, .f32⟩
  | .hbm, ⟨48, _⟩ => ⟨S4x2048x8x16, .f32⟩
  | .hbm, ⟨49, _⟩ => ⟨S4x2048x8x16, .f32⟩
  | .hbm, ⟨50, _⟩ => ⟨S4x2048x8x16, .f32⟩
  | .hbm, ⟨51, _⟩ => ⟨S4x2048x8x16, .f32⟩
  | .hbm, ⟨52, _⟩ => ⟨S4x2048x8x16, .f32⟩
  | .hbm, ⟨53, _⟩ => ⟨S4x2048x8x16, .f32⟩
  | .hbm, ⟨54, _⟩ => ⟨S4x2048x8x16, .f32⟩
  | .hbm, ⟨55, _⟩ => ⟨S4x2048x8x16, .f32⟩
  | .hbm, ⟨56, _⟩ => ⟨S4x2048x8x16, .f32⟩
  | .hbm, ⟨57, _⟩ => ⟨S4x2048x8x96, .f32⟩
  | .hbm, ⟨58, _⟩ => ⟨S4x2048x8x128, .f32⟩
  | .hbm, ⟨59, _⟩ => ⟨S8192x1024, .f32⟩
  | .hbm, ⟨60, _⟩ => ⟨S4x2048x4x128, .f32⟩
  | .hbm, ⟨61, _⟩ => ⟨S4x2048x4x16, .f32⟩
  | .hbm, ⟨62, _⟩ => ⟨S4x2048x4x16, .f32⟩
  | .hbm, ⟨63, _⟩ => ⟨S4x2048x4x16, .f32⟩
  | .hbm, ⟨64, _⟩ => ⟨S4x2048x4x16, .f32⟩
  | .hbm, ⟨65, _⟩ => ⟨S4x2048x4x16, .f32⟩
  | .hbm, ⟨66, _⟩ => ⟨S4x2048x4x16, .f32⟩
  | .hbm, ⟨67, _⟩ => ⟨S4x2048x4x16, .f32⟩
  | .hbm, ⟨68, _⟩ => ⟨S4x2048x4x16, .f32⟩
  | .hbm, ⟨69, _⟩ => ⟨S4x2048x4x16, .f32⟩
  | .hbm, ⟨70, _⟩ => ⟨S4x2048x4x16, .f32⟩
  | .hbm, ⟨71, _⟩ => ⟨S4x2048x4x16, .f32⟩
  | .hbm, ⟨72, _⟩ => ⟨S4x2048x4x16, .f32⟩
  | .hbm, ⟨73, _⟩ => ⟨S4x2048x4x96, .f32⟩
  | .hbm, ⟨74, _⟩ => ⟨S4x2048x4x128, .f32⟩
  | .hbm, ⟨75, _⟩ => ⟨S8192x512, .f32⟩
  | .hbm, ⟨76, _⟩ => ⟨S8192x9216, .f32⟩
  | .hbm, ⟨77, _⟩ => ⟨S8192x9216, .bf16⟩
  | .hbm, ⟨78, _⟩ => ⟨S_, .i32⟩
  | .hbm, ⟨79, _⟩ => ⟨S_, .f32⟩
  | .hbm, ⟨80, _⟩ => ⟨S8192x128, .f32⟩
  | .hbm, ⟨81, _⟩ => ⟨S8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_c : Ref sig .tc := ⟨.hbm, 78, rfl⟩
abbrev main_call0_v0 : Ref sig .tc := ⟨.hbm, 79, rfl⟩
abbrev main_v70 : Ref sig .tc := ⟨.hbm, 80, rfl⟩
abbrev main_v71 : Ref sig .tc := ⟨.hbm, 81, rfl⟩

abbrev nD : Nat := 1
abbrev τ : Topo := Topo.v7x

variable {F : FTy → Type} [FloatOps F]
-- ==== Memory.lean ====
abbrev S4x256x2048 : Shape := ⟨3, ![4, 256, 2048]⟩
abbrev S2048 : Shape := ⟨1, ![2048]⟩
abbrev S2048x1024 : Shape := ⟨2, ![2048, 1024]⟩
abbrev S1024x2048 : Shape := ⟨2, ![1024, 2048]⟩
abbrev S1x2048 : Shape := ⟨2, ![1, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x1024, .f32⟩
  | .hbm, ⟨3, _⟩ => ⟨S1024x2048, .f32⟩
  | .hbm, ⟨4, _⟩ => ⟨S1x2048, .f32⟩
  | .hbm, ⟨5, _⟩ => ⟨S2048x1024, .bf16⟩
  | .hbm, ⟨6, _⟩ => ⟨S1024x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryReferenceIdeal.lean ====
abbrev S4x256x2048 : Shape := ⟨3, ![4, 256, 2048]⟩
abbrev S2048 : Shape := ⟨1, ![2048]⟩
abbrev S2048x1024 : Shape := ⟨2, ![2048, 1024]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x1024 : Shape := ⟨3, ![4, 256, 1024]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x1024, .f32⟩
  | .hbm, ⟨3, _⟩ => ⟨S4x256x2048, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x2048, .f32⟩
  | .hbm, ⟨15, _⟩ => ⟨S4x256x2048, .f32⟩
  | .hbm, ⟨16, _⟩ => ⟨S1x1x2048, .f32⟩
  | .hbm, ⟨17, _⟩ => ⟨S4x256x2048, .f32⟩
  | .hbm, ⟨18, _⟩ => ⟨S4x256x2048, .f32⟩
  | .hbm, ⟨19, _⟩ => ⟨S4x256x1024, .f32⟩
  | .hbm, ⟨20, _⟩ => ⟨S1024x1024, .f32⟩
  | .hbm, ⟨21, _⟩ => ⟨S1024x1024, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Cross.lean ====
abbrev S4x4096x2048 : Shape := ⟨3, ![4, 4096, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S1x512x2048 : Shape := ⟨3, ![1, 512, 2048]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x256x1024, .bf16⟩
  | .hbm, ⟨2, _⟩ => ⟨S2048, .f32⟩
  | .hbm, ⟨3, _⟩ => ⟨S2048x512, .f32⟩
  | .hbm, ⟨4, _⟩ => ⟨S512x2048, .f32⟩
  | .hbm, ⟨5, _⟩ => ⟨S1x2048, .f32⟩
  | .hbm, ⟨6, _⟩ => ⟨S2048x512, .bf16⟩
  | .hbm, ⟨7, _⟩ => ⟨S512x2048, .bf16⟩
  | .hbm, ⟨8, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x256x1024, .bf16⟩
  | .local _ .vmem, ⟨4, _⟩ => ⟨S1x256x1024, .bf16⟩
  | .local _ .vmem, ⟨5, _⟩ => ⟨S2048x512, .bf16⟩
  | .local _ .vmem, ⟨6, _⟩ => ⟨S512x2048, .bf16⟩
  | .local _ .vmem, ⟨7, _⟩ => ⟨S1x512x2048, .f32⟩
  | .local _ .vmem, ⟨8, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossIdeal.lean ====
abbrev S4x4096x2048 : Shape := ⟨3, ![4, 4096, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S1x512x2048 : Shape := ⟨3, ![1, 512, 2048]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x256x1024, .bf16⟩
  | .hbm, ⟨2, _⟩ => ⟨S2048, .f32⟩
  | .hbm, ⟨3, _⟩ => ⟨S2048x512, .f32⟩
  | .hbm, ⟨4, _⟩ => ⟨S512x2048, .f32⟩
  | .hbm, ⟨5, _⟩ => ⟨S1x2048, .f32⟩
  | .hbm, ⟨6, _⟩ => ⟨S2048x512, .bf16⟩
  | .hbm, ⟨7, _⟩ => ⟨S512x2048, .bf16⟩
  | .hbm, ⟨8, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x256x1024, .bf16⟩
  | .local _ .vmem, ⟨4, _⟩ => ⟨S1x256x1024, .bf16⟩
  | .local _ .vmem, ⟨5, _⟩ => ⟨S2048x512, .bf16⟩
  | .local _ .vmem, ⟨6, _⟩ => ⟨S512x2048, .bf16⟩
  | .local _ .vmem, ⟨7, _⟩ => ⟨S1x512x2048, .f32⟩
  | .local _ .vmem, ⟨8, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossReferenceIdeal.lean ====
abbrev S4x4096x2048 : Shape := ⟨3, ![4, 4096, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x512 : Shape := ⟨3, ![4, 4096, 512]⟩
abbrev S4x4096x4x128 : Shape := ⟨4, ![4, 4096, 4, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x1024, .bf16⟩
  | .hbm, ⟨2, _⟩ => ⟨S2048, .f32⟩
  | .hbm, ⟨3, _⟩ => ⟨S2048x512, .f32⟩
  | .hbm, ⟨4, _⟩ => ⟨S512x2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x512, .f32⟩
  | .hbm, ⟨22, _⟩ => ⟨S4x4096x4x128, .f32⟩
  | .hbm, ⟨23, _⟩ => ⟨S4x256x1024, .f32⟩
  | .hbm, ⟨24, _⟩ => ⟨S4x256x2x4x128, .f32⟩
  | .hbm, ⟨25, _⟩ => ⟨S4x256x1x4x128, .f32⟩
  | .hbm, ⟨26, _⟩ => ⟨S4x256x4x128, .f32⟩
  | .hbm, ⟨27, _⟩ => ⟨S4x256x1x4x128, .f32⟩
  | .hbm, ⟨28, _⟩ => ⟨S4x256x4x128, .f32⟩
  | .hbm, ⟨29, _⟩ => ⟨S4x4x4096x256, .f32⟩
  | .hbm, ⟨30, _⟩ => ⟨S_, .f32⟩
  | .hbm, ⟨31, _⟩ => ⟨S4x4x4096x256, .f32⟩
  | .hbm, ⟨32, _⟩ => ⟨S4x4x4096x256, .f32⟩
  | .hbm, ⟨33, _⟩ => ⟨S_, .f32⟩
  | .hbm, ⟨34, _⟩ => ⟨S4x4x4096, .f32⟩
  | .hbm, ⟨35, _⟩ => ⟨S_, .f32⟩
  | .hbm, ⟨36, _⟩ => ⟨S4x4x4096, .f32⟩
  | .hbm, ⟨37, _⟩ => ⟨S4x4x4096, .f32⟩
  | .hbm, ⟨38, _⟩ => ⟨S4x4x4096x1, .f32⟩
  | .hbm, ⟨39, _⟩ => ⟨S4x4x4096x256, .f32⟩
  | .hbm, ⟨40, _⟩ => ⟨S4x4x4096x256, .f32⟩
  | .hbm, ⟨41, _⟩ => ⟨S4x4x4096x256, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S4x4x4096x256, .f32⟩
  | .hbm, ⟨46, _⟩ => ⟨S4x4x4096x256, .f32⟩
  | .hbm, ⟨47, _⟩ => ⟨S4x4x128x4096, .f32⟩
  | .hbm, ⟨48, _⟩ => ⟨S4x4096x4x128, .f32⟩
  | .hbm, ⟨49, _⟩ => ⟨S4x4096x512, .f32⟩
  | .hbm, ⟨50, _⟩ => ⟨S4x4096x2048, .f32⟩
  | .hbm, ⟨51, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== CrossSample.lean ====
abbrev S4x2048x2048 : Shape := ⟨3, ![4, 2048, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S1x512x2048 : Shape := ⟨3, ![1, 512, 2048]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .bf16⟩
  | .hbm, ⟨2, _⟩ => ⟨S2048, .f32⟩
  | .hbm, ⟨3, _⟩ => ⟨S2048x512, .f32⟩
  | .hbm, ⟨4, _⟩ => ⟨S512x2048, .f32⟩
  | .hbm, ⟨5, _⟩ => ⟨S1x2048, .f32⟩
  | .hbm, ⟨6, _⟩ => ⟨S2048x512, .bf16⟩
  | .hbm, ⟨7, _⟩ => ⟨S512x2048, .bf16⟩
  | .hbm, ⟨8, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x256x1024, .bf16⟩
  | .local _ .vmem, ⟨4, _⟩ => ⟨S1x256x1024, .bf16⟩
  | .local _ .vmem, ⟨5, _⟩ => ⟨S2048x512, .bf16⟩
  | .local _ .vmem, ⟨6, _⟩ => ⟨S512x2048, .bf16⟩
  | .local _ .vmem, ⟨7, _⟩ => ⟨S1x512x2048, .f32⟩
  | .local _ .vmem, ⟨8, _⟩ => ⟨S1x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CrossSampleReferenceIdeal.lean ====
abbrev S4x2048x2048 : Shape := ⟨3, ![4, 2048, 2048]⟩
abbrev S4x256x1024 : Shape := ⟨3, ![4, 256, 1024]⟩
abbrev S2048 : Shape := ⟨1, ![2048]⟩
abbrev S2048x512 : Shape := ⟨2, ![2048, 512]⟩
abbrev S512x2048 : Shape := ⟨2, ![512, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x512 : Shape := ⟨3, ![4, 2048, 512]⟩
abbrev S4x2048x4x128 : Shape := ⟨4, ![4, 2048, 4, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .bf16⟩
  | .hbm, ⟨2, _⟩ => ⟨S2048, .f32⟩
  | .hbm, ⟨3, _⟩ => ⟨S2048x512, .f32⟩
  | .hbm, ⟨4, _⟩ => ⟨S512x2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x2048x512, .f32⟩
  | .hbm, ⟨22, _⟩ => ⟨S4x2048x4x128, .f32⟩
  | .hbm, ⟨23, _⟩ => ⟨S4x256x1024, .f32⟩
  | .hbm, ⟨24, _⟩ => ⟨S4x256x2x4x128, .f32⟩
  | .hbm, ⟨25, _⟩ => ⟨S4x256x1x4x128, .f32⟩
  | .hbm, ⟨26, _⟩ => ⟨S4x256x4x128, .f32⟩
  | .hbm, ⟨27, _⟩ => ⟨S4x256x1x4x128, .f32⟩
  | .hbm, ⟨28, _⟩ => ⟨S4x256x4x128, .f32⟩
  | .hbm, ⟨29, _⟩ => ⟨S4x4x2048x256, .f32⟩
  | .hbm, ⟨30, _⟩ => ⟨S_, .f32⟩
  | .hbm, ⟨31, _⟩ => ⟨S4x4x2048x256, .f32⟩
  | .hbm, ⟨32, _⟩ => ⟨S4x4x2048x256, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x128x2048, .f32⟩
  | .hbm, ⟨48, _⟩ => ⟨S4x2048x4x128, .f32⟩
  | .hbm, ⟨49, _⟩ => ⟨S4x2048x512, .f32⟩
  | .hbm, ⟨50, _⟩ => ⟨S4x2048x2048, .f32⟩
  | .hbm, ⟨51, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.Bodies.lean ====
/-
  The two kernel bodies, run once each on whole staging buffers, for any float values.

  `deinterleave_run`: the permutation kernel stores its one product (`Gen.k0_pay1`).
  `experts_run_zero`, `experts_run_live`: the experts' kernel at a tile with no row stores zeros (`Gen.k1_pay1`), at any other
  tile the gated two-product value (`Gen.k1_pay2`); which of the two is told by the word the body reads off its second table.
-/
module

public import proofs.«01_k».proof.Proof.Gen.KernelIdeal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Exec
public import Idealize.ShloMosaic.Lib.VecWindow
public import Idealize.ShloMosaic.Lib.Affine
public import Idealize.ShloMosaic.Lib.Tactic
public import Idealize.ShloMosaic.Init

@[expose] public section

set_option maxRecDepth 16384
set_option Elab.async false

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the experts' body reads off its second table at grid point `i`: how many rows of the tile are valid. -/
abbrev word (T : S225.Idx → Elt F .i32) (i : grid1.Coords) : Elt F .i32 :=
  View.readAt (Elt F) (Memref.whole (main_v43 : Ref sig .tc)).view (Rect.unit (s := S225) (k1_off1 i) S1.size (k1_off1_inb i)).toLoadRect T
    (Shape.Idx.first (numel1_S1.symm ▸ Nat.one_pos))

set_option backward.proofsInPublic true in
set_option maxHeartbeats 8000000 in
/-- The permutation kernel's body: from its two blocks, the product stored in the output's buffer. -/
theorem deinterleave_run (c : Dev nD) (i : grid0.Coords) (arg1 : Memref sig .tc .vmem S1x2048x512 .f32) (harg1 : arg1.IsWhole)
    (arg2 : Memref sig .tc .vmem S512x512 .bf16) (harg2 : arg2.IsWhole) (arg3 : Memref sig .tc .vmem S1x2048x512 .bf16) (harg3 : arg3.IsWhole)
    (x0 : S1x2048x512.Idx → Elt F .f32) (x1 : S512x512.Idx → Elt F .bf16) (K : PUnit → sProp 𝕄) :
    iprop(owns (c : Thread nD τ) arg1 fullShare x0 ∗ owns (c : Thread nD τ) arg2 fullShare x1
      ∗ (∃ d, owns (c : Thread nD τ) arg3 fullShare d)
      ∗ (iprop(owns (c : Thread nD τ) arg1 fullShare x0 ∗ owns (c : Thread nD τ) arg2 fullShare x1
          ∗ owns (c : Thread nD τ) arg3 fullShare (k0_pay1 x0 x1)) -∗ K ⟨⟩))
      ⊢ wp frame (wpE (defs₀ (F := F)) Variants.none c none) Set.univ (cc0_deinterleave_up i arg1 harg1 arg2 harg2 arg3 harg3) K := by
  rw [cc0_deinterleave_up_eq_skeleton]; unfold cc0_deinterleave_up_skel
  iintro ⟨H0, H1, ⟨%d, HO⟩, Hk⟩
  ihave H0 := (rep_of_owns _ _ _ _) $$ H0
  ihave H1 := (rep_of_owns _ _ _ _) $$ H1
  unfold owns
  icases HO with ⟨%f, -, HO⟩
  sl_exec!
  sl_step
  iapply Hk
  isplitl [H0]; · iexists _; isplitr; swap; (· iexact H0); ipureintro; exact View.read_rep _ _
  isplitl [H1]; · iexists _; isplitr; swap; (· iexact H1); ipureintro; exact View.read_rep _ _
  iexists _; isplitr; swap
  · iexact HO
  · ipureintro
    sl_unfold_run_names
    rw [View.read_writes_full]
    congr 1 <;> exact View.readAt_rep_full _ _ _

set_option backward.proofsInPublic true in
set_option maxHeartbeats 8000000 in
/-- The experts' body at a tile with no row: zeros stored. -/
theorem experts_run_zero (c : Dev nD) (i : grid1.Coords) (arg4 : Memref sig .tc .vmem S512x1024 .i32) (harg4 : arg4.IsWhole)
    (arg5 : Memref sig .tc .vmem S1x2048x512 .bf16) (harg5 : arg5.IsWhole) (arg6 : Memref sig .tc .vmem S1x1x512 .f32) (harg6 : arg6.IsWhole)
    (arg7 : Memref sig .tc .vmem S1x256x2048 .bf16) (harg7 : arg7.IsWhole) (arg8 : Memref sig .tc .vmem S512x2048 .bf16) (harg8 : arg8.IsWhole)
    (T1 : S225.Idx → Elt F .i32) (h1 : k1_cond1 (word (F := F) T1 i) = 1#1) (h2 : ¬ (k1_cond2 (word (F := F) T1 i) = 1#1)) (K : PUnit → sProp 𝕄) :
    iprop(((Memref.whole (main_v43 : Ref sig .tc)).view.loc (c : Thread nD τ) ↦{fullShare} T1)
      ∗ (∃ d, owns (c : Thread nD τ) arg8 fullShare d)
      ∗ (iprop(((Memref.whole (main_v43 : Ref sig .tc)).view.loc (c : Thread nD τ) ↦{fullShare} T1)
          ∗ owns (c : Thread nD τ) arg8 fullShare (k1_pay1 (F := F))) -∗ K ⟨⟩))
      ⊢ wp frame (wpE (defs₀ (F := F)) Variants.none c none) Set.univ
          (cc1_moe_experts i (Memref.whole main_v21) (Memref.isWhole_whole _) (Memref.whole main_v43) (Memref.isWhole_whole _)
            (Memref.whole main_v12) (Memref.isWhole_whole _) arg4 harg4 arg5 harg5 arg6 harg6 arg7 harg7 arg8 harg8) K := by
  unfold owns
  rw [cc1_moe_experts_eq_skeleton]; unfold cc1_moe_experts_skel
  iintro ⟨HT1, ⟨%d, %f, -, HO⟩, Hk⟩
  have hT1 : (Memref.whole (main_v43 : Ref sig .tc)).IsWhole := Memref.isWhole_whole _
  sl_exec! (disch := first | (guard_target = k1_cond1 _ = _; exact h1) | (guard_target = ¬(k1_cond2 _ = _); exact h2))
  sl_step
  iapply Hk
  isplitl [HT1]; · iexact HT1
  iexists _; isplitr; swap
  · iexact HO
  · ipureintro
    sl_unfold_run_names
    rw [View.read_writes_full]

set_option backward.proofsInPublic true in
set_option maxHeartbeats 8000000 in
/-- The experts' body at a tile with rows: the gated two-product value stored. -/
theorem experts_run_live (c : Dev nD) (i : grid1.Coords) (arg4 : Memref sig .tc .vmem S512x1024 .i32) (harg4 : arg4.IsWhole)
    (arg5 : Memref sig .tc .vmem S1x2048x512 .bf16) (harg5 : arg5.IsWhole) (arg6 : Memref sig .tc .vmem S1x1x512 .f32) (harg6 : arg6.IsWhole)
    (arg7 : Memref sig .tc .vmem S1x256x2048 .bf16) (harg7 : arg7.IsWhole) (arg8 : Memref sig .tc .vmem S512x2048 .bf16) (harg8 : arg8.IsWhole)
    (T1 : S225.Idx → Elt F .i32) (x0 : S512x1024.Idx → Elt F .i32) (x1 : S1x2048x512.Idx → Elt F .bf16) (x2 : S1x1x512.Idx → Elt F .f32)
    (x3 : S1x256x2048.Idx → Elt F .bf16)
    (h1 : ¬ (k1_cond1 (word (F := F) T1 i) = 1#1)) (h2 : k1_cond2 (word (F := F) T1 i) = 1#1) (K : PUnit → sProp 𝕄) :
    iprop(owns (c : Thread nD τ) arg4 fullShare x0 ∗ owns (c : Thread nD τ) arg5 fullShare x1
      ∗ owns (c : Thread nD τ) arg6 fullShare x2 ∗ owns (c : Thread nD τ) arg7 fullShare x3
      ∗ ((Memref.whole (main_v43 : Ref sig .tc)).view.loc (c : Thread nD τ) ↦{fullShare} T1)
      ∗ (∃ d, owns (c : Thread nD τ) arg8 fullShare d)
      ∗ (iprop(owns (c : Thread nD τ) arg4 fullShare x0 ∗ owns (c : Thread nD τ) arg5 fullShare x1
          ∗ owns (c : Thread nD τ) arg6 fullShare x2 ∗ owns (c : Thread nD τ) arg7 fullShare x3
          ∗ ((Memref.whole (main_v43 : Ref sig .tc)).view.loc (c : Thread nD τ) ↦{fullShare} T1)
          ∗ owns (c : Thread nD τ) arg8 fullShare (k1_pay2 x0 x1 x2 x3)) -∗ K ⟨⟩))
      ⊢ wp frame (wpE (defs₀ (F := F)) Variants.none c none) Set.univ
          (cc1_moe_experts i (Memref.whole main_v21) (Memref.isWhole_whole _) (Memref.whole main_v43) (Memref.isWhole_whole _)
            (Memref.whole main_v12) (Memref.isWhole_whole _) arg4 harg4 arg5 harg5 arg6 harg6 arg7 harg7 arg8 harg8) K := by
  rw [cc1_moe_experts_eq_skeleton]; unfold cc1_moe_experts_skel
  iintro ⟨H0, H1, H2, H3, HT1, ⟨%d, HO⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  unfold owns
  icases HO with ⟨%f, -, HO⟩
  have hT1 : (Memref.whole (main_v43 : Ref sig .tc)).IsWhole := Memref.isWhole_whole _
  sl_exec! (disch := first | (guard_target = ¬(k1_cond1 _ = _); exact h1) | (guard_target = k1_cond2 _ = _; exact h2))
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [HT1]; · iexact HT1
  iexists _; isplitr; swap
  · iexact HO
  · ipureintro
    sl_unfold_run_names
    rw [View.read_writes_full]
    congr 1 <;> exact View.readAt_rep_full _ _ _

end Cert.Proof

end
-- ==== Proof.Regions.lean ====
/-
  The two pallas_calls' proof data and body obligations, for any float values and any contents of the buffers they start from.

  Region 0 (the permutation kernel) leaves in its output's block at each grid point the product of that point's blocks. Region 1 (the
  experts' kernel) runs at tables `a` all of whose words of valid rows are zero or positive (`Live`): at each grid point it leaves zeros
  or the gated two-product value of the blocks the tables choose.
-/
module

public import proofs.«01_k».proof.Proof.Bodies
public import Idealize.ShloMosaic.Lib.ValueIdxCore
public import proofs.«01_k».proof.Proof.Gen.KernelIdeal.Launch
public import proofs.«01_k».proof.Proof.Gen.KernelIdeal.Points

@[expose] public section

set_option maxRecDepth 16384
set_option Elab.async false

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-! ## Region 0 -/

section Region0

variable (V : Dev nD → Valuation τ sig (Elt F))

/-- The block window `w` moves at point `t`, read off the array's contents at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: inputs left in place, the output's block at the product; the scoped buffers it does not stage ride along. -/
def dat0 (c : Dev nD) : Dat τ (Elt F) Unit ℕ (UR sig nD τ) ℕ cfg0 c where
  A w := V c (Pipeline.arrRef spec0 w)
  after w t := match w with
    | ⟨0, _⟩ => blk0 V c (0 : Fin 3) t
    | ⟨1, _⟩ => blk0 V c (1 : Fin 3) t
    | ⟨2, _⟩ => k0_pay1 (F := F) (blk0 V c (0 : Fin 3) t) (blk0 V c (1 : Fin 3) t)
  Φ _ := Pipeline.scopedRest (Ix := Unit) (Name := ℕ) (U := UR sig nD τ) (Lvl := ℕ) (Val := Elt F) spec0 c
  q _ := fullShare
  owed _ := 0

theorem dat0_after2 (c : Dev nD) (t : Fin cfg0.N) :
    (dat0 V c).after (2 : Fin 3) t = k0_pay1 (F := F) (blk0 V c (0 : Fin 3) t) (blk0 V c (1 : Fin 3) t) := rfl

theorem dat0_before0 (c : Dev nD) (t : Fin cfg0.N) (d) : (dat0 V c).before (0 : Fin 3) t d = blk0 V c (0 : Fin 3) t :=
  ((dat0 V c).before_in_eq_fetched (0 : Fin 3) rfl (fun _ => rfl) (fun _ _ _ => rfl) (fun _ => rfl) t d).trans rfl

theorem dat0_before1 (c : Dev nD) (t : Fin cfg0.N) (d) : (dat0 V c).before (1 : Fin 3) t d = blk0 V c (1 : Fin 3) t :=
  ((dat0 V c).before_in_eq_fetched (1 : Fin 3) rfl (fun _ => rfl) (fun _ _ _ => rfl) (fun _ => rfl) t d).trans rfl

set_option maxHeartbeats 4000000 in
/-- Region 0's body obligation. -/
theorem body0 (c : Dev nD) : BodyObligation (dat0 V c) (defs₀ (F := F)) Variants.none () Set.univ := fun t => by
  rw [bigSep_W0, bigSep_W0]
  simp only [dat0_before0, dat0_before1]
  rewrite [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩⟩
  iapply (deinterleave_run c (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (blk0 V c (0 : Fin 3) t) (blk0 V c (1 : Fin 3) t))
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Region0

/-! ## Region 1 -/

section Region1

/-- The tables' index at grid point `i`. -/
def tile (i : grid1.Coords) : S225.Idx := ValueIdx.ix1 (n := 225) ⟨(i 0).val, (i 0).isLt⟩

theorem off1_val (i : grid1.Coords) (x : Fin 1) : k1_off1 i x = (i 0).val := by
  have h : (i 0).val < 225 := (i 0).isLt
  have hx : x = 0 := Subsingleton.elim _ _
  subst hx
  show (Scalar.indexCast (BitVec.ofNat 32 (i 0).val)).toNat = _
  have e : (BitVec.ofNat 32 (i 0).val).toNat = (i 0).val := by rw [BitVec.toNat_ofNat]; omega
  exact e

/-- The body's word is the table's entry at the grid point. -/
theorem word_eq (T : S225.Idx → Elt F .i32) (i : grid1.Coords) : word (F := F) T i = T (tile i) := by
  show T _ = T _
  congr 1
  refine (ValueIdx.eq_ix1 (n := 225) _).trans (congrArg ValueIdx.ix1 (Fin.ext ?_))
  have e : ∀ n : ℕ, n < 1 → k1_off1 i 0 + 1 * n = (i 0).val := by intro n hn; rw [off1_val]; omega
  exact e _ (Fin.isLt (n := 1) (Shape.Idx.first (s := S1) (numel1_S1.symm ▸ Nat.one_pos) 0))

theorem atD_eq (pf : pre1.Contents (Elt F)) (i : grid1.Coords) : pf.atD 1 (k1_off1 i) = pf 1 (tile i) := by
  have h : ∀ a : Fin 1, k1_off1 i a + 1 ≤ ![225] a := by
    intro a; rw [off1_val]; have : (i 0).val < 225 := (i 0).isLt
    have ha : a = 0 := Subsingleton.elim _ _
    subst ha; exact this
  refine (dif_pos h).trans (congrArg (pf 1) ?_)
  exact (ValueIdx.eq_ix1 (n := 225) _).trans (congrArg ValueIdx.ix1 (Fin.ext (off1_val i 0)))

/-- Every word of valid rows is zero, or not zero and positive. -/
def Live (T1 : S225.Idx → Elt F .i32) : Prop :=
  ∀ i : grid1.Coords, (k1_cond1 (word (F := F) T1 i) = 1#1 ∧ ¬ (k1_cond2 (word (F := F) T1 i) = 1#1))
    ∨ (¬ (k1_cond1 (word (F := F) T1 i) = 1#1) ∧ k1_cond2 (word (F := F) T1 i) = 1#1)

variable (a : (pcfg1 (F := F)).Adm) (V : Dev nD → Valuation τ sig (Elt F))

/-- The block window `w` moves at point `t`, read off the array's contents at entry. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef (cfg1 a).spec w))

/-- What the body leaves in the output's block at point `t`. -/
def out1 (c : Dev nD) (t : Fin (cfg1 a).N) : S512x2048.Idx → Elt F .bf16 :=
  if k1_cond1 (word (F := F) (a.1 1) ((cfg1 a).grid.coords t)) = 1#1 then k1_pay1 (F := F)
  else k1_pay2 (F := F) (blk1 a V c (0 : Fin 5) t) (blk1 a V c (1 : Fin 5) t) (blk1 a V c (2 : Fin 5) t) (blk1 a V c (3 : Fin 5) t)

/-- Region 1's proof data: inputs left in place, the output's block at `out1`; the scoped buffers it does not stage and the tables ride along. -/
def dat1 (c : Dev nD) : Dat τ (Elt F) Unit ℕ (UR sig nD τ) ℕ (cfg1 a) c where
  A w := V c (Pipeline.arrRef (cfg1 a).spec w)
  after w t := match w with
    | ⟨0, _⟩ => blk1 a V c (0 : Fin 5) t
    | ⟨1, _⟩ => blk1 a V c (1 : Fin 5) t
    | ⟨2, _⟩ => blk1 a V c (2 : Fin 5) t
    | ⟨3, _⟩ => blk1 a V c (3 : Fin 5) t
    | ⟨4, _⟩ => out1 a V c t
  Φ _ := iprop(Pipeline.scopedRest (Ix := Unit) (Name := ℕ) (U := UR sig nD τ) (Lvl := ℕ) (Val := Elt F) spec1 c
    ∗ Pipeline.prefHeld (Ix := Unit) (Name := ℕ) (U := UR sig nD τ) (Lvl := ℕ) pre1 c (fun _ => fullShare) a.1)
  q _ := fullShare
  owed _ := 0

theorem dat1_before0 (c : Dev nD) (t : Fin (cfg1 a).N) (d) : (dat1 a V c).before (0 : Fin 5) t d = blk1 a V c (0 : Fin 5) t :=
  ((dat1 a V c).before_in_eq_fetched (0 : Fin 5) rfl (fun _ => rfl) (fun _ _ _ => rfl) (fun _ => rfl) t d).trans rfl
theorem dat1_before1 (c : Dev nD) (t : Fin (cfg1 a).N) (d) : (dat1 a V c).before (1 : Fin 5) t d = blk1 a V c (1 : Fin 5) t :=
  ((dat1 a V c).before_in_eq_fetched (1 : Fin 5) rfl (fun _ => rfl) (fun _ _ _ => rfl) (fun _ => rfl) t d).trans rfl
theorem dat1_before2 (c : Dev nD) (t : Fin (cfg1 a).N) (d) : (dat1 a V c).before (2 : Fin 5) t d = blk1 a V c (2 : Fin 5) t :=
  ((dat1 a V c).before_in_eq_fetched (2 : Fin 5) rfl (fun _ => rfl) (fun _ _ _ => rfl) (fun _ => rfl) t d).trans rfl
theorem dat1_before3 (c : Dev nD) (t : Fin (cfg1 a).N) (d) : (dat1 a V c).before (3 : Fin 5) t d = blk1 a V c (3 : Fin 5) t :=
  ((dat1 a V c).before_in_eq_fetched (3 : Fin 5) rfl (fun _ => rfl) (fun _ _ _ => rfl) (fun _ => rfl) t d).trans rfl

/-- The tables one by one. -/
theorem tables_eq (c : Dev nD) (q : Fin 3 → PosShare TreeShare) (v : pre1.Contents (Elt F)) :
    (Pipeline.prefHeld (Ix := Unit) (Name := ℕ) (U := UR sig nD τ) (Lvl := ℕ) pre1 c q v : sProp 𝕄)
      = iprop((((c : Thread nD τ).loc main_v21) ↦{q 0} v 0) ∗ (((c : Thread nD τ).loc main_v43) ↦{q 1} v 1) ∗ (((c : Thread nD τ).loc main_v12) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The output's window is idle at no point. -/
theorem idle4 (hl : Live (F := F) (a.1 1)) (t : Fin (cfg1 a).N) : (cfg1 a).idle (4 : Fin 5) ((cfg1 a).grid.coords t) = false := by
  show (!(k1_cond1 (a.1.atD 1 (k1_off1 ((cfg1 a).grid.coords t))) == 1#1) && !(k1_cond2 (a.1.atD 1 (k1_off1 ((cfg1 a).grid.coords t))) == 1#1)) = false
  rw [atD_eq, ← word_eq (F := F) (a.1 1)]
  rcases hl ((cfg1 a).grid.coords t) with ⟨h1, -⟩ | ⟨-, h2⟩
  · rw [h1]; rfl
  · rw [h2]; simp

set_option maxHeartbeats 4000000 in
/-- Region 1's body obligation. -/
theorem body1 (hl : Live (F := F) (a.1 1)) (c : Dev nD) : BodyObligation (dat1 a V c) (defs₀ (F := F)) Variants.none () Set.univ := fun t => by
  rw [bigSep_W1, bigSep_W1]
  rewrite [idle4 a hl t]
  simp only [dat1_before0, dat1_before1, dat1_before2, dat1_before3]
  rewrite [show (dat1 a V c).Φ t.succ = (dat1 a V c).Φ t.castSucc from rfl, show (dat1 a V c).owesAt () t.succ = (dat1 a V c).owesAt () t.castSucc from rfl,
    show (dat1 a V c).Φ t.castSucc = iprop(Pipeline.scopedRest (Ix := Unit) (Name := ℕ) (U := UR sig nD τ) (Lvl := ℕ) (Val := Elt F) spec1 c
      ∗ Pipeline.prefHeld (Ix := Unit) (Name := ℕ) (U := UR sig nD τ) (Lvl := ℕ) pre1 c (fun _ => fullShare) a.1) from rfl, tables_eq]
  rcases hl ((cfg1 a).grid.coords t) with ⟨h1, h2⟩ | ⟨h1, h2⟩
  · have ho : (dat1 a V c).after (4 : Fin 5) t = k1_pay1 (F := F) := if_pos h1
    iintro ⟨⟨HΦ, HT0, HT1, HT2⟩, Ho, ⟨%d0, H0⟩, ⟨%d1, H1⟩, ⟨%d2, H2⟩, ⟨%d3, H3⟩, ⟨%d4, H4⟩⟩
    iapply (experts_run_zero c ((cfg1 a).grid.coords t) (spec1_0.stage ((cfg1 a).slots t (0 : Fin 5))) (hstage1_0 (((cfg1 a).slots t (0 : Fin 5)).cast nbuf1_0))
      (spec1_1.stage ((cfg1 a).slots t (1 : Fin 5))) (hstage1_1 (((cfg1 a).slots t (1 : Fin 5)).cast nbuf1_1))
      (spec1_2.stage ((cfg1 a).slots t (2 : Fin 5))) (hstage1_2 (((cfg1 a).slots t (2 : Fin 5)).cast nbuf1_2))
      (spec1_3.stage ((cfg1 a).slots t (3 : Fin 5))) (hstage1_3 (((cfg1 a).slots t (3 : Fin 5)).cast nbuf1_3))
      (spec1_4.stage ((cfg1 a).slots t (4 : Fin 5))) (hstage1_4 (((cfg1 a).slots t (4 : Fin 5)).cast nbuf1_4)) (a.1 1) h1 h2)
    isplitl [HT1]; · iexact HT1
    isplitl [H4]; · iexists _; iexact H4
    iintro ⟨HT1, H4⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    rewrite [ho]; iexact H4
  · have ho : (dat1 a V c).after (4 : Fin 5) t
        = k1_pay2 (F := F) (blk1 a V c (0 : Fin 5) t) (blk1 a V c (1 : Fin 5) t) (blk1 a V c (2 : Fin 5) t) (blk1 a V c (3 : Fin 5) t) := if_neg h1
    iintro ⟨⟨HΦ, HT0, HT1, HT2⟩, Ho, ⟨%d0, H0⟩, ⟨%d1, H1⟩, ⟨%d2, H2⟩, ⟨%d3, H3⟩, ⟨%d4, H4⟩⟩
    iapply (experts_run_live c ((cfg1 a).grid.coords t) (spec1_0.stage ((cfg1 a).slots t (0 : Fin 5))) (hstage1_0 (((cfg1 a).slots t (0 : Fin 5)).cast nbuf1_0))
      (spec1_1.stage ((cfg1 a).slots t (1 : Fin 5))) (hstage1_1 (((cfg1 a).slots t (1 : Fin 5)).cast nbuf1_1))
      (spec1_2.stage ((cfg1 a).slots t (2 : Fin 5))) (hstage1_2 (((cfg1 a).slots t (2 : Fin 5)).cast nbuf1_2))
      (spec1_3.stage ((cfg1 a).slots t (3 : Fin 5))) (hstage1_3 (((cfg1 a).slots t (3 : Fin 5)).cast nbuf1_3))
      (spec1_4.stage ((cfg1 a).slots t (4 : Fin 5))) (hstage1_4 (((cfg1 a).slots t (4 : Fin 5)).cast nbuf1_4)) (a.1 1)
      (blk1 a V c (0 : Fin 5) t) (blk1 a V c (1 : Fin 5) t) (blk1 a V c (2 : Fin 5) t) (blk1 a V c (3 : Fin 5) t) h1 h2)
    isplitl [H0]; · iexact H0
    isplitl [H1]; · iexact H1
    isplitl [H2]; · iexact H2
    isplitl [H3]; · iexact H3
    isplitl [HT1]; · iexact HT1
    isplitl [H4]; · iexists _; iexact H4
    iintro ⟨H0, H1, H2, H3, HT1, H4⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    rewrite [ho]; iexact H4

end Region1

end Cert.Proof

end
-- ==== Proof.Run.lean ====
/-
  The run of `KernelIdeal`'s @main for any float values: the host stretches, the permutation region, the weights' cast and the experts'
  region chained. Given admissible tables (those the host computes) whose words of valid rows are `Live`, every execution terminates with
  the arguments as launched, the result at `result m a` and every semaphore counter at zero.
-/
module

public import proofs.«01_k».proof.Proof.Regions
public import proofs.«01_k».proof.Proof.Gen.KernelIdeal.Regions
public import Idealize.ShloMosaic.Lib.Pipeline.RegionArraysS
public import Idealize.ShloMosaic.Lib.Pipeline.RegionArraysTS

@[expose] public section

set_option maxRecDepth 16384
set_option Elab.async false

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg HostSeg RegionSeg)

variable {F : FTy → Type} [FloatOps F]

local notation "𝕄" => MT nD τ sig Unit (Elt F) ℕ (UR sig nD τ) ℕ

variable (m : (ℓ : Loc nD τ sig) → Buf (Elt F) ℓ)

/-- Admissible contents for both calls: the first prefetches nothing, the second's tables are `a1`. -/
def both (a1 : (pcfg1 (F := F)).Adm) : (p : Fin 2) → (pcfgs (F := F) p).Adm
  | ⟨0, _⟩ => cfg0.toPCfg_adm
  | ⟨1, _⟩ => a1
  | ⟨_ + 2, h⟩ => absurd h (Nat.not_lt.2 (Nat.le_add_left _ _))

variable (a1 : (pcfg1 (F := F)).Adm)

/-- What region 0 leaves. -/
def outs0 : Outs (F := F) := fun _ r c => Pipeline.afterRegion (dat0 (fun c => V16 m c) c) (V16 m c) (Proc.devRef .tc r)

/-- The experts' proof data, over what region 0 and the cast after it leave. -/
abbrev datE (c : Dev nD) : Dat τ (Elt F) Unit ℕ (UR sig nD τ) ℕ (cfg1 a1) c := dat1 a1 (fun c => V18 m (outs0 m) c) c

/-- What each region leaves. -/
def outs : Outs (F := F) := fun J r c =>
  if J = 17 then outs0 m J r c else Pipeline.afterRegion (datE m a1 c) (V18 m (outs0 m) c) (Proc.devRef .tc r)

theorem V17_outs (c : Dev nD) : V17 m (outs m a1) c = V17 m (outs0 m) c := by
  unfold V17 outs; rw [if_pos rfl]
theorem V18_outs (c : Dev nD) : V18 m (outs m a1) c = V18 m (outs0 m) c := by
  unfold V18; rw [V17_outs]

/-- Both regions' proof data. -/
def dats : (p : Fin 2) → (c : Dev nD) → Dat τ (Elt F) Unit ℕ (UR sig nD τ) ℕ (Pipeline.pin (pcfgs (F := F)) (both a1) p) c
  | ⟨0, _⟩ => fun c => dat0 (fun c => V16 m c) c
  | ⟨1, _⟩ => fun c => datE m a1 c
  | ⟨_ + 2, h⟩ => absurd h (Nat.not_lt.2 (Nat.le_add_left _ _))

/-- Region 0 changes its output array alone. -/
theorem after0 (V : Dev nD → Valuation τ sig (Elt F)) (c : Dev nD) : Pipeline.afterRegion (dat0 V c) (V c)
    = Function.update (V c) (Proc.devRef .tc main_v78) (Pipeline.afterRegion (dat0 V c) (V c) (Proc.devRef .tc main_v78)) := by
  funext b
  by_cases hb : b = Proc.devRef .tc main_v78
  · subst hb; rw [Function.update_self]
  · rw [Function.update_of_ne hb]
    by_cases h : ∃ w : Fin cfg0.W, b = Proc.devRef .tc (Pipeline.arrRef cfg0.spec w)
    · obtain ⟨w, rfl⟩ := h
      rw [Pipeline.afterRegion_arr _ _ winFacts0.arr_inj]
      match w with
      | ⟨0, _⟩ => exact (dat0 V c).arrAt_in (0 : Fin 3) rfl _
      | ⟨1, _⟩ => exact (dat0 V c).arrAt_in (1 : Fin 3) rfl _
      | ⟨2, _⟩ => exact absurd rfl hb
    · unfold Pipeline.afterRegion; rw [dif_neg h]

/-- Region 1 changes its output array alone. -/
theorem after1 (V : Dev nD → Valuation τ sig (Elt F)) (c : Dev nD) : Pipeline.afterRegion (dat1 a1 V c) (V c)
    = Function.update (V c) (Proc.devRef .tc main_v80) (Pipeline.afterRegion (dat1 a1 V c) (V c) (Proc.devRef .tc main_v80)) := by
  funext b
  by_cases hb : b = Proc.devRef .tc main_v80
  · subst hb; rw [Function.update_self]
  · rw [Function.update_of_ne hb]
    by_cases h : ∃ w : Fin (cfg1 a1).W, b = Proc.devRef .tc (Pipeline.arrRef (cfg1 a1).spec w)
    · obtain ⟨w, rfl⟩ := h
      rw [Pipeline.afterRegion_arr _ _ winFacts1.arr_inj]
      match w with
      | ⟨0, _⟩ => exact (dat1 a1 V c).arrAt_in (0 : Fin 5) rfl _
      | ⟨1, _⟩ => exact (dat1 a1 V c).arrAt_in (1 : Fin 5) rfl _
      | ⟨2, _⟩ => exact (dat1 a1 V c).arrAt_in (2 : Fin 5) rfl _
      | ⟨3, _⟩ => exact (dat1 a1 V c).arrAt_in (3 : Fin 5) rfl _
      | ⟨4, _⟩ => exact absurd rfl hb
    · unfold Pipeline.afterRegion; rw [dif_neg h]

theorem V17_afterRegion (c : Dev nD) : Pipeline.afterRegion (dat0 (fun c => V16 m c) c) (V16 m c) = V17 m (outs m a1) c := by
  rw [V17_outs]
  exact after0 (fun c => V16 m c) c

theorem V19_afterRegion (c : Dev nD) : Pipeline.afterRegion (datE m a1 c) (V18 m (outs0 m) c) = V19 m (outs m a1) c := by
  unfold V19
  rw [V18_outs]
  refine (after1 a1 (fun c => V18 m (outs0 m) c) c).trans ?_
  unfold outs; rw [if_neg (by decide)]

theorem in0 (V : Dev nD → Valuation τ sig (Elt F)) (c : Dev nD) :
    (iprop(Pipeline.scopedRest (Ix := Unit) (Name := ℕ) (U := UR sig nD τ) (Lvl := ℕ) (Val := Elt F) spec0 c ∗ emp) : sProp 𝕄) ⊢ (dat0 V c).Φ 0 := by
  show _ ⊢ Pipeline.scopedRest (Ix := Unit) (Name := ℕ) (U := UR sig nD τ) (Lvl := ℕ) (Val := Elt F) spec0 c
  iintro ⟨H, -⟩; iexact H

theorem out0 (V : Dev nD → Valuation τ sig (Elt F)) (c : Dev nD) :
    (dat0 V c).Φ (Fin.last _) ⊢ (iprop(Pipeline.scopedRest (Ix := Unit) (Name := ℕ) (U := UR sig nD τ) (Lvl := ℕ) (Val := Elt F) spec0 c ∗ emp) : sProp 𝕄) := by
  show Pipeline.scopedRest (Ix := Unit) (Name := ℕ) (U := UR sig nD τ) (Lvl := ℕ) (Val := Elt F) spec0 c ⊢ _
  iintro H
  isplitl [H]; · iexact H
  iempintro

theorem in1 (V : Dev nD → Valuation τ sig (Elt F)) (c : Dev nD) :
    (iprop(iprop(Pipeline.scopedRest (Ix := Unit) (Name := ℕ) (U := UR sig nD τ) (Lvl := ℕ) (Val := Elt F) spec1 c ∗ emp)
      ∗ Pipeline.prefHeld (Ix := Unit) (Name := ℕ) (U := UR sig nD τ) (Lvl := ℕ) pre1 c (fun _ => fullShare) a1.1) : sProp 𝕄) ⊢ (dat1 a1 V c).Φ 0 := by
  show _ ⊢ iprop(Pipeline.scopedRest (Ix := Unit) (Name := ℕ) (U := UR sig nD τ) (Lvl := ℕ) (Val := Elt F) spec1 c
    ∗ Pipeline.prefHeld (Ix := Unit) (Name := ℕ) (U := UR sig nD τ) (Lvl := ℕ) pre1 c (fun _ => fullShare) a1.1)
  iintro ⟨⟨H, -⟩, HT⟩
  isplitl [H]; · iexact H
  iexact HT

theorem out1' (V : Dev nD → Valuation τ sig (Elt F)) (c : Dev nD) :
    (dat1 a1 V c).Φ (Fin.last _) ⊢ (iprop(iprop(Pipeline.scopedRest (Ix := Unit) (Name := ℕ) (U := UR sig nD τ) (Lvl := ℕ) (Val := Elt F) spec1 c ∗ emp)
      ∗ Pipeline.prefHeld (Ix := Unit) (Name := ℕ) (U := UR sig nD τ) (Lvl := ℕ) pre1 c (fun _ => fullShare) a1.1) : sProp 𝕄) := by
  show iprop(Pipeline.scopedRest (Ix := Unit) (Name := ℕ) (U := UR sig nD τ) (Lvl := ℕ) (Val := Elt F) spec1 c
    ∗ Pipeline.prefHeld (Ix := Unit) (Name := ℕ) (U := UR sig nD τ) (Lvl := ℕ) pre1 c (fun _ => fullShare) a1.1) ⊢ _
  iintro ⟨H, HT⟩
  isplitl [H]
  · isplitl [H]; · iexact H
    iempintro
  iexact HT

/-- The result: the experts' output array as its write-backs left it. -/
abbrev result (c : Dev nD) : Buf (Elt F) ((c.tc : Thread nD τ).loc main_v80) := (datE m a1 c).arrAt (4 : Fin 5) (cfg1 a1).N

theorem V19_result (c : Dev nD) : V19 m (outs m a1) c (Proc.devRef .tc main_v80) = result m a1 c := by
  rw [← V19_afterRegion]
  exact Pipeline.afterRegion_arr (datE m a1 c) _ winFacts1.arr_inj (4 : Fin 5)

/-! ## The regions' records -/

/-- Every staging wait's index is assigned at the TensorCores' semaphores, all at one level; nothing is owed. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) (both a1) () L lv p (fun _ => (0 : CellTallies nD τ sig Unit)) (fun _ => 0) where
  hι c w s := by unfold L; rw [if_pos rfl]; exact Finset.mem_singleton.mpr rfl
  hιb c w s := le_rfl
  hD c g i h := absurd h (Nat.lt_irrefl 0)

/-- Region 0's record. -/
def reg0 : RegionSeg (pcfgs (F := F)) (both a1) (dats m a1) () (defs₀ (F := F)) Variants.none L lv 0 :=
  RegionSeg.ofHeldIn (pcfgs (F := F)) (both a1) (dats m a1) () defs₀ Variants.none L lv 0 (fun _ => 0) (Pipeline.ucRefs τ sig)
    (fun _ => iprop(emp)) (fun _ => iprop(emp)) launch0 rfl
    (fun c => (body0 (fun c => V16 m c) c).loose)
    (fun _ _ => rfl) (fun _ => rfl) (fun c w => (dat0 (fun c => V16 m c) c).share_full (fun _ => rfl) w)
    (fun c => in0 (fun c => V16 m c) c) (fun c => out0 (fun c => V16 m c) c)
    (fun _ => 0) (cut a1 0) (fun _ => iprop(emp)) (fun c => V16 m c) (fun c w => rfl)

/-- Region 1's record. -/
def reg1 (hl : Live (F := F) (a1.1 1)) (hT : ∀ c k, a1.1 k = V18 m (outs0 m) c (Proc.devRef .tc (pre1.ref k))) :
    RegionSeg (pcfgs (F := F)) (both a1) (dats m a1) () (defs₀ (F := F)) Variants.none L lv 1 :=
  RegionSeg.ofHeldInT (pcfgs (F := F)) (both a1) (dats m a1) () defs₀ Variants.none L lv 1 (fun _ => 0) (Pipeline.ucRefs τ sig)
    (fun _ => iprop(emp)) (fun _ => iprop(emp)) launch1
    (fun c => (body1 a1 (fun c => V18 m (outs0 m) c) hl c).loose)
    (fun _ _ => rfl) (fun _ => rfl) (fun c w => (datE m a1 c).share_full (fun _ => rfl) w)
    (fun c => in1 a1 (fun c => V18 m (outs0 m) c) c) (fun c => out1' a1 (fun c => V18 m (outs0 m) c) c)
    (fun _ => 0) (cut a1 1) (fun _ => iprop(emp)) (fun c => V18 m (outs0 m) c) (fun c w => rfl) hT

/-- What rides along between items: the core owes nothing. -/
abbrev E : Fin 3 → Dev nD → sProp 𝕄 := fun _ c => iprop(∃ Wd, owes (c : Thread nD τ) (0 : CellTallies nD τ sig Unit) Wd)

theorem pre0 (c : Dev nD) : iprop(StableHlo.held (c : Thread nD τ) (Pipeline.ucRefs τ sig) (V16 m c) ∗ E (F := F) 0 c) ⊢ (reg0 m a1).pre c := by
  have h := RegionSeg.ofHeldIn_pre (pcs := pcfgs (F := F)) (a := both a1) (pdats := dats m a1) (ι := ()) (defs₀ := defs₀ (F := F)) (𝒱₀ := Variants.none) (L := L)
    (lv := lv) (p := (0 : Fin 2)) (D := fun _ => 0) (S := Pipeline.ucRefs τ sig) (X := fun _ => iprop(emp)) (Y := fun _ => iprop(emp)) (kit := launch0) (hK := rfl)
    (hbody := fun c => (body0 (fun c => V16 m c) c).loose)
    (howed := fun _ _ => rfl) (hrec := fun _ => rfl) (hshare := fun c w => (dat0 (fun c => V16 m c) c).share_full (fun _ => rfl) w)
    (hin := fun c => in0 (fun c => V16 m c) c) (hout := fun c => out0 (fun c => V16 m c) c)
    (b := fun _ => 0) (hcut := cut a1 0) (R := fun _ => iprop(emp)) (W := fun c => V16 m c) (hW := fun c w => rfl)
    (Pipeline.arrRefs_sub_ucRefs _ winFacts0.arr_unscoped) c
  refine BIBase.Entails.trans ?_ h
  iintro ⟨H, HE⟩
  isplitl [H]; · iexact H
  isplitl [HE]; · iexact HE
  isplitr <;> iempintro

theorem post0 (c : Dev nD) : (reg0 m a1).post c ⊢ iprop(StableHlo.held (c : Thread nD τ) (Pipeline.ucRefs τ sig) (V17 m (outs m a1) c) ∗ E (F := F) 1 c) := by
  have h := RegionSeg.ofHeldIn_post (pcs := pcfgs (F := F)) (a := both a1) (pdats := dats m a1) (ι := ()) (defs₀ := defs₀ (F := F)) (𝒱₀ := Variants.none) (L := L)
    (lv := lv) (p := (0 : Fin 2)) (D := fun _ => 0) (S := Pipeline.ucRefs τ sig) (X := fun _ => iprop(emp)) (Y := fun _ => iprop(emp)) (kit := launch0) (hK := rfl)
    (hbody := fun c => (body0 (fun c => V16 m c) c).loose)
    (howed := fun _ _ => rfl) (hrec := fun _ => rfl) (hshare := fun c w => (dat0 (fun c => V16 m c) c).share_full (fun _ => rfl) w)
    (hin := fun c => in0 (fun c => V16 m c) c) (hout := fun c => out0 (fun c => V16 m c) c)
    (b := fun _ => 0) (hcut := cut a1 0) (R := fun _ => iprop(emp)) (W := fun c => V16 m c) (hW := fun c w => rfl)
    (Pipeline.arrRefs_sub_ucRefs _ winFacts0.arr_unscoped) c
  refine BIBase.Entails.trans h ?_
  rw [← V17_afterRegion]
  iintro ⟨H, HE, -, -⟩
  isplitl [H]; · iexact H
  iexact HE

section
variable (hl : Live (F := F) (a1.1 1)) (hT : ∀ c k, a1.1 k = V18 m (outs0 m) c (Proc.devRef .tc (pre1.ref k)))

theorem pre1' (c : Dev nD) : iprop(StableHlo.held (c : Thread nD τ) (Pipeline.ucRefs τ sig) (V18 m (outs m a1) c) ∗ E (F := F) 1 c) ⊢ (reg1 m a1 hl hT).pre c := by
  have h := RegionSeg.ofHeldInT_pre (pcs := pcfgs (F := F)) (a := both a1) (pdats := dats m a1) (ι := ()) (defs₀ := defs₀ (F := F)) (𝒱₀ := Variants.none) (L := L)
    (lv := lv) (p := (1 : Fin 2)) (D := fun _ => 0) (S := Pipeline.ucRefs τ sig) (X := fun _ => iprop(emp)) (Y := fun _ => iprop(emp)) (kit := launch1)
    (hbody := fun c => (body1 a1 (fun c => V18 m (outs0 m) c) hl c).loose)
    (howed := fun _ _ => rfl) (hrec := fun _ => rfl) (hshare := fun c w => (datE m a1 c).share_full (fun _ => rfl) w)
    (hin := fun c => in1 a1 (fun c => V18 m (outs0 m) c) c) (hout := fun c => out1' a1 (fun c => V18 m (outs0 m) c) c)
    (b := fun _ => 0) (hcut := cut a1 1) (R := fun _ => iprop(emp)) (W := fun c => V18 m (outs0 m) c) (hW := fun c w => rfl) (hT := hT)
    (Pipeline.arrRefs_sub_ucRefs _ winFacts1.arr_unscoped) (Pipeline.tblRefs_sub_ucRefs _ preFacts1.unscoped) c
  rw [V18_outs]
  refine BIBase.Entails.trans ?_ h
  iintro ⟨H, HE⟩
  isplitl [H]; · iexact H
  isplitl [HE]; · iexact HE
  isplitr <;> iempintro

theorem post1 (c : Dev nD) : (reg1 m a1 hl hT).post c ⊢ iprop(StableHlo.held (c : Thread nD τ) (Pipeline.ucRefs τ sig) (V19 m (outs m a1) c) ∗ E (F := F) 2 c) := by
  have h := RegionSeg.ofHeldInT_post (pcs := pcfgs (F := F)) (a := both a1) (pdats := dats m a1) (ι := ()) (defs₀ := defs₀ (F := F)) (𝒱₀ := Variants.none) (L := L)
    (lv := lv) (p := (1 : Fin 2)) (D := fun _ => 0) (S := Pipeline.ucRefs τ sig) (X := fun _ => iprop(emp)) (Y := fun _ => iprop(emp)) (kit := launch1)
    (hbody := fun c => (body1 a1 (fun c => V18 m (outs0 m) c) hl c).loose)
    (howed := fun _ _ => rfl) (hrec := fun _ => rfl) (hshare := fun c w => (datE m a1 c).share_full (fun _ => rfl) w)
    (hin := fun c => in1 a1 (fun c => V18 m (outs0 m) c) c) (hout := fun c => out1' a1 (fun c => V18 m (outs0 m) c) c)
    (b := fun _ => 0) (hcut := cut a1 1) (R := fun _ => iprop(emp)) (W := fun c => V18 m (outs0 m) c) (hW := fun c w => rfl) (hT := hT)
    (Pipeline.arrRefs_sub_ucRefs _ winFacts1.arr_unscoped) (Pipeline.tblRefs_sub_ucRefs _ preFacts1.unscoped) c
  refine BIBase.Entails.trans h ?_
  rw [← V19_afterRegion]
  iintro ⟨H, HE, -, -⟩
  isplitl [H]; · iexact H
  iexact HE

/-! ## The run -/

/-- What the launch deals the pipelines. -/
abbrev u₀ : UR sig nD τ := initOf (Pipeline.cells (Pipeline.pin (pcfgs (F := F)) (both a1)) (cellOf_inj (both a1)))
  (Pipeline.launchToks (Pipeline.pin (pcfgs (F := F)) (both a1)) (cellOf_inj (both a1)))

theorem deal : (ownU (u₀ a1) : sProp 𝕄) ⊢ |={Set.univ}=> iprop(BI.own (emb₁ (u₀ a1)) ∗ bigSep Finset.univ (fun _ : Dev nD => (iprop(emp) : sProp 𝕄))) := by
  iintro H
  imodintro
  isplitl [H]; · iapply (show (ownU (u₀ a1) : sProp 𝕄) ⊢ BI.own (emb₁ (u₀ a1)) from BI.Entails.refl _); iexact H
  iapply (show (BI.emp : sProp 𝕄) ⊢ bigSep Finset.univ (fun _ : Dev nD => (BI.emp : sProp 𝕄)) from by rw [BI.bigSep_emp_const])
  iempintro

include hl hT in
-- the launch theorem's implicit arguments are found by unifying its conclusion with this one, which takes unfolding plain definitions
-- in a metavariable's type
set_option backward.isDefEq.respectTransparency.types false in
/-- Every execution terminates with the arguments as launched, the result computed and every semaphore counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v80) = result m a1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) (both a1) (dats m a1) () (cellOf_inj (both a1)) emb₁ defs₀ Variants.none L lv m ρ main
    (segs m (outs m a1) Variants.none L lv (E (F := F)) () (both a1) (dats m a1) (reg0 m a1) (reg1 m a1 hl hT))
    (fun c Q => by
      rewrite [main_chain c, Seg.run_eq_chain,
        show (segs m (outs m a1) Variants.none L lv (E (F := F)) () (both a1) (dats m a1) (reg0 m a1) (reg1 m a1 hl hT) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          Prog.lift (.customCall (Pipeline.entry 0) ()), StableHlo.seq hostOps1, Prog.lift (.customCall (Pipeline.entry 1) ()) ] from rfl]
      dsimp (config := { failIfUnchanged := false }) only
      exact .rfl)
    (fun c => by simp only [segs, Seg.pipes_host, Seg.pipes_region, Seg.pipes_nil]; decide) (0 : Dev nD → CellTallies nD τ sig Unit)
    (fun g hg => by unfold L; rw [if_neg hg]) (fun _ => iprop(emp)) (u₀ a1) (deal a1)
    (T₀ := fun c => iprop(StableHlo.held (c : Thread nD τ) (Pipeline.ucRefs τ sig) (V0 m c) ∗ E (F := F) 0 c))
    (Tₙ := fun c => StableHlo.held (c : Thread nD τ) (Pipeline.ucRefs τ sig) (V19 m (outs m a1) c))
    (hch := fun c => ⟨.rfl, .rfl, .rfl, .rfl, .rfl, .rfl, .rfl, .rfl, .rfl, .rfl, .rfl, .rfl, .rfl, .rfl, .rfl, .rfl, pre0 m a1 c, post0 m a1 c,
      pre1' m a1 hl hT c, post1 m a1 hl hT c⟩)
    (hinit := ?_) (QY := fun c s => s.mem ((c.tc : Thread nD τ).loc main_v80) = result m a1 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V19 m (outs m a1) c) s') $$ [Hh HSI]
    · isplitl [Hh] <;> iassumption
    icases Hr with ⟨%h, HSI⟩
    imodintro
    isplitr
    · ipureintro
      exact ⟨(h (Proc.devRef .tc main_v80) (Finset.mem_filter.mpr ⟨StableHlo.devRef_mem_tcRefs main_v80, by decide⟩)).trans (V19_result m a1 c),
        (h (Proc.devRef .tc main_arg0) (Finset.mem_filter.mpr ⟨StableHlo.devRef_mem_tcRefs main_arg0, by decide⟩)).trans (V19_main_arg0 m _ c),
        (h (Proc.devRef .tc main_arg1) (Finset.mem_filter.mpr ⟨StableHlo.devRef_mem_tcRefs main_arg1, by decide⟩)).trans (V19_main_arg1 m _ c),
        (h (Proc.devRef .tc main_arg2) (Finset.mem_filter.mpr ⟨StableHlo.devRef_mem_tcRefs main_arg2, by decide⟩)).trans (V19_main_arg2 m _ c),
        (h (Proc.devRef .tc main_arg3) (Finset.mem_filter.mpr ⟨StableHlo.devRef_mem_tcRefs main_arg3, by decide⟩)).trans (V19_main_arg3 m _ c),
        (h (Proc.devRef .tc main_arg4) (Finset.mem_filter.mpr ⟨StableHlo.devRef_mem_tcRefs main_arg4, by decide⟩)).trans (V19_main_arg4 m _ c)⟩
    · iexact HSI

end

end Cert.Proof

end
-- ==== Proof.Host.lean ====
/-
  What the host operations before the experts' call leave in the buffers the call reads, as functions of the arguments: the three tables,
  the bias split in halves, the permutation matrix. Over any float values.
-/
module

public import proofs.«01_k».proof.Proof.Gen.KernelIdeal.Regions
public import Idealize.ShloMosaic.Lib.StableHlo.Run
public import Idealize.ShloMosaic.Lib.Routing.OpsSearch

@[expose] public section

set_option maxRecDepth 16384
set_option Elab.async false

noncomputable section

namespace Cert.Proof

open Cert.KernelIdeal Cert.KernelIdeal.Gen Cert.KernelIdeal.Facts
open Idealize.ShloMosaic
open Idealize.ShloMosaic.TcCoe
open Idealize.ShloMosaic.StableHlo (after)
open Idealize.ShloMosaic.Routing (pyDiv pyRem)

/-! ## The plan's arrays -/

/-- The number of tiles each expert's rows fill. -/
def tilesE (x : IVec S32 32) : IVec S32 32 :=
  pyDiv bcast_S_S32 (subi (addi x (broadcastInDim S32 ![] bcast_S_S32 (constantI S_ 32 512#32))) (broadcastInDim S32 ![] bcast_S_S32 (constantI S_ 32 1#32)))
    (constantI S_ 32 512#32)

/-- Their running totals. -/
def tileEnd (x : IVec S32 32) : IVec S32 32 :=
  Host.reduceWindow IntOp.addi ![32] ![1] ![31] ![0] (tilesE x) (broadcastInDim S_ ![] bcast_S_S_ (constantI S_ 32 0#32)) reduceWindows_S32_S32_w32s1p31_0 h_S_

/-- The last of them. -/
def total (x : IVec S32 32) : IVec S_ 32 := shapeCast S_ (extractStridedSlice S1 ![31] (tileEnd x) slices_S32_S1_31) shapeCasts_S1_S_

/-- The tile whose rows a grid point fetches. -/
def gEff (x : IVec S32 32) : IVec S225 32 :=
  minsi (iotaInDim S225 32 0) (broadcastInDim S225 ![] bcast_S_S225 (subi (total x) (constantI S_ 32 1#32)))

/-- The expert a grid point serves. -/
def expertOf (x : IVec S32 32) : IVec S225 32 :=
  minsi (Host.reduce IntOp.addi (extui 32 (cmpi .sle
      (broadcastInDim S225x32 ![0, 1] bcast_S1x32_S225x32_0_1 (broadcastInDim S1x32 ![1] bcast_S32_S1x32_1 (tileEnd x)))
      (broadcastInDim S225x32 ![0, 1] bcast_S225x1_S225x32_0_1 (broadcastInDim S225x1 ![0] bcast_S225_S225x1_0 (gEff x)))) natLt_1_32)
      (constantI S_ 32 0#32) reducesTo_S225x32_S225_d1 h_S_)
    (broadcastInDim S225 ![] bcast_S_S225 (constantI S_ 32 31#32))

/-- The look-up indices. -/
def lookup (x : IVec S32 32) : IVec S225x1 32 :=
  broadcastInDim S225x1 ![0] bcast_S225_S225x1_0
    (select (cmpi .slt (expertOf x) (broadcastInDim S225 ![] bcast_S_S225 (constantI S_ 32 0#32)))
      (addi (expertOf x) (broadcastInDim S225 ![] bcast_S_S225 (constantI S_ 32 32#32))) (expertOf x))

/-- The rows left to the expert from a grid point's tile on. -/
def rowsLeft (x : IVec S32 32) : IVec S225 32 :=
  subi (Host.gather gather_S32_S225x1_S225_n_0_n_n_0_1_1 x (lookup x))
    (muli (subi (gEff x) (Host.gather gather_S32_S225x1_S225_n_0_n_n_0_1_1 (subi (tileEnd x) (tilesE x)) (lookup x)))
      (broadcastInDim S225 ![] bcast_S_S225 (constantI S_ 32 512#32)))

/-- The number of rows a grid point works on. -/
def rowsOf (x : IVec S32 32) : IVec S225 32 :=
  select (cmpi .slt (iotaInDim S225 32 0) (broadcastInDim S225 ![] bcast_S_S225 (total x)))
    (minsi (broadcastInDim S225 ![] bcast_S_S225 (constantI S_ 32 512#32)) (maxsi (broadcastInDim S225 ![] bcast_S_S225 (constantI S_ 32 0#32)) (rowsLeft x)))
    (broadcastInDim S225 ![] bcast_S_S225 (constantI S_ 32 0#32))

variable {F : FTy → Type} [FloatOps F]
variable (m : (ℓ : Loc nD τ sig) → Buf (Elt F) ℓ)

/-- The counts as launched. -/
abbrev counts (c : Dev nD) : IVec S32 32 := m ((c : Thread nD τ).loc main_arg1)

theorem V1_v3 (c : Dev nD) : V1 m c main_v3
    = subi (addi (counts m c) (broadcastInDim S32 ![] bcast_S_S32 (constantI S_ 32 512#32))) (broadcastInDim S32 ![] bcast_S_S32 (constantI S_ 32 1#32)) := by
  unfold V1
  after_results
theorem V1_c1 (c : Dev nD) : V1 m c main_c_1 = (constantI S_ 32 512#32 : IVec S_ 32) := by
  unfold V1
  after_results

theorem floor1 (X : Valuation τ sig (Elt F)) : after hostOps0_1 X main_v4 = pyDiv bcast_S_S32 (X main_v3) (X main_c_1) := by
  after_results
  rfl

theorem V2_v4 (c : Dev nD) : V2 m c main_v4 = tilesE (counts m c) := by
  unfold V2
  rw [floor1, V1_v3, V1_c1]
  rfl

theorem cum2 (X : Valuation τ sig (Elt F)) : after hostOps0_2 X main_v5
    = Host.reduceWindow IntOp.addi ![32] ![1] ![31] ![0] (X main_v4) (broadcastInDim S_ ![] bcast_S_S_ (constantI S_ 32 0#32)) reduceWindows_S32_S32_w32s1p31_0 h_S_ := by
  after_results
  simp -implicitDefEqProofs only [StableHlo.TRef.toBuf, StableHlo.TRef.ofBuf, cast_cast, cast_eq, id]

theorem V3_v5 (c : Dev nD) : V3 m c main_v5 = tileEnd (counts m c) := by
  unfold V3
  rw [cum2, V2_v4]
  rfl
theorem V3_v4 (c : Dev nD) : V3 m c main_v4 = tilesE (counts m c) := (V3_of m c main_v4 (by decide)).trans (V2_v4 m c)
theorem V3_arg1 (c : Dev nD) : V3 m c main_arg1 = counts m c :=
  (V3_of m c main_arg1 (by decide)).trans ((V2_of m c main_arg1 (by decide)).trans (V1_of m c main_arg1 (by decide)))

section Stretch3
variable (X : Valuation τ sig (Elt F)) (x : IVec S32 32) (h5 : X main_v5 = tileEnd x) (h4 : X main_v4 = tilesE x) (h1 : X main_arg1 = x)
include h5

theorem s3_v8 : after hostOps0_3 X main_v8 = total x := by
  after_results
  rw [h5]; rfl
theorem s3_v9 : after hostOps0_3 X main_v9 = (iotaInDim S225 32 0 : IVec S225 32) := by
  after_results
theorem s3_v12 : after hostOps0_3 X main_v12 = gEff x := by
  after_results
  rw [h5]; rfl
theorem s3_v21 : after hostOps0_3 X main_v21 = expertOf x := by
  after_results
  rw [h5]; rfl
include h4 h1
theorem s3_v39 : after hostOps0_3 X main_v39 = rowsLeft x := by
  after_results
  rw [h5, h4, h1]; rfl
theorem s3_c10 : after hostOps0_3 X main_c_10 = (constantI S_ 32 0#32 : IVec S_ 32) := by
  after_results
theorem s3_c11 : after hostOps0_3 X main_c_11 = (constantI S_ 32 512#32 : IVec S_ 32) := by
  after_results
end Stretch3

theorem V4_v8 (c : Dev nD) : V4 m c main_v8 = total (counts m c) := s3_v8 _ _ (V3_v5 m c)
theorem V4_v9 (c : Dev nD) : V4 m c main_v9 = (iotaInDim S225 32 0 : IVec S225 32) := s3_v9 _ _ (V3_v5 m c)
theorem V4_v12 (c : Dev nD) : V4 m c main_v12 = gEff (counts m c) := s3_v12 _ _ (V3_v5 m c)
theorem V4_v21 (c : Dev nD) : V4 m c main_v21 = expertOf (counts m c) := s3_v21 _ _ (V3_v5 m c)

theorem clip4 (X : Valuation τ sig (Elt F)) : after hostOps0_4 X main_v40
    = minsi (broadcastInDim S225 ![] bcast_S_S225 (X main_c_11)) (maxsi (broadcastInDim S225 ![] bcast_S_S225 (X main_c_10)) (X main_v39)) := by
  after_results
  rfl
theorem V5_v40 (c : Dev nD) : V5 m c main_v40
    = minsi (broadcastInDim S225 ![] bcast_S_S225 (constantI S_ 32 512#32)) (maxsi (broadcastInDim S225 ![] bcast_S_S225 (constantI S_ 32 0#32)) (rowsLeft (counts m c))) := by
  unfold V5
  rw [clip4]
  unfold V4
  rw [s3_c10 _ _ (V3_v5 m c) (V3_v4 m c) (V3_arg1 m c), s3_c11 _ _ (V3_v5 m c) (V3_v4 m c) (V3_arg1 m c), s3_v39 _ _ (V3_v5 m c) (V3_v4 m c) (V3_arg1 m c)]

theorem less5 (X : Valuation τ sig (Elt F)) : after hostOps0_5 X main_v42 = cmpi .slt (X main_v9) (broadcastInDim S225 ![] bcast_S_S225 (X main_v8)) := by
  after_results
theorem zero5 (X : Valuation τ sig (Elt F)) : after hostOps0_5 X main_c_12 = (constantI S_ 32 0#32 : IVec S_ 32) := by
  after_results
theorem pick6 (X : Valuation τ sig (Elt F)) : after hostOps0_6 X main_v43 = select (X main_v42) (X main_v40) (broadcastInDim S225 ![] bcast_S_S225 (X main_c_12)) := by
  after_results
  rfl
theorem V7_v43 (c : Dev nD) : V7 m c main_v43 = rowsOf (counts m c) := by
  unfold V7
  rw [pick6]
  unfold V6
  rw [less5, zero5, show after hostOps0_5 (V5 m c) main_v40 = _ from (V6_of m c main_v40 (by decide)).trans (V5_v40 m c),
    (V5_of m c main_v9 (by decide)).trans (V4_v9 m c), (V5_of m c main_v8 (by decide)).trans (V4_v8 m c)]
  rfl

/-! ## The bias and the permutation -/

/-- The bias, its even entries before its odd ones. -/
def biasSplit (b : FVec F S32x512 .f32) : FVec F S32x1x512 .f32 :=
  shapeCast S32x1x512 (concatenate S32x512 1
    [⟨S32x256, shapeCast S32x256 (extractStridedSlice S32x256x1 ![0, 0, 0] (shapeCast S32x256x2 b shapeCasts_S32x512_S32x256x2) slices_S32x256x2_S32x256x1_0_0_0) shapeCasts_S32x256x1_S32x256⟩,
     ⟨S32x256, shapeCast S32x256 (extractStridedSlice S32x256x1 ![0, 0, 1] (shapeCast S32x256x2 b shapeCasts_S32x512_S32x256x2) slices_S32x256x2_S32x256x1_0_0_1) shapeCasts_S32x256x1_S32x256⟩]
    concatenates_S32x256_S32x256_S32x512_d1) shapeCasts_S32x512_S32x1x512

theorem bias7 (X : Valuation τ sig (Elt F)) : after hostOps0_7 X main_v52 = biasSplit (X main_arg3) := by
  after_results
  rfl
theorem iota7 (X : Valuation τ sig (Elt F)) : after hostOps0_7 X main_v53 = (iotaInDim S512 32 0 : IVec S512 32) := by
  after_results
theorem two7 (X : Valuation τ sig (Elt F)) : after hostOps0_7 X main_c_14 = (constantI S_ 32 2#32 : IVec S_ 32) := by
  after_results
theorem rem8 (X : Valuation τ sig (Elt F)) : after hostOps0_8 X main_v54 = pyRem bcast_S_S512 (X main_v53) (X main_c_14) := by
  after_results
  simp -implicitDefEqProofs only [StableHlo.TRef.toBuf, StableHlo.TRef.ofBuf, cast_cast, cast_eq, id]
  rfl
theorem even9 (X : Valuation τ sig (Elt F)) : after hostOps0_9 X main_v56
    = cmpi .eq (X main_v54) (broadcastInDim S512 ![] bcast_S_S512 (constantI S_ 32 0#32)) := by
  after_results
theorem two9 (X : Valuation τ sig (Elt F)) : after hostOps0_9 X main_c_16 = (constantI S_ 32 2#32 : IVec S_ 32) := by
  after_results
theorem half10 (X : Valuation τ sig (Elt F)) : after hostOps0_10 X main_v57 = pyDiv bcast_S_S512 (X main_v53) (X main_c_16) := by
  after_results
  rfl
theorem two11 (X : Valuation τ sig (Elt F)) : after hostOps0_11 X main_c_17 = (constantI S_ 32 2#32 : IVec S_ 32) := by
  after_results
theorem half12 (X : Valuation τ sig (Elt F)) : after hostOps0_12 X main_v58 = pyDiv bcast_S_S512 (X main_v53) (X main_c_17) := by
  after_results
  rfl
theorem far13 (X : Valuation τ sig (Elt F)) : after hostOps0_13 X main_v60
    = addi (broadcastInDim S512 ![] bcast_S_S512 (constantI S_ 32 256#32)) (X main_v58) := by
  after_results
theorem dst14 (X : Valuation τ sig (Elt F)) : after hostOps0_14 X main_v61 = select (X main_v56) (X main_v57) (X main_v60) := by
  after_results
  rfl

/-- The column each column of an expert's weights goes to. -/
def dst : IVec S512 32 :=
  select (cmpi .eq (pyRem bcast_S_S512 (iotaInDim S512 32 0) (constantI S_ 32 2#32)) (broadcastInDim S512 ![] bcast_S_S512 (constantI S_ 32 0#32)))
    (pyDiv bcast_S_S512 (iotaInDim S512 32 0) (constantI S_ 32 2#32))
    (addi (broadcastInDim S512 ![] bcast_S_S512 (constantI S_ 32 256#32)) (pyDiv bcast_S_S512 (iotaInDim S512 32 0) (constantI S_ 32 2#32)))

/-- An index below the extent, as the host wraps it. -/
def wrapped (v : IVec S512 32) : IVec S512x1 32 :=
  broadcastInDim S512x1 ![0] bcast_S512_S512x1_0 (select (cmpi .slt v (broadcastInDim S512 ![] bcast_S_S512 (constantI S_ 32 0#32)))
    (addi v (broadcastInDim S512 ![] bcast_S_S512 (constantI S_ 32 512#32))) v)

/-- The matrix of zeros with ones put at the pairs of columns. -/
def perm (src dst : IVec S512 32) : FVec F S512x512 .bf16 :=
  Host.scatter scatter_S512x512_S512x2_S512_n_01_01_1 (fun _ b => b) (broadcastInDim S512x512 ![] bcast_S_S512x512 (constant S_ .bf16 0x0000#16))
    (concatenate S512x2 1 [⟨S512x1, wrapped src⟩, ⟨S512x1, wrapped dst⟩] concatenates_S512x1_S512x1_S512x2_d1)
    (broadcastInDim S512 ![] bcast_S_S512 (constant S_ .bf16 0x3F80#16))

theorem perm15 (X : Valuation τ sig (Elt F)) : after hostOps0_15 X main_v77 = perm (F := F) (X main_v53) (X main_v61) := by
  after_results
  rfl

theorem V8_v53 (c : Dev nD) : V8 m c main_v53 = (iotaInDim S512 32 0 : IVec S512 32) := iota7 _
theorem V9_v54 (c : Dev nD) : V9 m c main_v54 = pyRem bcast_S_S512 (iotaInDim S512 32 0) (constantI S_ 32 2#32) := by
  unfold V9; rw [rem8, V8_v53]; unfold V8; rw [two7]
theorem V10_v56 (c : Dev nD) : V10 m c main_v56 = cmpi .eq (pyRem bcast_S_S512 (iotaInDim S512 32 0) (constantI S_ 32 2#32)) (broadcastInDim S512 ![] bcast_S_S512 (constantI S_ 32 0#32)) := by
  unfold V10; rw [even9, V9_v54]
theorem V10_v53 (c : Dev nD) : V10 m c main_v53 = (iotaInDim S512 32 0 : IVec S512 32) :=
  (V10_of m c main_v53 (by decide)).trans ((V9_of m c main_v53 (by decide)).trans (V8_v53 m c))
theorem V11_v57 (c : Dev nD) : V11 m c main_v57 = pyDiv bcast_S_S512 (iotaInDim S512 32 0) (constantI S_ 32 2#32) := by
  unfold V11; rw [half10, V10_v53]; unfold V10; rw [two9]
theorem V12_v53 (c : Dev nD) : V12 m c main_v53 = (iotaInDim S512 32 0 : IVec S512 32) :=
  (V12_of m c main_v53 (by decide)).trans ((V11_of m c main_v53 (by decide)).trans (V10_v53 m c))
theorem V13_v58 (c : Dev nD) : V13 m c main_v58 = pyDiv bcast_S_S512 (iotaInDim S512 32 0) (constantI S_ 32 2#32) := by
  unfold V13; rw [half12, V12_v53]; unfold V12; rw [two11]
theorem V14_v60 (c : Dev nD) : V14 m c main_v60
    = addi (broadcastInDim S512 ![] bcast_S_S512 (constantI S_ 32 256#32)) (pyDiv bcast_S_S512 (iotaInDim S512 32 0) (constantI S_ 32 2#32)) := by
  unfold V14; rw [far13, V13_v58]
theorem V15_v61 (c : Dev nD) : V15 m c main_v61 = dst := by
  unfold V15
  rw [dst14, V14_v60,
    (V14_of m c main_v57 (by decide)).trans ((V13_of m c main_v57 (by decide)).trans ((V12_of m c main_v57 (by decide)).trans (V11_v57 m c))),
    (V14_of m c main_v56 (by decide)).trans ((V13_of m c main_v56 (by decide)).trans ((V12_of m c main_v56 (by decide)).trans
      ((V11_of m c main_v56 (by decide)).trans (V10_v56 m c))))]
  rfl
theorem V16_v77 (c : Dev nD) : V16 m c main_v77 = perm (F := F) (iotaInDim S512 32 0) dst := by
  unfold V16
  rw [perm15, V15_v61, (V15_of m c main_v53 (by decide)).trans ((V14_of m c main_v53 (by decide)).trans ((V13_of m c main_v53 (by decide)).trans (V12_v53 m c)))]

/-! ## What the calls read -/

/-- From the eighth stretch on nothing writes a table. -/
theorem V16_late (c : Dev nD) (r : Ref sig .tc) (h : r = main_v21 ∨ r = main_v43 ∨ r = main_v12) : V16 m c r = V7 m c r := by
  rcases h with rfl | rfl | rfl <;>
  exact (V16_of m c _ (by decide)).trans <| (V15_of m c _ (by decide)).trans <| (V14_of m c _ (by decide)).trans <| (V13_of m c _ (by decide)).trans <|
    (V12_of m c _ (by decide)).trans <| (V11_of m c _ (by decide)).trans <| (V10_of m c _ (by decide)).trans <| (V9_of m c _ (by decide)).trans <|
    V8_of m c _ (by decide)

theorem V16_v21 (c : Dev nD) : V16 m c main_v21 = expertOf (counts m c) :=
  (V16_late m c _ (.inl rfl)).trans <| (V7_of m c main_v21 (by decide)).trans <| (V6_of m c main_v21 (by decide)).trans <| (V5_of m c main_v21 (by decide)).trans (V4_v21 m c)
theorem V16_v43 (c : Dev nD) : V16 m c main_v43 = rowsOf (counts m c) := (V16_late m c _ (.inr (.inl rfl))).trans (V7_v43 m c)
theorem V16_v12 (c : Dev nD) : V16 m c main_v12 = gEff (counts m c) :=
  (V16_late m c _ (.inr (.inr rfl))).trans <| (V7_of m c main_v12 (by decide)).trans <| (V6_of m c main_v12 (by decide)).trans <| (V5_of m c main_v12 (by decide)).trans (V4_v12 m c)

/-- No stretch writes an argument. -/
theorem V7_arg3 (c : Dev nD) : V7 m c main_arg3 = m ((c : Thread nD τ).loc main_arg3) :=
  (V7_of m c _ (by decide)).trans <| (V6_of m c _ (by decide)).trans <| (V5_of m c _ (by decide)).trans <| (V4_of m c _ (by decide)).trans <|
    (V3_of m c _ (by decide)).trans <| (V2_of m c _ (by decide)).trans <| (V1_of m c _ (by decide))
theorem V16_v52 (c : Dev nD) : V16 m c main_v52 = biasSplit (F := F) (m ((c : Thread nD τ).loc main_arg3)) := by
  refine (V16_of m c _ (by decide)).trans <| (V15_of m c _ (by decide)).trans <| (V14_of m c _ (by decide)).trans <| (V13_of m c _ (by decide)).trans <|
    (V12_of m c _ (by decide)).trans <| (V11_of m c _ (by decide)).trans <| (V10_of m c _ (by decide)).trans <| (V9_of m c _ (by decide)).trans ?_
  unfold V8
  rw [bias7, V7_arg3]
theorem V16_arg (c : Dev nD) (r : Ref sig .tc) (h : r = main_arg0 ∨ r = main_arg2 ∨ r = main_arg4) : V16 m c r = m ((c : Thread nD τ).loc r) := by
  rcases h with rfl | rfl | rfl <;>
  exact (V16_of m c _ (by decide)).trans <| (V15_of m c _ (by decide)).trans <| (V14_of m c _ (by decide)).trans <| (V13_of m c _ (by decide)).trans <|
    (V12_of m c _ (by decide)).trans <| (V11_of m c _ (by decide)).trans <| (V10_of m c _ (by decide)).trans <| (V9_of m c _ (by decide)).trans <|
    (V8_of m c _ (by decide)).trans <| (V7_of m c _ (by decide)).trans <| (V6_of m c _ (by decide)).trans <| (V5_of m c _ (by decide)).trans <|
    (V4_of m c _ (by decide)).trans <| (V3_of m c _ (by decide)).trans <| (V2_of m c _ (by decide)).trans <| (V1_of m c _ (by decide))

variable (outs : Outs (F := F))

theorem V18_of_V16 (c : Dev nD) (r : Ref sig .tc) (h : r ∉ hostOps1_W) (h' : r ∉ ([main_v78] : List (Ref sig .tc))) : V18 m outs c r = V16 m c r :=
  (V18_of m outs c r h).trans (V17_of m outs c r h')
theorem V18_v79 (c : Dev nD) : V18 m outs c main_v79 = (truncf .bf16 (m ((c : Thread nD τ).loc main_arg4) : FVec F S32x256x2048 .f32) bitsLt_bf16_f32 : FVec F S32x256x2048 .bf16) := by
  have h : ∀ X : Valuation τ sig (Elt F), after hostOps1 X main_v79 = (truncf .bf16 (X main_arg4 : FVec F S32x256x2048 .f32) bitsLt_bf16_f32 : FVec F S32x256x2048 .bf16) := by
    intro X; after_results
  unfold V18
  rw [h, (V17_of m outs c main_arg4 (by decide)).trans (V16_arg m c main_arg4 (.inr (.inr rfl)))]
theorem V18_v78 (c : Dev nD) : V18 m outs c main_v78 = outs 17 main_v78 c :=
  (V18_of m outs c main_v78 (by decide)).trans (by unfold V17; rw [Function.update_self])

end Cert.Proof

end
-- ==== Proof.Plan.lean ====
/-
  The tile plan of the counts in naturals: which expert each grid point serves and how many rows it works on; and the tables' words read
  off it. The counts are naturals `f e`, at most 98304 each, and some expert has a row (`Counted`).
-/
module

public import proofs.«01_k».proof.Proof.Host
public import Idealize.ShloMosaic.Lib.Routing.OpsPair
public import Idealize.ShloMosaic.Lib.Routing.OpsSet

@[expose] public section

set_option maxRecDepth 16384
set_option Elab.async false

noncomputable section

namespace Cert.Proof

open Cert.KernelIdeal Cert.KernelIdeal.Gen Cert.KernelIdeal.Facts
open Idealize.ShloMosaic Idealize.ShloMosaic.Routing Idealize.ShloMosaic.ValueIdx Idealize.ShloMosaic.WordCmp

/-! ## Naturals -/

section Nats
variable (f : Nat → Nat)

/-- The tiles of one expert, -/
def tl (e : Nat) : Nat := (f e + 511) / 512
/-- the tile after an expert's last, -/
def tend (j : Nat) : Nat := ((List.range (j + 1)).map (tl f)).sum
/-- the tile whose rows grid point `g` fetches, -/
def ge (g : Nat) : Nat := min g (tend f 31 - 1)
/-- and the expert it serves. -/
def own (g : Nat) : Nat := Nat.count (fun e => tend f e ≤ ge f g) 32

theorem tend_zero : tend f 0 = tl f 0 := by simp [tend]
theorem tend_succ (j : Nat) : tend f (j + 1) = tend f j + tl f (j + 1) := by
  unfold tend; rw [List.range_succ (n := j + 1), List.map_append, List.sum_append]; simp
theorem tend_mono {i j : Nat} (h : i ≤ j) : tend f i ≤ tend f j := by
  induction j with
  | zero => rw [Nat.le_zero.1 h]
  | succ j ih => rcases Nat.lt_or_ge j i with h' | h'
                 · rw [show i = j + 1 by omega]
                 · rw [tend_succ]; exact (ih h').trans (Nat.le_add_right _ _)
theorem tl_le_tend (j : Nat) : tl f j ≤ tend f j := by
  cases j with
  | zero => rw [tend_zero]
  | succ j => rw [tend_succ]; exact Nat.le_add_left _ _
theorem tend_le (hf : ∀ e, e < 32 → f e ≤ 98304) : ∀ j, j < 32 → tend f j ≤ (j + 1) * 193
  | 0, h => by rw [tend_zero]; unfold tl; have := hf 0 h; omega
  | j + 1, h => by
    rw [tend_succ]; have := tend_le hf j (by omega); have := hf (j + 1) h; unfold tl; omega

/-- How many of the first naturals satisfy a predicate closed downwards. -/
theorem lt_count_iff (P : Nat → Prop) [DecidablePred P] (hP : ∀ i j, i ≤ j → P j → P i) (n e : Nat) (he : e < n) : e < Nat.count P n ↔ P e := by
  induction n with
  | zero => omega
  | succ n ih =>
    rw [Nat.count_succ]
    by_cases hn : P n
    · have hall : Nat.count P n = n := Nat.count_iff_forall.2 fun k hk => hP k n hk.le hn
      rw [if_pos hn, hall]
      exact ⟨fun _ => hP e n (by omega) hn, fun _ => by omega⟩
    · rw [if_neg hn, Nat.add_zero]
      rcases Nat.lt_or_ge e n with h | h
      · exact ih h
      · have := Nat.count_le P (n := n)
        rw [show e = n by omega]
        exact ⟨fun h => absurd h (by omega), fun h => absurd h hn⟩

theorem lt_own_iff (g e : Nat) (he : e < 32) : e < own f g ↔ tend f e ≤ ge f g :=
  lt_count_iff _ (fun i j h hj => (tend_mono f h).trans hj) 32 e he

variable (hpos : 0 < tend f 31)
include hpos

theorem ge_lt (g : Nat) : ge f g < tend f 31 := by unfold ge; omega
theorem own_lt (g : Nat) : own f g < 32 := by
  have h1 : ¬ 31 < own f g := fun h => absurd ((lt_own_iff f g 31 (by decide)).1 h) (by have := ge_lt f hpos g; omega)
  omega
theorem ge_lt_tend (g : Nat) : ge f g < tend f (own f g) := by
  have h := own_lt f hpos g
  have h1 : ¬ own f g < own f g := Nat.lt_irrefl _
  rw [lt_own_iff f g _ h] at h1
  omega
theorem start_le (g : Nat) : tend f (own f g) - tl f (own f g) ≤ ge f g := by
  have h := own_lt f hpos g
  rcases hg : own f g with _ | e
  · rw [tend_zero]; omega
  · rw [tend_succ]
    have := (lt_own_iff f g e (by omega)).1 (by omega)
    omega
/-- The rows of the experts before, and of the tiles before, leave a row. -/
theorem rows_lt (g : Nat) : (ge f g - (tend f (own f g) - tl f (own f g))) * 512 < f (own f g) := by
  have h1 := ge_lt_tend f hpos g
  have h2 := start_le f hpos g
  have h3 := tl_le_tend f (own f g)
  have h4 : ge f g - (tend f (own f g) - tl f (own f g)) < tl f (own f g) := by omega
  unfold tl at h4 ⊢
  omega
omit hpos

theorem ge_of_lt {g : Nat} (h : g < tend f 31) : ge f g = g := by unfold ge; omega

/-- A tile lies in an expert's rows exactly when a grid point serves that expert there. -/
theorem own_iff {g e : Nat} (hg : g < tend f 31) (he : e < 32) : (tend f e - tl f e ≤ g ∧ g < tend f e) ↔ own f g = e := by
  have hpos : 0 < tend f 31 := by omega
  constructor
  · intro ⟨h1, h2⟩
    have hn : ¬ e < own f g := by rw [lt_own_iff f g e he, ge_of_lt f hg]; omega
    rcases Nat.lt_or_ge (own f g) e with h | h
    · exfalso
      obtain ⟨e', rfl⟩ : ∃ e', e = e' + 1 := ⟨e - 1, by omega⟩
      have hm := tend_mono f (show own f g ≤ e' by omega)
      have := ge_lt_tend f hpos g
      rw [ge_of_lt f hg] at this
      rw [tend_succ] at h1
      omega
    · omega
  · rintro rfl
    have h1 := ge_lt_tend f hpos g
    have h2 := start_le f hpos g
    rw [ge_of_lt f hg] at h1 h2
    exact ⟨h2, h1⟩

end Nats

/-! ## Words -/

/-- The counts, as words: naturals of at most 98304, one of them at least one. -/
structure Counted (x : IVec S32 32) (f : Nat → Nat) : Prop where
  word : ∀ e : Fin 32, x (ix1 e) = BitVec.ofNat 32 (f e.val)
  le : ∀ e, e < 32 → f e ≤ 98304
  some : ∃ e, e < 32 ∧ 0 < f e

namespace Counted
variable {x : IVec S32 32} {f : Nat → Nat} (hx : Counted x f)
include hx

theorem tend_lt (j : Nat) (h : j < 32) : tend f j < 2 ^ 31 := by have := tend_le f hx.le j h; omega
theorem pos : 0 < tend f 31 := by
  obtain ⟨e, he, h⟩ := hx.some
  have h1 := tend_mono f (show e ≤ 31 by omega)
  have h2 := tl_le_tend f e
  unfold tl at h2
  omega
theorem tl_lt (j : Nat) (h : j < 32) : tl f j < 2 ^ 31 := (tl_le_tend f j).trans_lt (hx.tend_lt j h)

theorem tilesE_word (e : Fin 32) : tilesE x (ix1 e) = BitVec.ofNat 32 (tl f e.val) := by
  have := hx.le e.val e.isLt
  refine pyDiv_ap _ _ _ _ (a := f e.val + 511) (b := 512) ?_ rfl (by omega) (by decide) (by decide)
  rw [subi_ap, addi_ap, bc0, bc0, hx.word]
  show BitVec.ofNat 32 (f e.val) + BitVec.ofNat 32 512 - BitVec.ofNat 32 1 = _
  rw [← BitVec.ofNat_add, BitVec.ofNat_sub_ofNat_of_le _ _ (by omega) (by omega)]
  rfl

theorem tileEnd_word (e : Fin 32) : tileEnd x (ix1 e) = BitVec.ofNat 32 (tend f e.val) :=
  cumsum1 (N := 32) (Nm1 := 31) rfl (tilesE x) (tl f) hx.tilesE_word _ (bc0 _ _ _) _ _ e

theorem total_word : total x ix0 = BitVec.ofNat 32 (tend f 31) := by
  unfold total
  refine (shapeCast_apply _ _ ix0 (ix1 (0 : Fin 1)) (by decide)).trans ?_
  exact (slice1 31 (tileEnd x) _ (0 : Fin 1) (by decide)).trans (hx.tileEnd_word ⟨31, by decide⟩)

theorem minsi_word {a b : Nat} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left h.le]
  · rw [if_neg (fun e => h (of_decide_eq_true e)), Nat.min_eq_right (by omega)]

theorem gEff_word (g : Fin 225) : gEff x (ix1 g) = BitVec.ofNat 32 (ge f g.val) := by
  have h1 := hx.tend_lt 31 (by decide)
  have h2 := hx.pos
  show IntOp.minsi (iotaInDim S225 32 0 (ix1 g)) (broadcastInDim S225 ![] _ (subi (total x) (constantI S_ 32 1#32)) (ix1 g)) = _
  rw [bc0, subi_ap, hx.total_word]
  show IntOp.minsi (BitVec.ofNat 32 g.val) (BitVec.ofNat 32 (tend f 31) - BitVec.ofNat 32 1) = _
  rw [BitVec.ofNat_sub_ofNat_of_le _ _ (by omega) (by omega), hx.minsi_word (by omega) (by omega)]
  rfl

theorem ge_lt31 (g : Nat) : ge f g < 2 ^ 31 := (ge_lt f hx.pos g).trans (hx.tend_lt 31 (by decide))

theorem expertOf_word (g : Fin 225) : expertOf x (ix1 g) = BitVec.ofNat 32 (own f g.val) := by
  have hc := reduce_count (n := 225) (m := 32) (by decide) (cmpi .sle
      (broadcastInDim S225x32 ![0, 1] bcast_S1x32_S225x32_0_1 (broadcastInDim S1x32 ![1] bcast_S32_S1x32_1 (tileEnd x)))
      (broadcastInDim S225x32 ![0, 1] bcast_S225x1_S225x32_0_1 (broadcastInDim S225x1 ![0] bcast_S225_S225x1_0 (gEff x)))) natLt_1_32
      reducesTo_S225x32_S225_d1 h_S_ g (fun e => tend f e ≤ ge f g.val) (fun q => by
        show IntOp.cmpi .sle _ _ = 1#1 ↔ _
        have e1 : (broadcastInDim S225x32 ![0, 1] bcast_S1x32_S225x32_0_1 (broadcastInDim S1x32 ![1] bcast_S32_S1x32_1 (tileEnd x))) (ix2 g q)
            = BitVec.ofNat 32 (tend f q.val) := (bcCols (n := 225) (m := 32) _ _ _ g q).trans (hx.tileEnd_word q)
        have e2 : (broadcastInDim S225x32 ![0, 1] bcast_S225x1_S225x32_0_1 (broadcastInDim S225x1 ![0] bcast_S225_S225x1_0 (gEff x))) (ix2 g q)
            = BitVec.ofNat 32 (ge f g.val) := (bcRows (n := 225) (m := 32) _ _ _ g q).trans (hx.gEff_word g)
        rw [e1, e2]
        exact cmpi_sle_ofNat_eq_one_iff (hx.tend_lt q.val q.isLt) (hx.ge_lt31 _))
  have ho := own_lt f hx.pos g.val
  refine (congrArg₂ IntOp.minsi hc (bc0 _ _ _)).trans ?_
  show IntOp.minsi (BitVec.ofNat 32 (own f g.val)) (BitVec.ofNat 32 31) = _
  rw [hx.minsi_word (by omega) (by omega), Nat.min_eq_left (by omega)]

theorem lookup_word (g : Fin 225) : lookup x (ix2 g (0 : Fin 1)) = BitVec.ofNat 32 (own f g.val) := by
  have ho := own_lt f hx.pos g.val
  refine (bcCol (n := 225) _ _ g).trans ?_
  show Scalar.select (IntOp.cmpi .slt (expertOf x (ix1 g)) (broadcastInDim S225 ![] _ (constantI S_ 32 0#32) (ix1 g))) _ (expertOf x (ix1 g)) = _
  rw [bc0, hx.expertOf_word]
  exact wrap_of_lt _ _ (by rw [BitVec.toNat_ofNat]; omega)

/-- A grid point's number of rows: none past the last tile, else from 1 to 512. -/
theorem rowsOf_word (g : Fin 225) : ∃ n, rowsOf x (ix1 g) = BitVec.ofNat 32 n ∧ n ≤ 512 ∧ (0 < n ↔ g.val < tend f 31) := by
  have ho := own_lt f hx.pos g.val
  have ht := hx.tend_lt 31 (by decide)
  have h1 : Host.gather gather_S32_S225x1_S225_n_0_n_n_0_1_1 x (lookup x) (ix1 g) = BitVec.ofNat 32 (f (own f g.val)) :=
    (take_ap (N := 32) (n := 225) _ rfl rfl rfl rfl x (lookup x) g ho (by omega) (hx.lookup_word g)).trans (hx.word _)
  have h2 : Host.gather gather_S32_S225x1_S225_n_0_n_n_0_1_1 (subi (tileEnd x) (tilesE x)) (lookup x) (ix1 g)
      = BitVec.ofNat 32 (tend f (own f g.val) - tl f (own f g.val)) := by
    refine (take_ap (N := 32) (n := 225) _ rfl rfl rfl rfl _ (lookup x) g ho (by omega) (hx.lookup_word g)).trans ?_
    rw [subi_ap, hx.tileEnd_word, hx.tilesE_word]
    exact BitVec.ofNat_sub_ofNat_of_le _ _ ((hx.tl_lt _ ho).trans (by decide)) (tl_le_tend f _)
  have hr := rows_lt f hx.pos g.val
  have hs := start_le f hx.pos g.val
  have hl := hx.le _ ho
  have h3 : rowsLeft x (ix1 g) = BitVec.ofNat 32 (f (own f g.val) - (ge f g.val - (tend f (own f g.val) - tl f (own f g.val))) * 512) := by
    unfold rowsLeft
    rw [subi_ap, muli_ap, subi_ap, h1, h2, hx.gEff_word, bc0]
    show _ - (_ - _) * BitVec.ofNat 32 512 = _
    rw [BitVec.ofNat_sub_ofNat_of_le _ _ (by have := hx.tend_lt _ ho; omega) hs, ← BitVec.ofNat_mul, BitVec.ofNat_sub_ofNat_of_le _ _ (by omega) hr.le]
  by_cases hg : g.val < tend f 31
  · refine ⟨min (f (own f g.val) - (ge f g.val - (tend f (own f g.val) - tl f (own f g.val))) * 512) 512, ?_, by omega, by omega⟩
    show Scalar.select (IntOp.cmpi .slt (BitVec.ofNat 32 g.val) (broadcastInDim S225 ![] _ (total x) (ix1 g)))
      (IntOp.minsi (broadcastInDim S225 ![] _ (constantI S_ 32 512#32) (ix1 g)) (IntOp.maxsi (broadcastInDim S225 ![] _ (constantI S_ 32 0#32) (ix1 g)) (rowsLeft x (ix1 g)))) _ = _
    rw [bc0, bc0, bc0, hx.total_word, h3, cmpi_slt_ofNat (w := 32) (by omega) (by omega), select_ofBool, if_pos (decide_eq_true hg)]
    refine (clip_word (lo := 0) (hi := 512) (by omega) (by decide) (by decide)).trans ?_
    rw [Nat.max_eq_left (Nat.zero_le _)]
  · refine ⟨0, ?_, by omega, by omega⟩
    show Scalar.select (IntOp.cmpi .slt (BitVec.ofNat 32 g.val) (broadcastInDim S225 ![] _ (total x) (ix1 g))) _ (broadcastInDim S225 ![] _ (constantI S_ 32 0#32) (ix1 g)) = _
    rw [bc0, bc0, hx.total_word, cmpi_slt_ofNat (w := 32) (by omega) (by omega), select_ofBool, if_neg (by simpa using hg)]
    rfl

end Counted

end Cert.Proof

end
-- ==== Proof.Tables.lean ====
/-
  The three tables the experts' call prefetches, as the host leaves them: they keep every block inside its array, every word of valid rows
  is zero or positive, and the whole program runs.
-/
module

public import proofs.«01_k».proof.Proof.Run
public import proofs.«01_k».proof.Proof.Plan
public import proofs.«01_k».proof.Pre_routed
public import proofs.«01_k».proof.Proof.Gen.Pre_routed
public import Idealize.ShloMosaic.Lib.ReduceAll

@[expose] public section

set_option maxRecDepth 16384
set_option Elab.async false

noncomputable section

namespace Cert.Proof

open Cert.KernelIdeal Cert.KernelIdeal.Gen Cert.KernelIdeal.Facts
open Idealize.ShloMosaic Idealize.ShloMosaic.Routing Idealize.ShloMosaic.ValueIdx Idealize.ShloMosaic.WordCmp
open Idealize.ShloMosaic.TcCoe
open Idealize.SL Idealize.SL.Sem

variable {F : FTy → Type} [FloatOps F]

/-- The tables as the host leaves them. -/
def tabs (x : IVec S32 32) : pre1.Contents (Elt F) := fun | 0 => expertOf x | 1 => rowsOf x | 2 => gEff x | ⟨_ + 3, h⟩ => absurd h (Nat.not_lt.2 (Nat.le_add_left _ _))

theorem map0 (x : IVec S32 32) (i : grid1.Coords) : cc1_transform_0 k1_off1_inb numel1_S1 (tabs (F := F) x) i = ![(gEff x (tile i)).toNat, 0] := by
  have h : (tabs (F := F) x).at 2 (Rect.unit (s := S225) ![(Scalar.indexCast (BitVec.ofNat 32 (i 0).val)).toNat] S1.size (k1_off1_inb i)) numel1_S1 = gEff x (tile i) :=
    congrArg (gEff x) ((ValueIdx.eq_ix1 (n := 225) _).trans (congrArg ValueIdx.ix1 (Fin.ext (off1_val i 0))))
  unfold cc1_transform_0
  simp only [h]
  rfl
theorem map1 (x : IVec S32 32) (i : grid1.Coords) : cc1_transform_1 k1_off1_inb numel1_S1 (tabs (F := F) x) i = ![(expertOf x (tile i)).toNat, 0, 0] := by
  have h : (tabs (F := F) x).at 0 (Rect.unit (s := S225) ![(Scalar.indexCast (BitVec.ofNat 32 (i 0).val)).toNat] S1.size (k1_off1_inb i)) numel1_S1 = expertOf x (tile i) :=
    congrArg (expertOf x) ((ValueIdx.eq_ix1 (n := 225) _).trans (congrArg ValueIdx.ix1 (Fin.ext (off1_val i 0))))
  unfold cc1_transform_1
  simp only [h]
  rfl
theorem map2 (x : IVec S32 32) (i : grid1.Coords) : cc1_transform_2 k1_off1_inb numel1_S1 (tabs (F := F) x) i = ![(expertOf x (tile i)).toNat, 0, 0] := map1 x i
theorem map3 (x : IVec S32 32) (i : grid1.Coords) : cc1_transform_3 k1_off1_inb numel1_S1 (tabs (F := F) x) i = ![(expertOf x (tile i)).toNat, 0, 0] := map1 x i

theorem toNat_word {n : Nat} (h : n < 2 ^ 31) : (BitVec.ofNat 32 n).toNat = n := by rw [BitVec.toNat_ofNat]; omega

variable {x : IVec S32 32} {f : Nat → Nat} (hx : Counted x f)
include hx

theorem gEff_at (i : grid1.Coords) : (gEff x (tile i)).toNat = ge f (i 0).val := by
  rw [tile, hx.gEff_word]; exact toNat_word (hx.ge_lt31 _)
theorem expertOf_at (i : grid1.Coords) : (expertOf x (tile i)).toNat = own f (i 0).val := by
  rw [tile, hx.expertOf_word]; exact toNat_word ((own_lt f hx.pos (i 0).val).trans (by decide))

theorem ok_tabs : ok1 (F := F) (tabs x) := by
  refine ⟨fun i => ⟨fun a => ?_, .inl rfl⟩, fun i => ⟨fun a => ?_, .inr (Affine.block_words_dvd (of_decide_eq_true rfl) (by decide))⟩,
    fun i => ⟨fun a => ?_, .inl rfl⟩, fun i => ⟨fun a => ?_, .inr (Affine.block_words_dvd (of_decide_eq_true rfl) (by decide))⟩⟩
  · rw [map0]
    match a with
    | ⟨0, _⟩ => show ((gEff x (tile i)).toNat + 1) * 512 ≤ 115200; rw [gEff_at hx]; have : (i 0).val < 225 := (i 0).isLt; unfold ge; omega
    | ⟨1, _⟩ => exact Nat.le_of_eq rfl
  · rw [map1]
    match a with
    | ⟨0, _⟩ => show ((expertOf x (tile i)).toNat + 1) * 1 ≤ 32; rw [expertOf_at hx]; have := own_lt f hx.pos (i 0).val; omega
    | ⟨1, _⟩ => exact Nat.le_of_eq rfl
    | ⟨2, _⟩ => exact Nat.le_of_eq rfl
  · rw [map2]
    match a with
    | ⟨0, _⟩ => show ((expertOf x (tile i)).toNat + 1) * 1 ≤ 32; rw [expertOf_at hx]; have := own_lt f hx.pos (i 0).val; omega
    | ⟨1, _⟩ => exact Nat.le_of_eq rfl
    | ⟨2, _⟩ => exact Nat.le_of_eq rfl
  · rw [map3]
    match a with
    | ⟨0, _⟩ => show ((expertOf x (tile i)).toNat + 1) * 1 ≤ 32; rw [expertOf_at hx]; have := own_lt f hx.pos (i 0).val; omega
    | ⟨1, _⟩ => exact Nat.le_of_eq rfl
    | ⟨2, _⟩ => exact Nat.le_of_eq rfl

/-- The first branch's condition on a word, -/
theorem cond1_iff {n : Nat} (h : n ≤ 512) : k1_cond1 (BitVec.ofNat 32 n) = 1#1 ↔ n = 0 := by
  unfold k1_cond1
  show IntOp.cmpi .ne ((IntOp.cmpi .eq (BitVec.ofNat 32 n) (BitVec.ofNat 32 0)).setWidth 32) (BitVec.ofNat 32 0) = 1#1 ↔ _
  rw [cmpi_eq_ofNat (w := 32) (by omega) (by decide), setWidth_ofBool, cmpi_ne_ofNat_eq_one_iff (w := 32) (by split <;> decide) (by decide)]
  split <;> simp_all
/-- and the second's. -/
theorem cond2_iff {n : Nat} (h : n ≤ 512) : k1_cond2 (BitVec.ofNat 32 n) = 1#1 ↔ 0 < n := by
  unfold k1_cond2
  show IntOp.cmpi .ne ((IntOp.cmpi .sgt (BitVec.ofNat 32 n) (BitVec.ofNat 32 0)).setWidth 32) (BitVec.ofNat 32 0) = 1#1 ↔ _
  rw [cmpi_sgt_ofNat (w := 32) (by omega) (by decide), setWidth_ofBool, cmpi_ne_ofNat_eq_one_iff (w := 32) (by split <;> decide) (by decide)]
  split <;> simp_all

theorem live_tabs : Live (F := F) (rowsOf x) := fun i => by
  obtain ⟨n, hn, h, -⟩ := hx.rowsOf_word ⟨(i 0).val, (i 0).isLt⟩
  have hw : word (F := F) (rowsOf x) i = BitVec.ofNat 32 n := (word_eq (F := F) (rowsOf x) i).trans hn
  rw [hw, cond1_iff hx h, cond2_iff hx h]
  omega

/-- The tables, admissible. -/
def adm : (pcfg1 (F := F)).Adm := ⟨tabs x, ok_tabs hx⟩

omit hx in
theorem tabs_one : tabs (F := F) x 1 = rowsOf x := by unfold tabs; rfl
theorem adm_val : (adm (F := F) hx).1 = tabs x := rfl
theorem live_one : Live (F := F) (tabs (F := F) x 1) := (congrArg (Live (F := F)) (tabs_one (F := F))).mpr (live_tabs hx)
theorem live_adm : Live (F := F) ((adm (F := F) hx).1 1) :=
  (congrArg (fun pf : pre1.Contents (Elt F) => Live (F := F) (pf 1)) (adm_val (F := F) hx)).mpr (live_one hx)

omit hx
variable (m : (ℓ : Loc nD τ sig) → Buf (Elt F) ℓ)

theorem tabs_of (V : Valuation τ sig (Elt F)) (x : IVec S32 32) (h0 : V main_v21 = expertOf x) (h1 : V main_v43 = rowsOf x) (h2 : V main_v12 = gEff x)
    (k : Fin 3) : tabs (F := F) x k = V (Proc.devRef .tc (pre1.ref k)) :=
  match k with
  | 0 => h0.symm
  | 1 => h1.symm
  | 2 => h2.symm
  | ⟨_ + 3, h⟩ => absurd h (Nat.not_lt.2 (Nat.le_add_left _ _))

theorem tabs_read (c : Dev nD) (k : Fin 3) : tabs (F := F) (counts m c) k = V18 m (outs0 m) c (Proc.devRef .tc (pre1.ref k)) :=
  tabs_of (V18 m (outs0 m) c) (counts m c)
    ((V18_of_V16 m (outs0 m) c main_v21 (by decide) (by decide)).trans (V16_v21 m c))
    ((V18_of_V16 m (outs0 m) c main_v43 (by decide) (by decide)).trans (V16_v43 m c))
    ((V18_of_V16 m (outs0 m) c main_v12 (by decide) (by decide)).trans (V16_v12 m c)) k

/-- From counts as the routing gives them the program runs, and leaves in its result what the experts' call writes back. -/
theorem run_counted (hx : Counted (counts m 0) f) (ρ : Dev nD → PrngReg) :
    θ_run (defs (F := F)) (onTc (τ := τ) (main (F := F))) ⟨m, fun _ => 0, ρ⟩ (fun r =>
      (∀ c : Dev nD, r.2.mem ((c.tc : Thread nD τ).loc main_v80) = result m (adm hx) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  run_main m (adm hx) (live_adm hx) (fun c k => by rw [Subsingleton.elim c 0]; exact tabs_read m 0 k) ρ

/-- So its arguments end unchanged and every semaphore at zero. -/
theorem frame_counted (hx : ∃ f, Counted (counts m 0) f) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  hx.elim fun _ hx => (θ_run _ _ _).mono (fun _ h => ⟨fun c => (h.1 c).2, h.2⟩) (run_counted m hx ρ)

/-! ## The precondition -/

/-- A largest word that is positive was positive among the words, or at the start. -/
theorem foldl_maxsi_pos {ι : Type} (g : ι → BitVec 32) : ∀ (l : List ι) (z : BitVec 32), 0 < (l.foldl (fun r n => IntOp.maxsi r (g n)) z).toInt →
    0 < z.toInt ∨ ∃ n ∈ l, 0 < (g n).toInt
  | [], z, h => .inl h
  | a :: l, z, h => by
    rcases foldl_maxsi_pos g l _ h with h' | ⟨n, hn, h'⟩
    · have : IntOp.maxsi z (g a) = z ∨ IntOp.maxsi z (g a) = g a := by unfold IntOp.maxsi; split <;> simp
      rcases this with e | e
      · exact .inl (e ▸ h')
      · exact .inr ⟨a, List.mem_cons_self .., e ▸ h'⟩
    · exact .inr ⟨n, List.mem_cons_of_mem _ hn, h'⟩

theorem counted_of_pre (a0 : IVec Cert.Pre_routed.S115200x1024 32) (x : IVec S32 32) (a2 : FVec F Cert.Pre_routed.S32x2048x512 .f32)
    (a3 : FVec F Cert.Pre_routed.S32x512 .f32) (a4 : FVec F Cert.Pre_routed.S32x256x2048 .f32) (h : Cert.Pre_routed.fn (F := F) a0 x a2 a3 a4 = fun _ => 1#1) :
    Counted x (fun e => if h : e < 32 then (x (ix1 ⟨e, h⟩)).toNat else 0) := by
  have hall : ∀ e : Fin 32, (0 ≤ (x (ix1 e)).toInt ∧ (x (ix1 e)).toInt ≤ 98304) ∧
      0 < (Host.reduce IntOp.maxsi x (constantI S_ 32 2147483648#32) Cert.Pre_routed.Gen.reducesTo_S32_S_d0 Cert.Pre_routed.Gen.h_S_ ix0).toInt := by
    intro e
    have he := congrFun h (ix1 e)
    unfold Cert.Pre_routed.fn at he
    simp only at he
    obtain ⟨h12, h3⟩ := IntOp.andi_eq_one.1 he
    obtain ⟨h1, h2⟩ := IntOp.andi_eq_one.1 h12
    have g1 : IntOp.cmpi .sge (x (ix1 e)) 0#32 = 1#1 := h1
    have g2 : IntOp.cmpi .sle (x (ix1 e)) 98304#32 = 1#1 := h2
    have g3 := (bc0 (s := S32) Cert.Pre_routed.Gen.bcast_S_S32 _ (ix1 e)).symm.trans h3
    rw [cmpi_sge_eq, ofBool_decide_eq_one_iff] at g1
    rw [cmpi_sle_eq, ofBool_decide_eq_one_iff] at g2
    refine ⟨⟨g1, g2⟩, ?_⟩
    change IntOp.cmpi .sgt _ 0#32 = 1#1 at g3
    rw [cmpi_sgt_eq, ofBool_decide_eq_one_iff] at g3
    exact g3
  have hn : ∀ e : Fin 32, (x (ix1 e)).toNat ≤ 98304 := fun e => by
    have h1 := (hall e).1
    have h2 := (toInt_nonneg_iff_lt_half _).1 h1.1
    have h3 := toInt_eq_toNat_of_lt_half h2
    omega
  refine ⟨fun e => ?_, fun e he => ?_, ?_⟩
  · rw [dif_pos e.isLt, BitVec.ofNat_toNat, BitVec.setWidth_eq]
  · rw [dif_pos he]; exact hn _
  · have h3 := (hall 0).2
    rw [Host.reduce_eq_foldl] at h3
    rcases foldl_maxsi_pos _ _ _ h3 with h4 | ⟨i, -, h4⟩
    · exact absurd h4 (by decide)
    · rw [ValueIdx.eq_ix1 (n := 32) i] at h4
      have hi : (i 0).val < 32 := (i 0).isLt
      refine ⟨(i 0).val, hi, ?_⟩
      rw [dif_pos hi]
      have h2 := (toInt_nonneg_iff_lt_half _).1 h4.le
      have h5 := toInt_eq_toNat_of_lt_half h2
      have h6 : (0 : Int) < ((x (ix1 (i 0))).toNat : Int) := h5 ▸ h4
      exact Int.natCast_pos.1 h6

end Cert.Proof

end
-- ==== Proof.Same.lean ====
/-
  The kernel's program and the idealised one's are one text: over the same float values their windows, bodies and host operations are
  equal, so a run of the one is a run of the other.
-/
module

public import proofs.«01_k».proof.Proof.Gen.Kernel
public import proofs.«01_k».proof.Proof.Gen.KernelIdeal
public import proofs.«01_k».proof.Proof.Gen.Kernel.Launch
public import proofs.«01_k».proof.Proof.Gen.KernelIdeal.Launch

@[expose] public section

set_option maxRecDepth 16384
set_option Elab.async false

noncomputable section

namespace Cert.Proof

open Idealize.ShloMosaic Idealize.SL.Sem

/-- A program of host operations `ls`, the first region, host operations `l`, the second region runs from `s` to a state of which `Q`. -/
def Runs {nD : Nat} {τ : Topo} {sig : RefSig} {Val : EltTy → Type} {Λ₀ : Labels} (pcs : Fin 2 → Pipeline.PCfg sig Λ₀ Val)
    (d : Defs nD τ sig Val Λ₀) (ls : List (List (HloOp τ sig Val))) (l : List (HloOp τ sig Val)) (s : MemSt nD τ sig Val) (Q : MemSt nD τ sig Val → Prop) : Prop :=
  θ_run (Pipeline.defs pcs d) (onTc (τ := τ) fun _ : Dev nD => Pipeline.chain (ls.map StableHlo.seq
    ++ [Prog.lift (.customCall (Pipeline.entry 0) ()), StableHlo.seq l, Prog.lift (.customCall (Pipeline.entry 1) ())])) s (fun r => Q r.2)

theorem Runs.of_eq {nD : Nat} {τ : Topo} {sig : RefSig} {Val : EltTy → Type} {Λ₀ : Labels} {pcs pcs' : Fin 2 → Pipeline.PCfg sig Λ₀ Val}
    {d d' : Defs nD τ sig Val Λ₀} {ls ls' : List (List (HloOp τ sig Val))} {l l' : List (HloOp τ sig Val)} {s : MemSt nD τ sig Val} {Q : MemSt nD τ sig Val → Prop}
    (hp : pcs = pcs') (hd : d = d') (hs : ls = ls') (h : l = l') (r : Runs pcs d ls l s Q) : Runs pcs' d' ls' l' s Q := by
  subst hp; subst hd; subst hs; subst h; exact r

variable {F : FTy → Type} [FloatOps F]

theorem ops_eq : Cert.KernelIdeal.Gen.hostOps0 (F := F) = Cert.Kernel.Gen.hostOps0 (F := F) := by exact rfl
theorem ops_eq_1 : Cert.KernelIdeal.Gen.hostOps0_1 (F := F) = Cert.Kernel.Gen.hostOps0_1 (F := F) := by exact rfl
theorem ops_eq_2 : Cert.KernelIdeal.Gen.hostOps0_2 (F := F) = Cert.Kernel.Gen.hostOps0_2 (F := F) := by exact rfl
theorem ops_eq_3 : Cert.KernelIdeal.Gen.hostOps0_3 (F := F) = Cert.Kernel.Gen.hostOps0_3 (F := F) := by exact rfl
theorem ops_eq_4 : Cert.KernelIdeal.Gen.hostOps0_4 (F := F) = Cert.Kernel.Gen.hostOps0_4 (F := F) := by exact rfl
theorem ops_eq_5 : Cert.KernelIdeal.Gen.hostOps0_5 (F := F) = Cert.Kernel.Gen.hostOps0_5 (F := F) := by exact rfl
theorem ops_eq_6 : Cert.KernelIdeal.Gen.hostOps0_6 (F := F) = Cert.Kernel.Gen.hostOps0_6 (F := F) := by exact rfl
theorem ops_eq_7 : Cert.KernelIdeal.Gen.hostOps0_7 (F := F) = Cert.Kernel.Gen.hostOps0_7 (F := F) := by exact rfl
theorem ops_eq_8 : Cert.KernelIdeal.Gen.hostOps0_8 (F := F) = Cert.Kernel.Gen.hostOps0_8 (F := F) := by exact rfl
theorem ops_eq_9 : Cert.KernelIdeal.Gen.hostOps0_9 (F := F) = Cert.Kernel.Gen.hostOps0_9 (F := F) := by exact rfl
theorem ops_eq_10 : Cert.KernelIdeal.Gen.hostOps0_10 (F := F) = Cert.Kernel.Gen.hostOps0_10 (F := F) := by exact rfl
theorem ops_eq_11 : Cert.KernelIdeal.Gen.hostOps0_11 (F := F) = Cert.Kernel.Gen.hostOps0_11 (F := F) := by exact rfl
theorem ops_eq_12 : Cert.KernelIdeal.Gen.hostOps0_12 (F := F) = Cert.Kernel.Gen.hostOps0_12 (F := F) := by exact rfl
theorem ops_eq_13 : Cert.KernelIdeal.Gen.hostOps0_13 (F := F) = Cert.Kernel.Gen.hostOps0_13 (F := F) := by exact rfl
theorem ops_eq_14 : Cert.KernelIdeal.Gen.hostOps0_14 (F := F) = Cert.Kernel.Gen.hostOps0_14 (F := F) := by exact rfl
theorem ops_eq_15 : Cert.KernelIdeal.Gen.hostOps0_15 (F := F) = Cert.Kernel.Gen.hostOps0_15 (F := F) := by exact rfl
theorem ops_eq_last : Cert.KernelIdeal.Gen.hostOps1 (F := F) = Cert.Kernel.Gen.hostOps1 (F := F) := by exact rfl

theorem windows_eq : Cert.KernelIdeal.pcfgs (F := F) = Cert.Kernel.pcfgs (F := F) := by exact rfl

theorem bodies_eq : Cert.KernelIdeal.defs₀ (F := F) = Cert.Kernel.defs₀ (F := F) := by
  unfold Cert.Kernel.defs₀ Cert.KernelIdeal.defs₀
  apply congrArg Defs.onTc
  funext l
  match l with
  | 0 => funext x; exact rfl
  | 1 => funext x; exact rfl

def opsKernel : List (List (HloOp Cert.Kernel.τ Cert.Kernel.sig (Elt F))) :=
  [Cert.Kernel.Gen.hostOps0, Cert.Kernel.Gen.hostOps0_1, Cert.Kernel.Gen.hostOps0_2, Cert.Kernel.Gen.hostOps0_3, Cert.Kernel.Gen.hostOps0_4, Cert.Kernel.Gen.hostOps0_5, Cert.Kernel.Gen.hostOps0_6, Cert.Kernel.Gen.hostOps0_7, Cert.Kernel.Gen.hostOps0_8, Cert.Kernel.Gen.hostOps0_9, Cert.Kernel.Gen.hostOps0_10, Cert.Kernel.Gen.hostOps0_11, Cert.Kernel.Gen.hostOps0_12, Cert.Kernel.Gen.hostOps0_13, Cert.Kernel.Gen.hostOps0_14, Cert.Kernel.Gen.hostOps0_15]

def opsKernelIdeal : List (List (HloOp Cert.KernelIdeal.τ Cert.KernelIdeal.sig (Elt F))) :=
  [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15]

theorem ops_all : opsKernelIdeal (F := F) = opsKernel (F := F) := by
  unfold opsKernelIdeal opsKernel
  rw [ops_eq, ops_eq_1, ops_eq_2, ops_eq_3, ops_eq_4, ops_eq_5, ops_eq_6, ops_eq_7, ops_eq_8, ops_eq_9, ops_eq_10, ops_eq_11, ops_eq_12, ops_eq_13, ops_eq_14, ops_eq_15]

theorem runs_ideal {s : MemSt Cert.KernelIdeal.nD Cert.KernelIdeal.τ Cert.KernelIdeal.sig (Elt F)} {Q : MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) s (fun r => Q r.2)) :
    Runs (Cert.KernelIdeal.pcfgs (F := F)) Cert.KernelIdeal.defs₀ opsKernelIdeal Cert.KernelIdeal.Gen.hostOps1 s Q := by
  rw [show Cert.KernelIdeal.main (F := F) = _ from funext fun c => Cert.KernelIdeal.Gen.main_chain (F := F) c] at h
  exact h

theorem runs_kernel {s : MemSt Cert.Kernel.nD Cert.Kernel.τ Cert.Kernel.sig (Elt F)} {Q : MemSt Cert.Kernel.nD Cert.Kernel.τ Cert.Kernel.sig (Elt F) → Prop}
    (h : Runs (Cert.Kernel.pcfgs (F := F)) Cert.Kernel.defs₀ opsKernel Cert.Kernel.Gen.hostOps1 s Q) :
    θ_run (Cert.Kernel.defs (F := F)) (onTc (τ := Cert.Kernel.τ) (Cert.Kernel.main (F := F))) s (fun r => Q r.2) := by
  rw [show Cert.Kernel.main (F := F) = _ from funext fun c => Cert.Kernel.Gen.main_chain (F := F) c]
  exact h

theorem runs_same {s : MemSt Cert.KernelIdeal.nD Cert.KernelIdeal.τ Cert.KernelIdeal.sig (Elt F)} {Q : MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) s (fun r => Q r.2)) :
    Runs (Cert.Kernel.pcfgs (F := F)) Cert.Kernel.defs₀ opsKernel Cert.Kernel.Gen.hostOps1 s Q :=
  (runs_ideal h).of_eq windows_eq bodies_eq ops_all ops_eq_last

end Cert.Proof

end
-- ==== Proof.Frames.lean ====
/-
  The frames: the kernel's two from one run over any float values, the reference's from its run.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Tables
public import proofs.«01_k».proof.Proof.Same

@[expose] public section

set_option maxRecDepth 16384

noncomputable section

namespace Cert.Proof

open Idealize.ShloMosaic Idealize.SL.Sem

theorem counted_ideal (m : (ℓ : Loc Cert.KernelIdeal.nD Cert.KernelIdeal.τ Cert.KernelIdeal.sig) → Buf (Elt Ideal) ℓ) (h : Cert.Pre_KernelIdeal m) :
    ∃ f, Counted (counts m 0) f := ⟨_, counted_of_pre _ _ _ _ _ (h 0)⟩

theorem counted_bits (m : (ℓ : Loc Cert.Kernel.nD Cert.Kernel.τ Cert.Kernel.sig) → Buf (Elt Bits) ℓ) (h : Cert.Pre_Kernel m) :
    ∃ f, Counted (m (((0 : Dev Cert.Kernel.nD).tc : Thread Cert.Kernel.nD Cert.Kernel.τ).loc Cert.Kernel.main_arg1)) f :=
  ⟨_, counted_of_pre _ _ _ _ _ (h 0)⟩

theorem frame_kernel : Cert.quiescent_Kernel := fun m ρ hp =>
  runs_kernel (Q := fun s => (∀ c : Dev Cert.Kernel.nD,
      s.mem ((c.tc : Thread Cert.Kernel.nD Cert.Kernel.τ).loc Cert.Kernel.main_arg0) = m ((c.tc : Thread Cert.Kernel.nD Cert.Kernel.τ).loc Cert.Kernel.main_arg0)
      ∧ s.mem ((c.tc : Thread Cert.Kernel.nD Cert.Kernel.τ).loc Cert.Kernel.main_arg1) = m ((c.tc : Thread Cert.Kernel.nD Cert.Kernel.τ).loc Cert.Kernel.main_arg1)
      ∧ s.mem ((c.tc : Thread Cert.Kernel.nD Cert.Kernel.τ).loc Cert.Kernel.main_arg2) = m ((c.tc : Thread Cert.Kernel.nD Cert.Kernel.τ).loc Cert.Kernel.main_arg2)
      ∧ s.mem ((c.tc : Thread Cert.Kernel.nD Cert.Kernel.τ).loc Cert.Kernel.main_arg3) = m ((c.tc : Thread Cert.Kernel.nD Cert.Kernel.τ).loc Cert.Kernel.main_arg3)
      ∧ s.mem ((c.tc : Thread Cert.Kernel.nD Cert.Kernel.τ).loc Cert.Kernel.main_arg4) = m ((c.tc : Thread Cert.Kernel.nD Cert.Kernel.τ).loc Cert.Kernel.main_arg4))
      ∧ s.sem = fun _ => 0)
    (runs_same (frame_counted (F := Bits) m (counted_bits m hp) ρ))

theorem frame_ideal : Cert.quiescent_KernelIdeal := fun m ρ hp => frame_counted (F := Ideal) m (counted_ideal m hp) ρ

theorem frame_reference : Cert.quiescent_ReferenceIdeal := fun m ρ _ =>
  (θ_run (Cert.ReferenceIdeal.defs (F := Ideal)) _ _).mono (fun _ h => ⟨fun c => (h c).2, sem_eq_zero_of_no_sems (by decide) _⟩) (Cert.ReferenceIdeal.Value.run (F := Ideal) m ρ)

theorem frame_reference_routed : Cert.quiescent_ReferenceIdeal_pre_routed := fun m ρ _ =>
  (θ_run (Cert.ReferenceIdeal.defs (F := Ideal)) _ _).mono (fun _ h => ⟨fun c => (h c).2, sem_eq_zero_of_no_sems (by decide) _⟩) (Cert.ReferenceIdeal.Value.run (F := Ideal) m ρ)

end Cert.Proof

end
-- ==== Proof.Value.Spec.lean ====
/-
  The values of the experts' call, in plain sums over the ideal values.
-/
module

public import Idealize.ShloMosaic.Lib.ValueIdx

@[expose] public section

noncomputable section

namespace Cert.Proof

open Idealize.ShloMosaic

/-- The value in a word's low half, -/
def lo (w : BitVec 32) : EReal := Ideal.ofBits .bf16 (BitVec.extractLsb' 0 16 w)
/-- and in its high half. -/
def hi (w : BitVec 32) : EReal := Ideal.ofBits .bf16 (BitVec.extractLsb' 16 16 w)

/-- A packed row against a column of weights. -/
def up (h : Fin 1024 → BitVec 32) (w : Fin 2048 → EReal) : EReal :=
  ∑ k : Fin 1024, lo (h k) * w ⟨k.val, by omega⟩ + ∑ k : Fin 1024, hi (h k) * w ⟨1024 + k.val, by omega⟩

/-- The gate: the clamped value times the logistic function of 1.702 times it, times one more than the clamped companion. -/
def gated (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- One entry of an expert's output: a packed row through the expert's two projections, the even columns of the first the gate's input. -/
def expert (h : Fin 1024 → BitVec 32) (w : Fin 2048 → Fin 512 → EReal) (b : Fin 512 → EReal) (d : Fin 256 → EReal) : EReal :=
  ∑ f : Fin 256, gated (up h (fun k => w k ⟨2 * f.val, by omega⟩) + b ⟨2 * f.val, by omega⟩)
    (up h (fun k => w k ⟨2 * f.val + 1, by omega⟩) + b ⟨2 * f.val + 1, by omega⟩) * d f

end Cert.Proof

end
-- ==== Proof.Value.Reference.lean ====
/-
  What the reference computes, entry by entry, at the ideal values: a row's halves unpacked, both halves' products with every expert's up
  projection, the gate, the row's indicator of its expert, and the down projection summed over experts.
-/
module

public import proofs.«01_k».proof.Proof.Value.Spec
public import proofs.«01_k».proof.Proof.Gen.ReferenceIdeal.Run
public import Idealize.ShloMosaic.Lib.Pipeline.ValueKit
public import Idealize.ShloMosaic.Lib.Routing.OpsSearch
public import Idealize.ShloMosaic.Lib.BitcastConvert
public import proofs.«01_k».proof.Proof.Plan

@[expose] public section

set_option maxRecDepth 16384
set_option Elab.async false

noncomputable section

namespace Cert.Proof

open Cert.ReferenceIdeal Cert.ReferenceIdeal.Gen Cert.ReferenceIdeal.Facts
open Idealize.ShloMosaic
open Idealize.ShloMosaic.Routing (pyDiv)

section Terms

variable {F : FTy → Type} [FloatOps F]

/-- The rows unpacked, the low halves before the high ones. -/
def rowsR (a0 : IVec S115200x1024 32) : FVec F S115200x2048 .f32 := (concatenate S115200x2048 1 [⟨S115200x1024, (shapeCast _ (extractStridedSlice S115200x1024x1 ![0, 0, 0] (extf .f32 (bitcastToFloat (F := F) .bf16 (Host.bitcastConvertNarrow S115200x1024x2 16 a0 splits_S115200x1024_w32_S115200x1024x2_w16)) bitsLt_bf16_f32) slices_S115200x1024x2_S115200x1024x1_0_0_0) shapeCasts_S115200x1024x1_S115200x1024)⟩, ⟨S115200x1024, (shapeCast _ (extractStridedSlice S115200x1024x1 ![0, 0, 1] (extf .f32 (bitcastToFloat (F := F) .bf16 (Host.bitcastConvertNarrow S115200x1024x2 16 a0 splits_S115200x1024_w32_S115200x1024x2_w16)) bitsLt_bf16_f32) slices_S115200x1024x2_S115200x1024x1_0_0_1) shapeCasts_S115200x1024x1_S115200x1024)⟩] concatenates_S115200x1024_S115200x1024_S115200x2048_d1)

/-- The up projections, with their bias. -/
def upR (a0 : IVec S115200x1024 32) (w : FVec F S32x2048x512 .f32) (b : FVec F S32x512 .f32) : FVec F S115200x32x512 .f32 := (addf (Host.dotGeneral dot_S115200x2048_S32x2048x512_S115200x32x512_1_1_0_02_n_n none (rowsR a0) w) (broadcastInDim S115200x32x512 ![0, 1, 2] bcast_S1x32x512_S115200x32x512_0_1_2 (broadcastInDim S1x32x512 ![1, 2] bcast_S32x512_S1x32x512_1_2 b)))

/-- The gate's input, -/
def gluR (u : FVec F S115200x32x512 .f32) : FVec F S115200x32x256 .f32 := (minimumf (Host.slice S115200x32x256 ![0, 0, 0] ![1, 1, 2] u slicesBy_S115200x32x512_S115200x32x256_0s1_0s1_0s2) (broadcastInDim S115200x32x256 ![] bcast_S_S115200x32x256 (constant S_ .f32 0x40E00000#32)))
/-- its linear companion, -/
def linR (u : FVec F S115200x32x512 .f32) : FVec F S115200x32x256 .f32 := (minimumf (broadcastInDim S115200x32x256 ![] bcast_S_S115200x32x256 (id (constant S_ .f32 0x40E00000#32))) (maximumf (broadcastInDim S115200x32x256 ![] bcast_S_S115200x32x256 (id (constant S_ .f32 0xC0E00000#32))) (Host.slice S115200x32x256 ![0, 0, 1] ![1, 1, 2] u slicesBy_S115200x32x512_S115200x32x256_0s1_0s1_1s2)))
/-- and the gated value. -/
def actR (u : FVec F S115200x32x512 .f32) : FVec F S115200x32x256 .f32 := (mulf (mulf (gluR u) (Host.divf (broadcastInDim S115200x32x256 ![] bcast_S_S115200x32x256 (constant S_ .f32 0x3F800000#32)) (addf (broadcastInDim S115200x32x256 ![] bcast_S_S115200x32x256 (constant S_ .f32 0x3F800000#32)) (Host.exp (Host.negf (mulf (broadcastInDim S115200x32x256 ![] bcast_S_S115200x32x256 (constant S_ .f32 0x3FD9DB23#32)) (gluR u))))))) (addf (linR u) (broadcastInDim S115200x32x256 ![] bcast_S_S115200x32x256 (constant S_ .f32 0x3F800000#32))))

/-- Whether a row is an expert's. -/
def combineR (own en : IVec S32 32) : FVec F S115200x32x256 .f32 := (broadcastInDim S115200x32x256 ![0, 1, 2] bcast_S115200x32x1_S115200x32x256_0_1_2 (broadcastInDim S115200x32x1 ![0, 1] bcast_S115200x32_S115200x32x1_0_1 (sitofp .f32 (extui 32 (andi (cmpi .sle (broadcastInDim S115200x32 ![0, 1] bcast_S1x32_S115200x32_0_1 (broadcastInDim S1x32 ![1] bcast_S32_S1x32_1 (subi en own))) (broadcastInDim S115200x32 ![0, 1] bcast_S115200x1_S115200x32_0_1 (broadcastInDim S115200x1 ![0] bcast_S115200_S115200x1_0 (iotaInDim S115200 32 0)))) (cmpi .slt (broadcastInDim S115200x32 ![0, 1] bcast_S115200x1_S115200x32_0_1 (broadcastInDim S115200x1 ![0] bcast_S115200_S115200x1_0 (iotaInDim S115200 32 0))) (broadcastInDim S115200x32 ![0, 1] bcast_S1x32_S115200x32_0_1 (broadcastInDim S1x32 ![1] bcast_S32_S1x32_1 en)))) natLt_1_32))))

/-- The reference's value from the numbers of rows the experts own and their running totals. -/
def refR (own en : IVec S32 32) (a0 : IVec S115200x1024 32) (w : FVec F S32x2048x512 .f32) (b : FVec F S32x512 .f32) (d : FVec F S32x256x2048 .f32) :
    FVec F S115200x2048 .bf16 := truncf .bf16 (Host.dotGeneral dot_S115200x32x256_S32x256x2048_S115200x2048_12_01_0_2_n_n none (mulf (actR (upR a0 w b)) (combineR own en)) d) bitsLt_bf16_f32

/-- The rows each expert owns, -/
def ownR (x : IVec S32 32) : IVec S32 32 :=
  muli (pyDiv bcast_S_S32 (subi (addi x (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32))
/-- and where they end. -/
def endR (x : IVec S32 32) : IVec S32 32 :=
  Host.reduceWindow IntOp.addi ![32] ![1] ![31] ![0] (ownR x) (broadcastInDim S_ ![] bcast_S_S_ (constantI S_ 32 0#32)) reduceWindows_S32_S32_w32s1p31_0 h_S_

theorem res_eq (m : (ℓ : Loc nD τ sig) → Buf (Elt F) ℓ) (c : Dev nD) : Value.res_main_v54 m c
    = refR (ownR (m ((c.tc : Thread nD τ).loc main_arg1))) (endR (m ((c.tc : Thread nD τ).loc main_arg1))) (m ((c.tc : Thread nD τ).loc main_arg0))
      (m ((c.tc : Thread nD τ).loc main_arg2)) (m ((c.tc : Thread nD τ).loc main_arg3)) (m ((c.tc : Thread nD τ).loc main_arg4)) := rfl

end Terms

theorem upR_at (a0 : IVec S115200x1024 32) (w : FVec Ideal S32x2048x512 .f32) (b : FVec Ideal S32x512 .f32) (r : Fin 115200) (e : Fin 32) (j : Fin 512) :
    upR (F := Ideal) a0 w b (ix3 r e j) = up (fun k => a0 (ix2 r k)) (fun k => w (ix3 e k j)) + b (ix2 e j) := by
  have hd : ∀ (x : Fin 1024) (q : Fin 2), splits_S115200x1024_w32_S115200x1024x2_w16.drop (ix3 r x q) = (ix2 r x : S115200x1024.Idx) :=
    fun x q => funext fun a => match a with | 0 => rfl | 1 => rfl
  unfold upR rowsR up lo hi
  pointwise
  simp only [hd]

theorem actR_at (u : FVec Ideal S115200x32x512 .f32) (r : Fin 115200) (e : Fin 32) (f : Fin 256) :
    actR (F := Ideal) u (ix3 r e f) = gated (u (ix3 r e ⟨2 * f.val, by omega⟩)) (u (ix3 r e ⟨2 * f.val + 1, by omega⟩)) := by
  unfold actR gluR linR gated Ideal.logistic
  pointwise
  simp only [Nat.add_comm 1]
  rfl

/-- A truth value as a number. -/
theorem bit_value (b : Bool) : (FloatOps.sitofp (F := Ideal) .f32 ((BitVec.ofBool b).setWidth 32) : EReal) = if b then 1 else 0 := by
  cases b
  · show (((((BitVec.ofBool false).setWidth 32).toInt : ℝ)) : EReal) = 0
    simp
  · show (((((BitVec.ofBool true).setWidth 32).toInt : ℝ)) : EReal) = 1
    have : ((BitVec.ofBool true).setWidth 32).toInt = 1 := by decide
    rw [this]; simp

theorem combineR_at (own en : IVec S32 32) (r : Fin 115200) (e : Fin 32) (f : Fin 256) {t T : Nat} (ho : own (ix1 e) = BitVec.ofNat 32 t)
    (he : en (ix1 e) = BitVec.ofNat 32 T) (h : t ≤ T) (hT : T < 2 ^ 31) :
    combineR (F := Ideal) own en (ix3 r e f) = (if T - t ≤ r.val ∧ r.val < T then 1 else 0 : EReal) := by
  unfold combineR
  pointwise
  rw [ho, he]
  have hr : r.val < 2 ^ 31 := by omega
  have hs : IntOp.subi (BitVec.ofNat 32 T) (BitVec.ofNat 32 t) = BitVec.ofNat 32 (T - t) := by
    show BitVec.ofNat 32 T - BitVec.ofNat 32 t = _
    apply BitVec.eq_of_toNat_eq
    rw [BitVec.toNat_sub, BitVec.toNat_ofNat, BitVec.toNat_ofNat, BitVec.toNat_ofNat]
    omega
  rw [hs, WordCmp.cmpi_sle_ofNat (w := 32) (by omega) (by omega), WordCmp.cmpi_slt_ofNat (w := 32) (by omega) (by omega), WordCmp.andi_ofBool]
  refine (bit_value _).trans ?_
  simp only [Bool.and_eq_true, decide_eq_true_eq]

theorem refR_at (own en : IVec S32 32) (a0 : IVec S115200x1024 32) (w : FVec Ideal S32x2048x512 .f32) (b : FVec Ideal S32x512 .f32) (d : FVec Ideal S32x256x2048 .f32)
    (r : Fin 115200) (n : Fin 2048) : refR (F := Ideal) own en a0 w b d (ix2 r n)
      = ∑ e : Fin 32, ∑ f : Fin 256, actR (F := Ideal) (upR (F := Ideal) a0 w b) (ix3 r e f) * combineR (F := Ideal) own en (ix3 r e f) * d (ix3 e f n) := by
  unfold refR
  pointwise

/-! ## The rows of an expert -/

variable {x : IVec S32 32} {f : Nat → Nat} (hx : Counted x f)

include hx in
theorem ownR_word (e : Fin 32) : ownR x (ix1 e) = BitVec.ofNat 32 (512 * tl f e.val) := by
  show tilesE x (ix1 e) * BitVec.ofNat 32 512 = _
  have h : tilesE x (ix1 e) = BitVec.ofNat 32 (tl f e.val) := hx.tilesE_word e
  rw [h, ← BitVec.ofNat_mul, Nat.mul_comm]

theorem sum_scaled (f : Nat → Nat) (l : List Nat) : (l.map fun e => 512 * tl f e).sum = 512 * (l.map (tl f)).sum := by
  induction l with
  | nil => rfl
  | cons a l ih => rw [List.map_cons, List.map_cons, List.sum_cons, List.sum_cons, ih, Nat.mul_add]

include hx in
theorem endR_word (e : Fin 32) : endR x (ix1 e) = BitVec.ofNat 32 (512 * tend f e.val) :=
  (Routing.cumsum1 (N := 32) (Nm1 := 31) rfl (ownR x) (fun e => 512 * tl f e) (ownR_word hx) _ (Routing.bc0 _ _ _) _ _ e).trans
    (congrArg (BitVec.ofNat 32) (sum_scaled f _))

/-- A tile's expert. -/
def expertAt (hx : Counted x f) (g : Nat) : Fin 32 := ⟨own f g, own_lt f hx.pos g⟩

include hx in
/-- A row is an expert's exactly when the row's tile is. -/
theorem combine_word (r : Fin 115200) (e : Fin 32) (q : Fin 256) : combineR (F := Ideal) (ownR x) (endR x) (ix3 r e q)
    = (if r.val / 512 < tend f 31 ∧ e = expertAt hx (r.val / 512) then 1 else 0 : EReal) := by
  have h1 := tl_le_tend f e.val
  have h2 := tend_le f hx.le e.val e.isLt
  have h3 := tend_mono f (show e.val ≤ 31 by omega)
  have he := e.isLt
  rw [combineR_at _ _ r e q (ownR_word hx e) (endR_word hx e) (by omega) (by omega)]
  refine if_congr ⟨fun h => ?_, fun h => ?_⟩ rfl rfl
  · have hg : r.val / 512 < tend f 31 := by omega
    exact ⟨hg, Fin.ext ((own_iff f hg e.isLt).1 ⟨by omega, by omega⟩).symm⟩
  · have := (own_iff f h.1 e.isLt).2 (congrArg Fin.val h.2).symm
    omega

/-- The reference's entry: the row's expert's, or zero past the last expert's rows. -/
theorem refR_value (a0 : IVec S115200x1024 32) (w : FVec Ideal S32x2048x512 .f32) (b : FVec Ideal S32x512 .f32) (d : FVec Ideal S32x256x2048 .f32)
    (r : Fin 115200) (n : Fin 2048) : refR (F := Ideal) (ownR x) (endR x) a0 w b d (ix2 r n)
      = if r.val / 512 < tend f 31 then
          expert (fun k => a0 (ix2 r k)) (fun k j => w (ix3 (expertAt hx (r.val / 512)) k j)) (fun j => b (ix2 (expertAt hx (r.val / 512)) j))
            (fun q => d (ix3 (expertAt hx (r.val / 512)) q n))
        else 0 := by
  rw [refR_at]
  simp only [combine_word hx]
  by_cases h : r.val / 512 < tend f 31
  · rw [if_pos h, Finset.sum_eq_single (expertAt hx (r.val / 512))]
    · unfold expert
      refine Finset.sum_congr rfl fun q _ => ?_
      rw [if_pos ⟨h, rfl⟩, mul_one, actR_at, upR_at, upR_at]
    · intro e _ he
      refine Finset.sum_eq_zero fun q _ => ?_
      rw [if_neg (fun hh => he hh.2), mul_zero, zero_mul]
    · intro hh; exact absurd (Finset.mem_univ _) hh
  · rw [if_neg h]
    refine Finset.sum_eq_zero fun e _ => Finset.sum_eq_zero fun q _ => ?_
    rw [if_neg (fun hh => h hh.1), mul_zero, zero_mul]

end Cert.Proof

end
-- ==== Proof.Value.Weights.lean ====
/-
  What the experts' call reads of the weights: the first projection with its even columns before its odd ones, as the permutation call leaves
  it, and the bias in the same order.
-/
module

public import proofs.«01_k».proof.Proof.Run
public import proofs.«01_k».proof.Proof.Plan
public import Idealize.ShloMosaic.Lib.Pipeline.ValueKit
public import Idealize.ShloMosaic.Lib.ValueIdx

@[expose] public section

set_option maxRecDepth 16384
set_option Elab.async false

noncomputable section

namespace Cert.Proof

open Cert.KernelIdeal Cert.KernelIdeal.Gen Cert.KernelIdeal.Facts
open Idealize.ShloMosaic Idealize.ShloMosaic.TcCoe

/-! ## The permutation -/

/-- Where a column goes: the even ones to the first half, the odd ones to the second. -/
def goes (k : Nat) : Nat := if k % 2 = 0 then k / 2 else 256 + k / 2

theorem goes_lt {k : Nat} (h : k < 512) : goes k < 512 := by unfold goes; split <;> omega

theorem goes_odd (n : Nat) : goes (2 * n + 1) = 256 + n := by unfold goes; split <;> omega

theorem iota_word (k : Fin 512) : (iotaInDim S512 32 0 : IVec S512 32) (ValueIdx.ix1 k) = BitVec.ofNat 32 k.val := rfl

theorem dst_word (k : Fin 512) : dst (ValueIdx.ix1 k) = BitVec.ofNat 32 (goes k.val) := by
  have hk := k.isLt
  have h2 : Routing.pyRem bcast_S_S512 (iotaInDim S512 32 0) (constantI S_ 32 2#32) (ValueIdx.ix1 k) = BitVec.ofNat 32 (k.val % 2) :=
    Routing.pyRem_ap _ _ _ _ (iota_word k) rfl (by omega) (by decide) (by decide)
  have h3 : Routing.pyDiv bcast_S_S512 (iotaInDim S512 32 0) (constantI S_ 32 2#32) (ValueIdx.ix1 k) = BitVec.ofNat 32 (k.val / 2) :=
    Routing.pyDiv_ap _ _ _ _ (iota_word k) rfl (by omega) (by decide) (by decide)
  show Scalar.select (IntOp.cmpi .eq (Routing.pyRem bcast_S_S512 (iotaInDim S512 32 0) (constantI S_ 32 2#32) (ValueIdx.ix1 k)) (BitVec.ofNat 32 0))
    (Routing.pyDiv bcast_S_S512 (iotaInDim S512 32 0) (constantI S_ 32 2#32) (ValueIdx.ix1 k))
    (BitVec.ofNat 32 256 + Routing.pyDiv bcast_S_S512 (iotaInDim S512 32 0) (constantI S_ 32 2#32) (ValueIdx.ix1 k)) = _
  rw [h2, h3, WordCmp.cmpi_eq_ofNat (w := 32) (by omega) (by decide), WordCmp.select_ofBool, ← BitVec.ofNat_add]
  unfold goes
  by_cases h : k.val % 2 = 0 <;> simp [h]

theorem wrapped_word (v : IVec S512 32) (k : Fin 512) {n : Nat} (hn : n < 512) (h : v (ValueIdx.ix1 k) = BitVec.ofNat 32 n) :
    wrapped v (ValueIdx.ix2 k (0 : Fin 1)) = BitVec.ofNat 32 n := by
  have e : wrapped v (ValueIdx.ix2 k (0 : Fin 1)) = Scalar.select (IntOp.cmpi .slt (v (ValueIdx.ix1 k)) 0#32)
      (v (ValueIdx.ix1 k) + BitVec.ofNat 32 512) (v (ValueIdx.ix1 k)) := by
    unfold wrapped
    exact Routing.bcCol _ _ _
  rw [e, h]
  exact Routing.wrap_of_lt _ _ (by rw [BitVec.toNat_ofNat]; omega)

/-- Both words of a pair. -/
def pairs : IVec S512x2 32 :=
  concatenate S512x2 1 [⟨S512x1, wrapped (iotaInDim S512 32 0)⟩, ⟨S512x1, wrapped dst⟩] concatenates_S512x1_S512x1_S512x2_d1

theorem pairs_zero (k : Fin 512) : pairs (ValueIdx.ix2 k (0 : Fin 2)) = BitVec.ofNat 32 k.val :=
  (show pairs (ValueIdx.ix2 k (0 : Fin 2)) = wrapped (iotaInDim S512 32 0) (ValueIdx.ix2 k (0 : Fin 1)) by
    unfold pairs
    change concatenate S512x2 1 [⟨S512x1, wrapped (iotaInDim S512 32 0)⟩, ⟨S512x1, wrapped dst⟩] concatenates_S512x1_S512x1_S512x2_d1 (ix2 k (0 : Fin 2)) = _
    pointwise
    rfl).trans (wrapped_word _ k k.isLt (iota_word k))
theorem pairs_one (k : Fin 512) : pairs (ValueIdx.ix2 k (1 : Fin 2)) = BitVec.ofNat 32 (goes k.val) :=
  (show pairs (ValueIdx.ix2 k (1 : Fin 2)) = wrapped dst (ValueIdx.ix2 k (0 : Fin 1)) by
    unfold pairs
    change concatenate S512x2 1 [⟨S512x1, wrapped (iotaInDim S512 32 0)⟩, ⟨S512x1, wrapped dst⟩] concatenates_S512x1_S512x1_S512x2_d1 (ix2 k (1 : Fin 2)) = _
    pointwise
    rfl).trans (wrapped_word _ k (goes_lt k.isLt) (dst_word k))

local notation "𝕤" => scatter_S512x512_S512x2_S512_n_01_01_1

theorem start_word (k : Fin 512) (q : Fin 2) : ScatterDims.start 𝕤 (ValueIdx.ix1 k) pairs q = (pairs (ValueIdx.ix2 k q)).toInt := by
  have hm : q ∈ ScatterDims.scatterDimsToOperandDims 𝕤 := by
    show q ∈ [(0 : Fin 2), 1]
    fin_cases q <;> simp
  unfold ScatterDims.start
  rw [dif_pos hm]
  refine congrArg (fun i => (pairs i).toInt) (funext fun b => ?_)
  fin_cases q <;> fin_cases b <;> rfl

theorem lands (k r c : Fin 512) : ScatterDims.resultIdx? 𝕤 (ValueIdx.ix1 k) pairs = some (ValueIdx.ix2 r c) ↔ k = r ∧ goes k.val = c.val := by
  have hwin : ∀ q : Fin 2, ScatterDims.window 𝕤 (ValueIdx.ix1 k) q = 0 := fun q => by
    fin_cases q <;> rfl
  have hk := k.isLt
  have hg := goes_lt k.isLt
  refine (Routing.resultIdx?_ix2 𝕤 (ValueIdx.ix1 k) pairs r c).trans ?_
  rw [start_word, start_word, hwin, hwin, pairs_zero, pairs_one, StableHlo.Predicate.toInt_ofNat_small _ (by omega),
    StableHlo.Predicate.toInt_ofNat_small _ (by omega), Fin.ext_iff]
  omega

/-- The permutation: row `r` has its one at the column it goes to. -/
theorem perm_at (r c : Fin 512) : perm (F := Ideal) (iotaInDim S512 32 0) dst (ix2 r c) = if goes r.val = c.val then (1 : EReal) else 0 := by
  show Host.scatter 𝕤 (fun _ b => b) (broadcastInDim S512x512 ![] bcast_S_S512x512 (constant S_ .bf16 0x0000#16)) pairs
    (broadcastInDim S512 ![] bcast_S_S512 (constant S_ .bf16 0x3F80#16)) (ix2 r c) = _
  by_cases h : goes r.val = c.val
  · rw [if_pos h]
    refine (Routing.scatter_set_hit 𝕤 _ pairs _ (ValueIdx.ix2 r c) (Ideal.ofBits .bf16 0x3F80#16) (fun _ _ => rfl) (ValueIdx.ix1 r) ((lands r r c).2 ⟨rfl, h⟩)).trans ?_
    simp
  · rw [if_neg h]
    refine (Routing.scatter_set_miss 𝕤 _ pairs _ (ValueIdx.ix2 r c) fun k hk => ?_).trans ?_
    · rw [ValueIdx.eq_ix1 (n := 512) k] at hk
      have := (lands _ r c).1 hk
      exact h (this.1 ▸ this.2)
    · show Ideal.ofBits .bf16 0x0000#16 = 0
      simp

/-! ## The bias -/

theorem biasSplit_even (b : FVec Ideal S32x512 .f32) (e : Fin 32) (f : Fin 256) :
    biasSplit b (ix3 e (0 : Fin 1) (⟨f.val, by omega⟩ : Fin 512)) = b (ix2 e (⟨2 * f.val, by omega⟩ : Fin 512)) := by
  unfold biasSplit
  pointwise
  simp only [Nat.mul_comm]
theorem biasSplit_odd (b : FVec Ideal S32x512 .f32) (e : Fin 32) (f : Fin 256) :
    biasSplit b (ix3 e (0 : Fin 1) (⟨256 + f.val, by omega⟩ : Fin 512)) = b (ix2 e (⟨2 * f.val + 1, by omega⟩ : Fin 512)) := by
  unfold biasSplit
  pointwise
  simp only [Nat.mul_comm]

/-! ## The first projection -/

theorem k0_pay1_at (v0 : FVec Ideal S1x2048x512 .f32) (v3 : FVec Ideal S512x512 .bf16) (d : Fin 2048) (j : Fin 512) :
    k0_pay1 (F := Ideal) v0 v3 (ix3 (0 : Fin 1) d j) = (∑ x : Fin 512, v0 (ix3 (0 : Fin 1) d x) * v3 (ix2 x j) : EReal) := by
  unfold k0_pay1
  pointwise

variable (V : Dev nD → Valuation τ sig (Elt Ideal)) (c : Dev nD)

/-- The permuted weights: each expert's block times the matrix. -/
def moved (W : FVec Ideal S32x2048x512 .f32) (P : FVec Ideal S512x512 .bf16) : FVec Ideal S32x2048x512 .bf16 :=
  fun i => (∑ x : Fin 512, W (ix3 (i 0) (i 1) x) * P (ix2 x (i 2)) : EReal)

theorem index0 : ∀ t : Fin grid0.N, win0_0.index t = ![(grid0.coords t 0).val, 0, 0] := by decide +kernel
theorem index1 : ∀ t : Fin grid0.N, win0_1.index t = ![0, 0] := by decide +kernel
theorem index2 : ∀ t : Fin grid0.N, win0_2.index t = ![(grid0.coords t 0).val, 0, 0] := by decide +kernel

theorem arr0 : (dat0 V c).arrAt (2 : Fin 3) cfg0.N = moved (V c main_arg2) (V c main_v77) := by
  refine (dat0 V c).arrAt_eq_of_covers 2 _ (by decide +kernel) fun t hf y => ?_
  blk_simp
  rw [dat0_after2]
  have hy : (y : S1x2048x512.Idx) = ix3 (0 : Fin 1) (y 1) (y 2) := funext fun a => match a with
    | 0 => Subsingleton.elim (α := Fin 1) _ _
    | 1 => rfl
    | 2 => rfl
  refine (congrArg (k0_pay1 (F := Ideal) (blk0 V c 0 t) (blk0 V c 1 t)) hy).trans ?_
  refine (k0_pay1_at _ _ _ _).trans ?_
  unfold moved
  refine Finset.sum_congr rfl fun x _ => ?_
  have e0 : blk0 V c 0 t (ix3 (0 : Fin 1) (y 1) x) = V c main_arg2 (ix3 ((win0_2.blk t).view.emb y 0) ((win0_2.blk t).view.emb y 1) x) := by
    blk_ext [blk0, index0 t, index2 t]
  have e1 : blk0 V c 1 t (ix2 x (y 2)) = V c main_v77 (ix2 x ((win0_2.blk t).view.emb y 2)) := by
    blk_ext [blk0, index1 t, index2 t]
  rw [e0, e1]

theorem moved_even (W : FVec Ideal S32x2048x512 .f32) (e : Fin 32) (k : Fin 2048) (f : Fin 256) :
    moved W (perm (iotaInDim S512 32 0) dst) (ix3 e k (⟨f.val, by omega⟩ : Fin 512)) = W (ix3 e k (⟨2 * f.val, by omega⟩ : Fin 512)) := by
  show (∑ x : Fin 512, W (ix3 e k x) * perm (F := Ideal) (iotaInDim S512 32 0) dst (ix2 x (⟨f.val, by omega⟩ : Fin 512)) : EReal) = _
  have hf := f.isLt
  rw [Finset.sum_eq_single (⟨2 * f.val, by omega⟩ : Fin 512)]
  · rw [perm_at, if_pos (by unfold goes; simp), mul_one]
  · intro x _ hx
    rw [perm_at, if_neg, mul_zero]
    intro h
    refine hx (Fin.ext ?_)
    unfold goes at h
    change _ = f.val at h
    show x.val = 2 * f.val
    split at h <;> omega
  · intro h; exact absurd (Finset.mem_univ _) h

theorem moved_odd (W : FVec Ideal S32x2048x512 .f32) (e : Fin 32) (k : Fin 2048) (f : Fin 256) :
    moved W (perm (iotaInDim S512 32 0) dst) (ix3 e k (⟨256 + f.val, by omega⟩ : Fin 512)) = W (ix3 e k (⟨2 * f.val + 1, by omega⟩ : Fin 512)) := by
  show (∑ x : Fin 512, W (ix3 e k x) * perm (F := Ideal) (iotaInDim S512 32 0) dst (ix2 x (⟨256 + f.val, by omega⟩ : Fin 512)) : EReal) = _
  have hf := f.isLt
  rw [Finset.sum_eq_single (⟨2 * f.val + 1, by omega⟩ : Fin 512)]
  · rw [perm_at, if_pos (goes_odd f.val), mul_one]
  · intro x _ hx
    rw [perm_at, if_neg, mul_zero]
    intro h
    refine hx (Fin.ext ?_)
    unfold goes at h
    change _ = 256 + f.val at h
    show x.val = 2 * f.val + 1
    have := x.isLt
    split at h <;> omega
  · intro h; exact absurd (Finset.mem_univ _) h

/-- What the experts' call reads of the first projection. -/
theorem V18_v78_moved (m : (ℓ : Loc nD τ sig) → Buf (Elt Ideal) ℓ) (c : Dev nD) :
    V18 m (outs0 m) c main_v78 = moved (m ((c : Thread nD τ).loc main_arg2)) (perm (iotaInDim S512 32 0) dst) := by
  refine (V18_v78 m (outs0 m) c).trans ?_
  unfold outs0
  refine (Pipeline.afterRegion_arr (dat0 (fun c => V16 m c) c) (V16 m c) winFacts0.arr_inj (2 : Fin 3)).trans ?_
  rw [arr0, V16_v77, V16_arg m c main_arg2 (.inr (.inl rfl))]

end Cert.Proof

end
-- ==== Proof.Value.Kernel.lean ====
/-
  What the experts' call leaves, entry by entry.
-/
module

public import proofs.«01_k».proof.Proof.Tables
public import proofs.«01_k».proof.Proof.Value.Spec
public import proofs.«01_k».proof.Proof.Value.Reference
public import proofs.«01_k».proof.Proof.Value.Weights
public import Idealize.ShloMosaic.Lib.Pipeline.Covers

@[expose] public section

set_option maxRecDepth 16384
set_option Elab.async false

noncomputable section

namespace Cert.Proof

open Cert.KernelIdeal Cert.KernelIdeal.Gen Cert.KernelIdeal.Facts
open Idealize.ShloMosaic Idealize.ShloMosaic.TcCoe

/-- The two products of a tile at an entry, the first half of the columns the gate's input. -/
theorem k1_pay2_at (v8 : Vec Ideal S512x1024 .i32) (v13 : Vec Ideal S1x2048x512 .bf16) (v16 : Vec Ideal S1x1x512 .f32) (v36 : Vec Ideal S1x256x2048 .bf16)
    (r : Fin 512) (n : Fin 2048) : k1_pay2 (F := Ideal) v8 v13 v16 v36 (ix2 r n)
      = (∑ f : Fin 256, gated (up (fun k => v8 (ix2 r k)) (fun k => v13 (ix3 (0 : Fin 1) k (⟨f.val, by omega⟩ : Fin 512))) + v16 (ix3 (0 : Fin 1) (0 : Fin 1) (⟨f.val, by omega⟩ : Fin 512)))
        (up (fun k => v8 (ix2 r k)) (fun k => v13 (ix3 (0 : Fin 1) k (⟨256 + f.val, by omega⟩ : Fin 512))) + v16 (ix3 (0 : Fin 1) (0 : Fin 1) (⟨256 + f.val, by omega⟩ : Fin 512)))
        * v36 (ix3 (0 : Fin 1) f n) : EReal) := by
  unfold k1_pay2 gated up lo hi
  pointwise

theorem k1_pay1_at (i : S512x2048.Idx) : k1_pay1 (F := Ideal) i = (0 : EReal) := by
  show Ideal.ofBits .bf16 0x0000#16 = 0
  simp

section Tiles

variable {x : IVec S32 32} {f : Nat → Nat} (hx : Counted x f)

theorem at0 (t : Fin (cfg1 (adm (F := Ideal) hx)).N) : ((cfg1 (adm (F := Ideal) hx)).win (0 : Fin 5)).index t = ![ge f (grid1.coords t 0).val, 0] :=
  (map0 (F := Ideal) x (grid1.coords t)).trans (by rw [gEff_at hx])
theorem at1 (t : Fin (cfg1 (adm (F := Ideal) hx)).N) : ((cfg1 (adm (F := Ideal) hx)).win (1 : Fin 5)).index t = ![own f (grid1.coords t 0).val, 0, 0] :=
  (map1 (F := Ideal) x (grid1.coords t)).trans (by rw [expertOf_at hx])
theorem at2 (t : Fin (cfg1 (adm (F := Ideal) hx)).N) : ((cfg1 (adm (F := Ideal) hx)).win (2 : Fin 5)).index t = ![own f (grid1.coords t 0).val, 0, 0] :=
  (map2 (F := Ideal) x (grid1.coords t)).trans (by rw [expertOf_at hx])
theorem at3 (t : Fin (cfg1 (adm (F := Ideal) hx)).N) : ((cfg1 (adm (F := Ideal) hx)).win (3 : Fin 5)).index t = ![own f (grid1.coords t 0).val, 0, 0] :=
  (map3 (F := Ideal) x (grid1.coords t)).trans (by rw [expertOf_at hx])
theorem map4 (i : grid1.Coords) : cc1_transform_4 i = ![(i 0).val, 0] := by
  have h : (i 0).val < 225 := (i 0).isLt
  unfold cc1_transform_4
  simp only
  rw [toNat_word (by omega)]
  rfl
theorem at4 (t : Fin (cfg1 (adm (F := Ideal) hx)).N) : ((cfg1 (adm (F := Ideal) hx)).win (4 : Fin 5)).index t = ![(grid1.coords t 0).val, 0] := map4 _

theorem nblk4_0 : ((cfg1 (adm (F := Ideal) hx)).win (4 : Fin 5)).nblk (0 : Fin 2) = 225 := by
  show (115200 + 512 - 1) / 512 = 225
  decide
theorem nblk4_1 : ((cfg1 (adm (F := Ideal) hx)).win (4 : Fin 5)).nblk (1 : Fin 2) = 1 := by
  show (2048 + 2048 - 1) / 2048 = 1
  decide

/-- The grid point of a tile. -/
def pointOf (g : Fin 225) : grid1.Coords := fun d => match d with | ⟨0, _⟩ => g

theorem covers4 : ((cfg1 (adm (F := Ideal) hx)).win (4 : Fin 5)).Covers := by
  refine ((cfg1 (adm (F := Ideal) hx)).win (4 : Fin 5)).covers_of_indexMap_surj rfl (show ∀ a : Fin 2, 0 < S512x2048.size a by decide) fun β => ?_
  have h0 : (β (0 : Fin 2)).val < 225 := Nat.lt_of_lt_of_eq (β (0 : Fin 2)).isLt (nblk4_0 hx)
  have h1 : (β (1 : Fin 2)).val < 1 := Nat.lt_of_lt_of_eq (β (1 : Fin 2)).isLt (nblk4_1 hx)
  refine ⟨pointOf ⟨(β (0 : Fin 2)).val, h0⟩, fun a => ?_⟩
  have e : ∀ b : Fin 2, cc1_transform_4 (pointOf ⟨(β (0 : Fin 2)).val, h0⟩) b = ![(β (0 : Fin 2)).val, 0] b := congrFun (map4 _)
  match a with
  | ⟨0, _⟩ => exact e 0
  | ⟨1, _⟩ => exact (e 1).trans (Nat.lt_one_iff.1 h1).symm

variable (V : Dev nD → Valuation τ sig (Elt Ideal)) (c : Dev nD)

/-- The rows' values: each tile's expert over its row, its halves of the first projection given apart; zero past the last expert's tiles. -/
def tiles (A : IVec S115200x1024 32) (U : FVec Ideal S32x2048x512 .bf16) (B : FVec Ideal S32x1x512 .f32) (D : FVec Ideal S32x256x2048 .bf16) :
    FVec Ideal S115200x2048 .bf16 := fun i =>
  if (i 0).val / 512 < tend f 31 then
    (∑ q : Fin 256, gated (up (fun k => A (ix2 (i 0) k)) (fun k => U (ix3 (expertAt hx ((i 0).val / 512)) k (⟨q.val, by omega⟩ : Fin 512)))
        + B (ix3 (expertAt hx ((i 0).val / 512)) (0 : Fin 1) (⟨q.val, by omega⟩ : Fin 512)))
      (up (fun k => A (ix2 (i 0) k)) (fun k => U (ix3 (expertAt hx ((i 0).val / 512)) k (⟨256 + q.val, by omega⟩ : Fin 512)))
        + B (ix3 (expertAt hx ((i 0).val / 512)) (0 : Fin 1) (⟨256 + q.val, by omega⟩ : Fin 512)))
      * D (ix3 (expertAt hx ((i 0).val / 512)) q (i 1)) : EReal)
  else (0 : EReal)

section Blocks
variable (t : Fin (cfg1 (adm (F := Ideal) hx)).N)

theorem b0 (h : (grid1.coords t 0).val < tend f 31) (p : Fin 512) (k : Fin 1024) (r : Fin 115200) (hr : r.val = (grid1.coords t 0).val * 512 + p.val) :
    blk1 (adm (F := Ideal) hx) V c (0 : Fin 5) t (ix2 p k) = V c main_arg0 (ix2 r k) := by
  blk_ext [blk1, at0 hx t, ge_of_lt f h]
theorem b1 (k : Fin 2048) (j : Fin 512) : blk1 (adm (F := Ideal) hx) V c (1 : Fin 5) t (ix3 (0 : Fin 1) k j)
    = V c main_v78 (ix3 (expertAt hx (grid1.coords t 0).val) k j) := by
  blk_ext [blk1, at1 hx t, expertAt]
theorem b2 (j : Fin 512) : blk1 (adm (F := Ideal) hx) V c (2 : Fin 5) t (ix3 (0 : Fin 1) (0 : Fin 1) j)
    = V c main_v52 (ix3 (expertAt hx (grid1.coords t 0).val) (0 : Fin 1) j) := by
  blk_ext [blk1, at2 hx t, expertAt]
theorem b3 (q : Fin 256) (n : Fin 2048) : blk1 (adm (F := Ideal) hx) V c (3 : Fin 5) t (ix3 (0 : Fin 1) q n)
    = V c main_v79 (ix3 (expertAt hx (grid1.coords t 0).val) q n) := by
  blk_ext [blk1, at3 hx t, expertAt]

theorem emb4_0 (y : (((cfg1 (adm (F := Ideal) hx)).win (4 : Fin 5)).xblock ((cfg1 (adm (F := Ideal) hx)).grid.coords t)).Idx) :
    ((((cfg1 (adm (F := Ideal) hx)).win (4 : Fin 5)).blk t).view.emb y (0 : Fin 2)).val = (grid1.coords t 0).val * 512 + (y (0 : Fin 2)).val := by
  blk_simp [at4 hx t]
theorem emb4_1 (y : (((cfg1 (adm (F := Ideal) hx)).win (4 : Fin 5)).xblock ((cfg1 (adm (F := Ideal) hx)).grid.coords t)).Idx) :
    ((((cfg1 (adm (F := Ideal) hx)).win (4 : Fin 5)).blk t).view.emb y (1 : Fin 2)).val = (y (1 : Fin 2)).val := by
  blk_simp [at4 hx t]

theorem word_adm (i : grid1.Coords) : word (F := Ideal) ((adm (F := Ideal) hx).1 1) i = rowsOf x (tile i) :=
  (congrArg (fun pf : pre1.Contents (Elt Ideal) => word (F := Ideal) (pf 1) i) (adm_val (F := Ideal) hx)).trans
    ((congrArg (fun T : S225.Idx → Elt Ideal .i32 => word (F := Ideal) T i) (tabs_one (F := Ideal))).trans (word_eq (F := Ideal) (rowsOf x) i))

theorem out1_zero (a : (pcfg1 (F := Ideal)).Adm) (t : Fin (cfg1 a).N) (h : k1_cond1 (word (F := Ideal) (a.1 1) ((cfg1 a).grid.coords t)) = 1#1) :
    out1 a V c t = k1_pay1 (F := Ideal) := if_pos h
theorem out1_live (a : (pcfg1 (F := Ideal)).Adm) (t : Fin (cfg1 a).N) (h : ¬ (k1_cond1 (word (F := Ideal) (a.1 1) ((cfg1 a).grid.coords t)) = 1#1)) :
    out1 a V c t = k1_pay2 (F := Ideal) (blk1 a V c (0 : Fin 5) t) (blk1 a V c (1 : Fin 5) t) (blk1 a V c (2 : Fin 5) t) (blk1 a V c (3 : Fin 5) t) := if_neg h

/-- What the body leaves at an entry of a tile. -/
theorem out1_at (p : Fin 512) (n : Fin 2048) (r : Fin 115200) (hr : r.val = (grid1.coords t 0).val * 512 + p.val) :
    out1 (adm (F := Ideal) hx) V c t (ix2 p n) = tiles hx (V c main_arg0) (V c main_v78) (V c main_v52) (V c main_v79) (ix2 r n) := by
  have hg : (grid1.coords t 0).val < 225 := (grid1.coords t 0).isLt
  have hp := p.isLt
  have hq : r.val / 512 = (grid1.coords t 0).val := by omega
  obtain ⟨N, hN, hN512, hNiff⟩ := hx.rowsOf_word ⟨(grid1.coords t 0).val, hg⟩
  have hw : word (F := Ideal) ((adm (F := Ideal) hx).1 1) (grid1.coords t) = BitVec.ofNat 32 N := (word_adm hx (grid1.coords t)).trans hN
  unfold tiles
  simp only [ix2_0, ix2_1, hq]
  by_cases h : (grid1.coords t 0).val < tend f 31
  · have hN0 : ¬ (k1_cond1 (word (F := Ideal) ((adm (F := Ideal) hx).1 1) (grid1.coords t)) = 1#1) := by
      rw [hw, cond1_iff hx hN512]; have := hNiff.2 h; omega
    rw [if_pos h]
    refine (congrFun (out1_live V c _ t hN0) _).trans ?_
    refine (k1_pay2_at _ _ _ _ _ _).trans ?_
    refine Finset.sum_congr rfl fun q _ => ?_
    simp only [b0 hx V c t h p _ r hr, b1, b2, b3]
  · have hN0 : k1_cond1 (word (F := Ideal) ((adm (F := Ideal) hx).1 1) (grid1.coords t)) = 1#1 := by
      rw [hw, cond1_iff hx hN512]; have := mt hNiff.1 h; omega
    rw [if_neg h]
    exact (congrFun (out1_zero V c _ t hN0) _).trans (k1_pay1_at _)

theorem out1_entry (y : S512x2048.Idx) (i : S115200x2048.Idx) (h0 : (i (0 : Fin 2)).val = (grid1.coords t 0).val * 512 + (y (0 : Fin 2)).val)
    (h1 : (i (1 : Fin 2)).val = (y (1 : Fin 2)).val) :
    out1 (adm (F := Ideal) hx) V c t y = tiles hx (V c main_arg0) (V c main_v78) (V c main_v52) (V c main_v79) i := by
  have e : (i (1 : Fin 2) : Fin 2048) = y (1 : Fin 2) := Fin.ext h1
  rw [eq_ix2 (n0 := 512) (n1 := 2048) y, eq_ix2 (n0 := 115200) (n1 := 2048) i, e]
  exact out1_at hx V c t _ _ _ h0

end Blocks

theorem dat1_after4 (a : (pcfg1 (F := Ideal)).Adm) (t : Fin (cfg1 a).N) : (dat1 a V c).after (4 : Fin 5) t = out1 a V c t := rfl

/-- What the call leaves. -/
theorem arr4 : (dat1 (adm (F := Ideal) hx) V c).arrAt (4 : Fin 5) (cfg1 (adm (F := Ideal) hx)).N
    = tiles hx (V c main_arg0) (V c main_v78) (V c main_v52) (V c main_v79) := by
  refine (dat1 (adm (F := Ideal) hx) V c).arrAt_eq_of_covers (4 : Fin 5) _ (covers4 hx) fun t hf y => ?_
  blk_simp
  exact (congrFun (dat1_after4 V c (adm (F := Ideal) hx) t) y).trans (out1_entry hx V c t y _ (emb4_0 hx t y) (emb4_1 hx t y))

end Tiles

end Cert.Proof

end
-- ==== Proof.Algebraic.lean ====
/-
  The algebraic claim: over the ideal values the kernel's result and the reference's are the same array.
-/
module

public import proofs.«01_k».proof.Proof.Frames
public import proofs.«01_k».proof.Proof.Value.Kernel

@[expose] public section

set_option maxRecDepth 16384

noncomputable section

namespace Cert.Proof

open Idealize.ShloMosaic Idealize.ShloMosaic.TcCoe Idealize.SL.Sem

section Entry
open Cert.KernelIdeal Cert.KernelIdeal.Gen Cert.KernelIdeal.Facts

variable {x : IVec S32 32} {f : Nat → Nat} (hx : Counted x f)

/-- The call's value on what the program hands it is the reference's. -/
theorem tiles_eq (A : IVec S115200x1024 32) (W : FVec Ideal S32x2048x512 .f32) (B : FVec Ideal S32x512 .f32) (D : FVec Ideal S32x256x2048 .f32) :
    tiles hx A (moved W (perm (iotaInDim S512 32 0) dst)) (biasSplit B) (truncf .bf16 D bitsLt_bf16_f32) = refR (F := Ideal) (ownR x) (endR x) A W B D := by
  funext i
  rw [eq_ix2 (n0 := 115200) (n1 := 2048) i]
  refine Eq.trans ?_ (refR_value hx A W B D (i 0) (i 1)).symm
  have e : ∀ q : Fin 256, (gated (up (fun k => A (ix2 (i 0) k)) (fun k => moved W (perm (iotaInDim S512 32 0) dst) (ix3 (expertAt hx ((i 0).val / 512)) k (⟨q.val, by omega⟩ : Fin 512)))
        + biasSplit B (ix3 (expertAt hx ((i 0).val / 512)) (0 : Fin 1) (⟨q.val, by omega⟩ : Fin 512)))
      (up (fun k => A (ix2 (i 0) k)) (fun k => moved W (perm (iotaInDim S512 32 0) dst) (ix3 (expertAt hx ((i 0).val / 512)) k (⟨256 + q.val, by omega⟩ : Fin 512)))
        + biasSplit B (ix3 (expertAt hx ((i 0).val / 512)) (0 : Fin 1) (⟨256 + q.val, by omega⟩ : Fin 512))) : EReal)
      = gated (up (fun k => A (ix2 (i 0) k)) (fun k => W (ix3 (expertAt hx ((i 0).val / 512)) k (⟨2 * q.val, by omega⟩ : Fin 512))) + B (ix2 (expertAt hx ((i 0).val / 512)) (⟨2 * q.val, by omega⟩ : Fin 512)))
        (up (fun k => A (ix2 (i 0) k)) (fun k => W (ix3 (expertAt hx ((i 0).val / 512)) k (⟨2 * q.val + 1, by omega⟩ : Fin 512))) + B (ix2 (expertAt hx ((i 0).val / 512)) (⟨2 * q.val + 1, by omega⟩ : Fin 512))) := fun q =>
    congrArg₂ gated
      (congrArg₂ (fun a b : EReal => a + b) (congrArg (up _) (funext fun k => moved_even W _ k q)) (biasSplit_even B _ q))
      (congrArg₂ (fun a b : EReal => a + b) (congrArg (up _) (funext fun k => moved_odd W _ k q)) (biasSplit_odd B _ q))
  exact if_congr Iff.rfl (Finset.sum_congr rfl fun q _ => congrArg (fun a : EReal => a * D (ix3 (expertAt hx ((i 0).val / 512)) q (i 1))) (e q)) rfl

variable (m : (ℓ : Loc nD τ sig) → Buf (Elt Ideal) ℓ)

theorem result_eq (hx : Counted (counts m 0) f) (c : Dev nD) : result m (adm hx) c
    = refR (F := Ideal) (ownR (counts m 0)) (endR (counts m 0)) (m ((c : Thread nD τ).loc main_arg0)) (m ((c : Thread nD τ).loc main_arg2))
        (m ((c : Thread nD τ).loc main_arg3)) (m ((c : Thread nD τ).loc main_arg4)) := by
  refine (arr4 hx (fun c => V18 m (outs0 m) c) c).trans ?_
  rw [V18_v78_moved, V18_v79, V18_of_V16 m (outs0 m) c main_v52 (by decide) (by decide), V16_v52,
    V18_of_V16 m (outs0 m) c main_arg0 (by decide) (by decide), V16_arg m c main_arg0 (.inl rfl)]
  exact tiles_eq hx _ _ _ _

end Entry

theorem algebraic : Cert.algebraic_KernelIdeal_ReferenceIdeal := fun m g m' g' hp ha => by
  obtain ⟨f, hx⟩ := counted_ideal m hp
  refine ⟨fun c => result m (adm hx) c, ?_, ?_⟩
  · exact (θ_run (Cert.KernelIdeal.defs (F := Ideal)) _ _).mono (fun _ h c => h.1 c) (run_counted m hx g)
  · refine (θ_run (Cert.ReferenceIdeal.defs (F := Ideal)) _ _).mono (fun _ h c => ⟨(h c).1.trans ?_, (h c).2⟩) (Cert.ReferenceIdeal.Value.run (F := Ideal) m' g')
    obtain rfl : c = 0 := Subsingleton.elim _ _
    obtain ⟨h0, h1, h2, h3, h4⟩ := ha 0
    refine Eq.trans ?_ (result_eq m hx 0).symm
    refine (res_eq m' 0).trans ?_
    rw [h0, h1, h2, h3, h4]

end Cert.Proof

end
-- ==== Proof.Merge.Reference.lean ====
/-
  What the merge of the two branches computes, entry by entry, and that its reference is that.
-/
module

public import proofs.«01_k».proof.Proof.Gen.MergeReferenceIdeal.Run
public import Idealize.ShloMosaic.Lib.Pipeline.ValueKit
public import Idealize.ShloMosaic.Lib.ValueIdx

@[expose] public section

set_option maxRecDepth 16384
set_option Elab.async false

noncomputable section

namespace Cert.Proof.Merge

open Cert.MergeReferenceIdeal Cert.MergeReferenceIdeal.Gen Cert.MergeReferenceIdeal.Facts
open Idealize.ShloMosaic Idealize.ShloMosaic.TcCoe

/-- One entry of a merged row: each branch's product with its weights, times the logistic function of its gate. -/
def mixed (g0 g1 b0 b1 : EReal) (og os wg ws : Fin 1024 → EReal) : EReal :=
  Ideal.logistic (g0 + b0) * (∑ j : Fin 1024, og j * wg j) + Ideal.logistic (g1 + b1) * (∑ j : Fin 1024, os j * ws j)

/-- The merged rows through the output projection, added to the rows. -/
def merged (a0 : FVec Ideal S16384x2048 .f32) (a1 a2 : FVec Ideal S16384x1024 .bf16) (a3 : FVec Ideal S16384x9216 .bf16) (a4 : FVec Ideal S2x2048 .f32)
    (a5 a6 : FVec Ideal S1024x2048 .f32) (a7 : FVec Ideal S2048x2048 .f32) (r : Fin 16384) (n : Fin 2048) : EReal :=
  a0 (ix2 r n) + ∑ k : Fin 2048, mixed (a3 (ix2 r (⟨k.val, by omega⟩ : Fin 9216))) (a3 (ix2 r (⟨2048 + k.val, by omega⟩ : Fin 9216)))
    (a4 (ix2 (0 : Fin 2) k)) (a4 (ix2 (1 : Fin 2) k)) (fun j => a1 (ix2 r j)) (fun j => a2 (ix2 r j)) (fun j => a5 (ix2 j k)) (fun j => a6 (ix2 j k))
    * a7 (ix2 k n)

/-- The reference's composed term. -/
def refM {F : FTy → Type} [FloatOps F] (a0 : FVec F S16384x2048 .f32) (a1 a2 : FVec F S16384x1024 .bf16) (a3 : FVec F S16384x9216 .bf16) (a4 : FVec F S2x2048 .f32)
    (a5 a6 : FVec F S1024x2048 .f32) (a7 : FVec F S2048x2048 .f32) : FVec F S16384x2048 .f32 :=
  addf a0 (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (addf (extractStridedSlice S16384x2048 ![0, 0] (extf .f32 (extractStridedSlice S16384x4096 ![0, 0] a3 slices_S16384x9216_S16384x4096_0_0) bitsLt_bf16_f32) slices_S16384x4096_S16384x2048_0_0) (broadcastInDim S16384x2048 ![0, 1] bcast_S1x2048_S16384x2048_0_1 (broadcastInDim S1x2048 ![1] bcast_S2048_S1x2048_1 (shapeCast _ (extractStridedSlice S1x2048 ![0, 0] a4 slices_S2x2048_S1x2048_0_0) shapeCasts_S1x2048_S2048)))))))) (Host.dotGeneral dot_S16384x1024_S1024x2048_S16384x2048_1_0_0_1_n_n none (extf .f32 a1 bitsLt_bf16_f32) a5)) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (addf (extractStridedSlice S16384x2048 ![0, 2048] (extf .f32 (extractStridedSlice S16384x4096 ![0, 0] a3 slices_S16384x9216_S16384x4096_0_0) bitsLt_bf16_f32) slices_S16384x4096_S16384x2048_0_2048) (broadcastInDim S16384x2048 ![0, 1] bcast_S1x2048_S16384x2048_0_1 (broadcastInDim S1x2048 ![1] bcast_S2048_S1x2048_1 (shapeCast _ (extractStridedSlice S1x2048 ![1, 0] a4 slices_S2x2048_S1x2048_1_0) shapeCasts_S1x2048_S2048)))))))) (Host.dotGeneral dot_S16384x1024_S1024x2048_S16384x2048_1_0_0_1_n_n none (extf .f32 a2 bitsLt_bf16_f32) a6))) a7)

theorem refM_at (a0 : FVec Ideal S16384x2048 .f32) (a1 a2 : FVec Ideal S16384x1024 .bf16) (a3 : FVec Ideal S16384x9216 .bf16) (a4 : FVec Ideal S2x2048 .f32)
    (a5 a6 : FVec Ideal S1024x2048 .f32) (a7 : FVec Ideal S2048x2048 .f32) (r : Fin 16384) (n : Fin 2048) :
    refM (F := Ideal) a0 a1 a2 a3 a4 a5 a6 a7 (ix2 r n) = merged a0 a1 a2 a3 a4 a5 a6 a7 r n := by
  unfold refM merged mixed Ideal.logistic
  pointwise
  try rfl

end Cert.Proof.Merge

end
-- ==== Proof.Merge.Kernel.lean ====
/-
  What the merge's call leaves, entry by entry.
-/
module

public import proofs.«01_k».proof.Proof.Merge.Reference
public import proofs.«01_k».proof.Defs
public import proofs.«01_k».proof.Proof.Gen.MergeIdeal.Value
public import Idealize.ShloMosaic.Lib.Pipeline.ValueKit
public import Idealize.ShloMosaic.Lib.StableHlo.Run
public import Idealize.ShloMosaic.Lib.ValueIdx

@[expose] public section

set_option maxRecDepth 16384
set_option Elab.async false

noncomputable section

namespace Cert.Proof.Merge

open Cert.MergeIdeal Cert.MergeIdeal.Gen Cert.MergeIdeal.Facts
open Idealize.ShloMosaic Idealize.ShloMosaic.TcCoe Idealize.SL.Sem

theorem k0_pay1_at (v0 : Vec Ideal S512x1024 .bf16) (v1 : Vec Ideal S1024x2048 .bf16) (v4 : Vec Ideal S512x1024 .bf16) (v5 : Vec Ideal S1024x2048 .bf16)
    (v8 : Vec Ideal S512x2048 .bf16) (v10 : Vec Ideal S1x2048 .f32) (v14 : Vec Ideal S512x2048 .bf16) (v16 : Vec Ideal S1x2048 .f32)
    (v24 : Vec Ideal S512x2048 .f32) (v25 : Vec Ideal S2048x2048 .bf16) (p : Fin 512) (n : Fin 2048) :
    k0_pay1 (F := Ideal) v0 v1 v4 v5 v8 v10 v14 v16 v24 v25 (ix2 p n)
      = (v24 (ix2 p n) + ∑ k : Fin 2048, mixed (v8 (ix2 p k)) (v14 (ix2 p k)) (v10 (ix2 (0 : Fin 1) k)) (v16 (ix2 (0 : Fin 1) k))
          (fun j => v0 (ix2 p j)) (fun j => v4 (ix2 p j)) (fun j => v1 (ix2 j k)) (fun j => v5 (ix2 j k)) * v25 (ix2 k n) : EReal) := by
  unfold k0_pay1 mixed
  pointwise

variable (m : (ℓ : Loc nD τ sig) → Buf (Elt Ideal) ℓ) (c : Dev nD)

theorem at0 : ∀ t : Fin grid0.N, win0_0.index t = ![(grid0.coords t 0).val, 0] := by decide +kernel
theorem at1 : ∀ t : Fin grid0.N, win0_1.index t = ![(grid0.coords t 0).val, 0] := by decide +kernel
theorem at2 : ∀ t : Fin grid0.N, win0_2.index t = ![(grid0.coords t 0).val, 0] := by decide +kernel
theorem at3 : ∀ t : Fin grid0.N, win0_3.index t = ![(grid0.coords t 0).val, 0] := by decide +kernel
theorem at4 : ∀ t : Fin grid0.N, win0_4.index t = ![(grid0.coords t 0).val, 1] := by decide +kernel
theorem at5 : ∀ t : Fin grid0.N, win0_5.index t = ![0, 0] := by decide +kernel
theorem at6 : ∀ t : Fin grid0.N, win0_6.index t = ![0, 0] := by decide +kernel
theorem at7 : ∀ t : Fin grid0.N, win0_7.index t = ![0, 0] := by decide +kernel
theorem at8 : ∀ t : Fin grid0.N, win0_8.index t = ![0, 0] := by decide +kernel
theorem at9 : ∀ t : Fin grid0.N, win0_9.index t = ![(grid0.coords t 0).val, 0] := by decide +kernel

variable (t : Fin cfg0.N)

theorem b0 (p : Fin 512) (k : Fin 2048) (r : Fin 16384) (hr : r.val = (grid0.coords t 0).val * 512 + p.val) :
    iblk m c 0 t (ix2 p k) = V m c main_arg0 (ix2 r k) := by blk_ext [iblk, at0 t]
theorem b1 (p : Fin 512) (k : Fin 1024) (r : Fin 16384) (hr : r.val = (grid0.coords t 0).val * 512 + p.val) :
    iblk m c 1 t (ix2 p k) = V m c main_arg1 (ix2 r k) := by blk_ext [iblk, at1 t]
theorem b2 (p : Fin 512) (k : Fin 1024) (r : Fin 16384) (hr : r.val = (grid0.coords t 0).val * 512 + p.val) :
    iblk m c 2 t (ix2 p k) = V m c main_arg2 (ix2 r k) := by blk_ext [iblk, at2 t]
theorem b3 (p : Fin 512) (k : Fin 2048) (r : Fin 16384) (hr : r.val = (grid0.coords t 0).val * 512 + p.val) :
    X0_3 m c t (ix2 p k) = V m c main_arg3 (ix2 r (⟨k.val, by omega⟩ : Fin 9216)) := by
  unfold X0_3 Pipeline.Window.fill
  rw [dif_pos (moved0_3 t _)]
  blk_ext [iblk, at3 t]
theorem b4 (p : Fin 512) (k : Fin 2048) (r : Fin 16384) (hr : r.val = (grid0.coords t 0).val * 512 + p.val) :
    X0_4 m c t (ix2 p k) = V m c main_arg3 (ix2 r (⟨2048 + k.val, by omega⟩ : Fin 9216)) := by
  unfold X0_4 Pipeline.Window.fill
  rw [dif_pos (moved0_4 t _)]
  blk_ext [iblk, at4 t]
theorem b5 (q : Fin 2) (k : Fin 2048) : iblk m c 5 t (ix2 q k) = V m c main_arg4 (ix2 q k) := by blk_ext [iblk, at5 t]
theorem b6 (j : Fin 1024) (k : Fin 2048) : iblk m c 6 t (ix2 j k) = V m c main_v0 (ix2 j k) := by blk_ext [iblk, at6 t]
theorem b7 (j : Fin 1024) (k : Fin 2048) : iblk m c 7 t (ix2 j k) = V m c main_v1 (ix2 j k) := by blk_ext [iblk, at7 t]
theorem b8 (j : Fin 2048) (k : Fin 2048) : iblk m c 8 t (ix2 j k) = V m c main_v2 (ix2 j k) := by blk_ext [iblk, at8 t]

theorem V_v0 : V m c main_v0 = m ((c : Thread nD τ).loc main_arg5) := by
  show StableHlo.after hostOps0 (fun b => m (c, b)) main_v0 = _
  after_results_simp
  rfl
theorem V_v1 : V m c main_v1 = m ((c : Thread nD τ).loc main_arg6) := by
  show StableHlo.after hostOps0 (fun b => m (c, b)) main_v1 = _
  after_results_simp
  rfl
theorem V_v2 : V m c main_v2 = m ((c : Thread nD τ).loc main_arg7) := by
  show StableHlo.after hostOps0 (fun b => m (c, b)) main_v2 = _
  after_results_simp
  rfl

theorem outs_at (p : Fin 512) (n : Fin 2048) (r : Fin 16384) (hr : r.val = (grid0.coords t 0).val * 512 + p.val) :
    outsAt0 m c t (ix2 p n) = merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) r n := by
  unfold outsAt0
  frame_out
  refine (k0_pay1_at _ _ _ _ _ _ _ _ _ _ p n).trans ?_
  have e0 : ∀ k : Fin 2048, View.ld (iblk m c 5 t) (Rect.unit (s := S2x2048) ![0, 0] ![1, 2048] inb_S2x2048_S1x2048_0_0) (ix2 (0 : Fin 1) k)
      = V m c main_arg4 (ix2 (0 : Fin 2) k) := fun k => by
    rw [← b5 m c t]
    exact congrArg (iblk m c 5 t) (funext fun a => Fin.ext (by match a with | ⟨0, _⟩ => rfl | ⟨1, _⟩ => exact (Nat.zero_add _).trans (Nat.one_mul _)))
  have e1 : ∀ k : Fin 2048, View.ld (iblk m c 5 t) (Rect.unit (s := S2x2048) ![1, 0] ![1, 2048] inb_S2x2048_S1x2048_1_0) (ix2 (0 : Fin 1) k)
      = V m c main_arg4 (ix2 (1 : Fin 2) k) := fun k => by
    rw [← b5 m c t]
    exact congrArg (iblk m c 5 t) (funext fun a => Fin.ext (by match a with | ⟨0, _⟩ => rfl | ⟨1, _⟩ => exact (Nat.zero_add _).trans (Nat.one_mul _)))
  unfold merged
  rw [← V_main_arg0 m c, ← V_main_arg1 m c, ← V_main_arg2 m c, ← V_main_arg3 m c, ← V_main_arg4 m c, ← V_v0 m c, ← V_v1 m c, ← V_v2 m c]
  refine congrArg₂ (fun a b : EReal => a + b) (b0 m c t p n r hr) (Finset.sum_congr rfl fun k _ => ?_)
  simp only [e0, e1, b1 m c t p _ r hr, b2 m c t p _ r hr, b3 m c t p _ r hr, b4 m c t p _ r hr, b6 m c t, b7 m c t, b8 m c t]

theorem emb9_0 (y : ((cfg0.win 9).xblock (cfg0.grid.coords t)).Idx) :
    (((cfg0.win 9).blk t).view.emb y (0 : Fin 2)).val = (grid0.coords t 0).val * 512 + (y (0 : Fin 2)).val := by
  blk_simp [at9 t]
theorem emb9_1 (y : ((cfg0.win 9).xblock (cfg0.grid.coords t)).Idx) :
    (((cfg0.win 9).blk t).view.emb y (1 : Fin 2)).val = (y (1 : Fin 2)).val := by
  blk_simp [at9 t]

/-- The merge's result, of the arguments' contents at launch. -/
def result : FVec Ideal S16384x2048 .f32 := fun i =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (i 0) (i 1)

theorem outs_entry (y : S512x2048.Idx) (i : S16384x2048.Idx) (h0 : (i (0 : Fin 2)).val = (grid0.coords t 0).val * 512 + (y (0 : Fin 2)).val)
    (h1 : (i (1 : Fin 2)).val = (y (1 : Fin 2)).val) : outsAt0 m c t y = result m c i := by
  have e : (i (1 : Fin 2) : Fin 2048) = y (1 : Fin 2) := Fin.ext h1
  rw [eq_ix2 (n0 := 512) (n1 := 2048) y]
  unfold result
  rw [e]
  exact outs_at m c t (y 0) (y 1) (i 0) h0

theorem arr9 : (dats m 0 c).arrAt 9 cfg0.N = result m c := by
  refine (dats m 0 c).arrAt_eq_of_covers 9 _ (by decide +kernel) fun t _ y => ?_
  refine (congrFun (after0_9 m c t) _).trans ?_
  exact outs_entry m c t y _ (emb9_0 t y) (emb9_1 t y)

theorem algebraic : Cert.algebraic_MergeIdeal_MergeReferenceIdeal := fun m g m' g' _ ha => by
  refine ⟨fun c => result m c, ?_, ?_⟩
  · exact (θ_run (Cert.MergeIdeal.defs (F := Ideal)) _ _).mono (fun _ h c => ⟨(h c).1.trans (arr9 m c), (h c).2⟩) (Cert.MergeIdeal.Value.run_blocks (F := Ideal) m g)
  · refine (θ_run (Cert.MergeReferenceIdeal.defs (F := Ideal)) _ _).mono (fun _ h c => ⟨(h c).1.trans ?_, (h c).2⟩) (Cert.MergeReferenceIdeal.Value.run (F := Ideal) m' g')
    obtain ⟨h0, h1, h2, h3, h4, h5, h6, h7⟩ := ha c
    rw [h0, h1, h2, h3, h4, h5, h6, h7]
    funext i
    rw [eq_ix2 (n0 := 16384) (n1 := 2048) i]
    exact refM_at _ _ _ _ _ _ _ _ (i 0) (i 1)

end Cert.Proof.Merge

end
-- ==== Proof.MergeSample.Reference.lean ====
/-
  What the merge of the two branches computes over the second group, entry by entry, and that its reference is that.
-/
module

public import proofs.«01_k».proof.Proof.Gen.MergeSampleReferenceIdeal.Run
public import Idealize.ShloMosaic.Lib.Pipeline.ValueKit
public import Idealize.ShloMosaic.Lib.ValueIdx

@[expose] public section

set_option maxRecDepth 8192
set_option Elab.async false

noncomputable section

namespace Cert.Proof.MergeSample

open Cert.MergeSampleReferenceIdeal Cert.MergeSampleReferenceIdeal.Gen Cert.MergeSampleReferenceIdeal.Facts
open Idealize.ShloMosaic Idealize.ShloMosaic.TcCoe

/-- One entry of a merged row: each branch's product with its weights, times the logistic function of its gate. -/
def mixed (g0 g1 b0 b1 : EReal) (og os wg ws : Fin 1024 → EReal) : EReal :=
  Ideal.logistic (g0 + b0) * (∑ j : Fin 1024, og j * wg j) + Ideal.logistic (g1 + b1) * (∑ j : Fin 1024, os j * ws j)

/-- The merged rows through the output projection, added to the rows. -/
def merged (a0 : FVec Ideal S8192x2048 .f32) (a1 a2 : FVec Ideal S8192x1024 .bf16) (a3 : FVec Ideal S8192x9216 .bf16) (a4 : FVec Ideal S2x2048 .f32)
    (a5 a6 : FVec Ideal S1024x2048 .f32) (a7 : FVec Ideal S2048x2048 .f32) (r : Fin 8192) (n : Fin 2048) : EReal :=
  a0 (ix2 r n) + ∑ k : Fin 2048, mixed (a3 (ix2 r (⟨k.val, by omega⟩ : Fin 9216))) (a3 (ix2 r (⟨2048 + k.val, by omega⟩ : Fin 9216)))
    (a4 (ix2 (0 : Fin 2) k)) (a4 (ix2 (1 : Fin 2) k)) (fun j => a1 (ix2 r j)) (fun j => a2 (ix2 r j)) (fun j => a5 (ix2 j k)) (fun j => a6 (ix2 j k))
    * a7 (ix2 k n)

/-- The reference's composed term. -/
def refM {F : FTy → Type} [FloatOps F] (a0 : FVec F S8192x2048 .f32) (a1 a2 : FVec F S8192x1024 .bf16) (a3 : FVec F S8192x9216 .bf16) (a4 : FVec F S2x2048 .f32)
    (a5 a6 : FVec F S1024x2048 .f32) (a7 : FVec F S2048x2048 .f32) : FVec F S8192x2048 .f32 :=
  addf a0 (Host.dotGeneral dot_S8192x2048_S2048x2048_S8192x2048_1_0_0_1_n_n none (addf (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 0] (extf .f32 (extractStridedSlice S8192x4096 ![0, 0] a3 slices_S8192x9216_S8192x4096_0_0) bitsLt_bf16_f32) slices_S8192x4096_S8192x2048_0_0) (broadcastInDim S8192x2048 ![0, 1] bcast_S1x2048_S8192x2048_0_1 (broadcastInDim S1x2048 ![1] bcast_S2048_S1x2048_1 (shapeCast _ (extractStridedSlice S1x2048 ![0, 0] a4 slices_S2x2048_S1x2048_0_0) shapeCasts_S1x2048_S2048)))))))) (Host.dotGeneral dot_S8192x1024_S1024x2048_S8192x2048_1_0_0_1_n_n none (extf .f32 a1 bitsLt_bf16_f32) a5)) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (extractStridedSlice S8192x2048 ![0, 2048] (extf .f32 (extractStridedSlice S8192x4096 ![0, 0] a3 slices_S8192x9216_S8192x4096_0_0) bitsLt_bf16_f32) slices_S8192x4096_S8192x2048_0_2048) (broadcastInDim S8192x2048 ![0, 1] bcast_S1x2048_S8192x2048_0_1 (broadcastInDim S1x2048 ![1] bcast_S2048_S1x2048_1 (shapeCast _ (extractStridedSlice S1x2048 ![1, 0] a4 slices_S2x2048_S1x2048_1_0) shapeCasts_S1x2048_S2048)))))))) (Host.dotGeneral dot_S8192x1024_S1024x2048_S8192x2048_1_0_0_1_n_n none (extf .f32 a2 bitsLt_bf16_f32) a6))) a7)

theorem refM_at (a0 : FVec Ideal S8192x2048 .f32) (a1 a2 : FVec Ideal S8192x1024 .bf16) (a3 : FVec Ideal S8192x9216 .bf16) (a4 : FVec Ideal S2x2048 .f32)
    (a5 a6 : FVec Ideal S1024x2048 .f32) (a7 : FVec Ideal S2048x2048 .f32) (r : Fin 8192) (n : Fin 2048) :
    refM (F := Ideal) a0 a1 a2 a3 a4 a5 a6 a7 (ix2 r n) = merged a0 a1 a2 a3 a4 a5 a6 a7 r n := by
  unfold refM merged mixed Ideal.logistic
  pointwise
  try rfl

end Cert.Proof.MergeSample

end
-- ==== Proof.MergeSample.Kernel.lean ====
/-
  What the merge's call leaves over the second group, entry by entry.
-/
module

public import proofs.«01_k».proof.Proof.MergeSample.Reference
public import proofs.«01_k».proof.Defs
public import proofs.«01_k».proof.Proof.Gen.MergeSampleIdeal.Value
public import Idealize.ShloMosaic.Lib.Pipeline.ValueKit
public import Idealize.ShloMosaic.Lib.StableHlo.Run
public import Idealize.ShloMosaic.Lib.ValueIdx

@[expose] public section

set_option maxRecDepth 8192
set_option Elab.async false

noncomputable section

namespace Cert.Proof.MergeSample

open Cert.MergeSampleIdeal Cert.MergeSampleIdeal.Gen Cert.MergeSampleIdeal.Facts
open Idealize.ShloMosaic Idealize.ShloMosaic.TcCoe Idealize.SL.Sem

theorem k0_pay1_at (v0 : Vec Ideal S512x1024 .bf16) (v1 : Vec Ideal S1024x2048 .bf16) (v4 : Vec Ideal S512x1024 .bf16) (v5 : Vec Ideal S1024x2048 .bf16)
    (v8 : Vec Ideal S512x2048 .bf16) (v10 : Vec Ideal S1x2048 .f32) (v14 : Vec Ideal S512x2048 .bf16) (v16 : Vec Ideal S1x2048 .f32)
    (v24 : Vec Ideal S512x2048 .f32) (v25 : Vec Ideal S2048x2048 .bf16) (p : Fin 512) (n : Fin 2048) :
    k0_pay1 (F := Ideal) v0 v1 v4 v5 v8 v10 v14 v16 v24 v25 (ix2 p n)
      = (v24 (ix2 p n) + ∑ k : Fin 2048, mixed (v8 (ix2 p k)) (v14 (ix2 p k)) (v10 (ix2 (0 : Fin 1) k)) (v16 (ix2 (0 : Fin 1) k))
          (fun j => v0 (ix2 p j)) (fun j => v4 (ix2 p j)) (fun j => v1 (ix2 j k)) (fun j => v5 (ix2 j k)) * v25 (ix2 k n) : EReal) := by
  unfold k0_pay1 mixed
  pointwise

variable (m : (ℓ : Loc nD τ sig) → Buf (Elt Ideal) ℓ) (c : Dev nD)

theorem at0 : ∀ t : Fin grid0.N, win0_0.index t = ![(grid0.coords t 0).val, 0] := by decide +kernel
theorem at1 : ∀ t : Fin grid0.N, win0_1.index t = ![(grid0.coords t 0).val, 0] := by decide +kernel
theorem at2 : ∀ t : Fin grid0.N, win0_2.index t = ![(grid0.coords t 0).val, 0] := by decide +kernel
theorem at3 : ∀ t : Fin grid0.N, win0_3.index t = ![(grid0.coords t 0).val, 0] := by decide +kernel
theorem at4 : ∀ t : Fin grid0.N, win0_4.index t = ![(grid0.coords t 0).val, 1] := by decide +kernel
theorem at5 : ∀ t : Fin grid0.N, win0_5.index t = ![0, 0] := by decide +kernel
theorem at6 : ∀ t : Fin grid0.N, win0_6.index t = ![0, 0] := by decide +kernel
theorem at7 : ∀ t : Fin grid0.N, win0_7.index t = ![0, 0] := by decide +kernel
theorem at8 : ∀ t : Fin grid0.N, win0_8.index t = ![0, 0] := by decide +kernel
theorem at9 : ∀ t : Fin grid0.N, win0_9.index t = ![(grid0.coords t 0).val, 0] := by decide +kernel

variable (t : Fin cfg0.N)

theorem b0 (p : Fin 512) (k : Fin 2048) (r : Fin 8192) (hr : r.val = (grid0.coords t 0).val * 512 + p.val) :
    iblk m c 0 t (ix2 p k) = V m c main_arg0 (ix2 r k) := by blk_ext [iblk, at0 t]
theorem b1 (p : Fin 512) (k : Fin 1024) (r : Fin 8192) (hr : r.val = (grid0.coords t 0).val * 512 + p.val) :
    iblk m c 1 t (ix2 p k) = V m c main_arg1 (ix2 r k) := by blk_ext [iblk, at1 t]
theorem b2 (p : Fin 512) (k : Fin 1024) (r : Fin 8192) (hr : r.val = (grid0.coords t 0).val * 512 + p.val) :
    iblk m c 2 t (ix2 p k) = V m c main_arg2 (ix2 r k) := by blk_ext [iblk, at2 t]
theorem b3 (p : Fin 512) (k : Fin 2048) (r : Fin 8192) (hr : r.val = (grid0.coords t 0).val * 512 + p.val) :
    X0_3 m c t (ix2 p k) = V m c main_arg3 (ix2 r (⟨k.val, by omega⟩ : Fin 9216)) := by
  unfold X0_3 Pipeline.Window.fill
  rw [dif_pos (moved0_3 t _)]
  blk_ext [iblk, at3 t]
theorem b4 (p : Fin 512) (k : Fin 2048) (r : Fin 8192) (hr : r.val = (grid0.coords t 0).val * 512 + p.val) :
    X0_4 m c t (ix2 p k) = V m c main_arg3 (ix2 r (⟨2048 + k.val, by omega⟩ : Fin 9216)) := by
  unfold X0_4 Pipeline.Window.fill
  rw [dif_pos (moved0_4 t _)]
  blk_ext [iblk, at4 t]
theorem b5 (q : Fin 2) (k : Fin 2048) : iblk m c 5 t (ix2 q k) = V m c main_arg4 (ix2 q k) := by blk_ext [iblk, at5 t]
theorem b6 (j : Fin 1024) (k : Fin 2048) : iblk m c 6 t (ix2 j k) = V m c main_v0 (ix2 j k) := by blk_ext [iblk, at6 t]
theorem b7 (j : Fin 1024) (k : Fin 2048) : iblk m c 7 t (ix2 j k) = V m c main_v1 (ix2 j k) := by blk_ext [iblk, at7 t]
theorem b8 (j : Fin 2048) (k : Fin 2048) : iblk m c 8 t (ix2 j k) = V m c main_v2 (ix2 j k) := by blk_ext [iblk, at8 t]

theorem V_v0 : V m c main_v0 = m ((c : Thread nD τ).loc main_arg5) := by
  show StableHlo.after hostOps0 (fun b => m (c, b)) main_v0 = _
  after_results_simp
  rfl
theorem V_v1 : V m c main_v1 = m ((c : Thread nD τ).loc main_arg6) := by
  show StableHlo.after hostOps0 (fun b => m (c, b)) main_v1 = _
  after_results_simp
  rfl
theorem V_v2 : V m c main_v2 = m ((c : Thread nD τ).loc main_arg7) := by
  show StableHlo.after hostOps0 (fun b => m (c, b)) main_v2 = _
  after_results_simp
  rfl

theorem outs_at (p : Fin 512) (n : Fin 2048) (r : Fin 8192) (hr : r.val = (grid0.coords t 0).val * 512 + p.val) :
    outsAt0 m c t (ix2 p n) = merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) r n := by
  unfold outsAt0
  frame_out
  refine (k0_pay1_at _ _ _ _ _ _ _ _ _ _ p n).trans ?_
  have e0 : ∀ k : Fin 2048, View.ld (iblk m c 5 t) (Rect.unit (s := S2x2048) ![0, 0] ![1, 2048] inb_S2x2048_S1x2048_0_0) (ix2 (0 : Fin 1) k)
      = V m c main_arg4 (ix2 (0 : Fin 2) k) := fun k => by
    rw [← b5 m c t]
    exact congrArg (iblk m c 5 t) (funext fun a => Fin.ext (by match a with | ⟨0, _⟩ => rfl | ⟨1, _⟩ => exact (Nat.zero_add _).trans (Nat.one_mul _)))
  have e1 : ∀ k : Fin 2048, View.ld (iblk m c 5 t) (Rect.unit (s := S2x2048) ![1, 0] ![1, 2048] inb_S2x2048_S1x2048_1_0) (ix2 (0 : Fin 1) k)
      = V m c main_arg4 (ix2 (1 : Fin 2) k) := fun k => by
    rw [← b5 m c t]
    exact congrArg (iblk m c 5 t) (funext fun a => Fin.ext (by match a with | ⟨0, _⟩ => rfl | ⟨1, _⟩ => exact (Nat.zero_add _).trans (Nat.one_mul _)))
  unfold merged
  rw [← V_main_arg0 m c, ← V_main_arg1 m c, ← V_main_arg2 m c, ← V_main_arg3 m c, ← V_main_arg4 m c, ← V_v0 m c, ← V_v1 m c, ← V_v2 m c]
  refine congrArg₂ (fun a b : EReal => a + b) (b0 m c t p n r hr) (Finset.sum_congr rfl fun k _ => ?_)
  simp only [e0, e1, b1 m c t p _ r hr, b2 m c t p _ r hr, b3 m c t p _ r hr, b4 m c t p _ r hr, b6 m c t, b7 m c t, b8 m c t]

theorem emb9_0 (y : ((cfg0.win 9).xblock (cfg0.grid.coords t)).Idx) :
    (((cfg0.win 9).blk t).view.emb y (0 : Fin 2)).val = (grid0.coords t 0).val * 512 + (y (0 : Fin 2)).val := by
  blk_simp [at9 t]
theorem emb9_1 (y : ((cfg0.win 9).xblock (cfg0.grid.coords t)).Idx) :
    (((cfg0.win 9).blk t).view.emb y (1 : Fin 2)).val = (y (1 : Fin 2)).val := by
  blk_simp [at9 t]

/-- The merge's result, of the arguments' contents at launch. -/
def result : FVec Ideal S8192x2048 .f32 := fun i =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (i 0) (i 1)

theorem outs_entry (y : S512x2048.Idx) (i : S8192x2048.Idx) (h0 : (i (0 : Fin 2)).val = (grid0.coords t 0).val * 512 + (y (0 : Fin 2)).val)
    (h1 : (i (1 : Fin 2)).val = (y (1 : Fin 2)).val) : outsAt0 m c t y = result m c i := by
  have e : (i (1 : Fin 2) : Fin 2048) = y (1 : Fin 2) := Fin.ext h1
  rw [eq_ix2 (n0 := 512) (n1 := 2048) y]
  unfold result
  rw [e]
  exact outs_at m c t (y 0) (y 1) (i 0) h0

theorem arr9 : (dats m 0 c).arrAt 9 cfg0.N = result m c := by
  refine (dats m 0 c).arrAt_eq_of_covers 9 _ (by decide +kernel) fun t _ y => ?_
  refine (congrFun (after0_9 m c t) _).trans ?_
  exact outs_entry m c t y _ (emb9_0 t y) (emb9_1 t y)

theorem algebraic : Cert.algebraic_MergeSampleIdeal_MergeSampleReferenceIdeal := fun m g m' g' _ ha => by
  refine ⟨fun c => result m c, ?_, ?_⟩
  · exact (θ_run (Cert.MergeSampleIdeal.defs (F := Ideal)) _ _).mono (fun _ h c => ⟨(h c).1.trans (arr9 m c), (h c).2⟩) (Cert.MergeSampleIdeal.Value.run_blocks (F := Ideal) m g)
  · refine (θ_run (Cert.MergeSampleReferenceIdeal.defs (F := Ideal)) _ _).mono (fun _ h c => ⟨(h c).1.trans ?_, (h c).2⟩) (Cert.MergeSampleReferenceIdeal.Value.run (F := Ideal) m' g')
    obtain ⟨h0, h1, h2, h3, h4, h5, h6, h7⟩ := ha c
    rw [h0, h1, h2, h3, h4, h5, h6, h7]
    funext i
    rw [eq_ix2 (n0 := 8192) (n1 := 2048) i]
    exact refM_at _ _ _ _ _ _ _ _ (i 0) (i 1)

end Cert.Proof.MergeSample

end
-- ==== Proof.InProj.Bodies.lean ====
/-
  The projection kernel's body, run once per kind of grid point on whole staging buffers, for any float values.

  `run_first`: the first column tile of a row stores the normalised row (`k0_pay2`), the low-rank product (`k0_pay3`) and the tile's
  product (`k0_pay7`). `run_plain`, `run_rope`, `run_half`: the other tiles store the tile's product, the rotated one (`k0_pay5`)
  and the half-rotated one (`k0_pay6`) over the normalised row as the first tile left it.
-/
module

public import proofs.«01_k».proof.Proof.Gen.ProjectIdeal.Frame
public import proofs.«01_k».proof.Proof.Gen.ProjectIdeal.Skeleton
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Exec
public import Idealize.ShloMosaic.Lib.Tactic
public import Idealize.ShloMosaic.Lib.WordCmp
public import Idealize.ShloMosaic.Lib.VecWindow
public import Idealize.ShloMosaic.Lib.Pipeline.TableIdle
public import Idealize.ShloMosaic.Init

@[expose] public section

set_option maxRecDepth 16384
set_option Elab.async false

noncomputable section

namespace Cert.Proof.InProj

open Cert.ProjectIdeal Cert.ProjectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The corner of the permutation matrix the last column tile reads. -/
abbrev corner (x : S1024x1024.Idx → Elt F .bf16) : S512x512.Idx → Elt F .bf16 :=
  View.ld x (Rect.unit (s := S1024x1024) ![0, 0] S512x512.size inb_S1024x1024_S512x512_0_0)

set_option backward.proofsInPublic true in
set_option maxHeartbeats 8000000 in
/-- The first column tile of a row. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x0 : S1024x2048.Idx → Elt F .f32) (x1 : S1x2048.Idx → Elt F .f32) (x2 : S2048x1024.Idx → Elt F .bf16) (x3 : S2048x128.Idx → Elt F .bf16)
    (h1 : k0_cond1 i = 1#1) (h2 : ¬ (k0_cond2 i = 1#1)) (h3 : ¬ (k0_cond3 i = 1#1)) (h4 : k0_cond4 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg11 fullShare d) ∗ (∃ d, owns (c : Thread nD τ) arg10 fullShare d) ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg11 fullShare (k0_pay2 x0 x1) ∗ owns (c : Thread nD τ) arg10 fullShare (k0_pay3 x0 x1 x3) ∗ owns (c : Thread nD τ) arg9 fullShare (k0_pay7 (k0_pay2 x0 x1) x2)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, H2, H3, ⟨%d0, O0⟩, ⟨%d1, O1⟩, ⟨%d2, O2⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  unfold owns
  icases O0 with ⟨%f0, -, O0⟩
  icases O1 with ⟨%f1, -, O1⟩
  icases O2 with ⟨%f2, -, O2⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [O0]
  · iexists _; isplitr; swap
    · iexact O0
    · ipureintro
      sl_unfold_run_names
      rw [View.read_writes_full]
      congr 1 <;> exact View.readAt_rep_full _ _ _
  isplitl [O1]
  · iexists _; isplitr; swap
    · iexact O1
    · ipureintro
      sl_unfold_run_names
      rw [View.read_writes_full]
      congr 1 <;> exact View.readAt_rep_full _ _ _
  iexists _; isplitr; swap
  · iexact O2
  · ipureintro
    sl_unfold_run_names
    rw [View.read_writes_full]
    rw [View.readCov_full]
    congr 1
    · congr 1 <;> exact View.readAt_rep_full _ _ _
    · exact View.readAt_rep_full _ _ _

set_option backward.proofsInPublic true in
set_option maxHeartbeats 8000000 in
/-- A later column tile that is not rotated. -/
theorem run_plain (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x2 : S2048x1024.Idx → Elt F .bf16) (xs : S1024x2048.Idx → Elt F .bf16)
    (h1 : ¬ (k0_cond1 i = 1#1)) (h2 : ¬ (k0_cond2 i = 1#1)) (h3 : ¬ (k0_cond3 i = 1#1)) (h4 : k0_cond4 i = 1#1) (K : PUnit → sProp 𝕄) :
    iprop(owns (c : Thread nD τ) arg4 fullShare x2 ∗ owns (c : Thread nD τ) arg11 fullShare xs ∗ (∃ d, owns (c : Thread nD τ) arg9 fullShare d)
      ∗ (iprop(owns (c : Thread nD τ) arg4 fullShare x2 ∗ owns (c : Thread nD τ) arg11 fullShare xs ∗ owns (c : Thread nD τ) arg9 fullShare (k0_pay7 xs x2)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, ⟨%d0, O0⟩, Hk⟩
  ihave H0 := (rep_of_owns _ _ _ _) $$ H0
  ihave H1 := (rep_of_owns _ _ _ _) $$ H1
  unfold owns
  icases O0 with ⟨%f0, -, O0⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  iexists _; isplitr; swap
  · iexact O0
  · ipureintro
    sl_unfold_run_names
    rw [View.read_writes_full]
    congr 1 <;> exact View.readAt_rep_full _ _ _

set_option backward.proofsInPublic true in
set_option maxHeartbeats 8000000 in
/-- The column tile that is rotated whole. -/
theorem run_rope (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x2 : S2048x1024.Idx → Elt F .bf16) (x4 : S1024x128.Idx → Elt F .f32) (x5 : S1024x128.Idx → Elt F .f32) (x6 : S1024x1024.Idx → Elt F .bf16) (xs : S1024x2048.Idx → Elt F .bf16)
    (h1 : ¬ (k0_cond1 i = 1#1)) (h2 : k0_cond2 i = 1#1) (h3 : ¬ (k0_cond3 i = 1#1)) (h4 : ¬ (k0_cond4 i = 1#1)) (K : PUnit → sProp 𝕄) :
    iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ (∃ d, owns (c : Thread nD τ) arg9 fullShare d)
      ∗ (iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ owns (c : Thread nD τ) arg9 fullShare (k0_pay5 xs x2 x6 x4 x5)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, H2, H3, H4, ⟨%d0, O0⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  unfold owns
  icases O0 with ⟨%f0, -, O0⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [H4]; · iexists _; isplitr; swap; (· iexact H4); ipureintro; exact View.read_rep _ _
  iexists _; isplitr; swap
  · iexact O0
  · ipureintro
    sl_unfold_run_names
    rw [View.read_writes_full]
    congr 1 <;> exact View.readAt_rep_full _ _ _

set_option backward.proofsInPublic true in
set_option maxHeartbeats 8000000 in
/-- The column tile whose first half is rotated. -/
theorem run_half (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x2 : S2048x1024.Idx → Elt F .bf16) (x4 : S1024x128.Idx → Elt F .f32) (x5 : S1024x128.Idx → Elt F .f32) (x6 : S1024x1024.Idx → Elt F .bf16) (xs : S1024x2048.Idx → Elt F .bf16)
    (h1 : ¬ (k0_cond1 i = 1#1)) (h2 : ¬ (k0_cond2 i = 1#1)) (h3 : k0_cond3 i = 1#1) (h4 : ¬ (k0_cond4 i = 1#1)) (K : PUnit → sProp 𝕄) :
    iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ (∃ d, owns (c : Thread nD τ) arg9 fullShare d)
      ∗ (iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ owns (c : Thread nD τ) arg9 fullShare (k0_pay6 xs x2 (corner x6) x4 x5)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, H2, H3, H4, ⟨%d0, O0⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  unfold owns
  icases O0 with ⟨%f0, -, O0⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [H4]; · iexists _; isplitr; swap; (· iexact H4); ipureintro; exact View.read_rep _ _
  iexists _; isplitr; swap
  · iexact O0
  · ipureintro
    sl_unfold_run_names
    rw [View.read_writes_full]
    congr 1
    · exact View.readAt_rep_full _ _ _
    · exact View.readAt_rep_full _ _ _
    · funext y
      exact congrFun (View.read_rep _ _) _
    · exact View.readAt_rep_full _ _ _
    · exact View.readAt_rep_full _ _ _

end Cert.Proof.InProj

end
-- ==== Proof.InProj.Frame.lean ====
/-
  The projection kernel's frame, for any float values.

  The grid walks the row tiles, and in each the nine column tiles. The first column tile of a row normalises the row's tokens into
  the scratch buffer and stores the low-rank product; the other eight read the scratch. So after a grid point the scratch holds the
  normalised tokens of the point's row (`hOf`), the low-rank output's buffer the row's low-rank product (`lrOf`), and the main
  output's buffer the point's own tile (`projOf`).
-/
module

public import proofs.«01_k».proof.Proof.InProj.Bodies

@[expose] public section

set_option maxRecDepth 16384
set_option Elab.async false

noncomputable section

namespace Cert.Proof.InProj

open Cert.ProjectIdeal Cert.ProjectIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of column tile a grid point is -/

theorem coord1 (t : Fin cfg0.N) : (grid0.coords t 1).val = t.val / 1 % 9 := Pipeline.Grid.coords_val t 1 (by decide) rfl

theorem first_iff (t : Fin cfg0.N) : k0_cond1 (grid0.coords t) = 1#1 ↔ t.val % 9 = 0 := by
  have e1 := coord1 t
  simp only [k0_cond1, e1]
  word_cmp

theorem rope_iff (t : Fin cfg0.N) : k0_cond2 (grid0.coords t) = 1#1 ↔ t.val % 9 = 7 := by
  have e1 := coord1 t
  simp only [k0_cond2, e1]
  word_cmp

theorem half_iff (t : Fin cfg0.N) : k0_cond3 (grid0.coords t) = 1#1 ↔ t.val % 9 = 8 := by
  have e1 := coord1 t
  simp only [k0_cond3, e1]
  word_cmp

theorem plain_iff (t : Fin cfg0.N) : k0_cond4 (grid0.coords t) = 1#1 ↔ t.val % 9 ≤ 6 := by
  have e1 := coord1 t
  simp only [k0_cond4, e1]
  word_cmp

theorem live7 : ∀ t : Fin cfg0.N, cfg0.idle 7 (grid0.coords t) = false :=
  (by decide +kernel : ∀ t : Fin grid0.N, idle0 7 (grid0.coords t) = false)

theorem idle8 (t : Fin cfg0.N) (h : t.val % 9 ≠ 0) : cfg0.idle 8 (grid0.coords t) = true := by
  show (!(k0_cond1 (grid0.coords t) == 1#1)) = true
  have := (first_iff t).not.mpr h
  simp [this]

theorem live8 (t : Fin cfg0.N) (h : t.val % 9 = 0) : cfg0.idle 8 (grid0.coords t) = false := by
  show (!(k0_cond1 (grid0.coords t) == 1#1)) = false
  have := (first_iff t).mpr h
  simp [this]

/-! ## What the buffers hold after each point -/

/-- The first point of a point's row. -/
def row (t : Fin cfg0.N) : Fin cfg0.N := ⟨t.val - t.val % 9, lt_of_le_of_lt (Nat.sub_le _ _) t.isLt⟩

theorem row_first (t : Fin cfg0.N) (h : t.val % 9 = 0) : row t = t := Fin.ext (by show t.val - t.val % 9 = t.val; omega)

theorem row_prev (t : Fin cfg0.N) (h : t.val % 9 ≠ 0) (h' : t.val - 1 < cfg0.N) : row ⟨t.val - 1, h'⟩ = row t :=
  Fin.ext (by show t.val - 1 - (t.val - 1) % 9 = t.val - t.val % 9; omega)

/-- The normalised tokens of a point's row. -/
def hOf (c : Dev nD) (t : Fin cfg0.N) : S1024x2048.Idx → Elt F .bf16 := k0_pay2 (iblk m c 0 (row t)) (iblk m c 1 (row t))

/-- The low-rank product of a point's row. -/
def lrOf (c : Dev nD) (t : Fin cfg0.N) : S1024x128.Idx → Elt F .bf16 :=
  k0_pay3 (iblk m c 0 (row t)) (iblk m c 1 (row t)) (iblk m c 3 (row t))

/-- A point's tile of the main output. -/
def projOf (c : Dev nD) (t : Fin cfg0.N) : S1024x1024.Idx → Elt F .bf16 :=
  if t.val % 9 = 7 then k0_pay5 (hOf m c t) (iblk m c 2 t) (iblk m c 6 t) (iblk m c 4 t) (iblk m c 5 t)
  else if t.val % 9 = 8 then k0_pay6 (hOf m c t) (iblk m c 2 t) (corner (iblk m c 6 t)) (iblk m c 4 t) (iblk m c 5 t)
  else k0_pay7 (hOf m c t) (iblk m c 2 t)

/-- The scratch buffer. -/
abbrev scM : Memref sig .tc .vmem S1024x2048 .bf16 := Memref.whole cc0_scratch0

/-- What the launch hands the region, with the scratch as a buffer owned at some contents. -/
theorem PhiA_eq (c : Dev nD) : (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the region keeps between points: before the first the scratch at anything, after a point at that point's row. -/
def Phi (c : Dev nD) : (n : ℕ) → n ≤ cfg0.N → sProp 𝕄
  | 0, _ => Pipeline.ΦA spec0 c
  | n + 1, hn => iprop(owns (c : Thread nD τ) scM fullShare (hOf m c ⟨n, hn⟩) ∗ (∃ r, prngReg c r))

theorem Phi_pos (c : Dev nD) (n : ℕ) (h : n ≤ cfg0.N) (hz : n ≠ 0) :
    Phi m c n h = iprop(owns (c : Thread nD τ) scM fullShare (hOf m c ⟨n - 1, by omega⟩) ∗ (∃ r, prngReg c r)) := by
  cases n with
  | zero => exact absurd rfl hz
  | succ n => rfl

/-- At any point the scratch is held at something. -/
theorem Phi_any (c : Dev nD) (n : ℕ) (h : n ≤ cfg0.N) :
    Phi m c n h ⊢ iprop(iprop((∃ d, owns (c : Thread nD τ) scM fullShare d)) ∗ (∃ r, prngReg c r)) := by
  cases n with
  | zero => rw [← PhiA_eq]; exact Idealize.SL.BI.Entails.refl _
  | succ n =>
    show iprop(owns (c : Thread nD τ) scM fullShare _ ∗ _) ⊢ _
    iintro ⟨H, Hg⟩
    isplitl [H]
    · iexists _; iexact H
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => projOf m c t
    | ⟨8, _⟩ => lrOf m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = projOf m c t := by dsimp only [dats]
theorem after8 (c : Dev nD) (t : Fin cfg0.N) : (dats m 0 c).after 8 t = lrOf m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem not_flush8 (t : Fin cfg0.N) (h : t.val % 9 ≠ 8) : (cfg0.win 8).flush t = false := by
  cases hb : (cfg0.win 8).flush t with
  | false => rfl
  | true => exact absurd ((flush0_8 t).mp hb) h

/-- Past its row's first point the low-rank output's buffer holds the row's product: what that point left. -/
theorem before8 (c : Dev nD) (d) : ∀ (n : ℕ) (hn : n < cfg0.N), n % 9 ≠ 0 → (dats m 0 c).before 8 ⟨n, hn⟩ d = lrOf m c ⟨n, hn⟩ := by
  intro n
  induction n with
  | zero => intro hn h; exact absurd rfl h
  | succ n ih =>
    intro hn h
    have hn' : n < cfg0.N := Nat.lt_of_succ_lt hn
    rw [(dats m 0 c).before_of_pos 8 ⟨n + 1, hn⟩ (Nat.succ_ne_zero n) ((cfg0.win 8).fetch_out rfl _) d]
    have hf : (cfg0.win 8).flush ⟨(⟨n + 1, hn⟩ : Fin cfg0.N).val - 1, Nat.lt_of_le_of_lt (Nat.sub_le _ _) hn⟩ = false :=
      not_flush8 _ (by show (n + 1 - 1) % 9 ≠ 8; omega)
    rw [hf, if_neg Bool.false_ne_true]
    have hl : lrOf m c ⟨n + 1, hn⟩ = lrOf m c ⟨n, hn'⟩ := by
      unfold lrOf; rw [← row_prev ⟨n + 1, hn⟩ h hn']
      rfl
    rw [hl]
    by_cases h0 : n % 9 = 0
    · show (dats m 0 c).left 8 ⟨n, hn'⟩ d = _
      unfold Dat.left
      rw [live8 ⟨n, hn'⟩ h0]
      exact after8 m c ⟨n, hn'⟩
    · show (dats m 0 c).left 8 ⟨n, hn'⟩ d = _
      unfold Dat.left
      rw [idle8 ⟨n, hn'⟩ h0]
      exact ih hn' h0

/-! ## The body at any point -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1024x128 .f32 := win0_4.stage (cfg0.slots t 4)
abbrev ms5 (t : Fin cfg0.N) : Memref sig .tc .vmem S1024x128 .f32 := win0_5.stage (cfg0.slots t 5)
abbrev ms6 (t : Fin cfg0.N) : Memref sig .tc .vmem S1024x1024 .bf16 := win0_6.stage (cfg0.slots t 6)
abbrev ms7 (t : Fin cfg0.N) : Memref sig .tc .vmem S1024x1024 .bf16 := win0_7.stage (cfg0.slots t 7)
abbrev ms8 (t : Fin cfg0.N) : Memref sig .tc .vmem S1024x128 .bf16 := win0_8.stage (cfg0.slots t 8)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare (iblk m c 0 t) := by
  unfold Dat.leavesExact; rw [(rfl : cfg0.idle 0 (grid0.coords t) = false), after0]
theorem leaves1 (c : Dev nD) (t : Fin cfg0.N) : (dats m 0 c).leavesExact 1 t = owns (c : Thread nD τ) (ms1 t) fullShare (iblk m c 1 t) := by
  unfold Dat.leavesExact; rw [(rfl : cfg0.idle 1 (grid0.coords t) = false), after1]
theorem leaves2 (c : Dev nD) (t : Fin cfg0.N) : (dats m 0 c).leavesExact 2 t = owns (c : Thread nD τ) (ms2 t) fullShare (iblk m c 2 t) := by
  unfold Dat.leavesExact; rw [(rfl : cfg0.idle 2 (grid0.coords t) = false), after2]
theorem leaves3 (c : Dev nD) (t : Fin cfg0.N) : (dats m 0 c).leavesExact 3 t = owns (c : Thread nD τ) (ms3 t) fullShare (iblk m c 3 t) := by
  unfold Dat.leavesExact; rw [(rfl : cfg0.idle 3 (grid0.coords t) = false), after3]
theorem leaves4 (c : Dev nD) (t : Fin cfg0.N) : (dats m 0 c).leavesExact 4 t = owns (c : Thread nD τ) (ms4 t) fullShare (iblk m c 4 t) := by
  unfold Dat.leavesExact; rw [(rfl : cfg0.idle 4 (grid0.coords t) = false), after4]
theorem leaves5 (c : Dev nD) (t : Fin cfg0.N) : (dats m 0 c).leavesExact 5 t = owns (c : Thread nD τ) (ms5 t) fullShare (iblk m c 5 t) := by
  unfold Dat.leavesExact; rw [(rfl : cfg0.idle 5 (grid0.coords t) = false), after5]
theorem leaves6 (c : Dev nD) (t : Fin cfg0.N) : (dats m 0 c).leavesExact 6 t = owns (c : Thread nD τ) (ms6 t) fullShare (iblk m c 6 t) := by
  unfold Dat.leavesExact; rw [(rfl : cfg0.idle 6 (grid0.coords t) = false), after6]
theorem leaves7 (c : Dev nD) (t : Fin cfg0.N) : (dats m 0 c).leavesExact 7 t = owns (c : Thread nD τ) (ms7 t) fullShare (projOf m c t) := by
  unfold Dat.leavesExact; rw [live7 t, after7]

/-- The low-rank output's buffer at the row's first point: that point stores it. -/
theorem leaves8_first (c : Dev nD) (t : Fin cfg0.N) (h : t.val % 9 = 0) :
    (dats m 0 c).leavesExact 8 t = owns (c : Thread nD τ) (ms8 t) fullShare (lrOf m c t) := by
  unfold Dat.leavesExact; rw [live8 t h, after8]

/-- At the row's other points it is handed back as it was found. -/
theorem leaves8_later (c : Dev nD) (t : Fin cfg0.N) (h : t.val % 9 ≠ 0) :
    iprop(∃ d, owns (c : Thread nD τ) (ms8 t) fullShare ((dats m 0 c).before 8 t d)) ⊢ ((dats m 0 c).leavesExact 8 t : sProp 𝕄) := by
  cases hf : (cfg0.win 8).flush t with
  | false =>
    rw [Dat.leavesExact_idle _ 8 t (idle8 t h) hf]
  | true =>
    unfold Dat.leavesExact; rw [idle8 t h, hf]
    show _ ⊢ owns (c : Thread nD τ) (ms8 t) fullShare ((dats m 0 c).after 8 t)
    rw [after8]
    iintro ⟨%d, H⟩
    rw [before8 m c d t.val t.isLt h]
    iexact H

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5,
    leaves6, leaves7]
  rw [show (dats m 0 c).owesAt () t.succ = (dats m 0 c).owesAt () t.castSucc from rfl]
  rw [show (dats m 0 c).Φ t.succ = iprop(owns (c : Thread nD τ) scM fullShare (hOf m c t) ∗ (∃ r, prngReg c r)) from rfl]
  rw [Phi_castSucc m c t]
  by_cases h0 : t.val % 9 = 0
  · rw [leaves8_first m c t h0]
    have e7 : projOf m c t = k0_pay7 (k0_pay2 (iblk m c 0 t) (iblk m c 1 t)) (iblk m c 2 t) := by
      unfold projOf hOf; rw [if_neg (by omega), if_neg (by omega), row_first t h0]
    have e8 : lrOf m c t = k0_pay3 (iblk m c 0 t) (iblk m c 1 t) (iblk m c 3 t) := by unfold lrOf; rw [row_first t h0]
    have eh : hOf m c t = k0_pay2 (iblk m c 0 t) (iblk m c 1 t) := by unfold hOf; rw [row_first t h0]
    rw [e7, e8, eh]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := (Phi_any m c _ _) $$ HP
    icases HP with ⟨HS, Hg⟩
    iapply (run_first c (grid0.coords t) _ _ _ _ _ _ _ _ _ _ _ _ _ _ _ _ _ _ _ _ (iblk m c 0 t) (iblk m c 1 t) (iblk m c 2 t) (iblk m c 3 t)
      ((first_iff t).mpr h0) (fun h => by have := (rope_iff t).mp h; omega) (fun h => by have := (half_iff t).mp h; omega)
      ((plain_iff t).mpr (by omega)))
    isplitl [H0]; · iexact H0
    isplitl [H1]; · iexact H1
    isplitl [H2]; · iexact H2
    isplitl [H3]; · iexact H3
    isplitl [HS]; · iexact HS
    isplitl [H8]; · iexists _; iexact H8
    isplitl [H7]; · iexists _; iexact H7
    iintro ⟨H0, H1, H2, H3, HS, H8, H7⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by intro h; rw [h] at h0; exact h0 rfl
    rw [Phi_pos m c t.val _ hz]
    rw [show hOf m c ⟨t.val - 1, by omega⟩ = hOf m c t from by unfold hOf; rw [row_prev t h0]]
    by_cases h7 : t.val % 9 = 7
    · rw [show projOf m c t = k0_pay5 (hOf m c t) (iblk m c 2 t) (iblk m c 6 t) (iblk m c 4 t) (iblk m c 5 t) from by
        unfold projOf; rw [if_pos h7]]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      ihave H8 := (leaves8_later m c t h0) $$ H8
      iapply (run_rope c (grid0.coords t) _ _ _ _ _ _ _ _ _ _ _ _ _ _ _ _ _ _ _ _ (iblk m c 2 t) (iblk m c 4 t) (iblk m c 5 t) (iblk m c 6 t) (hOf m c t)
        (fun h => h0 ((first_iff t).mp h)) ((rope_iff t).mpr h7) (fun h => by have := (half_iff t).mp h; omega) (fun h => by have := (plain_iff t).mp h; omega))
      isplitl [H2]; · iexact H2
      isplitl [H4]; · iexact H4
      isplitl [H5]; · iexact H5
      isplitl [H6]; · iexact H6
      isplitl [HS]; · iexact HS
      isplitl [H7]; · iexists _; iexact H7
      iintro ⟨H2, H4, H5, H6, HS, H7⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · by_cases h8 : t.val % 9 = 8
      · rw [show projOf m c t = k0_pay6 (hOf m c t) (iblk m c 2 t) (corner (iblk m c 6 t)) (iblk m c 4 t) (iblk m c 5 t) from by
          unfold projOf; rw [if_neg h7, if_pos h8]]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
        ihave H8 := (leaves8_later m c t h0) $$ H8
        iapply (run_half c (grid0.coords t) _ _ _ _ _ _ _ _ _ _ _ _ _ _ _ _ _ _ _ _ (iblk m c 2 t) (iblk m c 4 t) (iblk m c 5 t) (iblk m c 6 t) (hOf m c t)
          (fun h => h0 ((first_iff t).mp h)) (fun h => by have := (rope_iff t).mp h; omega) ((half_iff t).mpr h8) (fun h => by have := (plain_iff t).mp h; omega))
        isplitl [H2]; · iexact H2
        isplitl [H4]; · iexact H4
        isplitl [H5]; · iexact H5
        isplitl [H6]; · iexact H6
        isplitl [HS]; · iexact HS
        isplitl [H7]; · iexists _; iexact H7
        iintro ⟨H2, H4, H5, H6, HS, H7⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · rw [show projOf m c t = k0_pay7 (hOf m c t) (iblk m c 2 t) from by
          unfold projOf; rw [if_neg h7, if_neg h8]]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
        ihave H8 := (leaves8_later m c t h0) $$ H8
        iapply (run_plain c (grid0.coords t) _ _ _ _ _ _ _ _ _ _ _ _ _ _ _ _ _ _ _ _ (iblk m c 2 t) (hOf m c t)
          (fun h => h0 ((first_iff t).mp h)) (fun h => by have := (rope_iff t).mp h; omega) (fun h => by have := (half_iff t).mp h; omega) ((plain_iff t).mpr (by omega)))
        isplitl [H2]; · iexact H2
        isplitl [HS]; · iexact HS
        isplitl [H7]; · iexists _; iexact H7
        iintro ⟨H2, HS, H7⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl, PhiA_eq]
  exact Phi_any m c _ _

/-! ## The run and the frame -/

set_option backward.isDefEq.respectTransparency.types false in
/-- Every fair execution ends, with each array at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every fair execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Proof.InProj

end
-- ==== Proof.InProj.Reference.lean ====
/-
  What the input projection computes, entry by entry, and that its reference is that.
-/
module

public import proofs.«01_k».proof.Proof.Gen.ProjectReferenceIdeal.Run
public import Idealize.ShloMosaic.Lib.Pipeline.ValueKit
public import Idealize.ShloMosaic.Lib.ValueIdx

@[expose] public section

set_option maxRecDepth 16384
set_option Elab.async false

noncomputable section

namespace Cert.Proof.InProj

open Cert.ProjectReferenceIdeal Cert.ProjectReferenceIdeal.Gen Cert.ProjectReferenceIdeal.Facts
open Idealize.ShloMosaic Idealize.ShloMosaic.TcCoe

/-- One entry of a normalised row. -/
def hat (x g : Fin 2048 → EReal) (k : Fin 2048) : EReal :=
  x k * Ideal.rsqrt (Ideal.div (∑ j : Fin 2048, x j * x j) (Ideal.ofBits .f32 0x45000000#32) + Ideal.ofBits .f32 0x3727C5AC#32) * g k

/-- One entry of a row's product with a column of the weights. -/
def prod (a0 : FVec Ideal S16384x2048 .f32) (a1 : FVec Ideal S2048 .f32) (a2 : FVec Ideal S2048x9248 .f32) (r : Fin 16384) (n : Fin 9248) : EReal :=
  ∑ k : Fin 2048, hat (fun j => a0 (ix2 r j)) (fun j => a1 (ix1 j)) k * a2 (ix2 k n)

/-- The normalised rows through the weights. -/
def prodM {F : FTy → Type} [FloatOps F] (a0 : FVec F S16384x2048 .f32) (a1 : FVec F S2048 .f32) (a2 : FVec F S2048x9248 .f32) : FVec F S16384x9248 .f32 :=
  Host.dotGeneral dot_S16384x2048_S2048x9248_S16384x9248_1_0_0_1_n_n none (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 a1))) a2

theorem prodM_at (a0 : FVec Ideal S16384x2048 .f32) (a1 : FVec Ideal S2048 .f32) (a2 : FVec Ideal S2048x9248 .f32) (r : Fin 16384) (n : Fin 9248) :
    prodM (F := Ideal) a0 a1 a2 (ix2 r n) = prod a0 a1 a2 r n := by
  unfold prodM prod hat
  pointwise
  try rfl

/-- The rotation angles. -/
def angM {F : FTy → Type} [FloatOps F] : FVec F S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

def cosM {F : FTy → Type} [FloatOps F] (a : FVec F S4096x16 .f32) : FVec F S1x4096x1x16 .f32 :=
  broadcastInDim S1x4096x1x16 ![1, 3] bcast_S4096x16_S1x4096x1x16_1_3 (Host.cos a)
def sinM {F : FTy → Type} [FloatOps F] (a : FVec F S4096x16 .f32) : FVec F S1x4096x1x16 .f32 :=
  broadcastInDim S1x4096x1x16 ![1, 3] bcast_S4096x16_S1x4096x1x16_1_3 (Host.sin a)

/-- The rotated queries. -/
def ropeQ {F : FTy → Type} [FloatOps F] (v : FVec F S16384x1024 .f32) (a : FVec F S4096x16 .f32) : FVec F S16384x1024 .f32 :=
  shapeCast _ (concatenate S4x4096x8x128 3 [⟨S4x4096x8x16, (subf (mulf (extractStridedSlice S4x4096x8x16 ![0, 0, 0, 0] (shapeCast _ v shapeCasts_S16384x1024_S4x4096x8x128) slices_S4x4096x8x128_S4x4096x8x16_0_0_0_0) (broadcastInDim S4x4096x8x16 ![0, 1, 2, 3] bcast_S1x4096x1x16_S4x4096x8x16_0_1_2_3 (cosM a))) (mulf (extractStridedSlice S4x4096x8x16 ![0, 0, 0, 16] (shapeCast _ v shapeCasts_S16384x1024_S4x4096x8x128) slices_S4x4096x8x128_S4x4096x8x16_0_0_0_16) (broadcastInDim S4x4096x8x16 ![0, 1, 2, 3] bcast_S1x4096x1x16_S4x4096x8x16_0_1_2_3 (sinM a))) : FVec F S4x4096x8x16 .f32)⟩, ⟨S4x4096x8x16, (addf (mulf (extractStridedSlice S4x4096x8x16 ![0, 0, 0, 16] (shapeCast _ v shapeCasts_S16384x1024_S4x4096x8x128) slices_S4x4096x8x128_S4x4096x8x16_0_0_0_16) (broadcastInDim S4x4096x8x16 ![0, 1, 2, 3] bcast_S1x4096x1x16_S4x4096x8x16_0_1_2_3 (cosM a))) (mulf (extractStridedSlice S4x4096x8x16 ![0, 0, 0, 0] (shapeCast _ v shapeCasts_S16384x1024_S4x4096x8x128) slices_S4x4096x8x128_S4x4096x8x16_0_0_0_0) (broadcastInDim S4x4096x8x16 ![0, 1, 2, 3] bcast_S1x4096x1x16_S4x4096x8x16_0_1_2_3 (sinM a))) : FVec F S4x4096x8x16 .f32)⟩, ⟨S4x4096x8x96, (extractStridedSlice S4x4096x8x96 ![0, 0, 0, 32] (shapeCast _ v shapeCasts_S16384x1024_S4x4096x8x128) slices_S4x4096x8x128_S4x4096x8x96_0_0_0_32 : FVec F S4x4096x8x96 .f32)⟩] concatenates_S4x4096x8x16_S4x4096x8x16_S4x4096x8x96_S4x4096x8x128_d3 : FVec F S4x4096x8x128 .f32) shapeCasts_S4x4096x8x128_S16384x1024

/-- The rotated keys. -/
def ropeK {F : FTy → Type} [FloatOps F] (v : FVec F S16384x512 .f32) (a : FVec F S4096x16 .f32) : FVec F S16384x512 .f32 :=
  shapeCast _ (concatenate S4x4096x4x128 3 [⟨S4x4096x4x16, (subf (mulf (extractStridedSlice S4x4096x4x16 ![0, 0, 0, 0] (shapeCast _ v shapeCasts_S16384x512_S4x4096x4x128) slices_S4x4096x4x128_S4x4096x4x16_0_0_0_0) (broadcastInDim S4x4096x4x16 ![0, 1, 2, 3] bcast_S1x4096x1x16_S4x4096x4x16_0_1_2_3 (cosM a))) (mulf (extractStridedSlice S4x4096x4x16 ![0, 0, 0, 16] (shapeCast _ v shapeCasts_S16384x512_S4x4096x4x128) slices_S4x4096x4x128_S4x4096x4x16_0_0_0_16) (broadcastInDim S4x4096x4x16 ![0, 1, 2, 3] bcast_S1x4096x1x16_S4x4096x4x16_0_1_2_3 (sinM a))) : FVec F S4x4096x4x16 .f32)⟩, ⟨S4x4096x4x16, (addf (mulf (extractStridedSlice S4x4096x4x16 ![0, 0, 0, 16] (shapeCast _ v shapeCasts_S16384x512_S4x4096x4x128) slices_S4x4096x4x128_S4x4096x4x16_0_0_0_16) (broadcastInDim S4x4096x4x16 ![0, 1, 2, 3] bcast_S1x4096x1x16_S4x4096x4x16_0_1_2_3 (cosM a))) (mulf (extractStridedSlice S4x4096x4x16 ![0, 0, 0, 0] (shapeCast _ v shapeCasts_S16384x512_S4x4096x4x128) slices_S4x4096x4x128_S4x4096x4x16_0_0_0_0) (broadcastInDim S4x4096x4x16 ![0, 1, 2, 3] bcast_S1x4096x1x16_S4x4096x4x16_0_1_2_3 (sinM a))) : FVec F S4x4096x4x16 .f32)⟩, ⟨S4x4096x4x96, (extractStridedSlice S4x4096x4x96 ![0, 0, 0, 32] (shapeCast _ v shapeCasts_S16384x512_S4x4096x4x128) slices_S4x4096x4x128_S4x4096x4x96_0_0_0_32 : FVec F S4x4096x4x96 .f32)⟩] concatenates_S4x4096x4x16_S4x4096x4x16_S4x4096x4x96_S4x4096x4x128_d3 : FVec F S4x4096x4x128 .f32) shapeCasts_S4x4096x4x128_S16384x512

/-- A head's row turned by the position's angles: the first sixteen lanes against the next sixteen, the others kept. -/
def turned (v : Fin 128 → EReal) (co si : Fin 16 → EReal) (l : Fin 128) : EReal :=
  if h : l.val < 16 then v l * co ⟨l.val, h⟩ - v ⟨l.val + 16, by omega⟩ * si ⟨l.val, h⟩
  else if h' : l.val < 32 then v l * co ⟨l.val - 16, by omega⟩ + v ⟨l.val - 16, by omega⟩ * si ⟨l.val - 16, by omega⟩
  else v l

theorem col_congr {R W : ℕ} (v : (⟨2, ![R, W]⟩ : Shape).Idx → EReal) (r : Fin R) {n n' : Fin W} (h : n.val = n'.val) : v (ix2 r n) = v (ix2 r n') := by
  rw [Fin.ext h]

theorem ropeQ_at (v : FVec Ideal S16384x1024 .f32) (a : FVec Ideal S4096x16 .f32) (r : Fin 16384) (n : Fin 1024) :
    ropeQ (F := Ideal) v a (ix2 r n) = turned (fun l => v (ix2 r (⟨n.val / 128 * 128 + l.val, by omega⟩ : Fin 1024)))
      (fun l => Ideal.cos (a (ix2 (⟨r.val % 4096, by omega⟩ : Fin 4096) l))) (fun l => Ideal.sin (a (ix2 (⟨r.val % 4096, by omega⟩ : Fin 4096) l)))
      ⟨n.val % 128, by omega⟩ := by
  unfold ropeQ cosM sinM turned
  pointwise
  by_cases h : n.val % 128 < 16
  · simp only [dif_pos h]
    exact congrArg₂ (fun x y : EReal => x * _ - y * _)
      (col_congr (R := 16384) (W := 1024) v r (by show n.val = n.val / 128 * 128 + n.val % 128; omega))
      (col_congr (R := 16384) (W := 1024) v r (by show n.val / 128 * 128 + (16 + n.val % 128) = n.val / 128 * 128 + (n.val % 128 + 16); omega))
  simp only [dif_neg h]
  by_cases h1 : n.val % 128 < 32
  · have h2 : n.val % 128 - 16 < 16 := by omega
    simp only [dif_pos h1, dif_pos h2]
    exact congrArg (fun x : EReal => x * _ + _)
      (col_congr (R := 16384) (W := 1024) v r (by show n.val / 128 * 128 + (16 + (n.val % 128 - 16)) = n.val / 128 * 128 + n.val % 128; omega))
  have h2 : ¬ n.val % 128 - 16 < 16 := by omega
  simp only [dif_neg h1, dif_neg h2]
  exact col_congr (R := 16384) (W := 1024) v r (by show n.val / 128 * 128 + (32 + (n.val % 128 - 16 - 16)) = n.val / 128 * 128 + n.val % 128; omega)

theorem ropeK_at (v : FVec Ideal S16384x512 .f32) (a : FVec Ideal S4096x16 .f32) (r : Fin 16384) (n : Fin 512) :
    ropeK (F := Ideal) v a (ix2 r n) = turned (fun l => v (ix2 r (⟨n.val / 128 * 128 + l.val, by omega⟩ : Fin 512)))
      (fun l => Ideal.cos (a (ix2 (⟨r.val % 4096, by omega⟩ : Fin 4096) l))) (fun l => Ideal.sin (a (ix2 (⟨r.val % 4096, by omega⟩ : Fin 4096) l)))
      ⟨n.val % 128, by omega⟩ := by
  unfold ropeK cosM sinM turned
  pointwise
  by_cases h : n.val % 128 < 16
  · simp only [dif_pos h]
    exact congrArg₂ (fun x y : EReal => x * _ - y * _)
      (col_congr (R := 16384) (W := 512) v r (by show n.val = n.val / 128 * 128 + n.val % 128; omega))
      (col_congr (R := 16384) (W := 512) v r (by show n.val / 128 * 128 + (16 + n.val % 128) = n.val / 128 * 128 + (n.val % 128 + 16); omega))
  simp only [dif_neg h]
  by_cases h1 : n.val % 128 < 32
  · have h2 : n.val % 128 - 16 < 16 := by omega
    simp only [dif_pos h1, dif_pos h2]
    exact congrArg (fun x : EReal => x * _ + _)
      (col_congr (R := 16384) (W := 512) v r (by show n.val / 128 * 128 + (16 + (n.val % 128 - 16)) = n.val / 128 * 128 + n.val % 128; omega))
  have h2 : ¬ n.val % 128 - 16 < 16 := by omega
  simp only [dif_neg h1, dif_neg h2]
  exact col_congr (R := 16384) (W := 512) v r (by show n.val / 128 * 128 + (32 + (n.val % 128 - 16 - 16)) = n.val / 128 * 128 + n.val % 128; omega)

theorem turned_congr {v v' : Fin 128 → EReal} (co si : Fin 16 → EReal) {l l' : Fin 128} (hv : ∀ k, v k = v' k) (hl : l.val = l'.val) :
    turned v co si l = turned v' co si l' := by
  rw [funext hv, Fin.ext hl]

/-- The reference's first composed term. -/
def refP {F : FTy → Type} [FloatOps F] (a0 : FVec F S16384x2048 .f32) (a1 : FVec F S2048 .f32) (a2 : FVec F S2048x9248 .f32) : FVec F S16384x9216 .bf16 :=
  truncf .bf16 (concatenate S16384x9216 1 [⟨S16384x4096, (extractStridedSlice S16384x4096 ![0, 5152] (prodM a0 a1 a2) slices_S16384x9248_S16384x4096_0_5152 : FVec F S16384x4096 .f32)⟩,
    ⟨S16384x3072, (extractStridedSlice S16384x3072 ![0, 0] (prodM a0 a1 a2) slices_S16384x9248_S16384x3072_0_0 : FVec F S16384x3072 .f32)⟩,
    ⟨S16384x1024, (ropeQ (extractStridedSlice S16384x1024 ![0, 3104] (prodM a0 a1 a2) slices_S16384x9248_S16384x1024_0_3104) angM : FVec F S16384x1024 .f32)⟩,
    ⟨S16384x512, (ropeK (extractStridedSlice S16384x512 ![0, 4128] (prodM a0 a1 a2) slices_S16384x9248_S16384x512_0_4128) angM : FVec F S16384x512 .f32)⟩,
    ⟨S16384x512, (extractStridedSlice S16384x512 ![0, 4640] (prodM a0 a1 a2) slices_S16384x9248_S16384x512_0_4640 : FVec F S16384x512 .f32)⟩]
    concatenates_S16384x4096_S16384x3072_S16384x1024_S16384x512_S16384x512_S16384x9216_d1 : FVec F S16384x9216 .f32) bitsLt_bf16_f32

/-- The reference's second composed term. -/
def refL {F : FTy → Type} [FloatOps F] (a0 : FVec F S16384x2048 .f32) (a1 : FVec F S2048 .f32) (a2 : FVec F S2048x9248 .f32) : FVec F S16384x128 .bf16 :=
  truncf .bf16 (pad S16384x128 ![0, 0] ![0, 96] ![0, 0] (extractStridedSlice S16384x32 ![0, 3072] (prodM a0 a1 a2) slices_S16384x9248_S16384x32_0_3072) (sitofp .f32 (constantI S_ 32 0#32)) pads_S16384x32_S16384x128_000_0960 h_S_) bitsLt_bf16_f32

/-- The cosine and the sine of a position's angle. -/
def cosAt (p : Fin 4096) (l : Fin 16) : EReal := Ideal.cos (angM (F := Ideal) (ix2 p l))
def sinAt (p : Fin 4096) (l : Fin 16) : EReal := Ideal.sin (angM (F := Ideal) (ix2 p l))

/-- One entry of the main result: the gates' columns first, then the linear branch's, the queries and keys turned, and the values. -/
def main0 (a0 : FVec Ideal S16384x2048 .f32) (a1 : FVec Ideal S2048 .f32) (a2 : FVec Ideal S2048x9248 .f32) (r : Fin 16384) (n : Fin 9216) : EReal :=
  if h : n.val < 4096 then prod a0 a1 a2 r ⟨5152 + n.val, by omega⟩
  else if h' : n.val < 7168 then prod a0 a1 a2 r ⟨n.val - 4096, by omega⟩
  else if h'' : n.val < 8704 then
    turned (fun l => prod a0 a1 a2 r ⟨3104 + (n.val - 7168) / 128 * 128 + l.val, by omega⟩) (cosAt ⟨r.val % 4096, by omega⟩) (sinAt ⟨r.val % 4096, by omega⟩)
      ⟨(n.val - 7168) % 128, by omega⟩
  else prod a0 a1 a2 r ⟨n.val - 4064, by omega⟩

/-- One entry of the low-rank result, padded with zeros. -/
def low0 (a0 : FVec Ideal S16384x2048 .f32) (a1 : FVec Ideal S2048 .f32) (a2 : FVec Ideal S2048x9248 .f32) (r : Fin 16384) (n : Fin 128) : EReal :=
  if h : n.val < 32 then prod a0 a1 a2 r ⟨3072 + n.val, by omega⟩ else 0

theorem refL_at (a0 : FVec Ideal S16384x2048 .f32) (a1 : FVec Ideal S2048 .f32) (a2 : FVec Ideal S2048x9248 .f32) (r : Fin 16384) (n : Fin 128) :
    refL (F := Ideal) a0 a1 a2 (ix2 r n) = low0 a0 a1 a2 r n := by
  unfold refL low0
  pointwise [prodM_at]
  have e : (FloatOps.sitofp (F := Ideal) FTy.f32 (0#32 : BitVec 32) : EReal) = 0 := by
    show (((0#32 : BitVec 32).toInt : ℝ) : EReal) = 0
    simp
  rw [e]

theorem prod_congr (a0 : FVec Ideal S16384x2048 .f32) (a1 : FVec Ideal S2048 .f32) (a2 : FVec Ideal S2048x9248 .f32) (r : Fin 16384) {n n' : Fin 9248}
    (h : n.val = n'.val) : prod a0 a1 a2 r n = prod a0 a1 a2 r n' := by rw [Fin.ext h]

theorem refP_at (a0 : FVec Ideal S16384x2048 .f32) (a1 : FVec Ideal S2048 .f32) (a2 : FVec Ideal S2048x9248 .f32) (r : Fin 16384) (n : Fin 9216) :
    refP (F := Ideal) a0 a1 a2 (ix2 r n) = main0 a0 a1 a2 r n := by
  unfold refP main0
  pointwise [prodM_at]
  by_cases h : n.val < 4096
  · simp only [dif_pos h]
  by_cases h1 : n.val < 7168
  · have g1 : n.val - 4096 < 3072 := by omega
    simp only [dif_neg h, dif_pos h1, dif_pos g1]
  have g1 : ¬ n.val - 4096 < 3072 := by omega
  by_cases h2 : n.val < 8192
  · have g2 : n.val - 4096 - 3072 < 1024 := by omega
    have h3 : n.val < 8704 := by omega
    simp only [dif_neg h, dif_neg h1, dif_neg g1, dif_pos g2, dif_pos h3, ropeQ_at]
    refine turned_congr _ _ (fun l => ?_) (by show (n.val - 4096 - 3072) % 128 = (n.val - 7168) % 128; omega)
    pointwise [prodM_at]
    exact prod_congr a0 a1 a2 r (by show 3104 + ((n.val - 4096 - 3072) / 128 * 128 + l.val) = 3104 + (n.val - 7168) / 128 * 128 + l.val; omega)
  have g2 : ¬ n.val - 4096 - 3072 < 1024 := by omega
  by_cases h3 : n.val < 8704
  · have g3 : n.val - 4096 - 3072 - 1024 < 512 := by omega
    simp only [dif_neg h, dif_neg h1, dif_neg g1, dif_neg g2, dif_pos g3, dif_pos h3, ropeK_at]
    refine turned_congr _ _ (fun l => ?_) (by show (n.val - 4096 - 3072 - 1024) % 128 = (n.val - 7168) % 128; omega)
    pointwise [prodM_at]
    exact prod_congr a0 a1 a2 r (by show 4128 + ((n.val - 4096 - 3072 - 1024) / 128 * 128 + l.val) = 3104 + (n.val - 7168) / 128 * 128 + l.val; omega)
  have g3 : ¬ n.val - 4096 - 3072 - 1024 < 512 := by omega
  simp only [dif_neg h, dif_neg h1, dif_neg g1, dif_neg g2, dif_neg g3, dif_neg h3]
  exact prod_congr a0 a1 a2 r (by show 4640 + (n.val - 4096 - 3072 - 1024 - 512) = n.val - 4064; omega)

variable (m : (ℓ : Loc nD τ sig) → Buf (Elt Ideal) ℓ) (c : Dev nD)

theorem res_eq : Cert.ProjectReferenceIdeal.Value.res_main_v69 (F := Ideal) m c
    = refP (F := Ideal) (m ((c.tc : Thread nD τ).loc main_arg0)) (m ((c.tc : Thread nD τ).loc main_arg1)) (m ((c.tc : Thread nD τ).loc main_arg2)) := by
  unfold Cert.ProjectReferenceIdeal.Value.res_main_v69 refP
  refine congrArg (fun x => truncf .bf16 x bitsLt_bf16_f32) ?_
  rfl

end Cert.Proof.InProj

end
-- ==== Proof.InProj.Entries.lean ====
/-
  The projection kernel's stored values at an entry, and the arrays the host prepares for its call.
-/
module

public import proofs.«01_k».proof.Proof.InProj.Reference
public import proofs.«01_k».proof.Proof.InProj.Frame
public import proofs.«01_k».proof.Defs
public import Idealize.ShloMosaic.Lib.Pipeline.ValueKit
public import Idealize.ShloMosaic.Lib.StableHlo.Run
public import Idealize.ShloMosaic.Lib.ValueIdx
public import Idealize.ShloMosaic.Lib.Routing.Words

@[expose] public section

set_option maxRecDepth 16384
set_option Elab.async false

noncomputable section

namespace Cert.Proof.InProj

open Cert.ProjectIdeal Cert.ProjectIdeal.Gen Cert.ProjectIdeal.Facts
open Idealize.ShloMosaic Idealize.ShloMosaic.TcCoe Idealize.SL.Sem

/-! ## The stored values at an entry -/

theorem k0_pay1_at (x : Vec Ideal S1024x2048 .f32) (g : Vec Ideal S1x2048 .f32) (p : Fin 1024) (k : Fin 2048) :
    k0_pay1 (F := Ideal) x g (ix2 p k) = hat (fun j => x (ix2 p j)) (fun j => g (ix2 (0 : Fin 1) j)) k := by
  unfold k0_pay1 hat
  pointwise

theorem k0_pay2_at (x : Vec Ideal S1024x2048 .f32) (g : Vec Ideal S1x2048 .f32) (p : Fin 1024) (k : Fin 2048) :
    k0_pay2 (F := Ideal) x g (ix2 p k) = hat (fun j => x (ix2 p j)) (fun j => g (ix2 (0 : Fin 1) j)) k := by
  unfold k0_pay2
  pointwise [k0_pay1_at]

theorem k0_pay3_at (x : Vec Ideal S1024x2048 .f32) (g : Vec Ideal S1x2048 .f32) (w : Vec Ideal S2048x128 .bf16) (p : Fin 1024) (q : Fin 128) :
    k0_pay3 (F := Ideal) x g w (ix2 p q)
      = (∑ k : Fin 2048, hat (fun j => x (ix2 p j)) (fun j => g (ix2 (0 : Fin 1) j)) k * w (ix2 k q) : EReal) := by
  unfold k0_pay3
  pointwise [k0_pay1_at]

theorem k0_pay4_at (h : Vec Ideal S1024x2048 .bf16) (w : Vec Ideal S2048x1024 .bf16) (p : Fin 1024) (q : Fin 1024) :
    k0_pay4 (F := Ideal) h w (ix2 p q) = (∑ k : Fin 2048, h (ix2 p k) * w (ix2 k q) : EReal) := by
  unfold k0_pay4
  pointwise

theorem k0_pay7_at (h : Vec Ideal S1024x2048 .bf16) (w : Vec Ideal S2048x1024 .bf16) (p : Fin 1024) (q : Fin 1024) :
    k0_pay7 (F := Ideal) h w (ix2 p q) = (∑ k : Fin 2048, h (ix2 p k) * w (ix2 k q) : EReal) := by
  unfold k0_pay7
  pointwise [k0_pay4_at]

/-! A table repeated along the lanes, read at a lane. -/

theorem cat8 (f : Fin 128 → EReal) (q : Fin 1024) :
    (if h0 : q.val < 128 then f ⟨q.val, by omega⟩ else (if h1 : q.val - 128 < 128 then f ⟨q.val - 128, by omega⟩ else (if h2 : q.val - 128 - 128 < 128 then f ⟨q.val - 128 - 128, by omega⟩ else (if h3 : q.val - 128 - 128 - 128 < 128 then f ⟨q.val - 128 - 128 - 128, by omega⟩ else (if h4 : q.val - 128 - 128 - 128 - 128 < 128 then f ⟨q.val - 128 - 128 - 128 - 128, by omega⟩ else (if h5 : q.val - 128 - 128 - 128 - 128 - 128 < 128 then f ⟨q.val - 128 - 128 - 128 - 128 - 128, by omega⟩ else (if h6 : q.val - 128 - 128 - 128 - 128 - 128 - 128 < 128 then f ⟨q.val - 128 - 128 - 128 - 128 - 128 - 128, by omega⟩ else f ⟨q.val - 128 - 128 - 128 - 128 - 128 - 128 - 128, by omega⟩)))))))
      = f ⟨q.val % 128, by omega⟩ := by
  split_ifs <;> exact congrArg f (Fin.ext (by dsimp only; omega))

theorem cat4 (f : Fin 128 → EReal) (q : Fin 1024) (hq : q.val < 512) :
    (if h0 : q.val < 128 then f ⟨q.val, by omega⟩ else (if h1 : q.val - 128 < 128 then f ⟨q.val - 128, by omega⟩ else (if h2 : q.val - 128 - 128 < 128 then f ⟨q.val - 128 - 128, by omega⟩ else f ⟨q.val - 128 - 128 - 128, by omega⟩)))
      = f ⟨q.val % 128, by omega⟩ := by
  split_ifs <;> exact congrArg f (Fin.ext (by dsimp only; omega))

theorem k0_pay5_at (h : Vec Ideal S1024x2048 .bf16) (w : Vec Ideal S2048x1024 .bf16) (s : Vec Ideal S1024x1024 .bf16) (co si : Vec Ideal S1024x128 .f32)
    (p : Fin 1024) (q : Fin 1024) :
    k0_pay5 (F := Ideal) h w s co si (ix2 p q)
      = (k0_pay4 (F := Ideal) h w (ix2 p q) * co (ix2 p (⟨q.val % 128, by omega⟩ : Fin 128))
        + (∑ c : Fin 1024, k0_pay4 (F := Ideal) h w (ix2 p c) * s (ix2 c q)) * si (ix2 p (⟨q.val % 128, by omega⟩ : Fin 128)) : EReal) := by
  unfold k0_pay5
  generalize k0_pay4 (F := Ideal) h w = acc
  pointwise
  exact congrArg₂ (fun a b : EReal => acc (ix2 p q) * a + (∑ c : Fin 1024, acc (ix2 p c) * s (ix2 c q)) * b)
    (cat8 (fun l => co (ix2 p l)) q) (cat8 (fun l => si (ix2 p l)) q)

theorem k0_pay6_at (h : Vec Ideal S1024x2048 .bf16) (w : Vec Ideal S2048x1024 .bf16) (s : Vec Ideal S512x512 .bf16) (co si : Vec Ideal S1024x128 .f32)
    (p : Fin 1024) (q : Fin 1024) :
    k0_pay6 (F := Ideal) h w s co si (ix2 p q)
      = (if hq : q.val < 512 then k0_pay4 (F := Ideal) h w (ix2 p q) * co (ix2 p (⟨q.val % 128, by omega⟩ : Fin 128))
        + (∑ c : Fin 512, k0_pay4 (F := Ideal) h w (ix2 p (⟨c.val, by omega⟩ : Fin 1024)) * s (ix2 c (⟨q.val, hq⟩ : Fin 512)))
          * si (ix2 p (⟨q.val % 128, by omega⟩ : Fin 128)) else k0_pay4 (F := Ideal) h w (ix2 p q) : EReal) := by
  unfold k0_pay6
  generalize k0_pay4 (F := Ideal) h w = acc
  pointwise
  by_cases hq : q.val < 512
  · simp only [dif_pos hq]
    exact congrArg₂ (fun a b : EReal => acc (ix2 p q) * a + (∑ c : Fin 512, acc (ix2 p (⟨c.val, by omega⟩ : Fin 1024)) * s (ix2 c (⟨q.val, hq⟩ : Fin 512))) * b)
      (cat4 (fun l => co (ix2 p l)) q hq) (cat4 (fun l => si (ix2 p l)) q hq)
  · simp only [dif_neg hq]
    exact col_congr (R := 1024) (W := 1024) acc p (by show 512 + (q.val - 512) = q.val; omega)

/-! ## The partner lane -/

/-- The lane a lane is turned against. -/
def partner (q : Fin 1024) : ℕ := if q.val % 128 < 16 then q.val + 16 else q.val - 16

/-- A sum against a column of the exchange: one entry, or none. -/
theorem sum_swap {W : ℕ} (f : Fin W → EReal) (s : Fin W → EReal) (b : Prop) [Decidable b] (c0 : ℕ) (hc : b → c0 < W)
    (hs : ∀ c : Fin W, s c = if c.val = c0 ∧ b then 1 else 0) :
    (∑ c : Fin W, f c * s c) = if h : b then f ⟨c0, hc h⟩ else 0 := by
  by_cases h : b
  · rw [dif_pos h, Finset.sum_eq_single (⟨c0, hc h⟩ : Fin W)]
    · rw [hs, if_pos ⟨rfl, h⟩, mul_one]
    · intro c _ hne
      rw [hs, if_neg (fun e => hne (Fin.ext e.1)), mul_zero]
    · intro hn
      exact absurd (Finset.mem_univ _) hn
  · rw [dif_neg h]
    refine Finset.sum_eq_zero fun c _ => ?_
    rw [hs, if_neg (fun e => h e.2), mul_zero]

variable (m : (ℓ : Loc nD τ sig) → Buf (Elt Ideal) ℓ) (c : Dev nD)

/-! ## The arrays the host prepares -/

/-- The angles, as the host computes them for the kernel. -/
def angK : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The lanes exchanged: a one at a lane's partner, among the first thirty-two lanes of a head. -/
def laneK : IVec S1024 32 := Idealize.ShloMosaic.Routing.pyRem bcast_S_S1024 (iotaInDim S1024 32 0) (constantI S_ 32 128#32)

def srcK : IVec S1024 32 :=
  select (cmpi .slt laneK (broadcastInDim S1024 ![] bcast_S_S1024 (constantI S_ 32 16#32)))
    (addi (iotaInDim S1024 32 0) (broadcastInDim S1024 ![] bcast_S_S1024 (constantI S_ 32 16#32)))
    (subi (iotaInDim S1024 32 0) (broadcastInDim S1024 ![] bcast_S_S1024 (constantI S_ 32 16#32)))

def swapK {F : FTy → Type} [FloatOps F] : FVec F S1024x1024 .bf16 :=
  uitofp .bf16 (andi (cmpi .eq (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 srcK)))
    (broadcastInDim S1024x1024 ![0, 1] bcast_S1x1024_S1024x1024_0_1
      (cmpi .slt (broadcastInDim S1x1024 ![1] bcast_S1024_S1x1024_1 laneK) (broadcastInDim S1x1024 ![] bcast_S_S1x1024 (constantI S_ 32 32#32)))))

section Stretches
variable (X : Valuation τ sig (Elt Ideal))
open StableHlo (after)

theorem st0_v4 : after hostOps0 X main_v4 = truncf (F := Ideal) .bf16 (concatenate S2048x9216 1 [⟨S2048x4096, (extractStridedSlice S2048x4096 ![0, 5152] (X main_arg2) slices_S2048x9248_S2048x4096_0_5152 : FVec Ideal S2048x4096 .f32)⟩, ⟨S2048x3072, (extractStridedSlice S2048x3072 ![0, 0] (X main_arg2) slices_S2048x9248_S2048x3072_0_0 : FVec Ideal S2048x3072 .f32)⟩, ⟨S2048x2048, (extractStridedSlice S2048x2048 ![0, 3104] (X main_arg2) slices_S2048x9248_S2048x2048_0_3104 : FVec Ideal S2048x2048 .f32)⟩] concatenates_S2048x4096_S2048x3072_S2048x2048_S2048x9216_d1) bitsLt_bf16_f32 := by
  after_results
  rfl
theorem st0_v5 : after hostOps0 X main_v5 = (extractStridedSlice S2048x32 ![0, 3072] (X main_arg2) slices_S2048x9248_S2048x32_0_3072 : FVec Ideal S2048x32 .f32) := by
  after_results
theorem st0_c : after hostOps0 X main_c = (constantI S_ 32 0#32 : IVec S_ 32) := by
  after_results
theorem st1_v6 : after hostOps0_1 X main_v6 = pad S2048x128 ![0, 0] ![0, 96] ![0, 0] (X main_v5) (sitofp (F := Ideal) .f32 (X main_c : IVec S_ 32)) pads_S2048x32_S2048x128_000_0960 h_S_ := by
  after_results
  rfl
theorem st2_v7 : after hostOps0_2 X main_v7 = truncf (F := Ideal) .bf16 (X main_v6 : FVec Ideal S2048x128 .f32) bitsLt_bf16_f32 := by
  after_results
theorem st2_v23 : after hostOps0_2 X main_v23 = (concatenate S4096x128 1 [⟨S4096x16, (Host.cos angK : FVec Ideal S4096x16 .f32)⟩, ⟨S4096x16, (Host.cos angK : FVec Ideal S4096x16 .f32)⟩, ⟨S4096x96, (broadcastInDim S4096x96 ![] bcast_S_S4096x96 (constant S_ .f32 0x3F800000#32) : FVec Ideal S4096x96 .f32)⟩] concatenates_S4096x16_S4096x16_S4096x96_S4096x128_d1) := by
  unfold angK
  after_results
  rfl
theorem st2_v26 : after hostOps0_2 X main_v26 = (concatenate S4096x128 1 [⟨S4096x16, (Host.negf (Host.sin angK) : FVec Ideal S4096x16 .f32)⟩, ⟨S4096x16, (Host.sin angK : FVec Ideal S4096x16 .f32)⟩, ⟨S4096x96, (broadcastInDim S4096x96 ![] bcast_S_S4096x96 (constant S_ .f32 0x00000000#32) : FVec Ideal S4096x96 .f32)⟩] concatenates_S4096x16_S4096x16_S4096x96_S4096x128_d1) := by
  unfold angK
  after_results
  rfl
theorem st2_v27 : after hostOps0_2 X main_v27 = shapeCast S1x2048 (X main_arg1) shapeCasts_S2048_S1x2048 := by
  after_results
  rfl
theorem st2_v28 : after hostOps0_2 X main_v28 = (iotaInDim S1024 32 0 : IVec S1024 32) := by
  after_results
theorem st2_c3 : after hostOps0_2 X main_c_3 = (constantI S_ 32 128#32 : IVec S_ 32) := by
  after_results
theorem st3_v29 : after hostOps0_3 X main_v29 = Idealize.ShloMosaic.Routing.pyRem bcast_S_S1024 (X main_v28) (X main_c_3) := by
  after_results
  simp -implicitDefEqProofs only [StableHlo.TRef.toBuf, StableHlo.TRef.ofBuf, cast_cast, cast_eq, id]
  unfold Idealize.ShloMosaic.Routing.pyRem Idealize.ShloMosaic.Routing.divGuard
  rfl
theorem st4_v31 : after hostOps0_4 X main_v31 = cmpi .slt (X main_v29 : IVec S1024 32) (broadcastInDim S1024 ![] bcast_S_S1024 (constantI S_ 32 16#32)) := by
  after_results
theorem st4_v33 : after hostOps0_4 X main_v33 = addi (X main_v28 : IVec S1024 32) (broadcastInDim S1024 ![] bcast_S_S1024 (constantI S_ 32 16#32)) := by
  after_results
theorem st4_v35 : after hostOps0_4 X main_v35 = subi (X main_v28 : IVec S1024 32) (broadcastInDim S1024 ![] bcast_S_S1024 (constantI S_ 32 16#32)) := by
  after_results
theorem st5_v36 : after hostOps0_5 X main_v36 = select (X main_v31 : IVec S1024 1) (X main_v33 : IVec S1024 32) (X main_v35) := by
  after_results
  rfl
theorem st6_v47 : after hostOps0_6 X main_v47 = uitofp (F := Ideal) .bf16 (andi (cmpi .eq (broadcastInDim S1024x1024 ![0, 1] bcast_S1024x1_S1024x1024_0_1 (broadcastInDim S1024x1 ![0] bcast_S1024_S1024x1_0 (X main_v28 : IVec S1024 32)))
      (broadcastInDim S1024x1024 ![0, 1] bcast_S1x1024_S1024x1024_0_1 (broadcastInDim S1x1024 ![1] bcast_S1024_S1x1024_1 (X main_v36 : IVec S1024 32))))
    (broadcastInDim S1024x1024 ![0, 1] bcast_S1x1024_S1024x1024_0_1
      (cmpi .slt (broadcastInDim S1x1024 ![1] bcast_S1024_S1x1024_1 (X main_v29 : IVec S1024 32)) (broadcastInDim S1x1024 ![] bcast_S_S1x1024 (constantI S_ 32 32#32))))) := by
  after_results

theorem keep6 (r : Ref sig .tc) (h : r ∈ [main_v4, main_v7, main_v23, main_v26, main_v27]) : after hostOps0_6 X r = X r := by
  simp only [List.mem_cons, List.not_mem_nil, or_false] at h
  rcases h with rfl | rfl | rfl | rfl | rfl <;> after_results
theorem keep5 (r : Ref sig .tc) (h : r ∈ [main_v4, main_v7, main_v23, main_v26, main_v27, main_v28, main_v29]) : after hostOps0_5 X r = X r := by
  simp only [List.mem_cons, List.not_mem_nil, or_false] at h
  rcases h with rfl | rfl | rfl | rfl | rfl | rfl | rfl <;> after_results
theorem keep4 (r : Ref sig .tc) (h : r ∈ [main_v4, main_v7, main_v23, main_v26, main_v27, main_v28, main_v29]) : after hostOps0_4 X r = X r := by
  simp only [List.mem_cons, List.not_mem_nil, or_false] at h
  rcases h with rfl | rfl | rfl | rfl | rfl | rfl | rfl <;> after_results
theorem keep3 (r : Ref sig .tc) (h : r ∈ [main_v4, main_v7, main_v23, main_v26, main_v27, main_v28]) : after hostOps0_3 X r = X r := by
  simp only [List.mem_cons, List.not_mem_nil, or_false] at h
  rcases h with rfl | rfl | rfl | rfl | rfl | rfl <;> after_results
theorem keep2 : after hostOps0_2 X main_v4 = X main_v4 := by after_results
theorem keep1_v4 : after hostOps0_1 X main_v4 = X main_v4 := by after_results
theorem keep1_arg1 : after hostOps0_1 X main_arg1 = X main_arg1 := by after_results
theorem keep0_arg1 : after hostOps0 X main_arg1 = X main_arg1 := by after_results

theorem after_cat (l₁ l₂ : List (HloOp τ sig (Elt Ideal))) (Y : Valuation τ sig (Elt Ideal)) :
    after (l₁ ++ l₂) Y = after l₂ (after l₁ Y) := by
  induction l₁ generalizing Y with
  | nil => rfl
  | cons op l ih => exact ih _

theorem V_stretches (b : Ref sig .tc) : V m c b
    = after hostOps0_6 (after hostOps0_5 (after hostOps0_4 (after hostOps0_3 (after hostOps0_2 (after hostOps0_1 (after hostOps0 (fun b => m (c, b)))))))) b := by
  unfold V
  rw [List.flatten_cons, List.flatten_cons, List.flatten_cons, List.flatten_cons, List.flatten_cons, List.flatten_cons, List.flatten_cons, List.flatten_nil, List.append_nil]
  rw [after_cat, after_cat, after_cat, after_cat, after_cat, after_cat]
end Stretches

theorem V_v27 : V m c main_v27 = shapeCast S1x2048 (m ((c : Thread nD τ).loc main_arg1)) shapeCasts_S2048_S1x2048 := by
  rw [V_stretches, keep6 _ _ (by decide), keep5 _ _ (by decide), keep4 _ _ (by decide), keep3 _ _ (by decide), st2_v27, keep1_arg1, keep0_arg1]

theorem V_v4 : V m c main_v4 = truncf (F := Ideal) .bf16 (concatenate S2048x9216 1 [⟨S2048x4096, (extractStridedSlice S2048x4096 ![0, 5152] (m ((c : Thread nD τ).loc main_arg2)) slices_S2048x9248_S2048x4096_0_5152 : FVec Ideal S2048x4096 .f32)⟩, ⟨S2048x3072, (extractStridedSlice S2048x3072 ![0, 0] (m ((c : Thread nD τ).loc main_arg2)) slices_S2048x9248_S2048x3072_0_0 : FVec Ideal S2048x3072 .f32)⟩, ⟨S2048x2048, (extractStridedSlice S2048x2048 ![0, 3104] (m ((c : Thread nD τ).loc main_arg2)) slices_S2048x9248_S2048x2048_0_3104 : FVec Ideal S2048x2048 .f32)⟩] concatenates_S2048x4096_S2048x3072_S2048x2048_S2048x9216_d1) bitsLt_bf16_f32 := by
  rw [V_stretches, keep6 _ _ (by decide), keep5 _ _ (by decide), keep4 _ _ (by decide), keep3 _ _ (by decide), keep2, keep1_v4, st0_v4]

theorem V_v7 : V m c main_v7 = truncf (F := Ideal) .bf16 (pad S2048x128 ![0, 0] ![0, 96] ![0, 0] (extractStridedSlice S2048x32 ![0, 3072] (m ((c : Thread nD τ).loc main_arg2)) slices_S2048x9248_S2048x32_0_3072 : FVec Ideal S2048x32 .f32) (sitofp (F := Ideal) .f32 (constantI S_ 32 0#32)) pads_S2048x32_S2048x128_000_0960 h_S_) bitsLt_bf16_f32 := by
  rw [V_stretches, keep6 _ _ (by decide), keep5 _ _ (by decide), keep4 _ _ (by decide), keep3 _ _ (by decide), st2_v7, st1_v6, st0_v5, st0_c]

theorem V_v23 : V m c main_v23 = (concatenate S4096x128 1 [⟨S4096x16, (Host.cos angK : FVec Ideal S4096x16 .f32)⟩, ⟨S4096x16, (Host.cos angK : FVec Ideal S4096x16 .f32)⟩, ⟨S4096x96, (broadcastInDim S4096x96 ![] bcast_S_S4096x96 (constant S_ .f32 0x3F800000#32) : FVec Ideal S4096x96 .f32)⟩] concatenates_S4096x16_S4096x16_S4096x96_S4096x128_d1) := by
  rw [V_stretches, keep6 _ _ (by decide), keep5 _ _ (by decide), keep4 _ _ (by decide), keep3 _ _ (by decide), st2_v23]

theorem V_v26 : V m c main_v26 = (concatenate S4096x128 1 [⟨S4096x16, (Host.negf (Host.sin angK) : FVec Ideal S4096x16 .f32)⟩, ⟨S4096x16, (Host.sin angK : FVec Ideal S4096x16 .f32)⟩, ⟨S4096x96, (broadcastInDim S4096x96 ![] bcast_S_S4096x96 (constant S_ .f32 0x00000000#32) : FVec Ideal S4096x96 .f32)⟩] concatenates_S4096x16_S4096x16_S4096x96_S4096x128_d1) := by
  rw [V_stretches, keep6 _ _ (by decide), keep5 _ _ (by decide), keep4 _ _ (by decide), keep3 _ _ (by decide), st2_v26]

theorem V_v47 : V m c main_v47 = swapK (F := Ideal) := by
  rw [V_stretches, st6_v47, st5_v36, st4_v31, st4_v33, st4_v35, keep5 _ main_v28 (by decide), keep5 _ main_v29 (by decide), keep4 _ main_v28 (by decide),
    keep4 _ main_v29 (by decide), st3_v29, keep3 _ main_v28 (by decide), st2_v28, st2_c3]
  rfl

end Cert.Proof.InProj

end
-- ==== Proof.InProj.Kernel.lean ====
/-
  What the projection's call leaves, entry by entry.
-/
module

public import proofs.«01_k».proof.Proof.InProj.Entries

@[expose] public section

set_option maxRecDepth 16384
set_option Elab.async false

noncomputable section

namespace Cert.Proof.InProj

open Cert.ProjectIdeal Cert.ProjectIdeal.Gen Cert.ProjectIdeal.Facts
open Idealize.ShloMosaic Idealize.ShloMosaic.TcCoe Idealize.SL.Sem

variable (m : (ℓ : Loc nD τ sig) → Buf (Elt Ideal) ℓ) (c : Dev nD)

/-! ## The prepared arrays at an entry -/

theorem angK_eq : angK = angM (F := Ideal) := rfl

/-- The column of the weights a column of the padded weights holds. -/
def wcol (n : Fin 9216) : Fin 9248 :=
  if h : n.val < 4096 then ⟨5152 + n.val, by omega⟩ else if h' : n.val < 7168 then ⟨n.val - 4096, by omega⟩ else ⟨n.val - 4064, by omega⟩

theorem w_at (k : Fin 2048) (n : Fin 9216) : V m c main_v4 (ix2 k n) = m ((c : Thread nD τ).loc main_arg2) (ix2 k (wcol n)) := by
  rw [V_v4]
  pointwise
  unfold wcol
  by_cases h : n.val < 4096
  · simp only [dif_pos h]
  by_cases h' : n.val < 7168
  · have g : n.val - 4096 < 3072 := by omega
    simp only [dif_neg h, dif_pos h', dif_pos g]
  · have g : ¬ n.val - 4096 < 3072 := by omega
    simp only [dif_neg h, dif_neg h', dif_neg g]
    exact congrArg (fun x : Fin 9248 => m ((c : Thread nD τ).loc main_arg2) (ix2 k x)) (Fin.ext (by show 3104 + (n.val - 4096 - 3072) = n.val - 4064; omega))

theorem wlr_at (k : Fin 2048) (l : Fin 128) : V m c main_v7 (ix2 k l)
    = (if h : l.val < 32 then m ((c : Thread nD τ).loc main_arg2) (ix2 k (⟨3072 + l.val, by omega⟩ : Fin 9248)) else 0 : EReal) := by
  rw [V_v7]
  pointwise
  have e : (FloatOps.sitofp (F := Ideal) FTy.f32 (0#32 : BitVec 32) : EReal) = 0 := by
    show (((0#32 : BitVec 32).toInt : ℝ) : EReal) = 0
    simp
  rw [e]

theorem g_at (k : Fin 2048) : V m c main_v27 (ix2 (0 : Fin 1) k) = m ((c : Thread nD τ).loc main_arg1) (ix1 k) := by
  rw [V_v27]
  pointwise

/-- A lane of the cosine table, and of the signed sine table. -/
def cosT (co : Fin 16 → EReal) (l : Fin 128) : EReal :=
  if h : l.val < 16 then co ⟨l.val, h⟩ else if h' : l.val < 32 then co ⟨l.val - 16, by omega⟩ else 1
def sinT (si : Fin 16 → EReal) (l : Fin 128) : EReal :=
  if h : l.val < 16 then -si ⟨l.val, h⟩ else if h' : l.val < 32 then si ⟨l.val - 16, by omega⟩ else 0

theorem cos_at (p : Fin 4096) (l : Fin 128) : V m c main_v23 (ix2 p l) = cosT (cosAt p) l := by
  rw [V_v23, angK_eq]
  unfold cosT cosAt
  generalize angM (F := Ideal) = A
  pointwise
  by_cases h : l.val < 16
  · simp only [dif_pos h]
  by_cases h' : l.val < 32
  · have g : l.val - 16 < 16 := by omega
    simp only [dif_neg h, dif_pos h', dif_pos g]
  · have g : ¬ l.val - 16 < 16 := by omega
    simp only [dif_neg h, dif_neg h', dif_neg g]

theorem sin_at (p : Fin 4096) (l : Fin 128) : V m c main_v26 (ix2 p l) = sinT (sinAt p) l := by
  rw [V_v26, angK_eq]
  unfold sinT sinAt
  generalize angM (F := Ideal) = A
  pointwise
  by_cases h : l.val < 16
  · simp only [dif_pos h]
  by_cases h' : l.val < 32
  · have g : l.val - 16 < 16 := by omega
    simp only [dif_neg h, dif_pos h', dif_pos g]
  · have g : ¬ l.val - 16 < 16 := by omega
    simp only [dif_neg h, dif_neg h', dif_neg g]

theorem lane_at (q : Fin 1024) : laneK (ix1 q) = BitVec.ofNat 32 (q.val % 128) :=
  Idealize.ShloMosaic.Routing.pyRem_ap bcast_S_S1024 _ _ _ (a := q.val) (b := 128) rfl rfl (by omega) (by decide) (by decide)

theorem src_at (q : Fin 1024) : srcK (ix1 q) = BitVec.ofNat 32 (partner q) := by
  have e : srcK (ix1 q) = Scalar.select (IntOp.cmpi .slt (laneK (ix1 q)) 16#32) (BitVec.ofNat 32 q.val + 16#32) (BitVec.ofNat 32 q.val - 16#32) := rfl
  rw [e, lane_at]
  exact (by decide +kernel : ∀ q : Fin 1024, Scalar.select (IntOp.cmpi .slt (BitVec.ofNat 32 (q.val % 128)) 16#32) (BitVec.ofNat 32 q.val + 16#32) (BitVec.ofNat 32 q.val - 16#32)
    = BitVec.ofNat 32 (if q.val % 128 < 16 then q.val + 16 else q.val - 16)) q

theorem partner_lt (q : Fin 1024) : partner q < 2048 := by unfold partner; split_ifs <;> omega

theorem swap_at (r q : Fin 1024) : (swapK (F := Ideal) (ix2 r q) : EReal) = if r.val = partner q ∧ q.val % 128 < 32 then 1 else 0 := by
  have e : (swapK (F := Ideal) (ix2 r q) : EReal)
      = (((IntOp.andi (IntOp.cmpi .eq (BitVec.ofNat 32 r.val) (srcK (ix1 q))) (IntOp.cmpi .slt (laneK (ix1 q)) 32#32)).toNat : ℝ) : EReal) := by
    unfold swapK
    pointwise
    rfl
  rw [e, lane_at, src_at, WordCmp.cmpi_eq_ofNat (by omega) (lt_of_lt_of_le (partner_lt q) (by decide)), WordCmp.cmpi_slt_ofNat (by omega) (by decide)]
  by_cases h : r.val = partner q <;> by_cases h' : q.val % 128 < 32 <;> simp [h, h', IntOp.andi]

/-! ## A turned lane -/

theorem turn_eq (v : Fin 128 → EReal) (co si : Fin 16 → EReal) (l : Fin 128) :
    v l * cosT co l + (if h : l.val < 32 then v ⟨if l.val < 16 then l.val + 16 else l.val - 16, by split_ifs <;> omega⟩ else 0) * sinT si l = turned v co si l := by
  unfold cosT sinT turned
  by_cases h : l.val < 16
  · have h' : l.val < 32 := by omega
    simp only [dif_pos h, dif_pos h', if_pos h, mul_neg, sub_eq_add_neg]
  · by_cases h' : l.val < 32
    · simp only [dif_neg h, dif_pos h', if_neg h]
    · simp only [dif_neg h, dif_neg h', mul_one, mul_zero, add_zero]

/-! ## The blocks -/

theorem at0 : ∀ t : Fin grid0.N, win0_0.index t = ![(grid0.coords t 0).val, 0] := by decide +kernel
theorem at1 : ∀ t : Fin grid0.N, win0_1.index t = ![0, 0] := by decide +kernel
theorem at2 : ∀ t : Fin grid0.N, win0_2.index t = ![0, (grid0.coords t 1).val] := by decide +kernel
theorem at3 : ∀ t : Fin grid0.N, win0_3.index t = ![0, 0] := by decide +kernel
theorem at4 : ∀ t : Fin grid0.N, win0_4.index t = ![(grid0.coords t 0).val % 4, 0] := by decide +kernel
theorem at5 : ∀ t : Fin grid0.N, win0_5.index t = ![(grid0.coords t 0).val % 4, 0] := by decide +kernel
theorem at6 : ∀ t : Fin grid0.N, win0_6.index t = ![0, 0] := by decide +kernel
theorem at7 : ∀ t : Fin grid0.N, win0_7.index t = ![(grid0.coords t 0).val, (grid0.coords t 1).val] := by decide +kernel
theorem at8 : ∀ t : Fin grid0.N, win0_8.index t = ![(grid0.coords t 0).val, 0] := by decide +kernel
theorem row_coord : ∀ t : Fin grid0.N, (grid0.coords (row t) 0).val = (grid0.coords t 0).val := by decide +kernel
theorem coord1' : ∀ t : Fin grid0.N, (grid0.coords t 1).val = t.val % 9 := by decide +kernel

variable (t : Fin cfg0.N)

theorem b0 (p : Fin 1024) (k : Fin 2048) (r : Fin 16384) (hr : r.val = (grid0.coords t 0).val * 1024 + p.val) :
    iblk m c 0 t (ix2 p k) = V m c main_arg0 (ix2 r k) := by blk_ext [iblk, at0 t]
theorem b1 (k : Fin 2048) : iblk m c 1 t (ix2 (0 : Fin 1) k) = V m c main_v27 (ix2 (0 : Fin 1) k) := by blk_ext [iblk, at1 t]
theorem b2 (k : Fin 2048) (q : Fin 1024) (n : Fin 9216) (hn : n.val = (grid0.coords t 1).val * 1024 + q.val) :
    iblk m c 2 t (ix2 k q) = V m c main_v4 (ix2 k n) := by blk_ext [iblk, at2 t]
theorem b3 (k : Fin 2048) (q : Fin 128) : iblk m c 3 t (ix2 k q) = V m c main_v7 (ix2 k q) := by blk_ext [iblk, at3 t]
theorem b4 (p : Fin 1024) (l : Fin 128) (s : Fin 4096) (hs : s.val = (grid0.coords t 0).val % 4 * 1024 + p.val) :
    iblk m c 4 t (ix2 p l) = V m c main_v23 (ix2 s l) := by blk_ext [iblk, at4 t]
theorem b5 (p : Fin 1024) (l : Fin 128) (s : Fin 4096) (hs : s.val = (grid0.coords t 0).val % 4 * 1024 + p.val) :
    iblk m c 5 t (ix2 p l) = V m c main_v26 (ix2 s l) := by blk_ext [iblk, at5 t]
theorem b6 (p q : Fin 1024) : iblk m c 6 t (ix2 p q) = V m c main_v47 (ix2 p q) := by blk_ext [iblk, at6 t]

/-! ## A point's tile -/

/-- The arguments' contents at launch. -/
abbrev x0 : FVec Ideal S16384x2048 .f32 := m ((c : Thread nD τ).loc main_arg0)
abbrev x1 : FVec Ideal S2048 .f32 := m ((c : Thread nD τ).loc main_arg1)
abbrev x2 : FVec Ideal S2048x9248 .f32 := m ((c : Thread nD τ).loc main_arg2)

theorem hat_blk (p : Fin 1024) (r : Fin 16384) (hr : r.val = (grid0.coords t 0).val * 1024 + p.val) :
    hat (fun j => iblk m c 0 (row t) (ix2 p j)) (fun j => iblk m c 1 (row t) (ix2 (0 : Fin 1) j)) = hat (fun j => x0 m c (ix2 r j)) (fun j => x1 m c (ix1 j)) := by
  have e0 : (fun j => iblk m c 0 (row t) (ix2 p j)) = fun j => x0 m c (ix2 r j) :=
    funext fun j => (b0 m c (row t) p j r (hr.trans (by rw [row_coord t]))).trans (congrFun (V_main_arg0 m c) _)
  have e1 : (fun j => iblk m c 1 (row t) (ix2 (0 : Fin 1) j)) = fun j => x1 m c (ix1 j) :=
    funext fun j => (b1 m c (row t) j).trans (g_at m c j)
  rw [e0, e1]

theorem tile_at (p q : Fin 1024) (r : Fin 16384) (n : Fin 9216) (hr : r.val = (grid0.coords t 0).val * 1024 + p.val) (hn : n.val = (grid0.coords t 1).val * 1024 + q.val) :
    k0_pay4 (F := Ideal) (hOf m c t) (iblk m c 2 t) (ix2 p q) = prod (x0 m c) (x1 m c) (x2 m c) r (wcol n) := by
  refine (k0_pay4_at _ _ p q).trans (Finset.sum_congr rfl fun k _ => ?_)
  exact congrArg₂ (fun a b : EReal => a * b) ((k0_pay2_at _ _ p k).trans (congrFun (hat_blk m c t p r hr) k)) ((b2 m c t k q n hn).trans (w_at m c k n))

theorem lr_at (p : Fin 1024) (l : Fin 128) (r : Fin 16384) (hr : r.val = (grid0.coords t 0).val * 1024 + p.val) :
    lrOf m c t (ix2 p l) = low0 (x0 m c) (x1 m c) (x2 m c) r l := by
  refine (k0_pay3_at _ _ _ p l).trans ?_
  unfold low0
  by_cases h : l.val < 32
  · rw [dif_pos h]
    refine Finset.sum_congr rfl fun k _ => ?_
    exact congrArg₂ (fun a b : EReal => a * b) (congrFun (hat_blk m c t p r hr) k) ((b3 m c (row t) k l).trans ((wlr_at m c k l).trans (dif_pos h)))
  · rw [dif_neg h]
    refine Finset.sum_eq_zero fun k _ => ?_
    rw [(b3 m c (row t) k l).trans ((wlr_at m c k l).trans (dif_neg h)), mul_zero]

/-- A lane the kernel turns: its value by the cosine, and its partner's by the signed sine. -/
theorem turned_of {W : ℕ} (f : Fin W → EReal) (v : Fin 128 → EReal) (co si : Fin 16 → EReal) (q : Fin W) (l : Fin 128) (a b : EReal) (par : ℕ)
    (hl : l.val = q.val % 128) (hpar : par = if q.val % 128 < 16 then q.val + 16 else q.val - 16) (hp : q.val % 128 < 32 → par < W)
    (hv : ∀ (k : Fin 128) (j : Fin W), j.val = q.val / 128 * 128 + k.val → f j = v k) (ha : a = cosT co l) (hb : b = sinT si l) :
    f q * a + (if h : q.val % 128 < 32 then f ⟨par, hp h⟩ else 0) * b = turned v co si l := by
  rw [← turn_eq v co si l, ha, hb]
  refine congrArg₂ (fun x y : EReal => x + y) (congrArg (fun x : EReal => x * cosT co l) (hv l q (by omega))) (congrArg (fun x : EReal => x * sinT si l) ?_)
  by_cases h : q.val % 128 < 32
  · have h' : l.val < 32 := by omega
    simp only [dif_pos h, dif_pos h']
    refine hv _ _ ?_
    show par = q.val / 128 * 128 + (if l.val < 16 then l.val + 16 else l.val - 16)
    rw [hpar, hl]
    split_ifs <;> omega
  · have h' : ¬ l.val < 32 := by omega
    simp only [dif_neg h, dif_neg h']

theorem wcol_val (n : Fin 9216) (h : 7168 ≤ n.val) : (wcol n).val = n.val - 4064 := by
  unfold wcol
  rw [dif_neg (by omega), dif_neg (by omega)]

theorem co_at (p : Fin 1024) (l l' : Fin 128) (s : Fin 4096) (hs : s.val = (grid0.coords t 0).val % 4 * 1024 + p.val) (hl : l.val = l'.val) :
    (iblk m c 4 t (ix2 p l) : EReal) = cosT (cosAt s) l' := by
  rw [← Fin.ext hl]
  exact (b4 m c t p l s hs).trans (cos_at m c s l)
theorem si_at (p : Fin 1024) (l l' : Fin 128) (s : Fin 4096) (hs : s.val = (grid0.coords t 0).val % 4 * 1024 + p.val) (hl : l.val = l'.val) :
    (iblk m c 5 t (ix2 p l) : EReal) = sinT (sinAt s) l' := by
  rw [← Fin.ext hl]
  exact (b5 m c t p l s hs).trans (sin_at m c s l)

theorem s_at (k q : Fin 1024) : iblk m c 6 t (ix2 k q) = (if k.val = partner q ∧ q.val % 128 < 32 then 1 else 0 : EReal) :=
  (b6 m c t k q).trans ((congrFun (V_v47 m c) _).trans (swap_at k q))

theorem corner_at (x : Vec Ideal S1024x1024 .bf16) (k q : Fin 512) :
    corner x (ix2 k q) = x (ix2 (⟨k.val, by omega⟩ : Fin 1024) (⟨q.val, by omega⟩ : Fin 1024)) :=
  congrArg x (funext fun a => Fin.ext (by
    match a with
    | ⟨0, _⟩ => exact (Nat.zero_add _).trans (Nat.one_mul _)
    | ⟨1, _⟩ => exact (Nat.zero_add _).trans (Nat.one_mul _)))

theorem proj_at (p q : Fin 1024) (r : Fin 16384) (n : Fin 9216) (hr : r.val = (grid0.coords t 0).val * 1024 + p.val) (hn : n.val = (grid0.coords t 1).val * 1024 + q.val) :
    projOf m c t (ix2 p q) = main0 (x0 m c) (x1 m c) (x2 m c) r n := by
  have hc := coord1' t
  have hs : (⟨r.val % 4096, by omega⟩ : Fin 4096).val = (grid0.coords t 0).val % 4 * 1024 + p.val := by
    show r.val % 4096 = _
    omega
  unfold projOf main0
  by_cases h7 : t.val % 9 = 7
  · have n0 : ¬ n.val < 4096 := by omega
    have n1 : ¬ n.val < 7168 := by omega
    have n2 : n.val < 8704 := by omega
    rw [if_pos h7, dif_neg n0, dif_neg n1, dif_pos n2]
    refine (k0_pay5_at _ _ _ _ _ p q).trans ?_
    rw [sum_swap (fun k => k0_pay4 (F := Ideal) (hOf m c t) (iblk m c 2 t) (ix2 p k)) (fun k => iblk m c 6 t (ix2 k q)) (q.val % 128 < 32) (partner q)
      (fun h => by unfold partner; split_ifs <;> omega) (fun k => s_at m c t k q)]
    refine turned_of (fun k : Fin 1024 => k0_pay4 (F := Ideal) (hOf m c t) (iblk m c 2 t) (ix2 p k)) _ _ _ q _ _ _ (partner q) (by show (n.val - 7168) % 128 = _; omega) rfl _ ?_
      (co_at m c t p _ _ _ hs (by show q.val % 128 = (n.val - 7168) % 128; omega)) (si_at m c t p _ _ _ hs (by show q.val % 128 = (n.val - 7168) % 128; omega))
    intro k j hj
    refine (tile_at m c t p j r ⟨7168 + j.val, by omega⟩ hr (by show 7168 + j.val = _; omega)).trans (prod_congr _ _ _ r ?_)
    rw [wcol_val _ (by show 7168 ≤ 7168 + j.val; omega)]
    show 7168 + j.val - 4064 = 3104 + (n.val - 7168) / 128 * 128 + k.val
    omega
  by_cases h8 : t.val % 9 = 8
  · have n0 : ¬ n.val < 4096 := by omega
    have n1 : ¬ n.val < 7168 := by omega
    rw [if_neg h7, if_pos h8, dif_neg n0, dif_neg n1]
    refine (k0_pay6_at _ _ _ _ _ p q).trans ?_
    by_cases hq : q.val < 512
    · have n2 : n.val < 8704 := by omega
      rw [dif_pos hq, dif_pos n2]
      rw [sum_swap (fun k : Fin 512 => k0_pay4 (F := Ideal) (hOf m c t) (iblk m c 2 t) (ix2 p (⟨k.val, by omega⟩ : Fin 1024)))
        (fun k : Fin 512 => corner (iblk m c 6 t) (ix2 k (⟨q.val, hq⟩ : Fin 512))) (q.val % 128 < 32) (partner q)
        (fun h => by unfold partner; split_ifs <;> omega) (fun k => (corner_at _ k ⟨q.val, hq⟩).trans (s_at m c t ⟨k.val, by omega⟩ q))]
      refine turned_of (fun k : Fin 512 => k0_pay4 (F := Ideal) (hOf m c t) (iblk m c 2 t) (ix2 p (⟨k.val, by omega⟩ : Fin 1024))) _ _ _ ⟨q.val, hq⟩ _ _ _ (partner q)
        (by show (n.val - 7168) % 128 = q.val % 128; omega) rfl _ ?_
        (co_at m c t p _ _ _ hs (by show q.val % 128 = (n.val - 7168) % 128; omega)) (si_at m c t p _ _ _ hs (by show q.val % 128 = (n.val - 7168) % 128; omega))
      intro k j hj
      have hj' : j.val = q.val / 128 * 128 + k.val := hj
      refine (tile_at m c t p ⟨j.val, by omega⟩ r ⟨8192 + j.val, by omega⟩ hr (by show 8192 + j.val = _ + j.val; omega)).trans (prod_congr _ _ _ r ?_)
      rw [wcol_val _ (by show 7168 ≤ 8192 + j.val; omega)]
      show 8192 + j.val - 4064 = 3104 + (n.val - 7168) / 128 * 128 + k.val
      omega
    · have n2 : ¬ n.val < 8704 := by omega
      rw [dif_neg hq, dif_neg n2]
      exact (tile_at m c t p q r n hr hn).trans (prod_congr _ _ _ r (wcol_val n (by omega)))
  · have hN : t.val % 9 < 9 := Nat.mod_lt _ (by decide)
    rw [if_neg h7, if_neg h8]
    refine (k0_pay7_at _ _ p q).trans ((k0_pay4_at _ _ p q).symm.trans ((tile_at m c t p q r n hr hn).trans ?_))
    by_cases n0 : n.val < 4096
    · rw [dif_pos n0]
      exact prod_congr _ _ _ r (by unfold wcol; rw [dif_pos n0])
    · have n1 : n.val < 7168 := by omega
      rw [dif_neg n0, dif_pos n1]
      exact prod_congr _ _ _ r (by unfold wcol; rw [dif_neg n0, dif_pos n1])

/-! ## The results -/

theorem emb7_0 (y : ((cfg0.win 7).xblock (cfg0.grid.coords t)).Idx) :
    (((cfg0.win 7).blk t).view.emb y (0 : Fin 2)).val = (grid0.coords t 0).val * 1024 + (y (0 : Fin 2)).val := by
  blk_simp [at7 t]
theorem emb7_1 (y : ((cfg0.win 7).xblock (cfg0.grid.coords t)).Idx) :
    (((cfg0.win 7).blk t).view.emb y (1 : Fin 2)).val = (grid0.coords t 1).val * 1024 + (y (1 : Fin 2)).val := by
  blk_simp [at7 t]
theorem emb8_0 (y : ((cfg0.win 8).xblock (cfg0.grid.coords t)).Idx) :
    (((cfg0.win 8).blk t).view.emb y (0 : Fin 2)).val = (grid0.coords t 0).val * 1024 + (y (0 : Fin 2)).val := by
  blk_simp [at8 t]
theorem emb8_1 (y : ((cfg0.win 8).xblock (cfg0.grid.coords t)).Idx) :
    (((cfg0.win 8).blk t).view.emb y (1 : Fin 2)).val = (y (1 : Fin 2)).val := by
  blk_simp [at8 t]

/-- The call's two results, of the arguments' contents at launch. -/
def res0 : FVec Ideal S16384x9216 .bf16 := fun i => main0 (x0 m c) (x1 m c) (x2 m c) (i 0) (i 1)
def res1 : FVec Ideal S16384x128 .bf16 := fun i => low0 (x0 m c) (x1 m c) (x2 m c) (i 0) (i 1)

theorem proj_entry (y : S1024x1024.Idx) (i : S16384x9216.Idx) (h0 : (i (0 : Fin 2)).val = (grid0.coords t 0).val * 1024 + (y (0 : Fin 2)).val)
    (h1 : (i (1 : Fin 2)).val = (grid0.coords t 1).val * 1024 + (y (1 : Fin 2)).val) : projOf m c t y = res0 m c i := by
  rw [eq_ix2 (n0 := 1024) (n1 := 1024) y]
  exact proj_at m c t (y 0) (y 1) (i 0) (i 1) h0 h1

theorem lr_entry (y : S1024x128.Idx) (i : S16384x128.Idx) (h0 : (i (0 : Fin 2)).val = (grid0.coords t 0).val * 1024 + (y (0 : Fin 2)).val)
    (h1 : (i (1 : Fin 2)).val = (y (1 : Fin 2)).val) : lrOf m c t y = res1 m c i := by
  have e : (i (1 : Fin 2) : Fin 128) = y (1 : Fin 2) := Fin.ext h1
  rw [eq_ix2 (n0 := 1024) (n1 := 128) y]
  unfold res1
  rw [e]
  exact lr_at m c t (y 0) (y 1) (i 0) h0

theorem arr7 : (dats m 0 c).arrAt 7 cfg0.N = res0 m c := by
  refine (dats m 0 c).arrAt_eq_of_covers 7 _ (by decide +kernel) fun t _ y => ?_
  refine (congrFun (after7 m c t) _).trans ?_
  exact proj_entry m c t y _ (emb7_0 t y) (emb7_1 t y)

theorem arr8 : (dats m 0 c).arrAt 8 cfg0.N = res1 m c := by
  refine (dats m 0 c).arrAt_eq_of_covers 8 _ (by decide +kernel) fun t _ y => ?_
  refine (congrFun (after8 m c t) _).trans ?_
  exact lr_entry m c t y _ (emb8_0 t y) (emb8_1 t y)

theorem algebraic : Cert.algebraic_ProjectIdeal_ProjectReferenceIdeal := fun m g m' g' _ ha => by
  refine ⟨fun c => res0 m c, fun c => res1 m c, ?_, ?_⟩
  · exact (θ_run (Cert.ProjectIdeal.defs (F := Ideal)) _ _).mono (fun _ h c => ⟨((h c).1 7).trans (arr7 m c), ((h c).1 8).trans (arr8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m g)
  · refine (θ_run (Cert.ProjectReferenceIdeal.defs (F := Ideal)) _ _).mono (fun _ h c => ⟨(h c).1.trans ?_, (h c).2.1.trans ?_, (h c).2.2⟩) (Cert.ProjectReferenceIdeal.Value.run (F := Ideal) m' g')
    · obtain ⟨h0, h1, h2⟩ := ha c
      refine (res_eq m' c).trans ?_
      rw [h0, h1, h2]
      funext i
      rw [eq_ix2 (n0 := 16384) (n1 := 9216) i]
      exact refP_at _ _ _ (i 0) (i 1)
    · obtain ⟨h0, h1, h2⟩ := ha c
      show refL (F := Ideal) _ _ _ = _
      rw [h0, h1, h2]
      funext i
      rw [eq_ix2 (n0 := 16384) (n1 := 128) i]
      exact refL_at _ _ _ (i 0) (i 1)

end Cert.Proof.InProj

end
-- ==== Proof.InProjSample.Bodies.lean ====
/-
  The projection kernel's body, run once per kind of grid point on whole staging buffers, for any float values.

  `run_first`: the first column tile of a row stores the normalised row (`k0_pay2`), the low-rank product (`k0_pay3`) and the tile's
  product (`k0_pay7`). `run_plain`, `run_rope`, `run_half`: the other tiles store the tile's product, the rotated one (`k0_pay5`)
  and the half-rotated one (`k0_pay6`) over the normalised row as the first tile left it.
-/
module

public import proofs.«01_k».proof.Proof.Gen.ProjectSampleIdeal.Frame
public import proofs.«01_k».proof.Proof.Gen.ProjectSampleIdeal.Skeleton
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Exec
public import Idealize.ShloMosaic.Lib.Tactic
public import Idealize.ShloMosaic.Lib.WordCmp
public import Idealize.ShloMosaic.Lib.VecWindow
public import Idealize.ShloMosaic.Lib.Pipeline.TableIdle
public import Idealize.ShloMosaic.Init

@[expose] public section

set_option maxRecDepth 16384
set_option Elab.async false

noncomputable section

namespace Cert.Proof.InProjSample

open Cert.ProjectSampleIdeal Cert.ProjectSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The corner of the permutation matrix the last column tile reads. -/
abbrev corner (x : S1024x1024.Idx → Elt F .bf16) : S512x512.Idx → Elt F .bf16 :=
  View.ld x (Rect.unit (s := S1024x1024) ![0, 0] S512x512.size inb_S1024x1024_S512x512_0_0)

set_option backward.proofsInPublic true in
set_option maxHeartbeats 8000000 in
/-- The first column tile of a row. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x0 : S1024x2048.Idx → Elt F .f32) (x1 : S1x2048.Idx → Elt F .f32) (x2 : S2048x1024.Idx → Elt F .bf16) (x3 : S2048x128.Idx → Elt F .bf16)
    (h1 : k0_cond1 i = 1#1) (h2 : ¬ (k0_cond2 i = 1#1)) (h3 : ¬ (k0_cond3 i = 1#1)) (h4 : k0_cond4 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg11 fullShare d) ∗ (∃ d, owns (c : Thread nD τ) arg10 fullShare d) ∗ (∃ d, owns (c : Thread nD τ) arg9 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg11 fullShare (k0_pay2 x0 x1) ∗ owns (c : Thread nD τ) arg10 fullShare (k0_pay3 x0 x1 x3) ∗ owns (c : Thread nD τ) arg9 fullShare (k0_pay7 (k0_pay2 x0 x1) x2)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, H2, H3, ⟨%d0, O0⟩, ⟨%d1, O1⟩, ⟨%d2, O2⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  unfold owns
  icases O0 with ⟨%f0, -, O0⟩
  icases O1 with ⟨%f1, -, O1⟩
  icases O2 with ⟨%f2, -, O2⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [O0]
  · iexists _; isplitr; swap
    · iexact O0
    · ipureintro
      sl_unfold_run_names
      rw [View.read_writes_full]
      congr 1 <;> exact View.readAt_rep_full _ _ _
  isplitl [O1]
  · iexists _; isplitr; swap
    · iexact O1
    · ipureintro
      sl_unfold_run_names
      rw [View.read_writes_full]
      congr 1 <;> exact View.readAt_rep_full _ _ _
  iexists _; isplitr; swap
  · iexact O2
  · ipureintro
    sl_unfold_run_names
    rw [View.read_writes_full]
    rw [View.readCov_full]
    congr 1
    · congr 1 <;> exact View.readAt_rep_full _ _ _
    · exact View.readAt_rep_full _ _ _

set_option backward.proofsInPublic true in
set_option maxHeartbeats 8000000 in
/-- A later column tile that is not rotated. -/
theorem run_plain (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x2 : S2048x1024.Idx → Elt F .bf16) (xs : S1024x2048.Idx → Elt F .bf16)
    (h1 : ¬ (k0_cond1 i = 1#1)) (h2 : ¬ (k0_cond2 i = 1#1)) (h3 : ¬ (k0_cond3 i = 1#1)) (h4 : k0_cond4 i = 1#1) (K : PUnit → sProp 𝕄) :
    iprop(owns (c : Thread nD τ) arg4 fullShare x2 ∗ owns (c : Thread nD τ) arg11 fullShare xs ∗ (∃ d, owns (c : Thread nD τ) arg9 fullShare d)
      ∗ (iprop(owns (c : Thread nD τ) arg4 fullShare x2 ∗ owns (c : Thread nD τ) arg11 fullShare xs ∗ owns (c : Thread nD τ) arg9 fullShare (k0_pay7 xs x2)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, ⟨%d0, O0⟩, Hk⟩
  ihave H0 := (rep_of_owns _ _ _ _) $$ H0
  ihave H1 := (rep_of_owns _ _ _ _) $$ H1
  unfold owns
  icases O0 with ⟨%f0, -, O0⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  iexists _; isplitr; swap
  · iexact O0
  · ipureintro
    sl_unfold_run_names
    rw [View.read_writes_full]
    congr 1 <;> exact View.readAt_rep_full _ _ _

set_option backward.proofsInPublic true in
set_option maxHeartbeats 8000000 in
/-- The column tile that is rotated whole. -/
theorem run_rope (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x2 : S2048x1024.Idx → Elt F .bf16) (x4 : S1024x128.Idx → Elt F .f32) (x5 : S1024x128.Idx → Elt F .f32) (x6 : S1024x1024.Idx → Elt F .bf16) (xs : S1024x2048.Idx → Elt F .bf16)
    (h1 : ¬ (k0_cond1 i = 1#1)) (h2 : k0_cond2 i = 1#1) (h3 : ¬ (k0_cond3 i = 1#1)) (h4 : ¬ (k0_cond4 i = 1#1)) (K : PUnit → sProp 𝕄) :
    iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ (∃ d, owns (c : Thread nD τ) arg9 fullShare d)
      ∗ (iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ owns (c : Thread nD τ) arg9 fullShare (k0_pay5 xs x2 x6 x4 x5)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, H2, H3, H4, ⟨%d0, O0⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  unfold owns
  icases O0 with ⟨%f0, -, O0⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [H4]; · iexists _; isplitr; swap; (· iexact H4); ipureintro; exact View.read_rep _ _
  iexists _; isplitr; swap
  · iexact O0
  · ipureintro
    sl_unfold_run_names
    rw [View.read_writes_full]
    congr 1 <;> exact View.readAt_rep_full _ _ _

set_option backward.proofsInPublic true in
set_option maxHeartbeats 8000000 in
/-- The column tile whose first half is rotated. -/
theorem run_half (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S1024x2048 .bf16) (harg11 : arg11.IsWhole)
    (x2 : S2048x1024.Idx → Elt F .bf16) (x4 : S1024x128.Idx → Elt F .f32) (x5 : S1024x128.Idx → Elt F .f32) (x6 : S1024x1024.Idx → Elt F .bf16) (xs : S1024x2048.Idx → Elt F .bf16)
    (h1 : ¬ (k0_cond1 i = 1#1)) (h2 : ¬ (k0_cond2 i = 1#1)) (h3 : k0_cond3 i = 1#1) (h4 : ¬ (k0_cond4 i = 1#1)) (K : PUnit → sProp 𝕄) :
    iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ (∃ d, owns (c : Thread nD τ) arg9 fullShare d)
      ∗ (iprop(owns (c : Thread nD τ) arg4 fullShare x2 ∗ owns (c : Thread nD τ) arg6 fullShare x4 ∗ owns (c : Thread nD τ) arg7 fullShare x5 ∗ owns (c : Thread nD τ) arg8 fullShare x6 ∗ owns (c : Thread nD τ) arg11 fullShare xs ∗ owns (c : Thread nD τ) arg9 fullShare (k0_pay6 xs x2 (corner x6) x4 x5)) -∗ K ⟨⟩))
      ⊢ wp frame (wpE (defs₀ (F := F)) Variants.none c none) Set.univ (cc0_in_projection i arg2 harg2 arg3 harg3 arg4 harg4 arg5 harg5 arg6 harg6 arg7 harg7 arg8 harg8 arg9 harg9 arg10 harg10 arg11 harg11) K := by
  rw [cc0_in_projection_eq_skeleton]; unfold cc0_in_projection_skel
  iintro ⟨H0, H1, H2, H3, H4, ⟨%d0, O0⟩, Hk⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  unfold owns
  icases O0 with ⟨%f0, -, O0⟩
  sl_exec! (disch := first | sl_exact h1 | sl_exact h2 | sl_exact h3 | sl_exact h4)
  sl_step
  iapply Hk
  isplitl [H0]; · iexists _; isplitr; swap; (· iexact H0); ipureintro; exact View.read_rep _ _
  isplitl [H1]; · iexists _; isplitr; swap; (· iexact H1); ipureintro; exact View.read_rep _ _
  isplitl [H2]; · iexists _; isplitr; swap; (· iexact H2); ipureintro; exact View.read_rep _ _
  isplitl [H3]; · iexists _; isplitr; swap; (· iexact H3); ipureintro; exact View.read_rep _ _
  isplitl [H4]; · iexists _; isplitr; swap; (· iexact H4); ipureintro; exact View.read_rep _ _
  iexists _; isplitr; swap
  · iexact O0
  · ipureintro
    sl_unfold_run_names
    rw [View.read_writes_full]
    congr 1
    · exact View.readAt_rep_full _ _ _
    · exact View.readAt_rep_full _ _ _
    · funext y
      exact congrFun (View.read_rep _ _) _
    · exact View.readAt_rep_full _ _ _
    · exact View.readAt_rep_full _ _ _

end Cert.Proof.InProjSample

end
-- ==== Proof.InProjSample.Frame.lean ====
/-
  The projection kernel's frame, for any float values.

  The grid walks the row tiles, and in each the nine column tiles. The first column tile of a row normalises the row's tokens into
  the scratch buffer and stores the low-rank product; the other eight read the scratch. So after a grid point the scratch holds the
  normalised tokens of the point's row (`hOf`), the low-rank output's buffer the row's low-rank product (`lrOf`), and the main
  output's buffer the point's own tile (`projOf`).
-/
module

public import proofs.«01_k».proof.Proof.InProjSample.Bodies

@[expose] public section

set_option maxRecDepth 16384
set_option Elab.async false

noncomputable section

namespace Cert.Proof.InProjSample

open Cert.ProjectSampleIdeal Cert.ProjectSampleIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of column tile a grid point is -/

theorem coord1 (t : Fin cfg0.N) : (grid0.coords t 1).val = t.val / 1 % 9 := Pipeline.Grid.coords_val t 1 (by decide) rfl

theorem first_iff (t : Fin cfg0.N) : k0_cond1 (grid0.coords t) = 1#1 ↔ t.val % 9 = 0 := by
  have e1 := coord1 t
  simp only [k0_cond1, e1]
  word_cmp

theorem rope_iff (t : Fin cfg0.N) : k0_cond2 (grid0.coords t) = 1#1 ↔ t.val % 9 = 7 := by
  have e1 := coord1 t
  simp only [k0_cond2, e1]
  word_cmp

theorem half_iff (t : Fin cfg0.N) : k0_cond3 (grid0.coords t) = 1#1 ↔ t.val % 9 = 8 := by
  have e1 := coord1 t
  simp only [k0_cond3, e1]
  word_cmp

theorem plain_iff (t : Fin cfg0.N) : k0_cond4 (grid0.coords t) = 1#1 ↔ t.val % 9 ≤ 6 := by
  have e1 := coord1 t
  simp only [k0_cond4, e1]
  word_cmp

theorem live7 : ∀ t : Fin cfg0.N, cfg0.idle 7 (grid0.coords t) = false :=
  (by decide +kernel : ∀ t : Fin grid0.N, idle0 7 (grid0.coords t) = false)

theorem idle8 (t : Fin cfg0.N) (h : t.val % 9 ≠ 0) : cfg0.idle 8 (grid0.coords t) = true := by
  show (!(k0_cond1 (grid0.coords t) == 1#1)) = true
  have := (first_iff t).not.mpr h
  simp [this]

theorem live8 (t : Fin cfg0.N) (h : t.val % 9 = 0) : cfg0.idle 8 (grid0.coords t) = false := by
  show (!(k0_cond1 (grid0.coords t) == 1#1)) = false
  have := (first_iff t).mpr h
  simp [this]

/-! ## What the buffers hold after each point -/

/-- The first point of a point's row. -/
def row (t : Fin cfg0.N) : Fin cfg0.N := ⟨t.val - t.val % 9, lt_of_le_of_lt (Nat.sub_le _ _) t.isLt⟩

theorem row_first (t : Fin cfg0.N) (h : t.val % 9 = 0) : row t = t := Fin.ext (by show t.val - t.val % 9 = t.val; omega)

theorem row_prev (t : Fin cfg0.N) (h : t.val % 9 ≠ 0) (h' : t.val - 1 < cfg0.N) : row ⟨t.val - 1, h'⟩ = row t :=
  Fin.ext (by show t.val - 1 - (t.val - 1) % 9 = t.val - t.val % 9; omega)

/-- The normalised tokens of a point's row. -/
def hOf (c : Dev nD) (t : Fin cfg0.N) : S1024x2048.Idx → Elt F .bf16 := k0_pay2 (iblk m c 0 (row t)) (iblk m c 1 (row t))

/-- The low-rank product of a point's row. -/
def lrOf (c : Dev nD) (t : Fin cfg0.N) : S1024x128.Idx → Elt F .bf16 :=
  k0_pay3 (iblk m c 0 (row t)) (iblk m c 1 (row t)) (iblk m c 3 (row t))

/-- A point's tile of the main output. -/
def projOf (c : Dev nD) (t : Fin cfg0.N) : S1024x1024.Idx → Elt F .bf16 :=
  if t.val % 9 = 7 then k0_pay5 (hOf m c t) (iblk m c 2 t) (iblk m c 6 t) (iblk m c 4 t) (iblk m c 5 t)
  else if t.val % 9 = 8 then k0_pay6 (hOf m c t) (iblk m c 2 t) (corner (iblk m c 6 t)) (iblk m c 4 t) (iblk m c 5 t)
  else k0_pay7 (hOf m c t) (iblk m c 2 t)

/-- The scratch buffer. -/
abbrev scM : Memref sig .tc .vmem S1024x2048 .bf16 := Memref.whole cc0_scratch0

/-- What the launch hands the region, with the scratch as a buffer owned at some contents. -/
theorem PhiA_eq (c : Dev nD) : (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the region keeps between points: before the first the scratch at anything, after a point at that point's row. -/
def Phi (c : Dev nD) : (n : ℕ) → n ≤ cfg0.N → sProp 𝕄
  | 0, _ => Pipeline.ΦA spec0 c
  | n + 1, hn => iprop(owns (c : Thread nD τ) scM fullShare (hOf m c ⟨n, hn⟩) ∗ (∃ r, prngReg c r))

theorem Phi_pos (c : Dev nD) (n : ℕ) (h : n ≤ cfg0.N) (hz : n ≠ 0) :
    Phi m c n h = iprop(owns (c : Thread nD τ) scM fullShare (hOf m c ⟨n - 1, by omega⟩) ∗ (∃ r, prngReg c r)) := by
  cases n with
  | zero => exact absurd rfl hz
  | succ n => rfl

/-- At any point the scratch is held at something. -/
theorem Phi_any (c : Dev nD) (n : ℕ) (h : n ≤ cfg0.N) :
    Phi m c n h ⊢ iprop(iprop((∃ d, owns (c : Thread nD τ) scM fullShare d)) ∗ (∃ r, prngReg c r)) := by
  cases n with
  | zero => rw [← PhiA_eq]; exact Idealize.SL.BI.Entails.refl _
  | succ n =>
    show iprop(owns (c : Thread nD τ) scM fullShare _ ∗ _) ⊢ _
    iintro ⟨H, Hg⟩
    isplitl [H]
    · iexists _; iexact H
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => projOf m c t
    | ⟨8, _⟩ => lrOf m c t
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = projOf m c t := by dsimp only [dats]
theorem after8 (c : Dev nD) (t : Fin cfg0.N) : (dats m 0 c).after 8 t = lrOf m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem not_flush8 (t : Fin cfg0.N) (h : t.val % 9 ≠ 8) : (cfg0.win 8).flush t = false := by
  cases hb : (cfg0.win 8).flush t with
  | false => rfl
  | true => exact absurd ((flush0_8 t).mp hb) h

/-- Past its row's first point the low-rank output's buffer holds the row's product: what that point left. -/
theorem before8 (c : Dev nD) (d) : ∀ (n : ℕ) (hn : n < cfg0.N), n % 9 ≠ 0 → (dats m 0 c).before 8 ⟨n, hn⟩ d = lrOf m c ⟨n, hn⟩ := by
  intro n
  induction n with
  | zero => intro hn h; exact absurd rfl h
  | succ n ih =>
    intro hn h
    have hn' : n < cfg0.N := Nat.lt_of_succ_lt hn
    rw [(dats m 0 c).before_of_pos 8 ⟨n + 1, hn⟩ (Nat.succ_ne_zero n) ((cfg0.win 8).fetch_out rfl _) d]
    have hf : (cfg0.win 8).flush ⟨(⟨n + 1, hn⟩ : Fin cfg0.N).val - 1, Nat.lt_of_le_of_lt (Nat.sub_le _ _) hn⟩ = false :=
      not_flush8 _ (by show (n + 1 - 1) % 9 ≠ 8; omega)
    rw [hf, if_neg Bool.false_ne_true]
    have hl : lrOf m c ⟨n + 1, hn⟩ = lrOf m c ⟨n, hn'⟩ := by
      unfold lrOf; rw [← row_prev ⟨n + 1, hn⟩ h hn']
      rfl
    rw [hl]
    by_cases h0 : n % 9 = 0
    · show (dats m 0 c).left 8 ⟨n, hn'⟩ d = _
      unfold Dat.left
      rw [live8 ⟨n, hn'⟩ h0]
      exact after8 m c ⟨n, hn'⟩
    · show (dats m 0 c).left 8 ⟨n, hn'⟩ d = _
      unfold Dat.left
      rw [idle8 ⟨n, hn'⟩ h0]
      exact ih hn' h0

/-! ## The body at any point -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1024x128 .f32 := win0_4.stage (cfg0.slots t 4)
abbrev ms5 (t : Fin cfg0.N) : Memref sig .tc .vmem S1024x128 .f32 := win0_5.stage (cfg0.slots t 5)
abbrev ms6 (t : Fin cfg0.N) : Memref sig .tc .vmem S1024x1024 .bf16 := win0_6.stage (cfg0.slots t 6)
abbrev ms7 (t : Fin cfg0.N) : Memref sig .tc .vmem S1024x1024 .bf16 := win0_7.stage (cfg0.slots t 7)
abbrev ms8 (t : Fin cfg0.N) : Memref sig .tc .vmem S1024x128 .bf16 := win0_8.stage (cfg0.slots t 8)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare (iblk m c 0 t) := by
  unfold Dat.leavesExact; rw [(rfl : cfg0.idle 0 (grid0.coords t) = false), after0]
theorem leaves1 (c : Dev nD) (t : Fin cfg0.N) : (dats m 0 c).leavesExact 1 t = owns (c : Thread nD τ) (ms1 t) fullShare (iblk m c 1 t) := by
  unfold Dat.leavesExact; rw [(rfl : cfg0.idle 1 (grid0.coords t) = false), after1]
theorem leaves2 (c : Dev nD) (t : Fin cfg0.N) : (dats m 0 c).leavesExact 2 t = owns (c : Thread nD τ) (ms2 t) fullShare (iblk m c 2 t) := by
  unfold Dat.leavesExact; rw [(rfl : cfg0.idle 2 (grid0.coords t) = false), after2]
theorem leaves3 (c : Dev nD) (t : Fin cfg0.N) : (dats m 0 c).leavesExact 3 t = owns (c : Thread nD τ) (ms3 t) fullShare (iblk m c 3 t) := by
  unfold Dat.leavesExact; rw [(rfl : cfg0.idle 3 (grid0.coords t) = false), after3]
theorem leaves4 (c : Dev nD) (t : Fin cfg0.N) : (dats m 0 c).leavesExact 4 t = owns (c : Thread nD τ) (ms4 t) fullShare (iblk m c 4 t) := by
  unfold Dat.leavesExact; rw [(rfl : cfg0.idle 4 (grid0.coords t) = false), after4]
theorem leaves5 (c : Dev nD) (t : Fin cfg0.N) : (dats m 0 c).leavesExact 5 t = owns (c : Thread nD τ) (ms5 t) fullShare (iblk m c 5 t) := by
  unfold Dat.leavesExact; rw [(rfl : cfg0.idle 5 (grid0.coords t) = false), after5]
theorem leaves6 (c : Dev nD) (t : Fin cfg0.N) : (dats m 0 c).leavesExact 6 t = owns (c : Thread nD τ) (ms6 t) fullShare (iblk m c 6 t) := by
  unfold Dat.leavesExact; rw [(rfl : cfg0.idle 6 (grid0.coords t) = false), after6]
theorem leaves7 (c : Dev nD) (t : Fin cfg0.N) : (dats m 0 c).leavesExact 7 t = owns (c : Thread nD τ) (ms7 t) fullShare (projOf m c t) := by
  unfold Dat.leavesExact; rw [live7 t, after7]

/-- The low-rank output's buffer at the row's first point: that point stores it. -/
theorem leaves8_first (c : Dev nD) (t : Fin cfg0.N) (h : t.val % 9 = 0) :
    (dats m 0 c).leavesExact 8 t = owns (c : Thread nD τ) (ms8 t) fullShare (lrOf m c t) := by
  unfold Dat.leavesExact; rw [live8 t h, after8]

/-- At the row's other points it is handed back as it was found. -/
theorem leaves8_later (c : Dev nD) (t : Fin cfg0.N) (h : t.val % 9 ≠ 0) :
    iprop(∃ d, owns (c : Thread nD τ) (ms8 t) fullShare ((dats m 0 c).before 8 t d)) ⊢ ((dats m 0 c).leavesExact 8 t : sProp 𝕄) := by
  cases hf : (cfg0.win 8).flush t with
  | false =>
    rw [Dat.leavesExact_idle _ 8 t (idle8 t h) hf]
  | true =>
    unfold Dat.leavesExact; rw [idle8 t h, hf]
    show _ ⊢ owns (c : Thread nD τ) (ms8 t) fullShare ((dats m 0 c).after 8 t)
    rw [after8]
    iintro ⟨%d, H⟩
    rw [before8 m c d t.val t.isLt h]
    iexact H

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5,
    leaves6, leaves7]
  rw [show (dats m 0 c).owesAt () t.succ = (dats m 0 c).owesAt () t.castSucc from rfl]
  rw [show (dats m 0 c).Φ t.succ = iprop(owns (c : Thread nD τ) scM fullShare (hOf m c t) ∗ (∃ r, prngReg c r)) from rfl]
  rw [Phi_castSucc m c t]
  by_cases h0 : t.val % 9 = 0
  · rw [leaves8_first m c t h0]
    have e7 : projOf m c t = k0_pay7 (k0_pay2 (iblk m c 0 t) (iblk m c 1 t)) (iblk m c 2 t) := by
      unfold projOf hOf; rw [if_neg (by omega), if_neg (by omega), row_first t h0]
    have e8 : lrOf m c t = k0_pay3 (iblk m c 0 t) (iblk m c 1 t) (iblk m c 3 t) := by unfold lrOf; rw [row_first t h0]
    have eh : hOf m c t = k0_pay2 (iblk m c 0 t) (iblk m c 1 t) := by unfold hOf; rw [row_first t h0]
    rw [e7, e8, eh]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := (Phi_any m c _ _) $$ HP
    icases HP with ⟨HS, Hg⟩
    iapply (run_first c (grid0.coords t) _ _ _ _ _ _ _ _ _ _ _ _ _ _ _ _ _ _ _ _ (iblk m c 0 t) (iblk m c 1 t) (iblk m c 2 t) (iblk m c 3 t)
      ((first_iff t).mpr h0) (fun h => by have := (rope_iff t).mp h; omega) (fun h => by have := (half_iff t).mp h; omega)
      ((plain_iff t).mpr (by omega)))
    isplitl [H0]; · iexact H0
    isplitl [H1]; · iexact H1
    isplitl [H2]; · iexact H2
    isplitl [H3]; · iexact H3
    isplitl [HS]; · iexact HS
    isplitl [H8]; · iexists _; iexact H8
    isplitl [H7]; · iexists _; iexact H7
    iintro ⟨H0, H1, H2, H3, HS, H8, H7⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by intro h; rw [h] at h0; exact h0 rfl
    rw [Phi_pos m c t.val _ hz]
    rw [show hOf m c ⟨t.val - 1, by omega⟩ = hOf m c t from by unfold hOf; rw [row_prev t h0]]
    by_cases h7 : t.val % 9 = 7
    · rw [show projOf m c t = k0_pay5 (hOf m c t) (iblk m c 2 t) (iblk m c 6 t) (iblk m c 4 t) (iblk m c 5 t) from by
        unfold projOf; rw [if_pos h7]]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      ihave H8 := (leaves8_later m c t h0) $$ H8
      iapply (run_rope c (grid0.coords t) _ _ _ _ _ _ _ _ _ _ _ _ _ _ _ _ _ _ _ _ (iblk m c 2 t) (iblk m c 4 t) (iblk m c 5 t) (iblk m c 6 t) (hOf m c t)
        (fun h => h0 ((first_iff t).mp h)) ((rope_iff t).mpr h7) (fun h => by have := (half_iff t).mp h; omega) (fun h => by have := (plain_iff t).mp h; omega))
      isplitl [H2]; · iexact H2
      isplitl [H4]; · iexact H4
      isplitl [H5]; · iexact H5
      isplitl [H6]; · iexact H6
      isplitl [HS]; · iexact HS
      isplitl [H7]; · iexists _; iexact H7
      iintro ⟨H2, H4, H5, H6, HS, H7⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · by_cases h8 : t.val % 9 = 8
      · rw [show projOf m c t = k0_pay6 (hOf m c t) (iblk m c 2 t) (corner (iblk m c 6 t)) (iblk m c 4 t) (iblk m c 5 t) from by
          unfold projOf; rw [if_neg h7, if_pos h8]]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
        ihave H8 := (leaves8_later m c t h0) $$ H8
        iapply (run_half c (grid0.coords t) _ _ _ _ _ _ _ _ _ _ _ _ _ _ _ _ _ _ _ _ (iblk m c 2 t) (iblk m c 4 t) (iblk m c 5 t) (iblk m c 6 t) (hOf m c t)
          (fun h => h0 ((first_iff t).mp h)) (fun h => by have := (rope_iff t).mp h; omega) ((half_iff t).mpr h8) (fun h => by have := (plain_iff t).mp h; omega))
        isplitl [H2]; · iexact H2
        isplitl [H4]; · iexact H4
        isplitl [H5]; · iexact H5
        isplitl [H6]; · iexact H6
        isplitl [HS]; · iexact HS
        isplitl [H7]; · iexists _; iexact H7
        iintro ⟨H2, H4, H5, H6, HS, H7⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · rw [show projOf m c t = k0_pay7 (hOf m c t) (iblk m c 2 t) from by
          unfold projOf; rw [if_neg h7, if_neg h8]]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
        ihave H8 := (leaves8_later m c t h0) $$ H8
        iapply (run_plain c (grid0.coords t) _ _ _ _ _ _ _ _ _ _ _ _ _ _ _ _ _ _ _ _ (iblk m c 2 t) (hOf m c t)
          (fun h => h0 ((first_iff t).mp h)) (fun h => by have := (rope_iff t).mp h; omega) (fun h => by have := (half_iff t).mp h; omega) ((plain_iff t).mpr (by omega)))
        isplitl [H2]; · iexact H2
        isplitl [HS]; · iexact HS
        isplitl [H7]; · iexists _; iexact H7
        iintro ⟨H2, HS, H7⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl, PhiA_eq]
  exact Phi_any m c _ _

/-! ## The run and the frame -/

set_option backward.isDefEq.respectTransparency.types false in
/-- Every fair execution ends, with each array at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every fair execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Proof.InProjSample

end
-- ==== Proof.InProjSample.Reference.lean ====
/-
  What the input projection computes, entry by entry, and that its reference is that.
-/
module

public import proofs.«01_k».proof.Proof.Gen.ProjectSampleReferenceIdeal.Run
public import Idealize.ShloMosaic.Lib.Pipeline.ValueKit
public import Idealize.ShloMosaic.Lib.ValueIdx

@[expose] public section

set_option maxRecDepth 16384
set_option Elab.async false

noncomputable section

namespace Cert.Proof.InProjSample

open Cert.ProjectSampleReferenceIdeal Cert.ProjectSampleReferenceIdeal.Gen Cert.ProjectSampleReferenceIdeal.Facts
open Idealize.ShloMosaic Idealize.ShloMosaic.TcCoe

/-- One entry of a normalised row. -/
def hat (x g : Fin 2048 → EReal) (k : Fin 2048) : EReal :=
  x k * Ideal.rsqrt (Ideal.div (∑ j : Fin 2048, x j * x j) (Ideal.ofBits .f32 0x45000000#32) + Ideal.ofBits .f32 0x3727C5AC#32) * g k

/-- One entry of a row's product with a column of the weights. -/
def prod (a0 : FVec Ideal S8192x2048 .f32) (a1 : FVec Ideal S2048 .f32) (a2 : FVec Ideal S2048x9248 .f32) (r : Fin 8192) (n : Fin 9248) : EReal :=
  ∑ k : Fin 2048, hat (fun j => a0 (ix2 r j)) (fun j => a1 (ix1 j)) k * a2 (ix2 k n)

/-- The normalised rows through the weights. -/
def prodM {F : FTy → Type} [FloatOps F] (a0 : FVec F S8192x2048 .f32) (a1 : FVec F S2048 .f32) (a2 : FVec F S2048x9248 .f32) : FVec F S8192x9248 .f32 :=
  Host.dotGeneral dot_S8192x2048_S2048x9248_S8192x9248_1_0_0_1_n_n none (mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 a1))) a2

theorem prodM_at (a0 : FVec Ideal S8192x2048 .f32) (a1 : FVec Ideal S2048 .f32) (a2 : FVec Ideal S2048x9248 .f32) (r : Fin 8192) (n : Fin 9248) :
    prodM (F := Ideal) a0 a1 a2 (ix2 r n) = prod a0 a1 a2 r n := by
  unfold prodM prod hat
  pointwise
  try rfl

/-- The rotation angles. -/
def angM {F : FTy → Type} [FloatOps F] : FVec F S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

def cosM {F : FTy → Type} [FloatOps F] (a : FVec F S2048x16 .f32) : FVec F S1x2048x1x16 .f32 :=
  broadcastInDim S1x2048x1x16 ![1, 3] bcast_S2048x16_S1x2048x1x16_1_3 (Host.cos a)
def sinM {F : FTy → Type} [FloatOps F] (a : FVec F S2048x16 .f32) : FVec F S1x2048x1x16 .f32 :=
  broadcastInDim S1x2048x1x16 ![1, 3] bcast_S2048x16_S1x2048x1x16_1_3 (Host.sin a)

/-- The rotated queries. -/
def ropeQ {F : FTy → Type} [FloatOps F] (v : FVec F S8192x1024 .f32) (a : FVec F S2048x16 .f32) : FVec F S8192x1024 .f32 :=
  shapeCast _ (concatenate S4x2048x8x128 3 [⟨S4x2048x8x16, (subf (mulf (extractStridedSlice S4x2048x8x16 ![0, 0, 0, 0] (shapeCast _ v shapeCasts_S8192x1024_S4x2048x8x128) slices_S4x2048x8x128_S4x2048x8x16_0_0_0_0) (broadcastInDim S4x2048x8x16 ![0, 1, 2, 3] bcast_S1x2048x1x16_S4x2048x8x16_0_1_2_3 (cosM a))) (mulf (extractStridedSlice S4x2048x8x16 ![0, 0, 0, 16] (shapeCast _ v shapeCasts_S8192x1024_S4x2048x8x128) slices_S4x2048x8x128_S4x2048x8x16_0_0_0_16) (broadcastInDim S4x2048x8x16 ![0, 1, 2, 3] bcast_S1x2048x1x16_S4x2048x8x16_0_1_2_3 (sinM a))) : FVec F S4x2048x8x16 .f32)⟩, ⟨S4x2048x8x16, (addf (mulf (extractStridedSlice S4x2048x8x16 ![0, 0, 0, 16] (shapeCast _ v shapeCasts_S8192x1024_S4x2048x8x128) slices_S4x2048x8x128_S4x2048x8x16_0_0_0_16) (broadcastInDim S4x2048x8x16 ![0, 1, 2, 3] bcast_S1x2048x1x16_S4x2048x8x16_0_1_2_3 (cosM a))) (mulf (extractStridedSlice S4x2048x8x16 ![0, 0, 0, 0] (shapeCast _ v shapeCasts_S8192x1024_S4x2048x8x128) slices_S4x2048x8x128_S4x2048x8x16_0_0_0_0) (broadcastInDim S4x2048x8x16 ![0, 1, 2, 3] bcast_S1x2048x1x16_S4x2048x8x16_0_1_2_3 (sinM a))) : FVec F S4x2048x8x16 .f32)⟩, ⟨S4x2048x8x96, (extractStridedSlice S4x2048x8x96 ![0, 0, 0, 32] (shapeCast _ v shapeCasts_S8192x1024_S4x2048x8x128) slices_S4x2048x8x128_S4x2048x8x96_0_0_0_32 : FVec F S4x2048x8x96 .f32)⟩] concatenates_S4x2048x8x16_S4x2048x8x16_S4x2048x8x96_S4x2048x8x128_d3 : FVec F S4x2048x8x128 .f32) shapeCasts_S4x2048x8x128_S8192x1024

/-- The rotated keys. -/
def ropeK {F : FTy → Type} [FloatOps F] (v : FVec F S8192x512 .f32) (a : FVec F S2048x16 .f32) : FVec F S8192x512 .f32 :=
  shapeCast _ (concatenate S4x2048x4x128 3 [⟨S4x2048x4x16, (subf (mulf (extractStridedSlice S4x2048x4x16 ![0, 0, 0, 0] (shapeCast _ v shapeCasts_S8192x512_S4x2048x4x128) slices_S4x2048x4x128_S4x2048x4x16_0_0_0_0) (broadcastInDim S4x2048x4x16 ![0, 1, 2, 3] bcast_S1x2048x1x16_S4x2048x4x16_0_1_2_3 (cosM a))) (mulf (extractStridedSlice S4x2048x4x16 ![0, 0, 0, 16] (shapeCast _ v shapeCasts_S8192x512_S4x2048x4x128) slices_S4x2048x4x128_S4x2048x4x16_0_0_0_16) (broadcastInDim S4x2048x4x16 ![0, 1, 2, 3] bcast_S1x2048x1x16_S4x2048x4x16_0_1_2_3 (sinM a))) : FVec F S4x2048x4x16 .f32)⟩, ⟨S4x2048x4x16, (addf (mulf (extractStridedSlice S4x2048x4x16 ![0, 0, 0, 16] (shapeCast _ v shapeCasts_S8192x512_S4x2048x4x128) slices_S4x2048x4x128_S4x2048x4x16_0_0_0_16) (broadcastInDim S4x2048x4x16 ![0, 1, 2, 3] bcast_S1x2048x1x16_S4x2048x4x16_0_1_2_3 (cosM a))) (mulf (extractStridedSlice S4x2048x4x16 ![0, 0, 0, 0] (shapeCast _ v shapeCasts_S8192x512_S4x2048x4x128) slices_S4x2048x4x128_S4x2048x4x16_0_0_0_0) (broadcastInDim S4x2048x4x16 ![0, 1, 2, 3] bcast_S1x2048x1x16_S4x2048x4x16_0_1_2_3 (sinM a))) : FVec F S4x2048x4x16 .f32)⟩, ⟨S4x2048x4x96, (extractStridedSlice S4x2048x4x96 ![0, 0, 0, 32] (shapeCast _ v shapeCasts_S8192x512_S4x2048x4x128) slices_S4x2048x4x128_S4x2048x4x96_0_0_0_32 : FVec F S4x2048x4x96 .f32)⟩] concatenates_S4x2048x4x16_S4x2048x4x16_S4x2048x4x96_S4x2048x4x128_d3 : FVec F S4x2048x4x128 .f32) shapeCasts_S4x2048x4x128_S8192x512

/-- A head's row turned by the position's angles: the first sixteen lanes against the next sixteen, the others kept. -/
def turned (v : Fin 128 → EReal) (co si : Fin 16 → EReal) (l : Fin 128) : EReal :=
  if h : l.val < 16 then v l * co ⟨l.val, h⟩ - v ⟨l.val + 16, by omega⟩ * si ⟨l.val, h⟩
  else if h' : l.val < 32 then v l * co ⟨l.val - 16, by omega⟩ + v ⟨l.val - 16, by omega⟩ * si ⟨l.val - 16, by omega⟩
  else v l

theorem col_congr {R W : ℕ} (v : (⟨2, ![R, W]⟩ : Shape).Idx → EReal) (r : Fin R) {n n' : Fin W} (h : n.val = n'.val) : v (ix2 r n) = v (ix2 r n') := by
  rw [Fin.ext h]

theorem ropeQ_at (v : FVec Ideal S8192x1024 .f32) (a : FVec Ideal S2048x16 .f32) (r : Fin 8192) (n : Fin 1024) :
    ropeQ (F := Ideal) v a (ix2 r n) = turned (fun l => v (ix2 r (⟨n.val / 128 * 128 + l.val, by omega⟩ : Fin 1024)))
      (fun l => Ideal.cos (a (ix2 (⟨r.val % 2048, by omega⟩ : Fin 2048) l))) (fun l => Ideal.sin (a (ix2 (⟨r.val % 2048, by omega⟩ : Fin 2048) l)))
      ⟨n.val % 128, by omega⟩ := by
  unfold ropeQ cosM sinM turned
  pointwise
  by_cases h : n.val % 128 < 16
  · simp only [dif_pos h]
    exact congrArg₂ (fun x y : EReal => x * _ - y * _)
      (col_congr (R := 8192) (W := 1024) v r (by show n.val = n.val / 128 * 128 + n.val % 128; omega))
      (col_congr (R := 8192) (W := 1024) v r (by show n.val / 128 * 128 + (16 + n.val % 128) = n.val / 128 * 128 + (n.val % 128 + 16); omega))
  simp only [dif_neg h]
  by_cases h1 : n.val % 128 < 32
  · have h2 : n.val % 128 - 16 < 16 := by omega
    simp only [dif_pos h1, dif_pos h2]
    exact congrArg (fun x : EReal => x * _ + _)
      (col_congr (R := 8192) (W := 1024) v r (by show n.val / 128 * 128 + (16 + (n.val % 128 - 16)) = n.val / 128 * 128 + n.val % 128; omega))
  have h2 : ¬ n.val % 128 - 16 < 16 := by omega
  simp only [dif_neg h1, dif_neg h2]
  exact col_congr (R := 8192) (W := 1024) v r (by show n.val / 128 * 128 + (32 + (n.val % 128 - 16 - 16)) = n.val / 128 * 128 + n.val % 128; omega)

theorem ropeK_at (v : FVec Ideal S8192x512 .f32) (a : FVec Ideal S2048x16 .f32) (r : Fin 8192) (n : Fin 512) :
    ropeK (F := Ideal) v a (ix2 r n) = turned (fun l => v (ix2 r (⟨n.val / 128 * 128 + l.val, by omega⟩ : Fin 512)))
      (fun l => Ideal.cos (a (ix2 (⟨r.val % 2048, by omega⟩ : Fin 2048) l))) (fun l => Ideal.sin (a (ix2 (⟨r.val % 2048, by omega⟩ : Fin 2048) l)))
      ⟨n.val % 128, by omega⟩ := by
  unfold ropeK cosM sinM turned
  pointwise
  by_cases h : n.val % 128 < 16
  · simp only [dif_pos h]
    exact congrArg₂ (fun x y : EReal => x * _ - y * _)
      (col_congr (R := 8192) (W := 512) v r (by show n.val = n.val / 128 * 128 + n.val % 128; omega))
      (col_congr (R := 8192) (W := 512) v r (by show n.val / 128 * 128 + (16 + n.val % 128) = n.val / 128 * 128 + (n.val % 128 + 16); omega))
  simp only [dif_neg h]
  by_cases h1 : n.val % 128 < 32
  · have h2 : n.val % 128 - 16 < 16 := by omega
    simp only [dif_pos h1, dif_pos h2]
    exact congrArg (fun x : EReal => x * _ + _)
      (col_congr (R := 8192) (W := 512) v r (by show n.val / 128 * 128 + (16 + (n.val % 128 - 16)) = n.val / 128 * 128 + n.val % 128; omega))
  have h2 : ¬ n.val % 128 - 16 < 16 := by omega
  simp only [dif_neg h1, dif_neg h2]
  exact col_congr (R := 8192) (W := 512) v r (by show n.val / 128 * 128 + (32 + (n.val % 128 - 16 - 16)) = n.val / 128 * 128 + n.val % 128; omega)

theorem turned_congr {v v' : Fin 128 → EReal} (co si : Fin 16 → EReal) {l l' : Fin 128} (hv : ∀ k, v k = v' k) (hl : l.val = l'.val) :
    turned v co si l = turned v' co si l' := by
  rw [funext hv, Fin.ext hl]

/-- The reference's first composed term. -/
def refP {F : FTy → Type} [FloatOps F] (a0 : FVec F S8192x2048 .f32) (a1 : FVec F S2048 .f32) (a2 : FVec F S2048x9248 .f32) : FVec F S8192x9216 .bf16 :=
  truncf .bf16 (concatenate S8192x9216 1 [⟨S8192x4096, (extractStridedSlice S8192x4096 ![0, 5152] (prodM a0 a1 a2) slices_S8192x9248_S8192x4096_0_5152 : FVec F S8192x4096 .f32)⟩,
    ⟨S8192x3072, (extractStridedSlice S8192x3072 ![0, 0] (prodM a0 a1 a2) slices_S8192x9248_S8192x3072_0_0 : FVec F S8192x3072 .f32)⟩,
    ⟨S8192x1024, (ropeQ (extractStridedSlice S8192x1024 ![0, 3104] (prodM a0 a1 a2) slices_S8192x9248_S8192x1024_0_3104) angM : FVec F S8192x1024 .f32)⟩,
    ⟨S8192x512, (ropeK (extractStridedSlice S8192x512 ![0, 4128] (prodM a0 a1 a2) slices_S8192x9248_S8192x512_0_4128) angM : FVec F S8192x512 .f32)⟩,
    ⟨S8192x512, (extractStridedSlice S8192x512 ![0, 4640] (prodM a0 a1 a2) slices_S8192x9248_S8192x512_0_4640 : FVec F S8192x512 .f32)⟩]
    concatenates_S8192x4096_S8192x3072_S8192x1024_S8192x512_S8192x512_S8192x9216_d1 : FVec F S8192x9216 .f32) bitsLt_bf16_f32

/-- The reference's second composed term. -/
def refL {F : FTy → Type} [FloatOps F] (a0 : FVec F S8192x2048 .f32) (a1 : FVec F S2048 .f32) (a2 : FVec F S2048x9248 .f32) : FVec F S8192x128 .bf16 :=
  truncf .bf16 (pad S8192x128 ![0, 0] ![0, 96] ![0, 0] (extractStridedSlice S8192x32 ![0, 3072] (prodM a0 a1 a2) slices_S8192x9248_S8192x32_0_3072) (sitofp .f32 (constantI S_ 32 0#32)) pads_S8192x32_S8192x128_000_0960 h_S_) bitsLt_bf16_f32

/-- The cosine and the sine of a position's angle. -/
def cosAt (p : Fin 2048) (l : Fin 16) : EReal := Ideal.cos (angM (F := Ideal) (ix2 p l))
def sinAt (p : Fin 2048) (l : Fin 16) : EReal := Ideal.sin (angM (F := Ideal) (ix2 p l))

/-- One entry of the main result: the gates' columns first, then the linear branch's, the queries and keys turned, and the values. -/
def main0 (a0 : FVec Ideal S8192x2048 .f32) (a1 : FVec Ideal S2048 .f32) (a2 : FVec Ideal S2048x9248 .f32) (r : Fin 8192) (n : Fin 9216) : EReal :=
  if h : n.val < 4096 then prod a0 a1 a2 r ⟨5152 + n.val, by omega⟩
  else if h' : n.val < 7168 then prod a0 a1 a2 r ⟨n.val - 4096, by omega⟩
  else if h'' : n.val < 8704 then
    turned (fun l => prod a0 a1 a2 r ⟨3104 + (n.val - 7168) / 128 * 128 + l.val, by omega⟩) (cosAt ⟨r.val % 2048, by omega⟩) (sinAt ⟨r.val % 2048, by omega⟩)
      ⟨(n.val - 7168) % 128, by omega⟩
  else prod a0 a1 a2 r ⟨n.val - 4064, by omega⟩

/-- One entry of the low-rank result, padded with zeros. -/
def low0 (a0 : FVec Ideal S8192x2048 .f32) (a1 : FVec Ideal S2048 .f32) (a2 : FVec Ideal S2048x9248 .f32) (r : Fin 8192) (n : Fin 128) : EReal :=
  if h : n.val < 32 then prod a0 a1 a2 r ⟨3072 + n.val, by omega⟩ else 0

theorem refL_at (a0 : FVec Ideal S8192x2048 .f32) (a1 : FVec Ideal S2048 .f32) (a2 : FVec Ideal S2048x9248 .f32) (r : Fin 8192) (n : Fin 128) :
    refL (F := Ideal) a0 a1 a2 (ix2 r n) = low0 a0 a1 a2 r n := by
  unfold refL low0
  pointwise [prodM_at]
  have e : (FloatOps.sitofp (F := Ideal) FTy.f32 (0#32 : BitVec 32) : EReal) = 0 := by
    show (((0#32 : BitVec 32).toInt : ℝ) : EReal) = 0
    simp
  rw [e]

theorem prod_congr (a0 : FVec Ideal S8192x2048 .f32) (a1 : FVec Ideal S2048 .f32) (a2 : FVec Ideal S2048x9248 .f32) (r : Fin 8192) {n n' : Fin 9248}
    (h : n.val = n'.val) : prod a0 a1 a2 r n = prod a0 a1 a2 r n' := by rw [Fin.ext h]

theorem refP_at (a0 : FVec Ideal S8192x2048 .f32) (a1 : FVec Ideal S2048 .f32) (a2 : FVec Ideal S2048x9248 .f32) (r : Fin 8192) (n : Fin 9216) :
    refP (F := Ideal) a0 a1 a2 (ix2 r n) = main0 a0 a1 a2 r n := by
  unfold refP main0
  pointwise [prodM_at]
  by_cases h : n.val < 4096
  · simp only [dif_pos h]
  by_cases h1 : n.val < 7168
  · have g1 : n.val - 4096 < 3072 := by omega
    simp only [dif_neg h, dif_pos h1, dif_pos g1]
  have g1 : ¬ n.val - 4096 < 3072 := by omega
  by_cases h2 : n.val < 8192
  · have g2 : n.val - 4096 - 3072 < 1024 := by omega
    have h3 : n.val < 8704 := by omega
    simp only [dif_neg h, dif_neg h1, dif_neg g1, dif_pos g2, dif_pos h3, ropeQ_at]
    refine turned_congr _ _ (fun l => ?_) (by show (n.val - 4096 - 3072) % 128 = (n.val - 7168) % 128; omega)
    pointwise [prodM_at]
    exact prod_congr a0 a1 a2 r (by show 3104 + ((n.val - 4096 - 3072) / 128 * 128 + l.val) = 3104 + (n.val - 7168) / 128 * 128 + l.val; omega)
  have g2 : ¬ n.val - 4096 - 3072 < 1024 := by omega
  by_cases h3 : n.val < 8704
  · have g3 : n.val - 4096 - 3072 - 1024 < 512 := by omega
    simp only [dif_neg h, dif_neg h1, dif_neg g1, dif_neg g2, dif_pos g3, dif_pos h3, ropeK_at]
    refine turned_congr _ _ (fun l => ?_) (by show (n.val - 4096 - 3072 - 1024) % 128 = (n.val - 7168) % 128; omega)
    pointwise [prodM_at]
    exact prod_congr a0 a1 a2 r (by show 4128 + ((n.val - 4096 - 3072 - 1024) / 128 * 128 + l.val) = 3104 + (n.val - 7168) / 128 * 128 + l.val; omega)
  have g3 : ¬ n.val - 4096 - 3072 - 1024 < 512 := by omega
  simp only [dif_neg h, dif_neg h1, dif_neg g1, dif_neg g2, dif_neg g3, dif_neg h3]
  exact prod_congr a0 a1 a2 r (by show 4640 + (n.val - 4096 - 3072 - 1024 - 512) = n.val - 4064; omega)

variable (m : (ℓ : Loc nD τ sig) → Buf (Elt Ideal) ℓ) (c : Dev nD)

theorem res_eq : Cert.ProjectSampleReferenceIdeal.Value.res_main_v69 (F := Ideal) m c
    = refP (F := Ideal) (m ((c.tc : Thread nD τ).loc main_arg0)) (m ((c.tc : Thread nD τ).loc main_arg1)) (m ((c.tc : Thread nD τ).loc main_arg2)) := by
  unfold Cert.ProjectSampleReferenceIdeal.Value.res_main_v69 refP
  refine congrArg (fun x => truncf .bf16 x bitsLt_bf16_f32) ?_
  rfl

end Cert.Proof.InProjSample

end
-- ==== Proof.InProjSample.Entries.lean ====
/-
  The projection kernel's stored values at an entry, and the arrays the host prepares for its call.
-/
module

public import proofs.«01_k».proof.Proof.InProjSample.Reference
public import proofs.«01_k».proof.Proof.InProjSample.Frame
public import proofs.«01_k».proof.Defs
public import Idealize.ShloMosaic.Lib.Pipeline.ValueKit
public import Idealize.ShloMosaic.Lib.StableHlo.Run
public import Idealize.ShloMosaic.Lib.ValueIdx
public import Idealize.ShloMosaic.Lib.Routing.Words

@[expose] public section

set_option maxRecDepth 16384
set_option Elab.async false

noncomputable section

namespace Cert.Proof.InProjSample

open Cert.ProjectSampleIdeal Cert.ProjectSampleIdeal.Gen Cert.ProjectSampleIdeal.Facts
open Idealize.ShloMosaic Idealize.ShloMosaic.TcCoe Idealize.SL.Sem

/-! ## The stored values at an entry -/

theorem k0_pay1_at (x : Vec Ideal S1024x2048 .f32) (g : Vec Ideal S1x2048 .f32) (p : Fin 1024) (k : Fin 2048) :
    k0_pay1 (F := Ideal) x g (ix2 p k) = hat (fun j => x (ix2 p j)) (fun j => g (ix2 (0 : Fin 1) j)) k := by
  unfold k0_pay1 hat
  pointwise

theorem k0_pay2_at (x : Vec Ideal S1024x2048 .f32) (g : Vec Ideal S1x2048 .f32) (p : Fin 1024) (k : Fin 2048) :
    k0_pay2 (F := Ideal) x g (ix2 p k) = hat (fun j => x (ix2 p j)) (fun j => g (ix2 (0 : Fin 1) j)) k := by
  unfold k0_pay2
  pointwise [k0_pay1_at]

theorem k0_pay3_at (x : Vec Ideal S1024x2048 .f32) (g : Vec Ideal S1x2048 .f32) (w : Vec Ideal S2048x128 .bf16) (p : Fin 1024) (q : Fin 128) :
    k0_pay3 (F := Ideal) x g w (ix2 p q)
      = (∑ k : Fin 2048, hat (fun j => x (ix2 p j)) (fun j => g (ix2 (0 : Fin 1) j)) k * w (ix2 k q) : EReal) := by
  unfold k0_pay3
  pointwise [k0_pay1_at]

theorem k0_pay4_at (h : Vec Ideal S1024x2048 .bf16) (w : Vec Ideal S2048x1024 .bf16) (p : Fin 1024) (q : Fin 1024) :
    k0_pay4 (F := Ideal) h w (ix2 p q) = (∑ k : Fin 2048, h (ix2 p k) * w (ix2 k q) : EReal) := by
  unfold k0_pay4
  pointwise

theorem k0_pay7_at (h : Vec Ideal S1024x2048 .bf16) (w : Vec Ideal S2048x1024 .bf16) (p : Fin 1024) (q : Fin 1024) :
    k0_pay7 (F := Ideal) h w (ix2 p q) = (∑ k : Fin 2048, h (ix2 p k) * w (ix2 k q) : EReal) := by
  unfold k0_pay7
  pointwise [k0_pay4_at]

/-! A table repeated along the lanes, read at a lane. -/

theorem cat8 (f : Fin 128 → EReal) (q : Fin 1024) :
    (if h0 : q.val < 128 then f ⟨q.val, by omega⟩ else (if h1 : q.val - 128 < 128 then f ⟨q.val - 128, by omega⟩ else (if h2 : q.val - 128 - 128 < 128 then f ⟨q.val - 128 - 128, by omega⟩ else (if h3 : q.val - 128 - 128 - 128 < 128 then f ⟨q.val - 128 - 128 - 128, by omega⟩ else (if h4 : q.val - 128 - 128 - 128 - 128 < 128 then f ⟨q.val - 128 - 128 - 128 - 128, by omega⟩ else (if h5 : q.val - 128 - 128 - 128 - 128 - 128 < 128 then f ⟨q.val - 128 - 128 - 128 - 128 - 128, by omega⟩ else (if h6 : q.val - 128 - 128 - 128 - 128 - 128 - 128 < 128 then f ⟨q.val - 128 - 128 - 128 - 128 - 128 - 128, by omega⟩ else f ⟨q.val - 128 - 128 - 128 - 128 - 128 - 128 - 128, by omega⟩)))))))
      = f ⟨q.val % 128, by omega⟩ := by
  split_ifs <;> exact congrArg f (Fin.ext (by dsimp only; omega))

theorem cat4 (f : Fin 128 → EReal) (q : Fin 1024) (hq : q.val < 512) :
    (if h0 : q.val < 128 then f ⟨q.val, by omega⟩ else (if h1 : q.val - 128 < 128 then f ⟨q.val - 128, by omega⟩ else (if h2 : q.val - 128 - 128 < 128 then f ⟨q.val - 128 - 128, by omega⟩ else f ⟨q.val - 128 - 128 - 128, by omega⟩)))
      = f ⟨q.val % 128, by omega⟩ := by
  split_ifs <;> exact congrArg f (Fin.ext (by dsimp only; omega))

theorem k0_pay5_at (h : Vec Ideal S1024x2048 .bf16) (w : Vec Ideal S2048x1024 .bf16) (s : Vec Ideal S1024x1024 .bf16) (co si : Vec Ideal S1024x128 .f32)
    (p : Fin 1024) (q : Fin 1024) :
    k0_pay5 (F := Ideal) h w s co si (ix2 p q)
      = (k0_pay4 (F := Ideal) h w (ix2 p q) * co (ix2 p (⟨q.val % 128, by omega⟩ : Fin 128))
        + (∑ c : Fin 1024, k0_pay4 (F := Ideal) h w (ix2 p c) * s (ix2 c q)) * si (ix2 p (⟨q.val % 128, by omega⟩ : Fin 128)) : EReal) := by
  unfold k0_pay5
  generalize k0_pay4 (F := Ideal) h w = acc
  pointwise
  exact congrArg₂ (fun a b : EReal => acc (ix2 p q) * a + (∑ c : Fin 1024, acc (ix2 p c) * s (ix2 c q)) * b)
    (cat8 (fun l => co (ix2 p l)) q) (cat8 (fun l => si (ix2 p l)) q)

theorem k0_pay6_at (h : Vec Ideal S1024x2048 .bf16) (w : Vec Ideal S2048x1024 .bf16) (s : Vec Ideal S512x512 .bf16) (co si : Vec Ideal S1024x128 .f32)
    (p : Fin 1024) (q : Fin 1024) :
    k0_pay6 (F := Ideal) h w s co si (ix2 p q)
      = (if hq : q.val < 512 then k0_pay4 (F := Ideal) h w (ix2 p q) * co (ix2 p (⟨q.val % 128, by omega⟩ : Fin 128))
        + (∑ c : Fin 512, k0_pay4 (F := Ideal) h w (ix2 p (⟨c.val, by omega⟩ : Fin 1024)) * s (ix2 c (⟨q.val, hq⟩ : Fin 512)))
          * si (ix2 p (⟨q.val % 128, by omega⟩ : Fin 128)) else k0_pay4 (F := Ideal) h w (ix2 p q) : EReal) := by
  unfold k0_pay6
  generalize k0_pay4 (F := Ideal) h w = acc
  pointwise
  by_cases hq : q.val < 512
  · simp only [dif_pos hq]
    exact congrArg₂ (fun a b : EReal => acc (ix2 p q) * a + (∑ c : Fin 512, acc (ix2 p (⟨c.val, by omega⟩ : Fin 1024)) * s (ix2 c (⟨q.val, hq⟩ : Fin 512))) * b)
      (cat4 (fun l => co (ix2 p l)) q hq) (cat4 (fun l => si (ix2 p l)) q hq)
  · simp only [dif_neg hq]
    exact col_congr (R := 1024) (W := 1024) acc p (by show 512 + (q.val - 512) = q.val; omega)

/-! ## The partner lane -/

/-- The lane a lane is turned against. -/
def partner (q : Fin 1024) : ℕ := if q.val % 128 < 16 then q.val + 16 else q.val - 16

/-- A sum against a column of the exchange: one entry, or none. -/
theorem sum_swap {W : ℕ} (f : Fin W → EReal) (s : Fin W → EReal) (b : Prop) [Decidable b] (c0 : ℕ) (hc : b → c0 < W)
    (hs : ∀ c : Fin W, s c = if c.val = c0 ∧ b then 1 else 0) :
    (∑ c : Fin W, f c * s c) = if h : b then f ⟨c0, hc h⟩ else 0 := by
  by_cases h : b
  · rw [dif_pos h, Finset.sum_eq_single (⟨c0, hc h⟩ : Fin W)]
    · rw [hs, if_pos ⟨rfl, h⟩, mul_one]
    · intro c _ hne
      rw [hs, if_neg (fun e => hne (Fin.ext e.1)), mul_zero]
    · intro hn
      exact absurd (Finset.mem_univ _) hn
  · rw [dif_neg h]
    refine Finset.sum_eq_zero fun c _ => ?_
    rw [hs, if_neg (fun e => h e.2), mul_zero]

variable (m : (ℓ : Loc nD τ sig) → Buf (Elt Ideal) ℓ) (c : Dev nD)

/-! ## The arrays the host prepares -/

/-- The angles, as the host computes them for the kernel. -/
def angK : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The lanes exchanged: a one at a lane's partner, among the first thirty-two lanes of a head. -/
def laneK : IVec S1024 32 := Idealize.ShloMosaic.Routing.pyRem bcast_S_S1024 (iotaInDim S1024 32 0) (constantI S_ 32 128#32)

def srcK : IVec S1024 32 :=
  select (cmpi .slt laneK (broadcastInDim S1024 ![] bcast_S_S1024 (constantI S_ 32 16#32)))
    (addi (iotaInDim S1024 32 0) (broadcastInDim S1024 ![] bcast_S_S1024 (constantI S_ 32 16#32)))
    (subi (iotaInDim S1024 32 0) (broadcastInDim S1024 ![] bcast_S_S1024 (constantI S_ 32 16#32)))

def swapK {F : FTy → Type} [FloatOps F] : FVec F S1024x1024 .bf16 :=
  uitofp .bf16 (andi (cmpi .eq (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 srcK)))
    (broadcastInDim S1024x1024 ![0, 1] bcast_S1x1024_S1024x1024_0_1
      (cmpi .slt (broadcastInDim S1x1024 ![1] bcast_S1024_S1x1024_1 laneK) (broadcastInDim S1x1024 ![] bcast_S_S1x1024 (constantI S_ 32 32#32)))))

section Stretches
variable (X : Valuation τ sig (Elt Ideal))
open StableHlo (after)

theorem st0_v4 : after hostOps0 X main_v4 = truncf (F := Ideal) .bf16 (concatenate S2048x9216 1 [⟨S2048x4096, (extractStridedSlice S2048x4096 ![0, 5152] (X main_arg2) slices_S2048x9248_S2048x4096_0_5152 : FVec Ideal S2048x4096 .f32)⟩, ⟨S2048x3072, (extractStridedSlice S2048x3072 ![0, 0] (X main_arg2) slices_S2048x9248_S2048x3072_0_0 : FVec Ideal S2048x3072 .f32)⟩, ⟨S2048x2048, (extractStridedSlice S2048x2048 ![0, 3104] (X main_arg2) slices_S2048x9248_S2048x2048_0_3104 : FVec Ideal S2048x2048 .f32)⟩] concatenates_S2048x4096_S2048x3072_S2048x2048_S2048x9216_d1) bitsLt_bf16_f32 := by
  after_results
  rfl
theorem st0_v5 : after hostOps0 X main_v5 = (extractStridedSlice S2048x32 ![0, 3072] (X main_arg2) slices_S2048x9248_S2048x32_0_3072 : FVec Ideal S2048x32 .f32) := by
  after_results
theorem st0_c : after hostOps0 X main_c = (constantI S_ 32 0#32 : IVec S_ 32) := by
  after_results
theorem st1_v6 : after hostOps0_1 X main_v6 = pad S2048x128 ![0, 0] ![0, 96] ![0, 0] (X main_v5) (sitofp (F := Ideal) .f32 (X main_c : IVec S_ 32)) pads_S2048x32_S2048x128_000_0960 h_S_ := by
  after_results
  rfl
theorem st2_v7 : after hostOps0_2 X main_v7 = truncf (F := Ideal) .bf16 (X main_v6 : FVec Ideal S2048x128 .f32) bitsLt_bf16_f32 := by
  after_results
theorem st2_v23 : after hostOps0_2 X main_v23 = (concatenate S2048x128 1 [⟨S2048x16, (Host.cos angK : FVec Ideal S2048x16 .f32)⟩, ⟨S2048x16, (Host.cos angK : FVec Ideal S2048x16 .f32)⟩, ⟨S2048x96, (broadcastInDim S2048x96 ![] bcast_S_S2048x96 (constant S_ .f32 0x3F800000#32) : FVec Ideal S2048x96 .f32)⟩] concatenates_S2048x16_S2048x16_S2048x96_S2048x128_d1) := by
  unfold angK
  after_results
  rfl
theorem st2_v26 : after hostOps0_2 X main_v26 = (concatenate S2048x128 1 [⟨S2048x16, (Host.negf (Host.sin angK) : FVec Ideal S2048x16 .f32)⟩, ⟨S2048x16, (Host.sin angK : FVec Ideal S2048x16 .f32)⟩, ⟨S2048x96, (broadcastInDim S2048x96 ![] bcast_S_S2048x96 (constant S_ .f32 0x00000000#32) : FVec Ideal S2048x96 .f32)⟩] concatenates_S2048x16_S2048x16_S2048x96_S2048x128_d1) := by
  unfold angK
  after_results
  rfl
theorem st2_v27 : after hostOps0_2 X main_v27 = shapeCast S1x2048 (X main_arg1) shapeCasts_S2048_S1x2048 := by
  after_results
  rfl
theorem st2_v28 : after hostOps0_2 X main_v28 = (iotaInDim S1024 32 0 : IVec S1024 32) := by
  after_results
theorem st2_c3 : after hostOps0_2 X main_c_3 = (constantI S_ 32 128#32 : IVec S_ 32) := by
  after_results
theorem st3_v29 : after hostOps0_3 X main_v29 = Idealize.ShloMosaic.Routing.pyRem bcast_S_S1024 (X main_v28) (X main_c_3) := by
  after_results
  simp -implicitDefEqProofs only [StableHlo.TRef.toBuf, StableHlo.TRef.ofBuf, cast_cast, cast_eq, id]
  unfold Idealize.ShloMosaic.Routing.pyRem Idealize.ShloMosaic.Routing.divGuard
  rfl
theorem st4_v31 : after hostOps0_4 X main_v31 = cmpi .slt (X main_v29 : IVec S1024 32) (broadcastInDim S1024 ![] bcast_S_S1024 (constantI S_ 32 16#32)) := by
  after_results
theorem st4_v33 : after hostOps0_4 X main_v33 = addi (X main_v28 : IVec S1024 32) (broadcastInDim S1024 ![] bcast_S_S1024 (constantI S_ 32 16#32)) := by
  after_results
theorem st4_v35 : after hostOps0_4 X main_v35 = subi (X main_v28 : IVec S1024 32) (broadcastInDim S1024 ![] bcast_S_S1024 (constantI S_ 32 16#32)) := by
  after_results
theorem st5_v36 : after hostOps0_5 X main_v36 = select (X main_v31 : IVec S1024 1) (X main_v33 : IVec S1024 32) (X main_v35) := by
  after_results
  rfl
theorem st6_v47 : after hostOps0_6 X main_v47 = uitofp (F := Ideal) .bf16 (andi (cmpi .eq (broadcastInDim S1024x1024 ![0, 1] bcast_S1024x1_S1024x1024_0_1 (broadcastInDim S1024x1 ![0] bcast_S1024_S1024x1_0 (X main_v28 : IVec S1024 32)))
      (broadcastInDim S1024x1024 ![0, 1] bcast_S1x1024_S1024x1024_0_1 (broadcastInDim S1x1024 ![1] bcast_S1024_S1x1024_1 (X main_v36 : IVec S1024 32))))
    (broadcastInDim S1024x1024 ![0, 1] bcast_S1x1024_S1024x1024_0_1
      (cmpi .slt (broadcastInDim S1x1024 ![1] bcast_S1024_S1x1024_1 (X main_v29 : IVec S1024 32)) (broadcastInDim S1x1024 ![] bcast_S_S1x1024 (constantI S_ 32 32#32))))) := by
  after_results

theorem keep6 (r : Ref sig .tc) (h : r ∈ [main_v4, main_v7, main_v23, main_v26, main_v27]) : after hostOps0_6 X r = X r := by
  simp only [List.mem_cons, List.not_mem_nil, or_false] at h
  rcases h with rfl | rfl | rfl | rfl | rfl <;> after_results
theorem keep5 (r : Ref sig .tc) (h : r ∈ [main_v4, main_v7, main_v23, main_v26, main_v27, main_v28, main_v29]) : after hostOps0_5 X r = X r := by
  simp only [List.mem_cons, List.not_mem_nil, or_false] at h
  rcases h with rfl | rfl | rfl | rfl | rfl | rfl | rfl <;> after_results
theorem keep4 (r : Ref sig .tc) (h : r ∈ [main_v4, main_v7, main_v23, main_v26, main_v27, main_v28, main_v29]) : after hostOps0_4 X r = X r := by
  simp only [List.mem_cons, List.not_mem_nil, or_false] at h
  rcases h with rfl | rfl | rfl | rfl | rfl | rfl | rfl <;> after_results
theorem keep3 (r : Ref sig .tc) (h : r ∈ [main_v4, main_v7, main_v23, main_v26, main_v27, main_v28]) : after hostOps0_3 X r = X r := by
  simp only [List.mem_cons, List.not_mem_nil, or_false] at h
  rcases h with rfl | rfl | rfl | rfl | rfl | rfl <;> after_results
theorem keep2 : after hostOps0_2 X main_v4 = X main_v4 := by after_results
theorem keep1_v4 : after hostOps0_1 X main_v4 = X main_v4 := by after_results
theorem keep1_arg1 : after hostOps0_1 X main_arg1 = X main_arg1 := by after_results
theorem keep0_arg1 : after hostOps0 X main_arg1 = X main_arg1 := by after_results

theorem after_cat (l₁ l₂ : List (HloOp τ sig (Elt Ideal))) (Y : Valuation τ sig (Elt Ideal)) :
    after (l₁ ++ l₂) Y = after l₂ (after l₁ Y) := by
  induction l₁ generalizing Y with
  | nil => rfl
  | cons op l ih => exact ih _

theorem V_stretches (b : Ref sig .tc) : V m c b
    = after hostOps0_6 (after hostOps0_5 (after hostOps0_4 (after hostOps0_3 (after hostOps0_2 (after hostOps0_1 (after hostOps0 (fun b => m (c, b)))))))) b := by
  unfold V
  rw [List.flatten_cons, List.flatten_cons, List.flatten_cons, List.flatten_cons, List.flatten_cons, List.flatten_cons, List.flatten_cons, List.flatten_nil, List.append_nil]
  rw [after_cat, after_cat, after_cat, after_cat, after_cat, after_cat]
end Stretches

theorem V_v27 : V m c main_v27 = shapeCast S1x2048 (m ((c : Thread nD τ).loc main_arg1)) shapeCasts_S2048_S1x2048 := by
  rw [V_stretches, keep6 _ _ (by decide), keep5 _ _ (by decide), keep4 _ _ (by decide), keep3 _ _ (by decide), st2_v27, keep1_arg1, keep0_arg1]

theorem V_v4 : V m c main_v4 = truncf (F := Ideal) .bf16 (concatenate S2048x9216 1 [⟨S2048x4096, (extractStridedSlice S2048x4096 ![0, 5152] (m ((c : Thread nD τ).loc main_arg2)) slices_S2048x9248_S2048x4096_0_5152 : FVec Ideal S2048x4096 .f32)⟩, ⟨S2048x3072, (extractStridedSlice S2048x3072 ![0, 0] (m ((c : Thread nD τ).loc main_arg2)) slices_S2048x9248_S2048x3072_0_0 : FVec Ideal S2048x3072 .f32)⟩, ⟨S2048x2048, (extractStridedSlice S2048x2048 ![0, 3104] (m ((c : Thread nD τ).loc main_arg2)) slices_S2048x9248_S2048x2048_0_3104 : FVec Ideal S2048x2048 .f32)⟩] concatenates_S2048x4096_S2048x3072_S2048x2048_S2048x9216_d1) bitsLt_bf16_f32 := by
  rw [V_stretches, keep6 _ _ (by decide), keep5 _ _ (by decide), keep4 _ _ (by decide), keep3 _ _ (by decide), keep2, keep1_v4, st0_v4]

theorem V_v7 : V m c main_v7 = truncf (F := Ideal) .bf16 (pad S2048x128 ![0, 0] ![0, 96] ![0, 0] (extractStridedSlice S2048x32 ![0, 3072] (m ((c : Thread nD τ).loc main_arg2)) slices_S2048x9248_S2048x32_0_3072 : FVec Ideal S2048x32 .f32) (sitofp (F := Ideal) .f32 (constantI S_ 32 0#32)) pads_S2048x32_S2048x128_000_0960 h_S_) bitsLt_bf16_f32 := by
  rw [V_stretches, keep6 _ _ (by decide), keep5 _ _ (by decide), keep4 _ _ (by decide), keep3 _ _ (by decide), st2_v7, st1_v6, st0_v5, st0_c]

theorem V_v23 : V m c main_v23 = (concatenate S2048x128 1 [⟨S2048x16, (Host.cos angK : FVec Ideal S2048x16 .f32)⟩, ⟨S2048x16, (Host.cos angK : FVec Ideal S2048x16 .f32)⟩, ⟨S2048x96, (broadcastInDim S2048x96 ![] bcast_S_S2048x96 (constant S_ .f32 0x3F800000#32) : FVec Ideal S2048x96 .f32)⟩] concatenates_S2048x16_S2048x16_S2048x96_S2048x128_d1) := by
  rw [V_stretches, keep6 _ _ (by decide), keep5 _ _ (by decide), keep4 _ _ (by decide), keep3 _ _ (by decide), st2_v23]

theorem V_v26 : V m c main_v26 = (concatenate S2048x128 1 [⟨S2048x16, (Host.negf (Host.sin angK) : FVec Ideal S2048x16 .f32)⟩, ⟨S2048x16, (Host.sin angK : FVec Ideal S2048x16 .f32)⟩, ⟨S2048x96, (broadcastInDim S2048x96 ![] bcast_S_S2048x96 (constant S_ .f32 0x00000000#32) : FVec Ideal S2048x96 .f32)⟩] concatenates_S2048x16_S2048x16_S2048x96_S2048x128_d1) := by
  rw [V_stretches, keep6 _ _ (by decide), keep5 _ _ (by decide), keep4 _ _ (by decide), keep3 _ _ (by decide), st2_v26]

theorem V_v47 : V m c main_v47 = swapK (F := Ideal) := by
  rw [V_stretches, st6_v47, st5_v36, st4_v31, st4_v33, st4_v35, keep5 _ main_v28 (by decide), keep5 _ main_v29 (by decide), keep4 _ main_v28 (by decide),
    keep4 _ main_v29 (by decide), st3_v29, keep3 _ main_v28 (by decide), st2_v28, st2_c3]
  rfl

end Cert.Proof.InProjSample

end
-- ==== Proof.InProjSample.Kernel.lean ====
/-
  What the projection's call leaves, entry by entry.
-/
module

public import proofs.«01_k».proof.Proof.InProjSample.Entries

@[expose] public section

set_option maxRecDepth 16384
set_option Elab.async false

noncomputable section

namespace Cert.Proof.InProjSample

open Cert.ProjectSampleIdeal Cert.ProjectSampleIdeal.Gen Cert.ProjectSampleIdeal.Facts
open Idealize.ShloMosaic Idealize.ShloMosaic.TcCoe Idealize.SL.Sem

variable (m : (ℓ : Loc nD τ sig) → Buf (Elt Ideal) ℓ) (c : Dev nD)

/-! ## The prepared arrays at an entry -/

theorem angK_eq : angK = angM (F := Ideal) := rfl

/-- The column of the weights a column of the padded weights holds. -/
def wcol (n : Fin 9216) : Fin 9248 :=
  if h : n.val < 4096 then ⟨5152 + n.val, by omega⟩ else if h' : n.val < 7168 then ⟨n.val - 4096, by omega⟩ else ⟨n.val - 4064, by omega⟩

theorem w_at (k : Fin 2048) (n : Fin 9216) : V m c main_v4 (ix2 k n) = m ((c : Thread nD τ).loc main_arg2) (ix2 k (wcol n)) := by
  rw [V_v4]
  pointwise
  unfold wcol
  by_cases h : n.val < 4096
  · simp only [dif_pos h]
  by_cases h' : n.val < 7168
  · have g : n.val - 4096 < 3072 := by omega
    simp only [dif_neg h, dif_pos h', dif_pos g]
  · have g : ¬ n.val - 4096 < 3072 := by omega
    simp only [dif_neg h, dif_neg h', dif_neg g]
    exact congrArg (fun x : Fin 9248 => m ((c : Thread nD τ).loc main_arg2) (ix2 k x)) (Fin.ext (by show 3104 + (n.val - 4096 - 3072) = n.val - 4064; omega))

theorem wlr_at (k : Fin 2048) (l : Fin 128) : V m c main_v7 (ix2 k l)
    = (if h : l.val < 32 then m ((c : Thread nD τ).loc main_arg2) (ix2 k (⟨3072 + l.val, by omega⟩ : Fin 9248)) else 0 : EReal) := by
  rw [V_v7]
  pointwise
  have e : (FloatOps.sitofp (F := Ideal) FTy.f32 (0#32 : BitVec 32) : EReal) = 0 := by
    show (((0#32 : BitVec 32).toInt : ℝ) : EReal) = 0
    simp
  rw [e]

theorem g_at (k : Fin 2048) : V m c main_v27 (ix2 (0 : Fin 1) k) = m ((c : Thread nD τ).loc main_arg1) (ix1 k) := by
  rw [V_v27]
  pointwise

/-- A lane of the cosine table, and of the signed sine table. -/
def cosT (co : Fin 16 → EReal) (l : Fin 128) : EReal :=
  if h : l.val < 16 then co ⟨l.val, h⟩ else if h' : l.val < 32 then co ⟨l.val - 16, by omega⟩ else 1
def sinT (si : Fin 16 → EReal) (l : Fin 128) : EReal :=
  if h : l.val < 16 then -si ⟨l.val, h⟩ else if h' : l.val < 32 then si ⟨l.val - 16, by omega⟩ else 0

theorem cos_at (p : Fin 2048) (l : Fin 128) : V m c main_v23 (ix2 p l) = cosT (cosAt p) l := by
  rw [V_v23, angK_eq]
  unfold cosT cosAt
  generalize angM (F := Ideal) = A
  pointwise
  by_cases h : l.val < 16
  · simp only [dif_pos h]
  by_cases h' : l.val < 32
  · have g : l.val - 16 < 16 := by omega
    simp only [dif_neg h, dif_pos h', dif_pos g]
  · have g : ¬ l.val - 16 < 16 := by omega
    simp only [dif_neg h, dif_neg h', dif_neg g]

theorem sin_at (p : Fin 2048) (l : Fin 128) : V m c main_v26 (ix2 p l) = sinT (sinAt p) l := by
  rw [V_v26, angK_eq]
  unfold sinT sinAt
  generalize angM (F := Ideal) = A
  pointwise
  by_cases h : l.val < 16
  · simp only [dif_pos h]
  by_cases h' : l.val < 32
  · have g : l.val - 16 < 16 := by omega
    simp only [dif_neg h, dif_pos h', dif_pos g]
  · have g : ¬ l.val - 16 < 16 := by omega
    simp only [dif_neg h, dif_neg h', dif_neg g]

theorem lane_at (q : Fin 1024) : laneK (ix1 q) = BitVec.ofNat 32 (q.val % 128) :=
  Idealize.ShloMosaic.Routing.pyRem_ap bcast_S_S1024 _ _ _ (a := q.val) (b := 128) rfl rfl (by omega) (by decide) (by decide)

theorem src_at (q : Fin 1024) : srcK (ix1 q) = BitVec.ofNat 32 (partner q) := by
  have e : srcK (ix1 q) = Scalar.select (IntOp.cmpi .slt (laneK (ix1 q)) 16#32) (BitVec.ofNat 32 q.val + 16#32) (BitVec.ofNat 32 q.val - 16#32) := rfl
  rw [e, lane_at]
  exact (by decide +kernel : ∀ q : Fin 1024, Scalar.select (IntOp.cmpi .slt (BitVec.ofNat 32 (q.val % 128)) 16#32) (BitVec.ofNat 32 q.val + 16#32) (BitVec.ofNat 32 q.val - 16#32)
    = BitVec.ofNat 32 (if q.val % 128 < 16 then q.val + 16 else q.val - 16)) q

theorem partner_lt (q : Fin 1024) : partner q < 2048 := by unfold partner; split_ifs <;> omega

theorem swap_at (r q : Fin 1024) : (swapK (F := Ideal) (ix2 r q) : EReal) = if r.val = partner q ∧ q.val % 128 < 32 then 1 else 0 := by
  have e : (swapK (F := Ideal) (ix2 r q) : EReal)
      = (((IntOp.andi (IntOp.cmpi .eq (BitVec.ofNat 32 r.val) (srcK (ix1 q))) (IntOp.cmpi .slt (laneK (ix1 q)) 32#32)).toNat : ℝ) : EReal) := by
    unfold swapK
    pointwise
    rfl
  rw [e, lane_at, src_at, WordCmp.cmpi_eq_ofNat (by omega) (lt_of_lt_of_le (partner_lt q) (by decide)), WordCmp.cmpi_slt_ofNat (by omega) (by decide)]
  by_cases h : r.val = partner q <;> by_cases h' : q.val % 128 < 32 <;> simp [h, h', IntOp.andi]

/-! ## A turned lane -/

theorem turn_eq (v : Fin 128 → EReal) (co si : Fin 16 → EReal) (l : Fin 128) :
    v l * cosT co l + (if h : l.val < 32 then v ⟨if l.val < 16 then l.val + 16 else l.val - 16, by split_ifs <;> omega⟩ else 0) * sinT si l = turned v co si l := by
  unfold cosT sinT turned
  by_cases h : l.val < 16
  · have h' : l.val < 32 := by omega
    simp only [dif_pos h, dif_pos h', if_pos h, mul_neg, sub_eq_add_neg]
  · by_cases h' : l.val < 32
    · simp only [dif_neg h, dif_pos h', if_neg h]
    · simp only [dif_neg h, dif_neg h', mul_one, mul_zero, add_zero]

/-! ## The blocks -/

theorem at0 : ∀ t : Fin grid0.N, win0_0.index t = ![(grid0.coords t 0).val, 0] := by decide +kernel
theorem at1 : ∀ t : Fin grid0.N, win0_1.index t = ![0, 0] := by decide +kernel
theorem at2 : ∀ t : Fin grid0.N, win0_2.index t = ![0, (grid0.coords t 1).val] := by decide +kernel
theorem at3 : ∀ t : Fin grid0.N, win0_3.index t = ![0, 0] := by decide +kernel
theorem at4 : ∀ t : Fin grid0.N, win0_4.index t = ![(grid0.coords t 0).val % 2, 0] := by decide +kernel
theorem at5 : ∀ t : Fin grid0.N, win0_5.index t = ![(grid0.coords t 0).val % 2, 0] := by decide +kernel
theorem at6 : ∀ t : Fin grid0.N, win0_6.index t = ![0, 0] := by decide +kernel
theorem at7 : ∀ t : Fin grid0.N, win0_7.index t = ![(grid0.coords t 0).val, (grid0.coords t 1).val] := by decide +kernel
theorem at8 : ∀ t : Fin grid0.N, win0_8.index t = ![(grid0.coords t 0).val, 0] := by decide +kernel
theorem row_coord : ∀ t : Fin grid0.N, (grid0.coords (row t) 0).val = (grid0.coords t 0).val := by decide +kernel
theorem coord1' : ∀ t : Fin grid0.N, (grid0.coords t 1).val = t.val % 9 := by decide +kernel

variable (t : Fin cfg0.N)

theorem b0 (p : Fin 1024) (k : Fin 2048) (r : Fin 8192) (hr : r.val = (grid0.coords t 0).val * 1024 + p.val) :
    iblk m c 0 t (ix2 p k) = V m c main_arg0 (ix2 r k) := by blk_ext [iblk, at0 t]
theorem b1 (k : Fin 2048) : iblk m c 1 t (ix2 (0 : Fin 1) k) = V m c main_v27 (ix2 (0 : Fin 1) k) := by blk_ext [iblk, at1 t]
theorem b2 (k : Fin 2048) (q : Fin 1024) (n : Fin 9216) (hn : n.val = (grid0.coords t 1).val * 1024 + q.val) :
    iblk m c 2 t (ix2 k q) = V m c main_v4 (ix2 k n) := by blk_ext [iblk, at2 t]
theorem b3 (k : Fin 2048) (q : Fin 128) : iblk m c 3 t (ix2 k q) = V m c main_v7 (ix2 k q) := by blk_ext [iblk, at3 t]
theorem b4 (p : Fin 1024) (l : Fin 128) (s : Fin 2048) (hs : s.val = (grid0.coords t 0).val % 2 * 1024 + p.val) :
    iblk m c 4 t (ix2 p l) = V m c main_v23 (ix2 s l) := by blk_ext [iblk, at4 t]
theorem b5 (p : Fin 1024) (l : Fin 128) (s : Fin 2048) (hs : s.val = (grid0.coords t 0).val % 2 * 1024 + p.val) :
    iblk m c 5 t (ix2 p l) = V m c main_v26 (ix2 s l) := by blk_ext [iblk, at5 t]
theorem b6 (p q : Fin 1024) : iblk m c 6 t (ix2 p q) = V m c main_v47 (ix2 p q) := by blk_ext [iblk, at6 t]

/-! ## A point's tile -/

/-- The arguments' contents at launch. -/
abbrev x0 : FVec Ideal S8192x2048 .f32 := m ((c : Thread nD τ).loc main_arg0)
abbrev x1 : FVec Ideal S2048 .f32 := m ((c : Thread nD τ).loc main_arg1)
abbrev x2 : FVec Ideal S2048x9248 .f32 := m ((c : Thread nD τ).loc main_arg2)

theorem hat_blk (p : Fin 1024) (r : Fin 8192) (hr : r.val = (grid0.coords t 0).val * 1024 + p.val) :
    hat (fun j => iblk m c 0 (row t) (ix2 p j)) (fun j => iblk m c 1 (row t) (ix2 (0 : Fin 1) j)) = hat (fun j => x0 m c (ix2 r j)) (fun j => x1 m c (ix1 j)) := by
  have e0 : (fun j => iblk m c 0 (row t) (ix2 p j)) = fun j => x0 m c (ix2 r j) :=
    funext fun j => (b0 m c (row t) p j r (hr.trans (by rw [row_coord t]))).trans (congrFun (V_main_arg0 m c) _)
  have e1 : (fun j => iblk m c 1 (row t) (ix2 (0 : Fin 1) j)) = fun j => x1 m c (ix1 j) :=
    funext fun j => (b1 m c (row t) j).trans (g_at m c j)
  rw [e0, e1]

theorem tile_at (p q : Fin 1024) (r : Fin 8192) (n : Fin 9216) (hr : r.val = (grid0.coords t 0).val * 1024 + p.val) (hn : n.val = (grid0.coords t 1).val * 1024 + q.val) :
    k0_pay4 (F := Ideal) (hOf m c t) (iblk m c 2 t) (ix2 p q) = prod (x0 m c) (x1 m c) (x2 m c) r (wcol n) := by
  refine (k0_pay4_at _ _ p q).trans (Finset.sum_congr rfl fun k _ => ?_)
  exact congrArg₂ (fun a b : EReal => a * b) ((k0_pay2_at _ _ p k).trans (congrFun (hat_blk m c t p r hr) k)) ((b2 m c t k q n hn).trans (w_at m c k n))

theorem lr_at (p : Fin 1024) (l : Fin 128) (r : Fin 8192) (hr : r.val = (grid0.coords t 0).val * 1024 + p.val) :
    lrOf m c t (ix2 p l) = low0 (x0 m c) (x1 m c) (x2 m c) r l := by
  refine (k0_pay3_at _ _ _ p l).trans ?_
  unfold low0
  by_cases h : l.val < 32
  · rw [dif_pos h]
    refine Finset.sum_congr rfl fun k _ => ?_
    exact congrArg₂ (fun a b : EReal => a * b) (congrFun (hat_blk m c t p r hr) k) ((b3 m c (row t) k l).trans ((wlr_at m c k l).trans (dif_pos h)))
  · rw [dif_neg h]
    refine Finset.sum_eq_zero fun k _ => ?_
    rw [(b3 m c (row t) k l).trans ((wlr_at m c k l).trans (dif_neg h)), mul_zero]

/-- A lane the kernel turns: its value by the cosine, and its partner's by the signed sine. -/
theorem turned_of {W : ℕ} (f : Fin W → EReal) (v : Fin 128 → EReal) (co si : Fin 16 → EReal) (q : Fin W) (l : Fin 128) (a b : EReal) (par : ℕ)
    (hl : l.val = q.val % 128) (hpar : par = if q.val % 128 < 16 then q.val + 16 else q.val - 16) (hp : q.val % 128 < 32 → par < W)
    (hv : ∀ (k : Fin 128) (j : Fin W), j.val = q.val / 128 * 128 + k.val → f j = v k) (ha : a = cosT co l) (hb : b = sinT si l) :
    f q * a + (if h : q.val % 128 < 32 then f ⟨par, hp h⟩ else 0) * b = turned v co si l := by
  rw [← turn_eq v co si l, ha, hb]
  refine congrArg₂ (fun x y : EReal => x + y) (congrArg (fun x : EReal => x * cosT co l) (hv l q (by omega))) (congrArg (fun x : EReal => x * sinT si l) ?_)
  by_cases h : q.val % 128 < 32
  · have h' : l.val < 32 := by omega
    simp only [dif_pos h, dif_pos h']
    refine hv _ _ ?_
    show par = q.val / 128 * 128 + (if l.val < 16 then l.val + 16 else l.val - 16)
    rw [hpar, hl]
    split_ifs <;> omega
  · have h' : ¬ l.val < 32 := by omega
    simp only [dif_neg h, dif_neg h']

theorem wcol_val (n : Fin 9216) (h : 7168 ≤ n.val) : (wcol n).val = n.val - 4064 := by
  unfold wcol
  rw [dif_neg (by omega), dif_neg (by omega)]

theorem co_at (p : Fin 1024) (l l' : Fin 128) (s : Fin 2048) (hs : s.val = (grid0.coords t 0).val % 2 * 1024 + p.val) (hl : l.val = l'.val) :
    (iblk m c 4 t (ix2 p l) : EReal) = cosT (cosAt s) l' := by
  rw [← Fin.ext hl]
  exact (b4 m c t p l s hs).trans (cos_at m c s l)
theorem si_at (p : Fin 1024) (l l' : Fin 128) (s : Fin 2048) (hs : s.val = (grid0.coords t 0).val % 2 * 1024 + p.val) (hl : l.val = l'.val) :
    (iblk m c 5 t (ix2 p l) : EReal) = sinT (sinAt s) l' := by
  rw [← Fin.ext hl]
  exact (b5 m c t p l s hs).trans (sin_at m c s l)

theorem s_at (k q : Fin 1024) : iblk m c 6 t (ix2 k q) = (if k.val = partner q ∧ q.val % 128 < 32 then 1 else 0 : EReal) :=
  (b6 m c t k q).trans ((congrFun (V_v47 m c) _).trans (swap_at k q))

theorem corner_at (x : Vec Ideal S1024x1024 .bf16) (k q : Fin 512) :
    corner x (ix2 k q) = x (ix2 (⟨k.val, by omega⟩ : Fin 1024) (⟨q.val, by omega⟩ : Fin 1024)) :=
  congrArg x (funext fun a => Fin.ext (by
    match a with
    | ⟨0, _⟩ => exact (Nat.zero_add _).trans (Nat.one_mul _)
    | ⟨1, _⟩ => exact (Nat.zero_add _).trans (Nat.one_mul _)))

theorem proj_at (p q : Fin 1024) (r : Fin 8192) (n : Fin 9216) (hr : r.val = (grid0.coords t 0).val * 1024 + p.val) (hn : n.val = (grid0.coords t 1).val * 1024 + q.val) :
    projOf m c t (ix2 p q) = main0 (x0 m c) (x1 m c) (x2 m c) r n := by
  have hc := coord1' t
  have hs : (⟨r.val % 2048, by omega⟩ : Fin 2048).val = (grid0.coords t 0).val % 2 * 1024 + p.val := by
    show r.val % 2048 = _
    omega
  unfold projOf main0
  by_cases h7 : t.val % 9 = 7
  · have n0 : ¬ n.val < 4096 := by omega
    have n1 : ¬ n.val < 7168 := by omega
    have n2 : n.val < 8704 := by omega
    rw [if_pos h7, dif_neg n0, dif_neg n1, dif_pos n2]
    refine (k0_pay5_at _ _ _ _ _ p q).trans ?_
    rw [sum_swap (fun k => k0_pay4 (F := Ideal) (hOf m c t) (iblk m c 2 t) (ix2 p k)) (fun k => iblk m c 6 t (ix2 k q)) (q.val % 128 < 32) (partner q)
      (fun h => by unfold partner; split_ifs <;> omega) (fun k => s_at m c t k q)]
    refine turned_of (fun k : Fin 1024 => k0_pay4 (F := Ideal) (hOf m c t) (iblk m c 2 t) (ix2 p k)) _ _ _ q _ _ _ (partner q) (by show (n.val - 7168) % 128 = _; omega) rfl _ ?_
      (co_at m c t p _ _ _ hs (by show q.val % 128 = (n.val - 7168) % 128; omega)) (si_at m c t p _ _ _ hs (by show q.val % 128 = (n.val - 7168) % 128; omega))
    intro k j hj
    refine (tile_at m c t p j r ⟨7168 + j.val, by omega⟩ hr (by show 7168 + j.val = _; omega)).trans (prod_congr _ _ _ r ?_)
    rw [wcol_val _ (by show 7168 ≤ 7168 + j.val; omega)]
    show 7168 + j.val - 4064 = 3104 + (n.val - 7168) / 128 * 128 + k.val
    omega
  by_cases h8 : t.val % 9 = 8
  · have n0 : ¬ n.val < 4096 := by omega
    have n1 : ¬ n.val < 7168 := by omega
    rw [if_neg h7, if_pos h8, dif_neg n0, dif_neg n1]
    refine (k0_pay6_at _ _ _ _ _ p q).trans ?_
    by_cases hq : q.val < 512
    · have n2 : n.val < 8704 := by omega
      rw [dif_pos hq, dif_pos n2]
      rw [sum_swap (fun k : Fin 512 => k0_pay4 (F := Ideal) (hOf m c t) (iblk m c 2 t) (ix2 p (⟨k.val, by omega⟩ : Fin 1024)))
        (fun k : Fin 512 => corner (iblk m c 6 t) (ix2 k (⟨q.val, hq⟩ : Fin 512))) (q.val % 128 < 32) (partner q)
        (fun h => by unfold partner; split_ifs <;> omega) (fun k => (corner_at _ k ⟨q.val, hq⟩).trans (s_at m c t ⟨k.val, by omega⟩ q))]
      refine turned_of (fun k : Fin 512 => k0_pay4 (F := Ideal) (hOf m c t) (iblk m c 2 t) (ix2 p (⟨k.val, by omega⟩ : Fin 1024))) _ _ _ ⟨q.val, hq⟩ _ _ _ (partner q)
        (by show (n.val - 7168) % 128 = q.val % 128; omega) rfl _ ?_
        (co_at m c t p _ _ _ hs (by show q.val % 128 = (n.val - 7168) % 128; omega)) (si_at m c t p _ _ _ hs (by show q.val % 128 = (n.val - 7168) % 128; omega))
      intro k j hj
      have hj' : j.val = q.val / 128 * 128 + k.val := hj
      refine (tile_at m c t p ⟨j.val, by omega⟩ r ⟨8192 + j.val, by omega⟩ hr (by show 8192 + j.val = _ + j.val; omega)).trans (prod_congr _ _ _ r ?_)
      rw [wcol_val _ (by show 7168 ≤ 8192 + j.val; omega)]
      show 8192 + j.val - 4064 = 3104 + (n.val - 7168) / 128 * 128 + k.val
      omega
    · have n2 : ¬ n.val < 8704 := by omega
      rw [dif_neg hq, dif_neg n2]
      exact (tile_at m c t p q r n hr hn).trans (prod_congr _ _ _ r (wcol_val n (by omega)))
  · have hN : t.val % 9 < 9 := Nat.mod_lt _ (by decide)
    rw [if_neg h7, if_neg h8]
    refine (k0_pay7_at _ _ p q).trans ((k0_pay4_at _ _ p q).symm.trans ((tile_at m c t p q r n hr hn).trans ?_))
    by_cases n0 : n.val < 4096
    · rw [dif_pos n0]
      exact prod_congr _ _ _ r (by unfold wcol; rw [dif_pos n0])
    · have n1 : n.val < 7168 := by omega
      rw [dif_neg n0, dif_pos n1]
      exact prod_congr _ _ _ r (by unfold wcol; rw [dif_neg n0, dif_pos n1])

/-! ## The results -/

theorem emb7_0 (y : ((cfg0.win 7).xblock (cfg0.grid.coords t)).Idx) :
    (((cfg0.win 7).blk t).view.emb y (0 : Fin 2)).val = (grid0.coords t 0).val * 1024 + (y (0 : Fin 2)).val := by
  blk_simp [at7 t]
theorem emb7_1 (y : ((cfg0.win 7).xblock (cfg0.grid.coords t)).Idx) :
    (((cfg0.win 7).blk t).view.emb y (1 : Fin 2)).val = (grid0.coords t 1).val * 1024 + (y (1 : Fin 2)).val := by
  blk_simp [at7 t]
theorem emb8_0 (y : ((cfg0.win 8).xblock (cfg0.grid.coords t)).Idx) :
    (((cfg0.win 8).blk t).view.emb y (0 : Fin 2)).val = (grid0.coords t 0).val * 1024 + (y (0 : Fin 2)).val := by
  blk_simp [at8 t]
theorem emb8_1 (y : ((cfg0.win 8).xblock (cfg0.grid.coords t)).Idx) :
    (((cfg0.win 8).blk t).view.emb y (1 : Fin 2)).val = (y (1 : Fin 2)).val := by
  blk_simp [at8 t]

/-- The call's two results, of the arguments' contents at launch. -/
def res0 : FVec Ideal S8192x9216 .bf16 := fun i => main0 (x0 m c) (x1 m c) (x2 m c) (i 0) (i 1)
def res1 : FVec Ideal S8192x128 .bf16 := fun i => low0 (x0 m c) (x1 m c) (x2 m c) (i 0) (i 1)

theorem proj_entry (y : S1024x1024.Idx) (i : S8192x9216.Idx) (h0 : (i (0 : Fin 2)).val = (grid0.coords t 0).val * 1024 + (y (0 : Fin 2)).val)
    (h1 : (i (1 : Fin 2)).val = (grid0.coords t 1).val * 1024 + (y (1 : Fin 2)).val) : projOf m c t y = res0 m c i := by
  rw [eq_ix2 (n0 := 1024) (n1 := 1024) y]
  exact proj_at m c t (y 0) (y 1) (i 0) (i 1) h0 h1

theorem lr_entry (y : S1024x128.Idx) (i : S8192x128.Idx) (h0 : (i (0 : Fin 2)).val = (grid0.coords t 0).val * 1024 + (y (0 : Fin 2)).val)
    (h1 : (i (1 : Fin 2)).val = (y (1 : Fin 2)).val) : lrOf m c t y = res1 m c i := by
  have e : (i (1 : Fin 2) : Fin 128) = y (1 : Fin 2) := Fin.ext h1
  rw [eq_ix2 (n0 := 1024) (n1 := 128) y]
  unfold res1
  rw [e]
  exact lr_at m c t (y 0) (y 1) (i 0) h0

theorem arr7 : (dats m 0 c).arrAt 7 cfg0.N = res0 m c := by
  refine (dats m 0 c).arrAt_eq_of_covers 7 _ (by decide +kernel) fun t _ y => ?_
  refine (congrFun (after7 m c t) _).trans ?_
  exact proj_entry m c t y _ (emb7_0 t y) (emb7_1 t y)

theorem arr8 : (dats m 0 c).arrAt 8 cfg0.N = res1 m c := by
  refine (dats m 0 c).arrAt_eq_of_covers 8 _ (by decide +kernel) fun t _ y => ?_
  refine (congrFun (after8 m c t) _).trans ?_
  exact lr_entry m c t y _ (emb8_0 t y) (emb8_1 t y)

theorem algebraic : Cert.algebraic_ProjectSampleIdeal_ProjectSampleReferenceIdeal := fun m g m' g' _ ha => by
  refine ⟨fun c => res0 m c, fun c => res1 m c, ?_, ?_⟩
  · exact (θ_run (Cert.ProjectSampleIdeal.defs (F := Ideal)) _ _).mono (fun _ h c => ⟨((h c).1 7).trans (arr7 m c), ((h c).1 8).trans (arr8 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m g)
  · refine (θ_run (Cert.ProjectSampleReferenceIdeal.defs (F := Ideal)) _ _).mono (fun _ h c => ⟨(h c).1.trans ?_, (h c).2.1.trans ?_, (h c).2.2⟩) (Cert.ProjectSampleReferenceIdeal.Value.run (F := Ideal) m' g')
    · obtain ⟨h0, h1, h2⟩ := ha c
      refine (res_eq m' c).trans ?_
      rw [h0, h1, h2]
      funext i
      rw [eq_ix2 (n0 := 8192) (n1 := 9216) i]
      exact refP_at _ _ _ (i 0) (i 1)
    · obtain ⟨h0, h1, h2⟩ := ha c
      show refL (F := Ideal) _ _ _ = _
      rw [h0, h1, h2]
      funext i
      rw [eq_ix2 (n0 := 8192) (n1 := 128) i]
      exact refL_at _ _ _ (i 0) (i 1)

end Cert.Proof.InProjSample

end
-- ==== Proof.Memory.Reference.lean ====
/-
  What the keys and values of the memory are, entry by entry, and that their reference is that.
-/
module

public import proofs.«01_k».proof.Proof.Gen.MemoryReferenceIdeal.Run
public import Idealize.ShloMosaic.Lib.Pipeline.ValueKit
public import Idealize.ShloMosaic.Lib.ValueIdx

@[expose] public section

set_option maxRecDepth 16384
set_option Elab.async false

noncomputable section

namespace Cert.Proof.Memory

open Cert.MemoryReferenceIdeal Cert.MemoryReferenceIdeal.Gen Cert.MemoryReferenceIdeal.Facts
open Idealize.ShloMosaic Idealize.ShloMosaic.TcCoe

/-- One entry of a normed row times one column of the weights. -/
def normedDot (x g w : Fin 2048 → EReal) : EReal :=
  ∑ k : Fin 2048, x k * Ideal.rsqrt (Ideal.div (∑ j : Fin 2048, x j * x j) (Ideal.ofBits .f32 0x45000000#32) + Ideal.ofBits .f32 0x3727C5AC#32) * g k * w k

/-- The keys and values: row `r` of the result is position `r % 256` of batch `r / 256`. -/
def memory (a0 : FVec Ideal S4x256x2048 .f32) (a1 : FVec Ideal S2048 .f32) (a2 : FVec Ideal S2048x1024 .f32) (b : Fin 4) (p : Fin 256) (n : Fin 1024) : EReal :=
  normedDot (fun k => a0 (ix3 b p k)) (fun k => a1 (ix1 k)) (fun k => a2 (ix2 k n))

/-- The reference's composed term. -/
def refY {F : FTy → Type} [FloatOps F] (a0 : FVec F S4x256x2048 .f32) (a1 : FVec F S2048 .f32) (a2 : FVec F S2048x1024 .f32) : FVec F S1024x1024 .bf16 :=
  truncf .bf16 (shapeCast _ (Host.dotGeneral dot_S4x256x2048_S2048x1024_S4x256x1024_2_0_01_1_n_n none (mulf (mulf a0 (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf a0 a0) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x3727C5AC#32)))))) (broadcastInDim S4x256x2048 ![0, 1, 2] bcast_S1x1x2048_S4x256x2048_0_1_2 (broadcastInDim S1x1x2048 ![2] bcast_S2048_S1x1x2048_2 a1))) a2) shapeCasts_S4x256x1024_S1024x1024) bitsLt_bf16_f32

theorem refY_at (a0 : FVec Ideal S4x256x2048 .f32) (a1 : FVec Ideal S2048 .f32) (a2 : FVec Ideal S2048x1024 .f32) (r : Fin 1024) (n : Fin 1024) :
    refY (F := Ideal) a0 a1 a2 (ix2 r n) = memory a0 a1 a2 (⟨r.val / 256, by omega⟩ : Fin 4) (⟨r.val % 256, by omega⟩ : Fin 256) n := by
  unfold refY memory normedDot
  pointwise
  try rfl

end Cert.Proof.Memory

end
-- ==== Proof.Memory.Kernel.lean ====
/-
  What the call for the memory's keys and values leaves, entry by entry.
-/
module

public import proofs.«01_k».proof.Proof.Memory.Reference
public import proofs.«01_k».proof.Defs
public import proofs.«01_k».proof.Proof.Gen.MemoryIdeal.Value
public import Idealize.ShloMosaic.Lib.Pipeline.ValueKit
public import Idealize.ShloMosaic.Lib.StableHlo.Run
public import Idealize.ShloMosaic.Lib.ValueIdx

@[expose] public section

set_option maxRecDepth 16384
set_option Elab.async false

noncomputable section

namespace Cert.Proof.Memory

open Cert.MemoryIdeal Cert.MemoryIdeal.Gen Cert.MemoryIdeal.Facts
open Idealize.ShloMosaic Idealize.ShloMosaic.TcCoe Idealize.SL.Sem

theorem k0_pay1_at (v0 : Vec Ideal S256x2048 .f32) (v2 : Vec Ideal S1x2048 .f32) (v17 : Vec Ideal S2048x1024 .bf16) (p : Fin 256) (n : Fin 1024) :
    k0_pay1 (F := Ideal) v0 v2 v17 (ix2 p n) = normedDot (fun k => v0 (ix2 p k)) (fun k => v2 (ix2 (0 : Fin 1) k)) (fun k => v17 (ix2 k n)) := by
  unfold k0_pay1 normedDot
  pointwise
  try rfl

variable (m : (ℓ : Loc nD τ sig) → Buf (Elt Ideal) ℓ) (c : Dev nD)

theorem at0 : ∀ t : Fin grid0.N, win0_0.index t = ![(grid0.coords t 0).val, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![(grid0.coords t 0).val, 0] := by decide +kernel

variable (t : Fin cfg0.N)

theorem b0 (p : Fin 256) (k : Fin 2048) (r : Fin 1024) (hr : r.val = (grid0.coords t 0).val * 256 + p.val) :
    iblk m c 0 t (ix2 p k) = V m c main_v0 (ix2 r k) := by blk_ext [iblk, at0 t]
theorem b1 (q : Fin 1) (k : Fin 2048) : iblk m c 1 t (ix2 q k) = V m c main_v1 (ix2 q k) := by blk_ext [iblk, at1 t]
theorem b2 (j : Fin 2048) (k : Fin 1024) : iblk m c 2 t (ix2 j k) = V m c main_v2 (ix2 j k) := by blk_ext [iblk, at2 t]

theorem V_v0 (r : Fin 1024) (k : Fin 2048) : V m c main_v0 (ix2 r k)
    = m ((c : Thread nD τ).loc main_arg0) (ix3 (⟨r.val / 256, by omega⟩ : Fin 4) (⟨r.val % 256, by omega⟩ : Fin 256) k) := by
  show StableHlo.after hostOps0 (fun b => m (c, b)) main_v0 (ix2 r k) = _
  after_results_simp
  pointwise
  try rfl
theorem V_v1 (k : Fin 2048) : V m c main_v1 (ix2 (0 : Fin 1) k) = m ((c : Thread nD τ).loc main_arg1) (ix1 k) := by
  show StableHlo.after hostOps0 (fun b => m (c, b)) main_v1 (ix2 (0 : Fin 1) k) = _
  after_results_simp
  pointwise
  try rfl
theorem V_v2 : V m c main_v2 = m ((c : Thread nD τ).loc main_arg2) := by
  show StableHlo.after hostOps0 (fun b => m (c, b)) main_v2 = _
  after_results_simp
  rfl

/-- The result, of the arguments' contents at launch. -/
def result : FVec Ideal S1024x1024 .bf16 := fun i =>
  memory (m ((c : Thread nD τ).loc main_arg0)) (m ((c : Thread nD τ).loc main_arg1)) (m ((c : Thread nD τ).loc main_arg2))
    (⟨(i 0).val / 256, by have : (i 0).val < 1024 := (i 0).isLt; omega⟩ : Fin 4) (⟨(i 0).val % 256, by omega⟩ : Fin 256) (i 1)

theorem outs_at (p : Fin 256) (n : Fin 1024) (r : Fin 1024) (hr : r.val = (grid0.coords t 0).val * 256 + p.val) :
    out0_3 (iblk m c 0 t) (iblk m c 1 t) (iblk m c 2 t) (ix2 p n) = result m c (ix2 r n) := by
  unfold out0_3
  frame_out
  refine (k0_pay1_at _ _ _ p n).trans ?_
  show _ = memory _ _ _ (⟨r.val / 256, by omega⟩ : Fin 4) (⟨r.val % 256, by omega⟩ : Fin 256) n
  unfold memory
  rw [← V_v2 m c]
  simp only [b0 m c t p _ r hr, b1 m c t, b2 m c t, V_v0 m c, V_v1 m c]

theorem emb3_0 (y : ((cfg0.win 3).xblock (cfg0.grid.coords t)).Idx) :
    (((cfg0.win 3).blk t).view.emb y (0 : Fin 2)).val = (grid0.coords t 0).val * 256 + (y (0 : Fin 2)).val := by
  blk_simp [at3 t]
theorem emb3_1 (y : ((cfg0.win 3).xblock (cfg0.grid.coords t)).Idx) :
    (((cfg0.win 3).blk t).view.emb y (1 : Fin 2)).val = (y (1 : Fin 2)).val := by
  blk_simp [at3 t]

theorem outs_entry (y : S256x1024.Idx) (i : S1024x1024.Idx) (h0 : (i (0 : Fin 2)).val = (grid0.coords t 0).val * 256 + (y (0 : Fin 2)).val)
    (h1 : (i (1 : Fin 2)).val = (y (1 : Fin 2)).val) : out0_3 (iblk m c 0 t) (iblk m c 1 t) (iblk m c 2 t) y = result m c i := by
  have e : (i (1 : Fin 2) : Fin 1024) = y (1 : Fin 2) := Fin.ext h1
  rw [eq_ix2 (n0 := 256) (n1 := 1024) y, eq_ix2 (n0 := 1024) (n1 := 1024) i, e]
  exact outs_at m c t (y 0) (y 1) (i 0) h0

theorem arr3 : (dats m 0 c).arrAt 3 cfg0.N = result m c := by
  refine (dats m 0 c).arrAt_eq_of_covers 3 _ (by decide +kernel) fun t _ y => ?_
  refine (congrFun (after0_3 m c t) _).trans ?_
  exact outs_entry m c t y _ (emb3_0 t y) (emb3_1 t y)

theorem algebraic : Cert.algebraic_MemoryIdeal_MemoryReferenceIdeal := fun m g m' g' _ ha => by
  refine ⟨fun c => result m c, ?_, ?_⟩
  · exact (θ_run (Cert.MemoryIdeal.defs (F := Ideal)) _ _).mono (fun _ h c => ⟨(h c).1.trans (arr3 m c), (h c).2⟩) (Cert.MemoryIdeal.Value.run_blocks (F := Ideal) m g)
  · refine (θ_run (Cert.MemoryReferenceIdeal.defs (F := Ideal)) _ _).mono (fun _ h c => ⟨(h c).1.trans ?_, (h c).2⟩) (Cert.MemoryReferenceIdeal.Value.run (F := Ideal) m' g')
    obtain ⟨h0, h1, h2⟩ := ha c
    rw [h0, h1, h2]
    funext i
    rw [eq_ix2 (n0 := 1024) (n1 := 1024) i]
    exact refY_at _ _ _ (i 0) (i 1)

end Cert.Proof.Memory

end
-- ==== Proof.Cross.Row.lean ====
/-
  One row of the cross attention over the extended reals: dividing before or after the values' product gives the same.
-/
module

public import Idealize.ShloMosaic.PureOps.Ideal
public import Idealize.ShloMosaic.Lib.Pipeline.ValueKit
public import Idealize.ShloMosaic.Lib.ValueIdx

@[expose] public section

set_option Elab.async false

noncomputable section

namespace Cert.Proof.Cross

open Idealize.ShloMosaic

/-- A value that is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem isR_of {x : EReal} (h : max x (-x) < ⊤) : IsR x := by
  induction x using EReal.rec with
  | bot => simp at h
  | top => simp at h
  | coe r => exact ⟨r, rfl⟩

/-- The mean's divisor, the norm's small constant and the scores' scale. -/
def cMean : EReal := Ideal.ofBits .f32 0x45000000#32
def cEps : EReal := Ideal.ofBits .f32 0x3727C5AC#32
def cScale : EReal := Ideal.ofBits .f32 0x3DB504F3#32

theorem cMean_eq : ∃ r : ℝ, 0 < r ∧ cMean = (r : EReal) := by
  refine ⟨2048, by norm_num, ?_⟩
  simp [cMean, Ideal.ofBits, Ideal.ieee, -EReal.coe_mul]; norm_num

theorem cEps_eq : ∃ r : ℝ, 0 < r ∧ cEps = (r : EReal) := by
  refine ⟨10995116 * 2 ^ (-40 : ℤ), by positivity, ?_⟩
  simp [cEps, Ideal.ofBits, Ideal.ieee, -EReal.coe_mul]

theorem cScale_isR : IsR cScale := by
  refine ⟨11863283 * 2 ^ (-27 : ℤ), ?_⟩
  simp [cScale, Ideal.ofBits, Ideal.ieee, -EReal.coe_mul]

/-- One over the root of the mean of the squares. -/
def inv (x : Fin 2048 → EReal) : EReal := Ideal.rsqrt (Ideal.div (∑ j : Fin 2048, x j * x j) cMean + cEps)

theorem inv_isR (x : Fin 2048 → EReal) (h : ∀ j, IsR (x j)) : IsR (inv x) := by
  have hs : ∃ r : ℝ, 0 ≤ r ∧ (∑ j : Fin 2048, x j * x j) = (r : EReal) := by
    obtain ⟨r, hr⟩ := IsR.sum Finset.univ (fun j => x j * x j) fun j => (h j).mul (h j)
    refine ⟨r, ?_, hr⟩
    have : (0 : EReal) ≤ ∑ j : Fin 2048, x j * x j := Finset.sum_nonneg fun j _ => by
      obtain ⟨a, ha⟩ := h j
      rw [ha, ← EReal.coe_mul]; exact EReal.coe_nonneg.2 (mul_self_nonneg a)
    rw [hr] at this; exact EReal.coe_nonneg.1 this
  obtain ⟨r, hr0, hr⟩ := hs
  obtain ⟨c, hc0, hc⟩ := cMean_eq
  obtain ⟨e, he0, he⟩ := cEps_eq
  have hne : (c : EReal) ≠ 0 := by exact_mod_cast hc0.ne'
  have hpos : 0 < r * c⁻¹ + e := by positivity
  unfold inv
  rw [hr, hc, he, Ideal.div, if_neg hne, ← EReal.coe_inv, ← EReal.coe_mul, ← EReal.coe_add]
  refine ⟨(Real.sqrt (r * c⁻¹ + e))⁻¹, ?_⟩
  show (if r * c⁻¹ + e < 0 then (⊥ : EReal) else if r * c⁻¹ + e = 0 then ⊤ else (((Real.sqrt (r * c⁻¹ + e))⁻¹ : ℝ) : EReal)) = _
  rw [if_neg (not_lt.2 hpos.le), if_neg hpos.ne']

/-- One entry of the queries of a row: the row over its root mean square, times the gain, through the weights. -/
def query (x g w : Fin 2048 → EReal) : EReal := ∑ k : Fin 2048, x k * inv x * g k * w k

theorem query_isR (x g w : Fin 2048 → EReal) (hx : ∀ j, IsR (x j)) (hg : ∀ j, IsR (g j)) (hw : ∀ j, IsR (w j)) : IsR (query x g w) :=
  IsR.sum _ _ fun k => (((hx k).mul (inv_isR x hx)).mul (hg k)).mul (hw k)

/-- The score of a query with a key. -/
def score (q k : Fin 128 → EReal) : EReal := (∑ d : Fin 128, q d * k d) * cScale

theorem score_isR (q k : Fin 128 → EReal) (hq : ∀ d, IsR (q d)) (hk : ∀ d, IsR (k d)) : IsR (score q k) :=
  (IsR.sum _ _ fun d => (hq d).mul (hk d)).mul cScale_isR

/-- The greatest of the scores. -/
def top (s : Fin 256 → EReal) : EReal := (Finset.univ : Finset (Fin 256)).fold max (Ideal.ofBits .f32 0xFF800000#32) s

/-- A score's weight before the division. -/
def raw (s : Fin 256 → EReal) (t : Fin 256) : EReal := Ideal.exp (s t - top s)

/-- The sum of the weights. -/
def total (s : Fin 256 → EReal) : EReal := ∑ t : Fin 256, raw s t

theorem negInf : Ideal.ofBits .f32 0xFF800000#32 = ⊥ := by simp [Ideal.ofBits, Ideal.ieee]

theorem posInf : Ideal.ofBits .f32 0x7F800000#32 = ⊤ := by simp [Ideal.ofBits, Ideal.ieee]

theorem fold_max_attained {ι : Type} (s : Finset ι) (hs : s.Nonempty) (f : ι → EReal) : ∃ i ∈ s, s.fold max ⊥ f = f i := by
  classical
  induction hs using Finset.Nonempty.cons_induction with
  | singleton a => exact ⟨a, by simp, by simp⟩
  | cons a s ha hs ih =>
    obtain ⟨i, hi, e⟩ := ih
    rw [Finset.fold_cons, e]
    rcases le_total (f a) (f i) with h | h
    · exact ⟨i, by simp [hi], max_eq_right h⟩
    · exact ⟨a, by simp, max_eq_left h⟩

theorem exp_nonneg (x : EReal) : 0 ≤ Ideal.exp x := by
  induction x using EReal.rec with
  | bot => exact le_refl _
  | top => exact le_top
  | coe r => exact EReal.coe_nonneg.2 (Real.exp_pos r).le

theorem total_pos (s : Fin 256 → EReal) (h : ∀ t, IsR (s t)) : 0 < total s := by
  obtain ⟨i, -, e⟩ := fold_max_attained (Finset.univ : Finset (Fin 256)) ⟨0, Finset.mem_univ _⟩ s
  have e1 : raw s i = 1 := by
    unfold raw top
    rw [negInf, e]
    obtain ⟨r, hr⟩ := h i
    rw [hr, ← EReal.coe_sub, sub_self]
    show ((Real.exp 0 : ℝ) : EReal) = 1
    rw [Real.exp_zero]; rfl
  have h1 : raw s i ≤ total s := Finset.single_le_sum (f := raw s) (fun t _ => exp_nonneg _) (Finset.mem_univ i)
  rw [e1] at h1
  exact lt_of_lt_of_le zero_lt_one h1

theorem sum_mul_right {ι : Type} (u : Finset ι) (f : ι → EReal) (c : EReal) (h0 : 0 ≤ c) (ht : c ≠ ⊤) :
    (∑ t ∈ u, f t) * c = ∑ t ∈ u, f t * c := by
  classical
  induction u using Finset.induction_on with
  | empty => simp
  | insert a s ha ih => rw [Finset.sum_insert ha, Finset.sum_insert ha, EReal.right_distrib_of_nonneg_of_ne_top h0 ht, ih]

/-- One head's result at one feature: dividing the sum is summing the divided. -/
theorem head_eq (s v : Fin 256 → EReal) (h : ∀ t, IsR (s t)) :
    Ideal.div (∑ t : Fin 256, raw s t * v t) (total s) = ∑ t : Fin 256, v t * Ideal.div (raw s t) (total s) := by
  have hp := total_pos s h
  have hn : total s ≠ 0 := hp.ne'
  simp only [Ideal.div, if_neg hn]
  rw [sum_mul_right _ _ _ (EReal.inv_nonneg_of_nonneg hp.le) (by
    generalize total s = x
    induction x using EReal.rec with
    | bot => simp
    | top => simp
    | coe r => rw [← EReal.coe_inv]; exact EReal.coe_ne_top _)]
  exact Finset.sum_congr rfl fun t _ => by rw [mul_comm (raw s t) (v t), mul_assoc]

end Cert.Proof.Cross

end
-- ==== Proof.Cross.Reference.lean ====
/-
  What the cross attention's reference computes, entry by entry.
-/
module

public import proofs.«01_k».proof.Proof.Gen.CrossReferenceIdeal.Run
public import proofs.«01_k».proof.Proof.Cross.Row
public import Idealize.ShloMosaic.Lib.Pipeline.ValueKit
public import Idealize.ShloMosaic.Lib.ValueIdx

@[expose] public section

set_option maxRecDepth 16384
set_option Elab.async false

noncomputable section

namespace Cert.Proof.Cross

open Cert.CrossReferenceIdeal Cert.CrossReferenceIdeal.Gen Cert.CrossReferenceIdeal.Facts
open Idealize.ShloMosaic Idealize.ShloMosaic.TcCoe

/-- One entry of the queries. -/
def qAt (a0 : FVec Ideal S4x4096x2048 .f32) (a2 : FVec Ideal S2048 .f32) (a3 : FVec Ideal S2048x512 .f32) (b : Fin 4) (i : Fin 4096) (n : Fin 512) : EReal :=
  query (fun k => a0 (ix3 b i k)) (fun k => a2 (ix1 k)) (fun k => a3 (ix2 k n))

/-- One head's scores of a row with the memory. -/
def sAt (a0 : FVec Ideal S4x4096x2048 .f32) (a1 : FVec Ideal S4x256x1024 .bf16) (a2 : FVec Ideal S2048 .f32) (a3 : FVec Ideal S2048x512 .f32) (b : Fin 4) (h : Fin 4) (i : Fin 4096) (t : Fin 256) : EReal :=
  score (fun d => qAt a0 a2 a3 b i (⟨h.val * 128 + d.val, by omega⟩ : Fin 512)) (fun d => a1 (ix3 b t (⟨h.val * 128 + d.val, by omega⟩ : Fin 1024)))

/-- One head's mix of the memory's values at one feature, each value under its divided weight. -/
def cAt (a0 : FVec Ideal S4x4096x2048 .f32) (a1 : FVec Ideal S4x256x1024 .bf16) (a2 : FVec Ideal S2048 .f32) (a3 : FVec Ideal S2048x512 .f32) (b : Fin 4) (h : Fin 4) (i : Fin 4096) (d : Fin 128) : EReal :=
  ∑ t : Fin 256, a1 (ix3 b t (⟨512 + h.val * 128 + d.val, by omega⟩ : Fin 1024))
    * Ideal.div (raw (sAt a0 a1 a2 a3 b h i) t) (total (sAt a0 a1 a2 a3 b h i))

/-- One entry of the result: the heads' mixes through the output weights, added to the row. -/
def attended (a0 : FVec Ideal S4x4096x2048 .f32) (a1 : FVec Ideal S4x256x1024 .bf16) (a2 : FVec Ideal S2048 .f32) (a3 : FVec Ideal S2048x512 .f32) (a4 : FVec Ideal S512x2048 .f32) (b : Fin 4) (i : Fin 4096) (n : Fin 2048) : EReal :=
  a0 (ix3 b i n) + ∑ k : Fin 512, cAt a0 a1 a2 a3 b (⟨k.val / 128, by omega⟩ : Fin 4) i (⟨k.val % 128, by omega⟩ : Fin 128) * a4 (ix2 k n)

/-- The reference's queries. -/
def refQ {F : FTy → Type} [FloatOps F] (a0 : FVec F S4x4096x2048 .f32) (a2 : FVec F S2048 .f32) (a3 : FVec F S2048x512 .f32) : FVec F S4x4096x512 .f32 :=
  Host.dotGeneral dot_S4x4096x2048_S2048x512_S4x4096x512_2_0_01_1_n_n none (mulf (mulf a0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf a0 a0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 a2))) a3

theorem refQ_at (a0 : FVec Ideal S4x4096x2048 .f32) (a2 : FVec Ideal S2048 .f32) (a3 : FVec Ideal S2048x512 .f32) (b : Fin 4) (i : Fin 4096) (n : Fin 512) :
    refQ (F := Ideal) a0 a2 a3 (ix3 b i n) = qAt a0 a2 a3 b i n := by
  unfold refQ qAt query inv cMean cEps
  pointwise
  try rfl

/-- The reference's scaled scores. -/
def refS {F : FTy → Type} [FloatOps F] (a0 : FVec F S4x4096x2048 .f32) (a1 : FVec F S4x256x1024 .bf16) (a2 : FVec F S2048 .f32) (a3 : FVec F S2048x512 .f32) : FVec F S4x4x4096x256 .f32 :=
  mulf (Host.dotGeneral dot_S4x4096x4x128_S4x256x4x128_S4x4x4096x256_3_3_1_1_02_02 none (shapeCast _ (refQ a0 a2 a3) shapeCasts_S4x4096x512_S4x4096x4x128) (shapeCast _ (extractStridedSlice S4x256x1x4x128 ![0, 0, 0, 0, 0] (shapeCast _ (extf .f32 a1 bitsLt_bf16_f32) shapeCasts_S4x256x1024_S4x256x2x4x128) slices_S4x256x2x4x128_S4x256x1x4x128_0_0_0_0_0) shapeCasts_S4x256x1x4x128_S4x256x4x128)) (broadcastInDim S4x4x4096x256 ![] bcast_S_S4x4x4096x256 (constant S_ .f32 0x3DB504F3#32))

theorem refS_at (a0 : FVec Ideal S4x4096x2048 .f32) (a1 : FVec Ideal S4x256x1024 .bf16) (a2 : FVec Ideal S2048 .f32) (a3 : FVec Ideal S2048x512 .f32) (b h : Fin 4) (i : Fin 4096) (t : Fin 256) :
    refS (F := Ideal) a0 a1 a2 a3 (ix4 b h i t) = sAt a0 a1 a2 a3 b h i t := by
  unfold refS sAt score cScale
  pointwise [refQ_at]
  try rfl

/-- The greatest along the last of four axes is the fold of the maximum over it. -/
theorem hostMax_at {n0 n1 n2 n3 : Nat} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (max : EReal → EReal → EReal) x init h hu (ix3 a b c)
      = (Finset.univ : Finset (Fin n3)).fold max (init (Shape.Idx.first hu)) (fun t => x (ix4 a b c t)) := by
  rw [Host.reduce_eq_fold, Shape.ReducesTo.fold_fiber_r4_a3]
  rfl

/-- The reference's greatest scores. -/
def refMax {F : FTy → Type} [FloatOps F] (a0 : FVec F S4x4096x2048 .f32) (a1 : FVec F S4x256x1024 .bf16) (a2 : FVec F S2048 .f32) (a3 : FVec F S2048x512 .f32) : FVec F S4x4x4096 .f32 :=
  Host.reduce FloatOps.maximumf (refS a0 a1 a2 a3) (constant S_ .f32 0xFF800000#32) reducesTo_S4x4x4096x256_S4x4x4096_d3 h_S_

theorem refMax_at (a0 : FVec Ideal S4x4096x2048 .f32) (a1 : FVec Ideal S4x256x1024 .bf16) (a2 : FVec Ideal S2048 .f32) (a3 : FVec Ideal S2048x512 .f32) (b h : Fin 4) (i : Fin 4096) :
    refMax (F := Ideal) a0 a1 a2 a3 (ix3 b h i) = top (sAt a0 a1 a2 a3 b h i) := by
  refine (hostMax_at (n0 := 4) (n1 := 4) (n2 := 4096) (n3 := 256) (refS (F := Ideal) a0 a1 a2 a3) (constant (F := Ideal) S_ .f32 0xFF800000#32) _ _ b h i).trans ?_
  unfold top
  exact congrArg (fun f => (Finset.univ : Finset (Fin 256)).fold max (Ideal.ofBits .f32 0xFF800000#32) f) (funext fun t => refS_at a0 a1 a2 a3 b h i t)

end Cert.Proof.Cross

end
-- ==== Proof.Cross.ReferenceMix.lean ====
/-
  The cross attention's reference from its scores on: its weights, its mixes and its result, entry by entry.
-/
module

public import proofs.«01_k».proof.Proof.Gen.CrossReferenceIdeal.Run
public import proofs.«01_k».proof.Proof.Cross.Reference
public import Idealize.ShloMosaic.Lib.Pipeline.ValueKit
public import Idealize.ShloMosaic.Lib.ValueIdx

@[expose] public section

set_option maxRecDepth 16384
set_option Elab.async false

noncomputable section

namespace Cert.Proof.Cross

open Cert.CrossReferenceIdeal Cert.CrossReferenceIdeal.Gen Cert.CrossReferenceIdeal.Facts
open Idealize.ShloMosaic Idealize.ShloMosaic.TcCoe

/-- The reference's weights before the division. -/
def refE {F : FTy → Type} [FloatOps F] (a0 : FVec F S4x4096x2048 .f32) (a1 : FVec F S4x256x1024 .bf16) (a2 : FVec F S2048 .f32) (a3 : FVec F S2048x512 .f32) : FVec F S4x4x4096x256 .f32 :=
  Host.exp (subf (refS a0 a1 a2 a3) (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) (refMax a0 a1 a2 a3)))))

theorem weight_at (S : FVec Ideal S4x4x4096x256 .f32) (M : FVec Ideal S4x4x4096 .f32) (b h : Fin 4) (i : Fin 4096) (t : Fin 256) :
    (Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) M)))) : FVec Ideal S4x4x4096x256 .f32) (ix4 b h i t) = Ideal.exp (S (ix4 b h i t) - M (ix3 b h i)) := by
  have e : ∀ x : EReal, max (Ideal.ofBits .f32 0xFF800000#32) x = x := fun x => by rw [negInf]; exact max_eq_right bot_le
  pointwise
  rw [e]

theorem refE_at (a0 : FVec Ideal S4x4096x2048 .f32) (a1 : FVec Ideal S4x256x1024 .bf16) (a2 : FVec Ideal S2048 .f32) (a3 : FVec Ideal S2048x512 .f32) (b h : Fin 4) (i : Fin 4096) (t : Fin 256) :
    refE (F := Ideal) a0 a1 a2 a3 (ix4 b h i t) = raw (sAt a0 a1 a2 a3 b h i) t := by
  refine (weight_at (refS a0 a1 a2 a3) (refMax a0 a1 a2 a3) b h i t).trans ?_
  rw [refS_at, refMax_at]
  rfl

/-- The reference's mixes. -/
def refC {F : FTy → Type} [FloatOps F] (a0 : FVec F S4x4096x2048 .f32) (a1 : FVec F S4x256x1024 .bf16) (a2 : FVec F S2048 .f32) (a3 : FVec F S2048x512 .f32) : FVec F S4x4x128x4096 .f32 :=
  Host.dotGeneral dot_S4x256x4x128_S4x4x4096x256_S4x4x128x4096_1_3_3_2_02_01 none (shapeCast _ (extractStridedSlice S4x256x1x4x128 ![0, 0, 1, 0, 0] (shapeCast _ (extf .f32 a1 bitsLt_bf16_f32) shapeCasts_S4x256x1024_S4x256x2x4x128) slices_S4x256x2x4x128_S4x256x1x4x128_0_0_1_0_0) shapeCasts_S4x256x1x4x128_S4x256x4x128) (Host.divf (refE a0 a1 a2 a3) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd (refE a0 a1 a2 a3) (constant S_ .f32 0x00000000#32) reducesTo_S4x4x4096x256_S4x4x4096_d3 h_S_))))

theorem refC_at (a0 : FVec Ideal S4x4096x2048 .f32) (a1 : FVec Ideal S4x256x1024 .bf16) (a2 : FVec Ideal S2048 .f32) (a3 : FVec Ideal S2048x512 .f32) (b h : Fin 4) (d : Fin 128) (i : Fin 4096) :
    refC (F := Ideal) a0 a1 a2 a3 (ix4 b h d i) = cAt a0 a1 a2 a3 b h i d := by
  unfold refC cAt total
  pointwise [refE_at]
  try rfl

/-- The reference's composed term. -/
def refX {F : FTy → Type} [FloatOps F] (a0 : FVec F S4x4096x2048 .f32) (a1 : FVec F S4x256x1024 .bf16) (a2 : FVec F S2048 .f32) (a3 : FVec F S2048x512 .f32) (a4 : FVec F S512x2048 .f32) : FVec F S4x4096x2048 .f32 :=
  addf a0 (Host.dotGeneral dot_S4x4096x512_S512x2048_S4x4096x2048_2_0_01_1_n_n none (shapeCast _ (transpose S4x4096x4x128 [0, 3, 1, 2] (refC a0 a1 a2 a3) transposes_S4x4x128x4096_S4x4096x4x128_0_3_1_2) shapeCasts_S4x4096x4x128_S4x4096x512) a4)

theorem refX_at (a0 : FVec Ideal S4x4096x2048 .f32) (a1 : FVec Ideal S4x256x1024 .bf16) (a2 : FVec Ideal S2048 .f32) (a3 : FVec Ideal S2048x512 .f32) (a4 : FVec Ideal S512x2048 .f32) (b : Fin 4) (i : Fin 4096) (n : Fin 2048) :
    refX (F := Ideal) a0 a1 a2 a3 a4 (ix3 b i n) = attended a0 a1 a2 a3 a4 b i n := by
  unfold refX attended
  pointwise [refC_at]
  try rfl

end Cert.Proof.Cross

end
-- ==== Proof.Cross.Kernel.lean ====
/-
  What the cross attention's call leaves, entry by entry.
-/
module

public import proofs.«01_k».proof.Proof.Cross.Reference
public import proofs.«01_k».proof.Defs
public import proofs.«01_k».proof.Proof.Gen.CrossIdeal.Value
public import Idealize.ShloMosaic.Lib.Pipeline.ValueKit
public import Idealize.ShloMosaic.Lib.StableHlo.Run
public import Idealize.ShloMosaic.Lib.ValueIdx

@[expose] public section

set_option maxRecDepth 16384
set_option Elab.async false

noncomputable section

namespace Cert.Proof.Cross

open Cert.CrossIdeal Cert.CrossIdeal.Gen Cert.CrossIdeal.Facts
open Idealize.ShloMosaic Idealize.ShloMosaic.TcCoe Idealize.SL.Sem

/-- The greatest along the last of two axes is the fold of the maximum over it. -/
theorem rowMax_at (x : FVec Ideal S512x256 .f32) (p : Fin 512) :
    multiReduction .maximumf [1] S512 x 0xFF800000#32 reduces_S512x256_S512 (.inl rfl) rfl (ix1 p)
      = (Finset.univ : Finset (Fin 256)).fold max (Ideal.ofBits .f32 0xFF800000#32) (fun t => x (ix2 p t)) := by
  pointwise
  try rfl

theorem k0_pay3_at (v0 : Vec Ideal S1x512x2048 .f32) (v2 : Vec Ideal S1x2048 .f32) (v17 : Vec Ideal S2048x512 .bf16) (p : Fin 512) (n : Fin 512) :
    k0_pay3 (F := Ideal) v0 v2 v17 (ix2 p n)
      = query (fun k => v0 (ix3 (0 : Fin 1) p k)) (fun k => v2 (ix2 (0 : Fin 1) k)) (fun k => v17 (ix2 k n)) := by
  unfold k0_pay3 k0_pay2 query inv cMean cEps
  pointwise
  try rfl

/-- A head's scores before the scale. -/
theorem dots_at (q : FVec Ideal S512x128 .bf16) (v : Vec Ideal S1x256x128 .bf16) (p : Fin 512) (t : Fin 256) :
    (matmul dot_S512x128_S256x128_S512x256_1_1_0_0_n_n none q (shapeCast S256x128 (v : FVec Ideal S1x256x128 .bf16) shapeCasts_S1x256x128_S256x128 : FVec Ideal S256x128 .bf16)
      (constant S512x256 .f32 0x00000000#32) : FVec Ideal S512x256 .f32) (ix2 p t) = (∑ d : Fin 128, q (ix2 p d) * v (ix3 (0 : Fin 1) t d) : EReal) := by
  pointwise
  try rfl

theorem k0_pay8_at (v : FVec Ideal S512x256 .f32) (p : Fin 512) (t : Fin 256) :
    k0_pay8 (F := Ideal) v (ix2 p t) = raw (fun u => (v (ix2 p u) * cScale : EReal)) t := by
  unfold k0_pay8 raw top cScale
  pointwise
  try rfl

theorem k0_pay10_at (v : FVec Ideal S512x256 .f32) (p : Fin 512) :
    k0_pay10 (F := Ideal) v (ix2 p (0 : Fin 1)) = total (fun u => (v (ix2 p u) * cScale : EReal)) := by
  unfold k0_pay10 total
  pointwise [k0_pay8_at]
  try rfl

/-- One entry of the body's result, of what its heads hand on. -/
theorem k0_pay1_at (v1 : FVec Ideal S512x2048 .f32) (w0 w1 w2 w3 : FVec Ideal S512x256 .bf16) (d0 d1 d2 d3 : FVec Ideal S512x1 .f32)
    (x0 x1 x2 x3 : Vec Ideal S1x256x128 .bf16) (v102 : Vec Ideal S512x2048 .bf16) (p : Fin 512) (n : Fin 2048) (C : Fin 512 → EReal)
    (h0 : ∀ k : Fin 512, ∀ g : k.val < 128, Ideal.div (∑ t : Fin 256, w0 (ix2 p t) * x0 (ix3 (0 : Fin 1) t (⟨k.val, g⟩ : Fin 128)) : EReal) (d0 (ix2 p (0 : Fin 1))) = C k)
    (h1 : ∀ k : Fin 512, ¬ k.val < 128 → ∀ g : k.val - 128 < 128, Ideal.div (∑ t : Fin 256, w1 (ix2 p t) * x1 (ix3 (0 : Fin 1) t (⟨k.val - 128, g⟩ : Fin 128)) : EReal) (d1 (ix2 p (0 : Fin 1))) = C k)
    (h2 : ∀ k : Fin 512, ¬ k.val - 128 < 128 → ∀ g : k.val - 128 - 128 < 128, Ideal.div (∑ t : Fin 256, w2 (ix2 p t) * x2 (ix3 (0 : Fin 1) t (⟨k.val - 128 - 128, g⟩ : Fin 128)) : EReal) (d2 (ix2 p (0 : Fin 1))) = C k)
    (h3 : ∀ k : Fin 512, ¬ k.val - 128 - 128 < 128 → Ideal.div (∑ t : Fin 256, w3 (ix2 p t) * x3 (ix3 (0 : Fin 1) t (⟨k.val - 128 - 128 - 128, by omega⟩ : Fin 128)) : EReal) (d3 (ix2 p (0 : Fin 1))) = C k) :
    k0_pay1 (F := Ideal) v1 w0 d0 w1 d1 w2 d2 w3 d3 x0 x1 x2 x3 v102 (ix3 (0 : Fin 1) p n)
      = (v1 (ix2 p n) + ∑ k : Fin 512, C k * v102 (ix2 k n) : EReal) := by
  unfold k0_pay1
  pointwise
  refine congrArg (fun z : EReal => v1 (ix2 p n) + z) (Finset.sum_congr rfl fun k _ => congrArg (fun z : EReal => z * v102 (ix2 k n)) ?_)
  by_cases g : k.val < 128
  · exact (dif_pos g).trans (h0 k g)
  refine (dif_neg g).trans ?_
  by_cases g1 : k.val - 128 < 128
  · exact (dif_pos g1).trans (h1 k g g1)
  refine (dif_neg g1).trans ?_
  by_cases g2 : k.val - 128 - 128 < 128
  · exact (dif_pos g2).trans (h2 k g1 g2)
  · exact (dif_neg g2).trans (h3 k g2)

theorem k0_pay4_at (v0 : Vec Ideal S1x512x2048 .f32) (v2 : Vec Ideal S1x2048 .f32) (v17 : Vec Ideal S2048x512 .bf16) (v : Vec Ideal S1x256x128 .bf16) (p : Fin 512) (t : Fin 256) :
    k0_pay4 (F := Ideal) v0 v2 v17 v (ix2 p t)
      = (∑ d : Fin 128, k0_pay3 (F := Ideal) v0 v2 v17 (ix2 p (⟨0 + d.val, by omega⟩ : Fin 512)) * v (ix3 (0 : Fin 1) t d) : EReal) := by
  unfold k0_pay4
  generalize k0_pay3 (F := Ideal) v0 v2 v17 = q
  pointwise
  try simp only [Nat.zero_add]

theorem k0_pay5_at (v0 : Vec Ideal S1x512x2048 .f32) (v2 : Vec Ideal S1x2048 .f32) (v17 : Vec Ideal S2048x512 .bf16) (v : Vec Ideal S1x256x128 .bf16) (p : Fin 512) (t : Fin 256) :
    k0_pay5 (F := Ideal) v0 v2 v17 v (ix2 p t)
      = (∑ d : Fin 128, k0_pay3 (F := Ideal) v0 v2 v17 (ix2 p (⟨128 + d.val, by omega⟩ : Fin 512)) * v (ix3 (0 : Fin 1) t d) : EReal) := by
  unfold k0_pay5
  generalize k0_pay3 (F := Ideal) v0 v2 v17 = q
  pointwise

theorem k0_pay6_at (v0 : Vec Ideal S1x512x2048 .f32) (v2 : Vec Ideal S1x2048 .f32) (v17 : Vec Ideal S2048x512 .bf16) (v : Vec Ideal S1x256x128 .bf16) (p : Fin 512) (t : Fin 256) :
    k0_pay6 (F := Ideal) v0 v2 v17 v (ix2 p t)
      = (∑ d : Fin 128, k0_pay3 (F := Ideal) v0 v2 v17 (ix2 p (⟨256 + d.val, by omega⟩ : Fin 512)) * v (ix3 (0 : Fin 1) t d) : EReal) := by
  unfold k0_pay6
  generalize k0_pay3 (F := Ideal) v0 v2 v17 = q
  pointwise

theorem k0_pay7_at (v0 : Vec Ideal S1x512x2048 .f32) (v2 : Vec Ideal S1x2048 .f32) (v17 : Vec Ideal S2048x512 .bf16) (p : Fin 512) (d : Fin 128) :
    k0_pay7 (F := Ideal) v0 v2 v17 (ix2 p d) = k0_pay3 (F := Ideal) v0 v2 v17 (ix2 p (⟨384 + d.val, by omega⟩ : Fin 512)) := by
  unfold k0_pay7
  generalize k0_pay3 (F := Ideal) v0 v2 v17 = q
  pointwise

/-- The last head's scores before the scale. -/
def lastDots (q : FVec Ideal S512x128 .bf16) (v : Vec Ideal S1x256x128 .bf16) : FVec Ideal S512x256 .f32 :=
  matmul dot_S512x128_S256x128_S512x256_1_1_0_0_n_n none q (shapeCast S256x128 (v : FVec Ideal S1x256x128 .bf16) shapeCasts_S1x256x128_S256x128 : FVec Ideal S256x128 .bf16)
    (constant S512x256 .f32 0x00000000#32)

theorem pay9_eq (v : FVec Ideal S512x256 .f32) : k0_pay9 (F := Ideal) v = k0_pay8 v := rfl
theorem pay12_eq (v : FVec Ideal S512x256 .f32) : k0_pay12 (F := Ideal) v = k0_pay8 v := rfl
theorem pay15_eq (v : FVec Ideal S512x256 .f32) : k0_pay15 (F := Ideal) v = k0_pay8 v := rfl
theorem pay18_eq (q : FVec Ideal S512x128 .bf16) (v : Vec Ideal S1x256x128 .bf16) : k0_pay18 (F := Ideal) q v = k0_pay8 (lastDots q v) := rfl
theorem pay13_eq (v : FVec Ideal S512x256 .f32) : k0_pay13 (F := Ideal) v = k0_pay10 v := rfl
theorem pay16_eq (v : FVec Ideal S512x256 .f32) : k0_pay16 (F := Ideal) v = k0_pay10 v := rfl
theorem pay19_eq (q : FVec Ideal S512x128 .bf16) (v : Vec Ideal S1x256x128 .bf16) : k0_pay19 (F := Ideal) q v = k0_pay10 (lastDots q v) := rfl

variable (m : (ℓ : Loc nD τ sig) → Buf (Elt Ideal) ℓ) (c : Dev nD)

theorem at0 : ∀ t : Fin grid0.N, win0_0.index t = ![(grid0.coords t 0).val, (grid0.coords t 1).val, 0] := by decide +kernel
theorem at1 : ∀ t : Fin grid0.N, win0_1.index t = ![0, 0] := by decide +kernel
theorem at2 : ∀ t : Fin grid0.N, win0_2.index t = ![(grid0.coords t 0).val, 0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![(grid0.coords t 0).val, (grid0.coords t 1).val, 0] := by decide +kernel

variable (t : Fin cfg0.N)

theorem b0 (p : Fin 512) (k : Fin 2048) (b : Fin 4) (hb : b.val = (grid0.coords t 0).val) (r : Fin 4096) (hr : r.val = (grid0.coords t 1).val * 512 + p.val) :
    iblk m c 0 t (ix3 (0 : Fin 1) p k) = V m c main_arg0 (ix3 b r k) := by blk_ext [iblk, at0 t]
theorem b1 (q : Fin 1) (k : Fin 2048) : iblk m c 1 t (ix2 q k) = V m c main_v0 (ix2 q k) := by blk_ext [iblk, at1 t]
theorem b2 (u : Fin 256) (k : Fin 1024) (b : Fin 4) (hb : b.val = (grid0.coords t 0).val) :
    iblk m c 2 t (ix3 (0 : Fin 1) u k) = V m c main_arg1 (ix3 b u k) := by blk_ext [iblk, at2 t]
theorem b3 (j : Fin 2048) (k : Fin 512) : iblk m c 3 t (ix2 j k) = V m c main_v1 (ix2 j k) := by blk_ext [iblk, at3 t]
theorem b4 (j : Fin 512) (k : Fin 2048) : iblk m c 4 t (ix2 j k) = V m c main_v2 (ix2 j k) := by blk_ext [iblk, at4 t]

theorem V_v0 (k : Fin 2048) : V m c main_v0 (ix2 (0 : Fin 1) k) = m ((c : Thread nD τ).loc main_arg2) (ix1 k) := by
  show StableHlo.after hostOps0 (fun b => m (c, b)) main_v0 (ix2 (0 : Fin 1) k) = _
  after_results_simp
  pointwise
  try rfl
theorem V_v1 : V m c main_v1 = m ((c : Thread nD τ).loc main_arg3) := by
  show StableHlo.after hostOps0 (fun b => m (c, b)) main_v1 = _
  after_results_simp
  rfl
theorem V_v2 : V m c main_v2 = m ((c : Thread nD τ).loc main_arg4) := by
  show StableHlo.after hostOps0 (fun b => m (c, b)) main_v2 = _
  after_results_simp
  rfl

end Cert.Proof.Cross

end
-- ==== Proof.Cross.Finite.lean ====
/-
  What the precondition of the cross attention says: every entry of the rows, of the memory, of the gain and of the queries' weights is a real number.
-/
module

public import proofs.«01_k».proof.Proof.Cross.Row
public import proofs.«01_k».proof.Pre_finite
public import proofs.«01_k».proof.Proof.Gen.Pre_finite
public import Idealize.ShloMosaic.Lib.ReduceAll
public import Idealize.ShloMosaic.Lib.WordCmp
public import Idealize.ShloMosaic.Lib.ValueIdx

@[expose] public section

set_option maxRecDepth 16384
set_option Elab.async false

noncomputable section

namespace Cert.Proof.Cross

open Idealize.ShloMosaic Idealize.ShloMosaic.TcCoe
open Cert.Pre_finite

/-- Where the greatest absolute value is below infinity, every entry is real. -/
theorem real_of_max {s : Shape} {axes : List (Fin s.rank)} (x : s.Idx → EReal) (h : s.ReducesTo axes S_) (hu : 0 < S_.numel) (init : S_.Idx → EReal)
    (hh : Host.reduce (max : EReal → EReal → EReal) (fun i => max (x i) (-x i)) init h hu ix0 < ⊤) (i : s.Idx) : IsR (x i) := by
  rw [Host.reduce_eq_fold, Finset.fold_max_lt] at hh
  exact isR_of (hh.2 i (Finset.mem_filter.2 ⟨Finset.mem_univ i, funext fun a => a.elim0⟩))

theorem lt_of_cmp {x : EReal} (h : Ideal.cmp .olt x (Ideal.ofBits .f32 0x7F800000#32) = 1#1) : x < ⊤ := by
  rw [posInf] at h
  by_contra hn
  simp [Ideal.cmp, hn] at h

theorem real_of_cmp {s : Shape} {axes : List (Fin s.rank)} (x : FVec Ideal s .f32) (h : s.ReducesTo axes S_) (hu : 0 < S_.numel)
    (hh : cmpf .olt (Host.reduce FloatOps.maximumf (Host.absf x) (constant S_ .f32 0xFF800000#32) h hu : FVec Ideal S_ .f32) (constant S_ .f32 0x7F800000#32) ix0 = 1#1)
    (i : s.Idx) : IsR (x i) :=
  real_of_max x h hu _ (lt_of_cmp hh) i

theorem finite_of (a0 : FVec Ideal S4x4096x2048 .f32) (a1 : FVec Ideal S4x256x1024 .bf16) (a2 : FVec Ideal S2048 .f32) (a3 : FVec Ideal S2048x512 .f32)
    (a4 : FVec Ideal S512x2048 .f32) (h : Cert.Pre_finite.fn (F := Ideal) a0 a1 a2 a3 a4 = fun _ => 1#1) :
    (∀ i, IsR (a0 i)) ∧ (∀ i, IsR (a1 i)) ∧ (∀ i, IsR (a2 i)) ∧ (∀ i, IsR (a3 i)) := by
  have e := congrFun h ix0
  unfold Cert.Pre_finite.fn at e
  simp only at e
  rw [andi_apply] at e
  obtain ⟨e012, e3⟩ := IntOp.andi_eq_one.1 e
  rw [andi_apply] at e012
  obtain ⟨e01, e2⟩ := IntOp.andi_eq_one.1 e012
  rw [andi_apply] at e01
  obtain ⟨e0, e1⟩ := IntOp.andi_eq_one.1 e01
  exact ⟨real_of_cmp a0 _ _ e0, real_of_cmp (extf .f32 a1 _) _ _ e1, real_of_cmp a2 _ _ e2, real_of_cmp a3 _ _ e3⟩

end Cert.Proof.Cross

end
-- ==== Proof.Cross.Value.lean ====
/-
  The cross attention's call and its reference leave the same, where the entries the scores are made of are real numbers.
-/
module

public import proofs.«01_k».proof.Proof.Cross.ReferenceMix
public import proofs.«01_k».proof.Proof.Cross.Kernel
public import proofs.«01_k».proof.Proof.Cross.Finite
public import proofs.«01_k».proof.Defs
public import proofs.«01_k».proof.Proof.Gen.CrossIdeal.Value
public import Idealize.ShloMosaic.Lib.Pipeline.ValueKit
public import Idealize.ShloMosaic.Lib.StableHlo.Run
public import Idealize.ShloMosaic.Lib.ValueIdx

@[expose] public section

set_option maxRecDepth 16384
set_option Elab.async false

noncomputable section

namespace Cert.Proof.Cross

open Cert.CrossIdeal Cert.CrossIdeal.Gen Cert.CrossIdeal.Facts
open Idealize.ShloMosaic Idealize.ShloMosaic.TcCoe Idealize.SL.Sem

section Head

variable (a0 : FVec Ideal S4x4096x2048 .f32) (a1 : FVec Ideal S4x256x1024 .bf16) (a2 : FVec Ideal S2048 .f32) (a3 : FVec Ideal S2048x512 .f32)
variable (f0 : ∀ i, IsR (a0 i)) (f1 : ∀ i, IsR (a1 i)) (f2 : ∀ i, IsR (a2 i)) (f3 : ∀ i, IsR (a3 i))

include f0 f1 f2 f3 in
theorem sAt_isR (b h : Fin 4) (r : Fin 4096) (u : Fin 256) : IsR (sAt a0 a1 a2 a3 b h r u) :=
  score_isR _ _ (fun d => query_isR _ _ _ (fun _ => f0 _) (fun _ => f2 _) fun _ => f3 _) fun d => f1 _

include f0 f1 f2 f3 in
/-- A head's result by the division after the values' product is its entry of the reference's mixes. -/
theorem head_c (b h : Fin 4) (r : Fin 4096) (k : Fin 512) (e : k.val / 128 = h.val) (w x s : Fin 256 → EReal) (D : EReal)
    (hs : ∀ u, s u = sAt a0 a1 a2 a3 b h r u)
    (hw : ∀ u, w u = raw s u) (hD : D = total s)
    (hx : ∀ u, x u = a1 (ix3 b u (⟨512 + k.val, by omega⟩ : Fin 1024))) :
    Ideal.div (∑ u : Fin 256, w u * x u) D = cAt a0 a1 a2 a3 b (⟨k.val / 128, by omega⟩ : Fin 4) r (⟨k.val % 128, by omega⟩ : Fin 128) := by
  have hh : (⟨k.val / 128, by omega⟩ : Fin 4) = h := Fin.ext e
  obtain rfl : s = sAt a0 a1 a2 a3 b h r := funext hs
  rw [hh, hD]
  refine Eq.trans ?_ ((head_eq _ (fun u => a1 (ix3 b u (⟨512 + k.val, by omega⟩ : Fin 1024))) (sAt_isR a0 a1 a2 a3 f0 f1 f2 f3 b h r)).trans ?_)
  · simp only [hw, hx]
  · unfold cAt
    refine Finset.sum_congr rfl fun u _ => ?_
    have hi : (⟨512 + k.val, by omega⟩ : Fin 1024) = (⟨512 + h.val * 128 + k.val % 128, by omega⟩ : Fin 1024) := Fin.ext (by show 512 + k.val = 512 + h.val * 128 + k.val % 128; omega)
    show (a1 (ix3 b u (⟨512 + k.val, by omega⟩ : Fin 1024)) : EReal) * _ = _
    rw [hi]

end Head

variable (m : (ℓ : Loc nD τ sig) → Buf (Elt Ideal) ℓ) (c : Dev nD) (t : Fin cfg0.N)

/-- The memory's block read from column `o` on. -/
theorem ld2 (o : Nat) (ho : o + 128 ≤ 1024) (inb) (x : Vec Ideal S1x256x1024 .bf16) (u : Fin 256) (d : Fin 128) :
    View.ld x (Rect.unit (s := S1x256x1024) ![0, 0, o] S1x256x128.size inb) (ix3 (0 : Fin 1) u d) = x (ix3 (0 : Fin 1) u (⟨o + d.val, by omega⟩ : Fin 1024)) :=
  congrArg x (funext fun a => Fin.ext (by
    match a with
    | ⟨0, _⟩ => rfl
    | ⟨1, _⟩ => exact (Nat.zero_add _).trans (Nat.one_mul _)
    | ⟨2, _⟩ => exact congrArg (o + ·) (Nat.one_mul _)))

theorem q_at (p : Fin 512) (n : Fin 512) (b : Fin 4) (hb : b.val = (grid0.coords t 0).val) (r : Fin 4096) (hr : r.val = (grid0.coords t 1).val * 512 + p.val) :
    k0_pay3 (F := Ideal) (iblk m c 0 t) (iblk m c 1 t) (iblk m c 3 t) (ix2 p n)
      = qAt (m ((c : Thread nD τ).loc main_arg0)) (m ((c : Thread nD τ).loc main_arg2)) (m ((c : Thread nD τ).loc main_arg3)) b r n := by
  refine (k0_pay3_at _ _ _ p n).trans ?_
  unfold qAt
  rw [← V_main_arg0 m c, ← V_v1 m c]
  simp only [b0 m c t p _ b hb r hr, b1 m c t, b3 m c t, V_v0 m c]

/-- A head's scaled scores, of the products of the queries with the keys. -/
theorem s_of (p : Fin 512) (b h : Fin 4) (hb : b.val = (grid0.coords t 0).val) (r : Fin 4096) (hr : r.val = (grid0.coords t 1).val * 512 + p.val)
    (u : Fin 256) (o : Nat) (ho : o = h.val * 128) :
    ((∑ d : Fin 128, k0_pay3 (F := Ideal) (iblk m c 0 t) (iblk m c 1 t) (iblk m c 3 t) (ix2 p (⟨o + d.val, by omega⟩ : Fin 512))
        * iblk m c 2 t (ix3 (0 : Fin 1) u (⟨o + d.val, by omega⟩ : Fin 1024)) : EReal) * cScale : EReal)
      = sAt (m ((c : Thread nD τ).loc main_arg0)) (m ((c : Thread nD τ).loc main_arg1)) (m ((c : Thread nD τ).loc main_arg2)) (m ((c : Thread nD τ).loc main_arg3)) b h r u := by
  subst ho
  unfold sAt score
  rw [← V_main_arg1 m c]
  refine congrArg (fun z : EReal => z * cScale) (Finset.sum_congr rfl fun d _ => ?_)
  exact congrArg₂ (fun y z : EReal => y * z) (q_at m c t p _ b hb r hr) (b2 m c t u _ b hb)

/-- The memory's block read from column `o` on, of the memory. -/
theorem v_of (o : Nat) (ho : o + 128 ≤ 1024) (inb) (u : Fin 256) (d : Fin 128) (b : Fin 4) (hb : b.val = (grid0.coords t 0).val) (k : Fin 512) (e : o + d.val = 512 + k.val) :
    View.ld (iblk m c 2 t) (Rect.unit (s := S1x256x1024) ![0, 0, o] S1x256x128.size inb) (ix3 (0 : Fin 1) u d)
      = m ((c : Thread nD τ).loc main_arg1) (ix3 b u (⟨512 + k.val, by omega⟩ : Fin 1024)) := by
  refine (ld2 o ho inb (iblk m c 2 t) u d).trans ((b2 m c t u _ b hb).trans ?_)
  rw [V_main_arg1 m c]
  exact congrArg (fun z : Fin 1024 => m ((c : Thread nD τ).loc main_arg1) (ix3 b u z)) (Fin.ext e)

/-- The result, of the arguments' contents at launch. -/
def result : FVec Ideal S4x4096x2048 .f32 := fun i =>
  attended (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- Where the arguments the scores are made of are real. -/
def Real : Prop :=
  (∀ i, IsR ((m ((c : Thread nD τ).loc main_arg0) : FVec Ideal S4x4096x2048 .f32) i)) ∧ (∀ i, IsR ((m ((c : Thread nD τ).loc main_arg1) : FVec Ideal S4x256x1024 .bf16) i))
    ∧ (∀ i, IsR ((m ((c : Thread nD τ).loc main_arg2) : FVec Ideal S2048 .f32) i)) ∧ (∀ i, IsR ((m ((c : Thread nD τ).loc main_arg3) : FVec Ideal S2048x512 .f32) i))

theorem outs_at (hf : Real m c) (p : Fin 512) (n : Fin 2048) (b : Fin 4) (hb : b.val = (grid0.coords t 0).val) (r : Fin 4096)
    (hr : r.val = (grid0.coords t 1).val * 512 + p.val) :
    out0_5 (iblk m c 0 t) (iblk m c 1 t) (iblk m c 2 t) (iblk m c 3 t) (iblk m c 4 t) (ix3 (0 : Fin 1) p n) = result m c (ix3 b r n) := by
  obtain ⟨f0, f1, f2, f3⟩ := hf
  unfold_out out0_5
  frame_out
  rw [pay9_eq, pay12_eq, pay15_eq, pay18_eq, pay13_eq, pay16_eq, pay19_eq]
  refine (k0_pay1_at _ _ _ _ _ _ _ _ _ _ _ _ _ _ p n
    (fun k => cAt (m ((c : Thread nD τ).loc main_arg0)) (m ((c : Thread nD τ).loc main_arg1)) (m ((c : Thread nD τ).loc main_arg2)) (m ((c : Thread nD τ).loc main_arg3))
      b (⟨k.val / 128, by omega⟩ : Fin 4) r (⟨k.val % 128, by omega⟩ : Fin 128)) ?_ ?_ ?_ ?_).trans ?_
  · intro k g
    refine head_c _ _ _ _ f0 f1 f2 f3 b 0 r k (by show k.val / 128 = 0; omega) _ _ _ _ ?_ (fun u => k0_pay8_at _ p u) (k0_pay10_at _ p)
      (fun u => v_of m c t 512 (by omega) inb_S1x256x1024_S1x256x128_0_0_512 u _ b hb k (by show 512 + k.val = 512 + k.val; omega))
    intro u
    refine (congrArg (fun z : EReal => z * cScale) ((k0_pay4_at _ _ _ _ p u).trans (Finset.sum_congr rfl fun d _ => ?_))).trans (s_of m c t p b 0 hb r hr u 0 rfl)
    exact congrArg (fun z : EReal => _ * z) (ld2 0 (by omega) inb_S1x256x1024_S1x256x128_0_0_0 (iblk m c 2 t) u d)
  · intro k g g1
    refine head_c _ _ _ _ f0 f1 f2 f3 b 1 r k (by show k.val / 128 = 1; omega) _ _ _ _ ?_ (fun u => k0_pay8_at _ p u) (k0_pay10_at _ p)
      (fun u => v_of m c t 640 (by omega) inb_S1x256x1024_S1x256x128_0_0_640 u _ b hb k (by show 640 + (k.val - 128) = 512 + k.val; omega))
    intro u
    refine (congrArg (fun z : EReal => z * cScale) ((k0_pay5_at _ _ _ _ p u).trans (Finset.sum_congr rfl fun d _ => ?_))).trans (s_of m c t p b 1 hb r hr u 128 rfl)
    exact congrArg (fun z : EReal => _ * z) (ld2 128 (by omega) inb_S1x256x1024_S1x256x128_0_0_128 (iblk m c 2 t) u d)
  · intro k g g1
    refine head_c _ _ _ _ f0 f1 f2 f3 b 2 r k (by show k.val / 128 = 2; omega) _ _ _ _ ?_ (fun u => k0_pay8_at _ p u) (k0_pay10_at _ p)
      (fun u => v_of m c t 768 (by omega) inb_S1x256x1024_S1x256x128_0_0_768 u _ b hb k (by show 768 + (k.val - 128 - 128) = 512 + k.val; omega))
    intro u
    refine (congrArg (fun z : EReal => z * cScale) ((k0_pay6_at _ _ _ _ p u).trans (Finset.sum_congr rfl fun d _ => ?_))).trans (s_of m c t p b 2 hb r hr u 256 rfl)
    exact congrArg (fun z : EReal => _ * z) (ld2 256 (by omega) inb_S1x256x1024_S1x256x128_0_0_256 (iblk m c 2 t) u d)
  · intro k g
    refine head_c _ _ _ _ f0 f1 f2 f3 b 3 r k (by show k.val / 128 = 3; omega) _ _ _ _ ?_ (fun u => k0_pay8_at _ p u) (k0_pay10_at _ p)
      (fun u => v_of m c t 896 (by omega) inb_S1x256x1024_S1x256x128_0_0_896 u _ b hb k (by show 896 + (k.val - 128 - 128 - 128) = 512 + k.val; omega))
    intro u
    refine (congrArg (fun z : EReal => z * cScale) ((dots_at _ _ p u).trans (Finset.sum_congr rfl fun d _ => ?_))).trans (s_of m c t p b 3 hb r hr u 384 rfl)
    exact congrArg₂ (fun y z : EReal => y * z) (k0_pay7_at _ _ _ p d) (ld2 384 (by omega) inb_S1x256x1024_S1x256x128_0_0_384 (iblk m c 2 t) u d)
  · show _ = attended _ _ _ _ _ b r n
    unfold attended
    rw [← V_v2 m c]
    refine congrArg₂ (fun y z : EReal => y + z) ?_ (Finset.sum_congr rfl fun k _ => congrArg (fun z : EReal => _ * z) (b4 m c t k n))
    rw [← V_main_arg0 m c]
    refine Eq.trans ?_ (b0 m c t p n b hb r hr)
    unfold k0_pay2
    pointwise

theorem emb5_0 (y : ((cfg0.win 5).xblock (cfg0.grid.coords t)).Idx) :
    (((cfg0.win 5).blk t).view.emb y (0 : Fin 3)).val = (grid0.coords t 0).val + (y (0 : Fin 3)).val := by
  blk_simp [at5 t]
theorem emb5_1 (y : ((cfg0.win 5).xblock (cfg0.grid.coords t)).Idx) :
    (((cfg0.win 5).blk t).view.emb y (1 : Fin 3)).val = (grid0.coords t 1).val * 512 + (y (1 : Fin 3)).val := by
  blk_simp [at5 t]
theorem emb5_2 (y : ((cfg0.win 5).xblock (cfg0.grid.coords t)).Idx) :
    (((cfg0.win 5).blk t).view.emb y (2 : Fin 3)).val = (y (2 : Fin 3)).val := by
  blk_simp [at5 t]

theorem outs_entry (hf : Real m c) (y : S1x512x2048.Idx) (i : S4x4096x2048.Idx) (h0 : (i (0 : Fin 3)).val = (grid0.coords t 0).val + (y (0 : Fin 3)).val)
    (h1 : (i (1 : Fin 3)).val = (grid0.coords t 1).val * 512 + (y (1 : Fin 3)).val) (h2 : (i (2 : Fin 3)).val = (y (2 : Fin 3)).val) :
    out0_5 (iblk m c 0 t) (iblk m c 1 t) (iblk m c 2 t) (iblk m c 3 t) (iblk m c 4 t) y = result m c i := by
  have e : (i (2 : Fin 3) : Fin 2048) = y (2 : Fin 3) := Fin.ext h2
  have hy : (y (0 : Fin 3)).val = 0 := Nat.lt_one_iff.1 (y (0 : Fin 3)).isLt
  have z : y = ix3 (0 : Fin 1) (y (1 : Fin 3) : Fin 512) (y (2 : Fin 3) : Fin 2048) := funext fun a => Fin.ext (by
    match a with
    | ⟨0, _⟩ => exact hy
    | ⟨1, _⟩ => rfl
    | ⟨2, _⟩ => rfl)
  have w : i = ix3 (i (0 : Fin 3) : Fin 4) (i (1 : Fin 3) : Fin 4096) (y (2 : Fin 3) : Fin 2048) := by
    rw [← e]
    exact eq_ix3 (n0 := 4) (n1 := 4096) (n2 := 2048) i
  rw [z, w]
  exact outs_at m c t hf (y 1) (y 2) (i 0) (by rw [h0, hy]; rfl) (i 1) h1

theorem arr5 (hf : Real m c) : (dats m 0 c).arrAt 5 cfg0.N = result m c := by
  refine (dats m 0 c).arrAt_eq_of_covers 5 _ (by decide +kernel) fun t _ y => ?_
  refine (congrFun (after0_5 m c t) _).trans ?_
  exact outs_entry m c t hf y _ (emb5_0 t y) (emb5_1 t y) (emb5_2 t y)

theorem algebraic : Cert.algebraic_CrossIdeal_CrossReferenceIdeal_pre_finite := fun m g m' g' hp ha => by
  refine ⟨fun c => result m c, ?_, ?_⟩
  · exact (θ_run (Cert.CrossIdeal.defs (F := Ideal)) _ _).mono (fun _ h c => ⟨(h c).1.trans (arr5 m c (finite_of _ _ _ _ _ (hp c))), (h c).2⟩) (Cert.CrossIdeal.Value.run_blocks (F := Ideal) m g)
  · refine (θ_run (Cert.CrossReferenceIdeal.defs (F := Ideal)) _ _).mono (fun _ h c => ⟨(h c).1.trans ?_, (h c).2⟩) (Cert.CrossReferenceIdeal.Value.run (F := Ideal) m' g')
    obtain ⟨h0, h1, h2, h3, h4⟩ := ha c
    unfold Cert.CrossReferenceIdeal.Value.res_main_v39
    rw [h0, h1, h2, h3, h4]
    funext i
    rw [eq_ix3 (n0 := 4) (n1 := 4096) (n2 := 2048) i]
    exact refX_at _ _ _ _ _ (i 0) (i 1) (i 2)

end Cert.Proof.Cross

end
-- ==== Proof.CrossSample.Reference.lean ====
/-
  What the cross attention's reference for the sampled sequences computes, entry by entry.
-/
module

public import proofs.«01_k».proof.Proof.Gen.CrossSampleReferenceIdeal.Run
public import proofs.«01_k».proof.Proof.Cross.Row
public import Idealize.ShloMosaic.Lib.Pipeline.ValueKit
public import Idealize.ShloMosaic.Lib.ValueIdx

@[expose] public section

set_option maxRecDepth 16384
set_option Elab.async false

noncomputable section

namespace Cert.Proof.CrossSample

open Cert.CrossSampleReferenceIdeal Cert.CrossSampleReferenceIdeal.Gen Cert.CrossSampleReferenceIdeal.Facts
open Cert.Proof.Cross
open Idealize.ShloMosaic hiding inv
open Idealize.ShloMosaic.TcCoe

/-- One entry of the queries. -/
def qAt (a0 : FVec Ideal S4x2048x2048 .f32) (a2 : FVec Ideal S2048 .f32) (a3 : FVec Ideal S2048x512 .f32) (b : Fin 4) (i : Fin 2048) (n : Fin 512) : EReal :=
  query (fun k => a0 (ix3 b i k)) (fun k => a2 (ix1 k)) (fun k => a3 (ix2 k n))

/-- One head's scores of a row with the memory. -/
def sAt (a0 : FVec Ideal S4x2048x2048 .f32) (a1 : FVec Ideal S4x256x1024 .bf16) (a2 : FVec Ideal S2048 .f32) (a3 : FVec Ideal S2048x512 .f32) (b : Fin 4) (h : Fin 4) (i : Fin 2048) (t : Fin 256) : EReal :=
  score (fun d => qAt a0 a2 a3 b i (⟨h.val * 128 + d.val, by omega⟩ : Fin 512)) (fun d => a1 (ix3 b t (⟨h.val * 128 + d.val, by omega⟩ : Fin 1024)))

/-- One head's mix of the memory's values at one feature, each value under its divided weight. -/
def cAt (a0 : FVec Ideal S4x2048x2048 .f32) (a1 : FVec Ideal S4x256x1024 .bf16) (a2 : FVec Ideal S2048 .f32) (a3 : FVec Ideal S2048x512 .f32) (b : Fin 4) (h : Fin 4) (i : Fin 2048) (d : Fin 128) : EReal :=
  ∑ t : Fin 256, a1 (ix3 b t (⟨512 + h.val * 128 + d.val, by omega⟩ : Fin 1024))
    * Ideal.div (raw (sAt a0 a1 a2 a3 b h i) t) (total (sAt a0 a1 a2 a3 b h i))

/-- One entry of the result: the heads' mixes through the output weights, added to the row. -/
def attended (a0 : FVec Ideal S4x2048x2048 .f32) (a1 : FVec Ideal S4x256x1024 .bf16) (a2 : FVec Ideal S2048 .f32) (a3 : FVec Ideal S2048x512 .f32) (a4 : FVec Ideal S512x2048 .f32) (b : Fin 4) (i : Fin 2048) (n : Fin 2048) : EReal :=
  a0 (ix3 b i n) + ∑ k : Fin 512, cAt a0 a1 a2 a3 b (⟨k.val / 128, by omega⟩ : Fin 4) i (⟨k.val % 128, by omega⟩ : Fin 128) * a4 (ix2 k n)

/-- The reference's queries. -/
def refQ {F : FTy → Type} [FloatOps F] (a0 : FVec F S4x2048x2048 .f32) (a2 : FVec F S2048 .f32) (a3 : FVec F S2048x512 .f32) : FVec F S4x2048x512 .f32 :=
  Host.dotGeneral dot_S4x2048x2048_S2048x512_S4x2048x512_2_0_01_1_n_n none (mulf (mulf a0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf a0 a0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x3727C5AC#32)))))) (broadcastInDim S4x2048x2048 ![0, 1, 2] bcast_S1x1x2048_S4x2048x2048_0_1_2 (broadcastInDim S1x1x2048 ![2] bcast_S2048_S1x1x2048_2 a2))) a3

theorem refQ_at (a0 : FVec Ideal S4x2048x2048 .f32) (a2 : FVec Ideal S2048 .f32) (a3 : FVec Ideal S2048x512 .f32) (b : Fin 4) (i : Fin 2048) (n : Fin 512) :
    refQ (F := Ideal) a0 a2 a3 (ix3 b i n) = qAt a0 a2 a3 b i n := by
  unfold refQ qAt query inv cMean cEps
  pointwise
  try rfl

/-- The reference's scaled scores. -/
def refS {F : FTy → Type} [FloatOps F] (a0 : FVec F S4x2048x2048 .f32) (a1 : FVec F S4x256x1024 .bf16) (a2 : FVec F S2048 .f32) (a3 : FVec F S2048x512 .f32) : FVec F S4x4x2048x256 .f32 :=
  mulf (Host.dotGeneral dot_S4x2048x4x128_S4x256x4x128_S4x4x2048x256_3_3_1_1_02_02 none (shapeCast _ (refQ a0 a2 a3) shapeCasts_S4x2048x512_S4x2048x4x128) (shapeCast _ (extractStridedSlice S4x256x1x4x128 ![0, 0, 0, 0, 0] (shapeCast _ (extf .f32 a1 bitsLt_bf16_f32) shapeCasts_S4x256x1024_S4x256x2x4x128) slices_S4x256x2x4x128_S4x256x1x4x128_0_0_0_0_0) shapeCasts_S4x256x1x4x128_S4x256x4x128)) (broadcastInDim S4x4x2048x256 ![] bcast_S_S4x4x2048x256 (constant S_ .f32 0x3DB504F3#32))

theorem refS_at (a0 : FVec Ideal S4x2048x2048 .f32) (a1 : FVec Ideal S4x256x1024 .bf16) (a2 : FVec Ideal S2048 .f32) (a3 : FVec Ideal S2048x512 .f32) (b h : Fin 4) (i : Fin 2048) (t : Fin 256) :
    refS (F := Ideal) a0 a1 a2 a3 (ix4 b h i t) = sAt a0 a1 a2 a3 b h i t := by
  unfold refS sAt score cScale
  pointwise [refQ_at]
  try rfl

/-- The greatest along the last of four axes is the fold of the maximum over it. -/
theorem hostMax_at {n0 n1 n2 n3 : Nat} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (max : EReal → EReal → EReal) x init h hu (ix3 a b c)
      = (Finset.univ : Finset (Fin n3)).fold max (init (Shape.Idx.first hu)) (fun t => x (ix4 a b c t)) := by
  rw [Host.reduce_eq_fold, Shape.ReducesTo.fold_fiber_r4_a3]
  rfl

/-- The reference's greatest scores. -/
def refMax {F : FTy → Type} [FloatOps F] (a0 : FVec F S4x2048x2048 .f32) (a1 : FVec F S4x256x1024 .bf16) (a2 : FVec F S2048 .f32) (a3 : FVec F S2048x512 .f32) : FVec F S4x4x2048 .f32 :=
  Host.reduce FloatOps.maximumf (refS a0 a1 a2 a3) (constant S_ .f32 0xFF800000#32) reducesTo_S4x4x2048x256_S4x4x2048_d3 h_S_

theorem refMax_at (a0 : FVec Ideal S4x2048x2048 .f32) (a1 : FVec Ideal S4x256x1024 .bf16) (a2 : FVec Ideal S2048 .f32) (a3 : FVec Ideal S2048x512 .f32) (b h : Fin 4) (i : Fin 2048) :
    refMax (F := Ideal) a0 a1 a2 a3 (ix3 b h i) = top (sAt a0 a1 a2 a3 b h i) := by
  refine (hostMax_at (n0 := 4) (n1 := 4) (n2 := 2048) (n3 := 256) (refS (F := Ideal) a0 a1 a2 a3) (constant (F := Ideal) S_ .f32 0xFF800000#32) _ _ b h i).trans ?_
  unfold top
  exact congrArg (fun f => (Finset.univ : Finset (Fin 256)).fold max (Ideal.ofBits .f32 0xFF800000#32) f) (funext fun t => refS_at a0 a1 a2 a3 b h i t)

end Cert.Proof.CrossSample

end
-- ==== Proof.CrossSample.ReferenceMix.lean ====
/-
  The cross attention's reference for the sampled sequences from its scores on: its weights, its mixes and its result, entry by entry.
-/
module

public import proofs.«01_k».proof.Proof.Gen.CrossSampleReferenceIdeal.Run
public import proofs.«01_k».proof.Proof.CrossSample.Reference
public import Idealize.ShloMosaic.Lib.Pipeline.ValueKit
public import Idealize.ShloMosaic.Lib.ValueIdx

@[expose] public section

set_option maxRecDepth 16384
set_option Elab.async false

noncomputable section

namespace Cert.Proof.CrossSample

open Cert.CrossSampleReferenceIdeal Cert.CrossSampleReferenceIdeal.Gen Cert.CrossSampleReferenceIdeal.Facts
open Cert.Proof.Cross
open Idealize.ShloMosaic hiding inv
open Idealize.ShloMosaic.TcCoe

/-- The reference's weights before the division. -/
def refE {F : FTy → Type} [FloatOps F] (a0 : FVec F S4x2048x2048 .f32) (a1 : FVec F S4x256x1024 .bf16) (a2 : FVec F S2048 .f32) (a3 : FVec F S2048x512 .f32) : FVec F S4x4x2048x256 .f32 :=
  Host.exp (subf (refS a0 a1 a2 a3) (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) (refMax a0 a1 a2 a3)))))

theorem weight_at (S : FVec Ideal S4x4x2048x256 .f32) (M : FVec Ideal S4x4x2048 .f32) (b h : Fin 4) (i : Fin 2048) (t : Fin 256) :
    (Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M)))) : FVec Ideal S4x4x2048x256 .f32) (ix4 b h i t) = Ideal.exp (S (ix4 b h i t) - M (ix3 b h i)) := by
  have e : ∀ x : EReal, max (Ideal.ofBits .f32 0xFF800000#32) x = x := fun x => by rw [negInf]; exact max_eq_right bot_le
  pointwise
  rw [e]

theorem refE_at (a0 : FVec Ideal S4x2048x2048 .f32) (a1 : FVec Ideal S4x256x1024 .bf16) (a2 : FVec Ideal S2048 .f32) (a3 : FVec Ideal S2048x512 .f32) (b h : Fin 4) (i : Fin 2048) (t : Fin 256) :
    refE (F := Ideal) a0 a1 a2 a3 (ix4 b h i t) = raw (sAt a0 a1 a2 a3 b h i) t := by
  refine (weight_at (refS a0 a1 a2 a3) (refMax a0 a1 a2 a3) b h i t).trans ?_
  rw [refS_at, refMax_at]
  rfl

/-- The reference's mixes. -/
def refC {F : FTy → Type} [FloatOps F] (a0 : FVec F S4x2048x2048 .f32) (a1 : FVec F S4x256x1024 .bf16) (a2 : FVec F S2048 .f32) (a3 : FVec F S2048x512 .f32) : FVec F S4x4x128x2048 .f32 :=
  Host.dotGeneral dot_S4x256x4x128_S4x4x2048x256_S4x4x128x2048_1_3_3_2_02_01 none (shapeCast _ (extractStridedSlice S4x256x1x4x128 ![0, 0, 1, 0, 0] (shapeCast _ (extf .f32 a1 bitsLt_bf16_f32) shapeCasts_S4x256x1024_S4x256x2x4x128) slices_S4x256x2x4x128_S4x256x1x4x128_0_0_1_0_0) shapeCasts_S4x256x1x4x128_S4x256x4x128) (Host.divf (refE a0 a1 a2 a3) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (refE a0 a1 a2 a3) (constant S_ .f32 0x00000000#32) reducesTo_S4x4x2048x256_S4x4x2048_d3 h_S_))))

theorem refC_at (a0 : FVec Ideal S4x2048x2048 .f32) (a1 : FVec Ideal S4x256x1024 .bf16) (a2 : FVec Ideal S2048 .f32) (a3 : FVec Ideal S2048x512 .f32) (b h : Fin 4) (d : Fin 128) (i : Fin 2048) :
    refC (F := Ideal) a0 a1 a2 a3 (ix4 b h d i) = cAt a0 a1 a2 a3 b h i d := by
  unfold refC cAt total
  pointwise [refE_at]
  try rfl

/-- The reference's composed term. -/
def refX {F : FTy → Type} [FloatOps F] (a0 : FVec F S4x2048x2048 .f32) (a1 : FVec F S4x256x1024 .bf16) (a2 : FVec F S2048 .f32) (a3 : FVec F S2048x512 .f32) (a4 : FVec F S512x2048 .f32) : FVec F S4x2048x2048 .f32 :=
  addf a0 (Host.dotGeneral dot_S4x2048x512_S512x2048_S4x2048x2048_2_0_01_1_n_n none (shapeCast _ (transpose S4x2048x4x128 [0, 3, 1, 2] (refC a0 a1 a2 a3) transposes_S4x4x128x2048_S4x2048x4x128_0_3_1_2) shapeCasts_S4x2048x4x128_S4x2048x512) a4)

theorem refX_at (a0 : FVec Ideal S4x2048x2048 .f32) (a1 : FVec Ideal S4x256x1024 .bf16) (a2 : FVec Ideal S2048 .f32) (a3 : FVec Ideal S2048x512 .f32) (a4 : FVec Ideal S512x2048 .f32) (b : Fin 4) (i : Fin 2048) (n : Fin 2048) :
    refX (F := Ideal) a0 a1 a2 a3 a4 (ix3 b i n) = attended a0 a1 a2 a3 a4 b i n := by
  unfold refX attended
  pointwise [refC_at]
  try rfl

end Cert.Proof.CrossSample

end
-- ==== Proof.CrossSample.Kernel.lean ====
/-
  What the cross attention's call for the sampled sequences leaves, entry by entry.
-/
module

public import proofs.«01_k».proof.Proof.CrossSample.Reference
public import proofs.«01_k».proof.Defs
public import proofs.«01_k».proof.Proof.Gen.CrossSampleIdeal.Value
public import Idealize.ShloMosaic.Lib.Pipeline.ValueKit
public import Idealize.ShloMosaic.Lib.StableHlo.Run
public import Idealize.ShloMosaic.Lib.ValueIdx

@[expose] public section

set_option maxRecDepth 16384
set_option Elab.async false

noncomputable section

namespace Cert.Proof.CrossSample

open Cert.CrossSampleIdeal Cert.CrossSampleIdeal.Gen Cert.CrossSampleIdeal.Facts
open Cert.Proof.Cross
open Idealize.ShloMosaic hiding inv
open Idealize.ShloMosaic.TcCoe Idealize.SL.Sem

/-- The greatest along the last of two axes is the fold of the maximum over it. -/
theorem rowMax_at (x : FVec Ideal S512x256 .f32) (p : Fin 512) :
    multiReduction .maximumf [1] S512 x 0xFF800000#32 reduces_S512x256_S512 (.inl rfl) rfl (ix1 p)
      = (Finset.univ : Finset (Fin 256)).fold max (Ideal.ofBits .f32 0xFF800000#32) (fun t => x (ix2 p t)) := by
  pointwise
  try rfl

theorem k0_pay3_at (v0 : Vec Ideal S1x512x2048 .f32) (v2 : Vec Ideal S1x2048 .f32) (v17 : Vec Ideal S2048x512 .bf16) (p : Fin 512) (n : Fin 512) :
    k0_pay3 (F := Ideal) v0 v2 v17 (ix2 p n)
      = query (fun k => v0 (ix3 (0 : Fin 1) p k)) (fun k => v2 (ix2 (0 : Fin 1) k)) (fun k => v17 (ix2 k n)) := by
  unfold k0_pay3 k0_pay2 query inv cMean cEps
  pointwise
  try rfl

/-- A head's scores before the scale. -/
theorem dots_at (q : FVec Ideal S512x128 .bf16) (v : Vec Ideal S1x256x128 .bf16) (p : Fin 512) (t : Fin 256) :
    (matmul dot_S512x128_S256x128_S512x256_1_1_0_0_n_n none q (shapeCast S256x128 (v : FVec Ideal S1x256x128 .bf16) shapeCasts_S1x256x128_S256x128 : FVec Ideal S256x128 .bf16)
      (constant S512x256 .f32 0x00000000#32) : FVec Ideal S512x256 .f32) (ix2 p t) = (∑ d : Fin 128, q (ix2 p d) * v (ix3 (0 : Fin 1) t d) : EReal) := by
  pointwise
  try rfl

theorem k0_pay8_at (v : FVec Ideal S512x256 .f32) (p : Fin 512) (t : Fin 256) :
    k0_pay8 (F := Ideal) v (ix2 p t) = raw (fun u => (v (ix2 p u) * cScale : EReal)) t := by
  unfold k0_pay8 raw top cScale
  pointwise
  try rfl

theorem k0_pay10_at (v : FVec Ideal S512x256 .f32) (p : Fin 512) :
    k0_pay10 (F := Ideal) v (ix2 p (0 : Fin 1)) = total (fun u => (v (ix2 p u) * cScale : EReal)) := by
  unfold k0_pay10 total
  pointwise [k0_pay8_at]
  try rfl

/-- One entry of the body's result, of what its heads hand on. -/
theorem k0_pay1_at (v1 : FVec Ideal S512x2048 .f32) (w0 w1 w2 w3 : FVec Ideal S512x256 .bf16) (d0 d1 d2 d3 : FVec Ideal S512x1 .f32)
    (x0 x1 x2 x3 : Vec Ideal S1x256x128 .bf16) (v102 : Vec Ideal S512x2048 .bf16) (p : Fin 512) (n : Fin 2048) (C : Fin 512 → EReal)
    (h0 : ∀ k : Fin 512, ∀ g : k.val < 128, Ideal.div (∑ t : Fin 256, w0 (ix2 p t) * x0 (ix3 (0 : Fin 1) t (⟨k.val, g⟩ : Fin 128)) : EReal) (d0 (ix2 p (0 : Fin 1))) = C k)
    (h1 : ∀ k : Fin 512, ¬ k.val < 128 → ∀ g : k.val - 128 < 128, Ideal.div (∑ t : Fin 256, w1 (ix2 p t) * x1 (ix3 (0 : Fin 1) t (⟨k.val - 128, g⟩ : Fin 128)) : EReal) (d1 (ix2 p (0 : Fin 1))) = C k)
    (h2 : ∀ k : Fin 512, ¬ k.val - 128 < 128 → ∀ g : k.val - 128 - 128 < 128, Ideal.div (∑ t : Fin 256, w2 (ix2 p t) * x2 (ix3 (0 : Fin 1) t (⟨k.val - 128 - 128, g⟩ : Fin 128)) : EReal) (d2 (ix2 p (0 : Fin 1))) = C k)
    (h3 : ∀ k : Fin 512, ¬ k.val - 128 - 128 < 128 → Ideal.div (∑ t : Fin 256, w3 (ix2 p t) * x3 (ix3 (0 : Fin 1) t (⟨k.val - 128 - 128 - 128, by omega⟩ : Fin 128)) : EReal) (d3 (ix2 p (0 : Fin 1))) = C k) :
    k0_pay1 (F := Ideal) v1 w0 d0 w1 d1 w2 d2 w3 d3 x0 x1 x2 x3 v102 (ix3 (0 : Fin 1) p n)
      = (v1 (ix2 p n) + ∑ k : Fin 512, C k * v102 (ix2 k n) : EReal) := by
  unfold k0_pay1
  pointwise
  refine congrArg (fun z : EReal => v1 (ix2 p n) + z) (Finset.sum_congr rfl fun k _ => congrArg (fun z : EReal => z * v102 (ix2 k n)) ?_)
  by_cases g : k.val < 128
  · exact (dif_pos g).trans (h0 k g)
  refine (dif_neg g).trans ?_
  by_cases g1 : k.val - 128 < 128
  · exact (dif_pos g1).trans (h1 k g g1)
  refine (dif_neg g1).trans ?_
  by_cases g2 : k.val - 128 - 128 < 128
  · exact (dif_pos g2).trans (h2 k g1 g2)
  · exact (dif_neg g2).trans (h3 k g2)

theorem k0_pay4_at (v0 : Vec Ideal S1x512x2048 .f32) (v2 : Vec Ideal S1x2048 .f32) (v17 : Vec Ideal S2048x512 .bf16) (v : Vec Ideal S1x256x128 .bf16) (p : Fin 512) (t : Fin 256) :
    k0_pay4 (F := Ideal) v0 v2 v17 v (ix2 p t)
      = (∑ d : Fin 128, k0_pay3 (F := Ideal) v0 v2 v17 (ix2 p (⟨0 + d.val, by omega⟩ : Fin 512)) * v (ix3 (0 : Fin 1) t d) : EReal) := by
  unfold k0_pay4
  generalize k0_pay3 (F := Ideal) v0 v2 v17 = q
  pointwise
  try simp only [Nat.zero_add]

theorem k0_pay5_at (v0 : Vec Ideal S1x512x2048 .f32) (v2 : Vec Ideal S1x2048 .f32) (v17 : Vec Ideal S2048x512 .bf16) (v : Vec Ideal S1x256x128 .bf16) (p : Fin 512) (t : Fin 256) :
    k0_pay5 (F := Ideal) v0 v2 v17 v (ix2 p t)
      = (∑ d : Fin 128, k0_pay3 (F := Ideal) v0 v2 v17 (ix2 p (⟨128 + d.val, by omega⟩ : Fin 512)) * v (ix3 (0 : Fin 1) t d) : EReal) := by
  unfold k0_pay5
  generalize k0_pay3 (F := Ideal) v0 v2 v17 = q
  pointwise

theorem k0_pay6_at (v0 : Vec Ideal S1x512x2048 .f32) (v2 : Vec Ideal S1x2048 .f32) (v17 : Vec Ideal S2048x512 .bf16) (v : Vec Ideal S1x256x128 .bf16) (p : Fin 512) (t : Fin 256) :
    k0_pay6 (F := Ideal) v0 v2 v17 v (ix2 p t)
      = (∑ d : Fin 128, k0_pay3 (F := Ideal) v0 v2 v17 (ix2 p (⟨256 + d.val, by omega⟩ : Fin 512)) * v (ix3 (0 : Fin 1) t d) : EReal) := by
  unfold k0_pay6
  generalize k0_pay3 (F := Ideal) v0 v2 v17 = q
  pointwise

theorem k0_pay7_at (v0 : Vec Ideal S1x512x2048 .f32) (v2 : Vec Ideal S1x2048 .f32) (v17 : Vec Ideal S2048x512 .bf16) (p : Fin 512) (d : Fin 128) :
    k0_pay7 (F := Ideal) v0 v2 v17 (ix2 p d) = k0_pay3 (F := Ideal) v0 v2 v17 (ix2 p (⟨384 + d.val, by omega⟩ : Fin 512)) := by
  unfold k0_pay7
  generalize k0_pay3 (F := Ideal) v0 v2 v17 = q
  pointwise

/-- The last head's scores before the scale. -/
def lastDots (q : FVec Ideal S512x128 .bf16) (v : Vec Ideal S1x256x128 .bf16) : FVec Ideal S512x256 .f32 :=
  matmul dot_S512x128_S256x128_S512x256_1_1_0_0_n_n none q (shapeCast S256x128 (v : FVec Ideal S1x256x128 .bf16) shapeCasts_S1x256x128_S256x128 : FVec Ideal S256x128 .bf16)
    (constant S512x256 .f32 0x00000000#32)

theorem pay9_eq (v : FVec Ideal S512x256 .f32) : k0_pay9 (F := Ideal) v = k0_pay8 v := rfl
theorem pay12_eq (v : FVec Ideal S512x256 .f32) : k0_pay12 (F := Ideal) v = k0_pay8 v := rfl
theorem pay15_eq (v : FVec Ideal S512x256 .f32) : k0_pay15 (F := Ideal) v = k0_pay8 v := rfl
theorem pay18_eq (q : FVec Ideal S512x128 .bf16) (v : Vec Ideal S1x256x128 .bf16) : k0_pay18 (F := Ideal) q v = k0_pay8 (lastDots q v) := rfl
theorem pay13_eq (v : FVec Ideal S512x256 .f32) : k0_pay13 (F := Ideal) v = k0_pay10 v := rfl
theorem pay16_eq (v : FVec Ideal S512x256 .f32) : k0_pay16 (F := Ideal) v = k0_pay10 v := rfl
theorem pay19_eq (q : FVec Ideal S512x128 .bf16) (v : Vec Ideal S1x256x128 .bf16) : k0_pay19 (F := Ideal) q v = k0_pay10 (lastDots q v) := rfl

variable (m : (ℓ : Loc nD τ sig) → Buf (Elt Ideal) ℓ) (c : Dev nD)

theorem at0 : ∀ t : Fin grid0.N, win0_0.index t = ![(grid0.coords t 0).val, (grid0.coords t 1).val, 0] := by decide +kernel
theorem at1 : ∀ t : Fin grid0.N, win0_1.index t = ![0, 0] := by decide +kernel
theorem at2 : ∀ t : Fin grid0.N, win0_2.index t = ![(grid0.coords t 0).val, 0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![(grid0.coords t 0).val, (grid0.coords t 1).val, 0] := by decide +kernel

variable (t : Fin cfg0.N)

theorem b0 (p : Fin 512) (k : Fin 2048) (b : Fin 4) (hb : b.val = (grid0.coords t 0).val) (r : Fin 2048) (hr : r.val = (grid0.coords t 1).val * 512 + p.val) :
    iblk m c 0 t (ix3 (0 : Fin 1) p k) = V m c main_arg0 (ix3 b r k) := by blk_ext [iblk, at0 t]
theorem b1 (q : Fin 1) (k : Fin 2048) : iblk m c 1 t (ix2 q k) = V m c main_v0 (ix2 q k) := by blk_ext [iblk, at1 t]
theorem b2 (u : Fin 256) (k : Fin 1024) (b : Fin 4) (hb : b.val = (grid0.coords t 0).val) :
    iblk m c 2 t (ix3 (0 : Fin 1) u k) = V m c main_arg1 (ix3 b u k) := by blk_ext [iblk, at2 t]
theorem b3 (j : Fin 2048) (k : Fin 512) : iblk m c 3 t (ix2 j k) = V m c main_v1 (ix2 j k) := by blk_ext [iblk, at3 t]
theorem b4 (j : Fin 512) (k : Fin 2048) : iblk m c 4 t (ix2 j k) = V m c main_v2 (ix2 j k) := by blk_ext [iblk, at4 t]

theorem V_v0 (k : Fin 2048) : V m c main_v0 (ix2 (0 : Fin 1) k) = m ((c : Thread nD τ).loc main_arg2) (ix1 k) := by
  show StableHlo.after hostOps0 (fun b => m (c, b)) main_v0 (ix2 (0 : Fin 1) k) = _
  after_results_simp
  pointwise
  try rfl
theorem V_v1 : V m c main_v1 = m ((c : Thread nD τ).loc main_arg3) := by
  show StableHlo.after hostOps0 (fun b => m (c, b)) main_v1 = _
  after_results_simp
  rfl
theorem V_v2 : V m c main_v2 = m ((c : Thread nD τ).loc main_arg4) := by
  show StableHlo.after hostOps0 (fun b => m (c, b)) main_v2 = _
  after_results_simp
  rfl

end Cert.Proof.CrossSample

end
-- ==== Proof.CrossSample.Finite.lean ====
/-
  What the precondition of the cross attention of the sampled sequences says: every entry of the rows, of the memory, of the gain and of the queries' weights is a real number.
-/
module

public import proofs.«01_k».proof.Proof.Cross.Row
public import proofs.«01_k».proof.Pre_finite_sample
public import proofs.«01_k».proof.Proof.Gen.Pre_finite_sample
public import Idealize.ShloMosaic.Lib.ReduceAll
public import Idealize.ShloMosaic.Lib.WordCmp
public import Idealize.ShloMosaic.Lib.ValueIdx

@[expose] public section

set_option maxRecDepth 16384
set_option Elab.async false

noncomputable section

namespace Cert.Proof.CrossSample

open Cert.Proof.Cross
open Idealize.ShloMosaic hiding inv
open Idealize.ShloMosaic.TcCoe
open Cert.Pre_finite_sample

/-- Where the greatest absolute value is below infinity, every entry is real. -/
theorem real_of_max {s : Shape} {axes : List (Fin s.rank)} (x : s.Idx → EReal) (h : s.ReducesTo axes S_) (hu : 0 < S_.numel) (init : S_.Idx → EReal)
    (hh : Host.reduce (max : EReal → EReal → EReal) (fun i => max (x i) (-x i)) init h hu ix0 < ⊤) (i : s.Idx) : IsR (x i) := by
  rw [Host.reduce_eq_fold, Finset.fold_max_lt] at hh
  exact isR_of (hh.2 i (Finset.mem_filter.2 ⟨Finset.mem_univ i, funext fun a => a.elim0⟩))

theorem lt_of_cmp {x : EReal} (h : Ideal.cmp .olt x (Ideal.ofBits .f32 0x7F800000#32) = 1#1) : x < ⊤ := by
  rw [posInf] at h
  by_contra hn
  simp [Ideal.cmp, hn] at h

theorem real_of_cmp {s : Shape} {axes : List (Fin s.rank)} (x : FVec Ideal s .f32) (h : s.ReducesTo axes S_) (hu : 0 < S_.numel)
    (hh : cmpf .olt (Host.reduce FloatOps.maximumf (Host.absf x) (constant S_ .f32 0xFF800000#32) h hu : FVec Ideal S_ .f32) (constant S_ .f32 0x7F800000#32) ix0 = 1#1)
    (i : s.Idx) : IsR (x i) :=
  real_of_max x h hu _ (lt_of_cmp hh) i

theorem finite_of (a0 : FVec Ideal S4x2048x2048 .f32) (a1 : FVec Ideal S4x256x1024 .bf16) (a2 : FVec Ideal S2048 .f32) (a3 : FVec Ideal S2048x512 .f32)
    (a4 : FVec Ideal S512x2048 .f32) (h : Cert.Pre_finite_sample.fn (F := Ideal) a0 a1 a2 a3 a4 = fun _ => 1#1) :
    (∀ i, IsR (a0 i)) ∧ (∀ i, IsR (a1 i)) ∧ (∀ i, IsR (a2 i)) ∧ (∀ i, IsR (a3 i)) := by
  have e := congrFun h ix0
  unfold Cert.Pre_finite_sample.fn at e
  simp only at e
  rw [andi_apply] at e
  obtain ⟨e012, e3⟩ := IntOp.andi_eq_one.1 e
  rw [andi_apply] at e012
  obtain ⟨e01, e2⟩ := IntOp.andi_eq_one.1 e012
  rw [andi_apply] at e01
  obtain ⟨e0, e1⟩ := IntOp.andi_eq_one.1 e01
  exact ⟨real_of_cmp a0 _ _ e0, real_of_cmp (extf .f32 a1 _) _ _ e1, real_of_cmp a2 _ _ e2, real_of_cmp a3 _ _ e3⟩

end Cert.Proof.CrossSample

end
-- ==== Proof.CrossSample.Value.lean ====
/-
  The cross attention's call for the sampled sequences and its reference leave the same, where the entries the scores are made of are real numbers.
-/
module

public import proofs.«01_k».proof.Proof.CrossSample.ReferenceMix
public import proofs.«01_k».proof.Proof.CrossSample.Kernel
public import proofs.«01_k».proof.Proof.CrossSample.Finite
public import proofs.«01_k».proof.Defs
public import proofs.«01_k».proof.Proof.Gen.CrossSampleIdeal.Value
public import Idealize.ShloMosaic.Lib.Pipeline.ValueKit
public import Idealize.ShloMosaic.Lib.StableHlo.Run
public import Idealize.ShloMosaic.Lib.ValueIdx

@[expose] public section

set_option maxRecDepth 16384
set_option Elab.async false

noncomputable section

namespace Cert.Proof.CrossSample

open Cert.CrossSampleIdeal Cert.CrossSampleIdeal.Gen Cert.CrossSampleIdeal.Facts
open Cert.Proof.Cross
open Idealize.ShloMosaic hiding inv
open Idealize.ShloMosaic.TcCoe Idealize.SL.Sem

section Head

variable (a0 : FVec Ideal S4x2048x2048 .f32) (a1 : FVec Ideal S4x256x1024 .bf16) (a2 : FVec Ideal S2048 .f32) (a3 : FVec Ideal S2048x512 .f32)
variable (f0 : ∀ i, IsR (a0 i)) (f1 : ∀ i, IsR (a1 i)) (f2 : ∀ i, IsR (a2 i)) (f3 : ∀ i, IsR (a3 i))

include f0 f1 f2 f3 in
theorem sAt_isR (b h : Fin 4) (r : Fin 2048) (u : Fin 256) : IsR (sAt a0 a1 a2 a3 b h r u) :=
  score_isR _ _ (fun d => query_isR _ _ _ (fun _ => f0 _) (fun _ => f2 _) fun _ => f3 _) fun d => f1 _

include f0 f1 f2 f3 in
/-- A head's result by the division after the values' product is its entry of the reference's mixes. -/
theorem head_c (b h : Fin 4) (r : Fin 2048) (k : Fin 512) (e : k.val / 128 = h.val) (w x s : Fin 256 → EReal) (D : EReal)
    (hs : ∀ u, s u = sAt a0 a1 a2 a3 b h r u)
    (hw : ∀ u, w u = raw s u) (hD : D = total s)
    (hx : ∀ u, x u = a1 (ix3 b u (⟨512 + k.val, by omega⟩ : Fin 1024))) :
    Ideal.div (∑ u : Fin 256, w u * x u) D = cAt a0 a1 a2 a3 b (⟨k.val / 128, by omega⟩ : Fin 4) r (⟨k.val % 128, by omega⟩ : Fin 128) := by
  have hh : (⟨k.val / 128, by omega⟩ : Fin 4) = h := Fin.ext e
  obtain rfl : s = sAt a0 a1 a2 a3 b h r := funext hs
  rw [hh, hD]
  refine Eq.trans ?_ ((head_eq _ (fun u => a1 (ix3 b u (⟨512 + k.val, by omega⟩ : Fin 1024))) (sAt_isR a0 a1 a2 a3 f0 f1 f2 f3 b h r)).trans ?_)
  · simp only [hw, hx]
  · unfold cAt
    refine Finset.sum_congr rfl fun u _ => ?_
    have hi : (⟨512 + k.val, by omega⟩ : Fin 1024) = (⟨512 + h.val * 128 + k.val % 128, by omega⟩ : Fin 1024) := Fin.ext (by show 512 + k.val = 512 + h.val * 128 + k.val % 128; omega)
    show (a1 (ix3 b u (⟨512 + k.val, by omega⟩ : Fin 1024)) : EReal) * _ = _
    rw [hi]

end Head

variable (m : (ℓ : Loc nD τ sig) → Buf (Elt Ideal) ℓ) (c : Dev nD) (t : Fin cfg0.N)

/-- The memory's block read from column `o` on. -/
theorem ld2 (o : Nat) (ho : o + 128 ≤ 1024) (inb) (x : Vec Ideal S1x256x1024 .bf16) (u : Fin 256) (d : Fin 128) :
    View.ld x (Rect.unit (s := S1x256x1024) ![0, 0, o] S1x256x128.size inb) (ix3 (0 : Fin 1) u d) = x (ix3 (0 : Fin 1) u (⟨o + d.val, by omega⟩ : Fin 1024)) :=
  congrArg x (funext fun a => Fin.ext (by
    match a with
    | ⟨0, _⟩ => rfl
    | ⟨1, _⟩ => exact (Nat.zero_add _).trans (Nat.one_mul _)
    | ⟨2, _⟩ => exact congrArg (o + ·) (Nat.one_mul _)))

theorem q_at (p : Fin 512) (n : Fin 512) (b : Fin 4) (hb : b.val = (grid0.coords t 0).val) (r : Fin 2048) (hr : r.val = (grid0.coords t 1).val * 512 + p.val) :
    k0_pay3 (F := Ideal) (iblk m c 0 t) (iblk m c 1 t) (iblk m c 3 t) (ix2 p n)
      = qAt (m ((c : Thread nD τ).loc main_arg0)) (m ((c : Thread nD τ).loc main_arg2)) (m ((c : Thread nD τ).loc main_arg3)) b r n := by
  refine (k0_pay3_at _ _ _ p n).trans ?_
  unfold qAt
  rw [← V_main_arg0 m c, ← V_v1 m c]
  simp only [b0 m c t p _ b hb r hr, b1 m c t, b3 m c t, V_v0 m c]

/-- A head's scaled scores, of the products of the queries with the keys. -/
theorem s_of (p : Fin 512) (b h : Fin 4) (hb : b.val = (grid0.coords t 0).val) (r : Fin 2048) (hr : r.val = (grid0.coords t 1).val * 512 + p.val)
    (u : Fin 256) (o : Nat) (ho : o = h.val * 128) :
    ((∑ d : Fin 128, k0_pay3 (F := Ideal) (iblk m c 0 t) (iblk m c 1 t) (iblk m c 3 t) (ix2 p (⟨o + d.val, by omega⟩ : Fin 512))
        * iblk m c 2 t (ix3 (0 : Fin 1) u (⟨o + d.val, by omega⟩ : Fin 1024)) : EReal) * cScale : EReal)
      = sAt (m ((c : Thread nD τ).loc main_arg0)) (m ((c : Thread nD τ).loc main_arg1)) (m ((c : Thread nD τ).loc main_arg2)) (m ((c : Thread nD τ).loc main_arg3)) b h r u := by
  subst ho
  unfold sAt score
  rw [← V_main_arg1 m c]
  refine congrArg (fun z : EReal => z * cScale) (Finset.sum_congr rfl fun d _ => ?_)
  exact congrArg₂ (fun y z : EReal => y * z) (q_at m c t p _ b hb r hr) (b2 m c t u _ b hb)

/-- The memory's block read from column `o` on, of the memory. -/
theorem v_of (o : Nat) (ho : o + 128 ≤ 1024) (inb) (u : Fin 256) (d : Fin 128) (b : Fin 4) (hb : b.val = (grid0.coords t 0).val) (k : Fin 512) (e : o + d.val = 512 + k.val) :
    View.ld (iblk m c 2 t) (Rect.unit (s := S1x256x1024) ![0, 0, o] S1x256x128.size inb) (ix3 (0 : Fin 1) u d)
      = m ((c : Thread nD τ).loc main_arg1) (ix3 b u (⟨512 + k.val, by omega⟩ : Fin 1024)) := by
  refine (ld2 o ho inb (iblk m c 2 t) u d).trans ((b2 m c t u _ b hb).trans ?_)
  rw [V_main_arg1 m c]
  exact congrArg (fun z : Fin 1024 => m ((c : Thread nD τ).loc main_arg1) (ix3 b u z)) (Fin.ext e)

/-- The result, of the arguments' contents at launch. -/
def result : FVec Ideal S4x2048x2048 .f32 := fun i =>
  attended (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- Where the arguments the scores are made of are real. -/
def Real : Prop :=
  (∀ i, IsR ((m ((c : Thread nD τ).loc main_arg0) : FVec Ideal S4x2048x2048 .f32) i)) ∧ (∀ i, IsR ((m ((c : Thread nD τ).loc main_arg1) : FVec Ideal S4x256x1024 .bf16) i))
    ∧ (∀ i, IsR ((m ((c : Thread nD τ).loc main_arg2) : FVec Ideal S2048 .f32) i)) ∧ (∀ i, IsR ((m ((c : Thread nD τ).loc main_arg3) : FVec Ideal S2048x512 .f32) i))

theorem outs_at (hf : Real m c) (p : Fin 512) (n : Fin 2048) (b : Fin 4) (hb : b.val = (grid0.coords t 0).val) (r : Fin 2048)
    (hr : r.val = (grid0.coords t 1).val * 512 + p.val) :
    out0_5 (iblk m c 0 t) (iblk m c 1 t) (iblk m c 2 t) (iblk m c 3 t) (iblk m c 4 t) (ix3 (0 : Fin 1) p n) = result m c (ix3 b r n) := by
  obtain ⟨f0, f1, f2, f3⟩ := hf
  unfold_out out0_5
  frame_out
  rw [pay9_eq, pay12_eq, pay15_eq, pay18_eq, pay13_eq, pay16_eq, pay19_eq]
  refine (k0_pay1_at _ _ _ _ _ _ _ _ _ _ _ _ _ _ p n
    (fun k => cAt (m ((c : Thread nD τ).loc main_arg0)) (m ((c : Thread nD τ).loc main_arg1)) (m ((c : Thread nD τ).loc main_arg2)) (m ((c : Thread nD τ).loc main_arg3))
      b (⟨k.val / 128, by omega⟩ : Fin 4) r (⟨k.val % 128, by omega⟩ : Fin 128)) ?_ ?_ ?_ ?_).trans ?_
  · intro k g
    refine head_c _ _ _ _ f0 f1 f2 f3 b 0 r k (by show k.val / 128 = 0; omega) _ _ _ _ ?_ (fun u => k0_pay8_at _ p u) (k0_pay10_at _ p)
      (fun u => v_of m c t 512 (by omega) inb_S1x256x1024_S1x256x128_0_0_512 u _ b hb k (by show 512 + k.val = 512 + k.val; omega))
    intro u
    refine (congrArg (fun z : EReal => z * cScale) ((k0_pay4_at _ _ _ _ p u).trans (Finset.sum_congr rfl fun d _ => ?_))).trans (s_of m c t p b 0 hb r hr u 0 rfl)
    exact congrArg (fun z : EReal => _ * z) (ld2 0 (by omega) inb_S1x256x1024_S1x256x128_0_0_0 (iblk m c 2 t) u d)
  · intro k g g1
    refine head_c _ _ _ _ f0 f1 f2 f3 b 1 r k (by show k.val / 128 = 1; omega) _ _ _ _ ?_ (fun u => k0_pay8_at _ p u) (k0_pay10_at _ p)
      (fun u => v_of m c t 640 (by omega) inb_S1x256x1024_S1x256x128_0_0_640 u _ b hb k (by show 640 + (k.val - 128) = 512 + k.val; omega))
    intro u
    refine (congrArg (fun z : EReal => z * cScale) ((k0_pay5_at _ _ _ _ p u).trans (Finset.sum_congr rfl fun d _ => ?_))).trans (s_of m c t p b 1 hb r hr u 128 rfl)
    exact congrArg (fun z : EReal => _ * z) (ld2 128 (by omega) inb_S1x256x1024_S1x256x128_0_0_128 (iblk m c 2 t) u d)
  · intro k g g1
    refine head_c _ _ _ _ f0 f1 f2 f3 b 2 r k (by show k.val / 128 = 2; omega) _ _ _ _ ?_ (fun u => k0_pay8_at _ p u) (k0_pay10_at _ p)
      (fun u => v_of m c t 768 (by omega) inb_S1x256x1024_S1x256x128_0_0_768 u _ b hb k (by show 768 + (k.val - 128 - 128) = 512 + k.val; omega))
    intro u
    refine (congrArg (fun z : EReal => z * cScale) ((k0_pay6_at _ _ _ _ p u).trans (Finset.sum_congr rfl fun d _ => ?_))).trans (s_of m c t p b 2 hb r hr u 256 rfl)
    exact congrArg (fun z : EReal => _ * z) (ld2 256 (by omega) inb_S1x256x1024_S1x256x128_0_0_256 (iblk m c 2 t) u d)
  · intro k g
    refine head_c _ _ _ _ f0 f1 f2 f3 b 3 r k (by show k.val / 128 = 3; omega) _ _ _ _ ?_ (fun u => k0_pay8_at _ p u) (k0_pay10_at _ p)
      (fun u => v_of m c t 896 (by omega) inb_S1x256x1024_S1x256x128_0_0_896 u _ b hb k (by show 896 + (k.val - 128 - 128 - 128) = 512 + k.val; omega))
    intro u
    refine (congrArg (fun z : EReal => z * cScale) ((dots_at _ _ p u).trans (Finset.sum_congr rfl fun d _ => ?_))).trans (s_of m c t p b 3 hb r hr u 384 rfl)
    exact congrArg₂ (fun y z : EReal => y * z) (k0_pay7_at _ _ _ p d) (ld2 384 (by omega) inb_S1x256x1024_S1x256x128_0_0_384 (iblk m c 2 t) u d)
  · show _ = attended _ _ _ _ _ b r n
    unfold attended
    rw [← V_v2 m c]
    refine congrArg₂ (fun y z : EReal => y + z) ?_ (Finset.sum_congr rfl fun k _ => congrArg (fun z : EReal => _ * z) (b4 m c t k n))
    rw [← V_main_arg0 m c]
    refine Eq.trans ?_ (b0 m c t p n b hb r hr)
    unfold k0_pay2
    pointwise

theorem emb5_0 (y : ((cfg0.win 5).xblock (cfg0.grid.coords t)).Idx) :
    (((cfg0.win 5).blk t).view.emb y (0 : Fin 3)).val = (grid0.coords t 0).val + (y (0 : Fin 3)).val := by
  blk_simp [at5 t]
theorem emb5_1 (y : ((cfg0.win 5).xblock (cfg0.grid.coords t)).Idx) :
    (((cfg0.win 5).blk t).view.emb y (1 : Fin 3)).val = (grid0.coords t 1).val * 512 + (y (1 : Fin 3)).val := by
  blk_simp [at5 t]
theorem emb5_2 (y : ((cfg0.win 5).xblock (cfg0.grid.coords t)).Idx) :
    (((cfg0.win 5).blk t).view.emb y (2 : Fin 3)).val = (y (2 : Fin 3)).val := by
  blk_simp [at5 t]

theorem outs_entry (hf : Real m c) (y : S1x512x2048.Idx) (i : S4x2048x2048.Idx) (h0 : (i (0 : Fin 3)).val = (grid0.coords t 0).val + (y (0 : Fin 3)).val)
    (h1 : (i (1 : Fin 3)).val = (grid0.coords t 1).val * 512 + (y (1 : Fin 3)).val) (h2 : (i (2 : Fin 3)).val = (y (2 : Fin 3)).val) :
    out0_5 (iblk m c 0 t) (iblk m c 1 t) (iblk m c 2 t) (iblk m c 3 t) (iblk m c 4 t) y = result m c i := by
  have e : (i (2 : Fin 3) : Fin 2048) = y (2 : Fin 3) := Fin.ext h2
  have hy : (y (0 : Fin 3)).val = 0 := Nat.lt_one_iff.1 (y (0 : Fin 3)).isLt
  have z : y = ix3 (0 : Fin 1) (y (1 : Fin 3) : Fin 512) (y (2 : Fin 3) : Fin 2048) := funext fun a => Fin.ext (by
    match a with
    | ⟨0, _⟩ => exact hy
    | ⟨1, _⟩ => rfl
    | ⟨2, _⟩ => rfl)
  have w : i = ix3 (i (0 : Fin 3) : Fin 4) (i (1 : Fin 3) : Fin 2048) (y (2 : Fin 3) : Fin 2048) := by
    rw [← e]
    exact eq_ix3 (n0 := 4) (n1 := 2048) (n2 := 2048) i
  rw [z, w]
  exact outs_at m c t hf (y 1) (y 2) (i 0) (by rw [h0, hy]; rfl) (i 1) h1

theorem arr5 (hf : Real m c) : (dats m 0 c).arrAt 5 cfg0.N = result m c := by
  refine (dats m 0 c).arrAt_eq_of_covers 5 _ (by decide +kernel) fun t _ y => ?_
  refine (congrFun (after0_5 m c t) _).trans ?_
  exact outs_entry m c t hf y _ (emb5_0 t y) (emb5_1 t y) (emb5_2 t y)

theorem algebraic : Cert.algebraic_CrossSampleIdeal_CrossSampleReferenceIdeal_pre_finite_sample := fun m g m' g' hp ha => by
  refine ⟨fun c => result m c, ?_, ?_⟩
  · exact (θ_run (Cert.CrossSampleIdeal.defs (F := Ideal)) _ _).mono (fun _ h c => ⟨(h c).1.trans (arr5 m c (finite_of _ _ _ _ _ (hp c))), (h c).2⟩) (Cert.CrossSampleIdeal.Value.run_blocks (F := Ideal) m g)
  · refine (θ_run (Cert.CrossSampleReferenceIdeal.defs (F := Ideal)) _ _).mono (fun _ h c => ⟨(h c).1.trans ?_, (h c).2⟩) (Cert.CrossSampleReferenceIdeal.Value.run (F := Ideal) m' g')
    obtain ⟨h0, h1, h2, h3, h4⟩ := ha c
    unfold Cert.CrossSampleReferenceIdeal.Value.res_main_v39
    rw [h0, h1, h2, h3, h4]
    funext i
    rw [eq_ix3 (n0 := 4) (n1 := 2048) (n2 := 2048) i]
    exact refX_at _ _ _ _ _ (i 0) (i 1) (i 2)

end Cert.Proof.CrossSample

end
-- ==== Proof.lean ====
/- `Proof/Algebraic.lean`; the merge's equalities from `Proof/Merge/Kernel.lean` and `Proof/MergeSample/Kernel.lean`;
   the projection's frames from `Proof/InProjBits`, `Proof/InProj`, `Proof/InProjSampleBits` and `Proof/InProjSample` (at bits and at the
   ideal values), its equalities from `Proof/InProj/Kernel.lean` and `Proof/InProjSample/Kernel.lean`;
   the equality of the memory's keys and values from `Proof/Memory/Kernel.lean`; those of the cross attention from `Proof/Cross/Value.lean` and
   `Proof/CrossSample/Value.lean`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeSample
public import proofs.«01_k».proof.Proof.Gen.MergeSample.Frame
public import proofs.«01_k».proof.Proof.Gen.MergeSampleIdeal
public import proofs.«01_k».proof.Proof.Gen.MergeSampleIdeal.Frame
public import proofs.«01_k».proof.Proof.Gen.MergeSampleIdeal.Value
public import proofs.«01_k».proof.Proof.Gen.MergeSampleReferenceIdeal
public import proofs.«01_k».proof.Proof.Gen.MergeSampleReferenceIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.ProjectSample
public import proofs.«01_k».proof.Proof.Gen.ProjectSample.Frame
public import proofs.«01_k».proof.Proof.Gen.ProjectSampleIdeal
public import proofs.«01_k».proof.Proof.Gen.ProjectSampleIdeal.Frame
public import proofs.«01_k».proof.Proof.Gen.ProjectSampleReferenceIdeal
public import proofs.«01_k».proof.Proof.Gen.ProjectSampleReferenceIdeal.Run
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossIdeal.Value
public import proofs.«01_k».proof.Proof.Gen.CrossReferenceIdeal
public import proofs.«01_k».proof.Proof.Gen.CrossReferenceIdeal.Run
public import proofs.«01_k».proof.Proof.Gen.CrossSample
public import proofs.«01_k».proof.Proof.Gen.CrossSample.Frame
public import proofs.«01_k».proof.Proof.Gen.CrossSampleIdeal
public import proofs.«01_k».proof.Proof.Gen.CrossSampleIdeal.Frame
public import proofs.«01_k».proof.Proof.Gen.CrossSampleIdeal.Value
public import proofs.«01_k».proof.Proof.Gen.CrossSampleReferenceIdeal
public import proofs.«01_k».proof.Proof.Gen.CrossSampleReferenceIdeal.Run
public import proofs.«01_k».proof.Proof.Gen.Pre_finite
public import proofs.«01_k».proof.Proof.Gen.Pre_finite_sample
public import proofs.«01_k».proof.Proof.Frames
public import proofs.«01_k».proof.Proof.Algebraic
public import proofs.«01_k».proof.Proof.Merge.Kernel
public import proofs.«01_k».proof.Proof.MergeSample.Kernel
public import proofs.«01_k».proof.Proof.InProj.Frame
public import proofs.«01_k».proof.Proof.InProj.Kernel
public import proofs.«01_k».proof.Proof.InProjBits.Frame
public import proofs.«01_k».proof.Proof.InProjSample.Frame
public import proofs.«01_k».proof.Proof.InProjSample.Kernel
public import proofs.«01_k».proof.Proof.InProjSampleBits.Frame
public import proofs.«01_k».proof.Proof.Memory.Kernel
public import proofs.«01_k».proof.Proof.Cross.Value
public import proofs.«01_k».proof.Proof.CrossSample.Value

@[expose] public section

noncomputable section

namespace Cert.Proof

open Idealize.ShloMosaic Idealize.SL.Sem

theorem frame_merge_reference : Cert.quiescent_MergeReferenceIdeal := fun m ρ _ =>
  (θ_run (Cert.MergeReferenceIdeal.defs (F := Ideal)) _ _).mono (fun _ h => ⟨fun c => (h c).2, sem_eq_zero_of_no_sems (by decide) _⟩) (Cert.MergeReferenceIdeal.Value.run (F := Ideal) m ρ)

theorem frame_merge_sample_reference : Cert.quiescent_MergeSampleReferenceIdeal := fun m ρ _ =>
  (θ_run (Cert.MergeSampleReferenceIdeal.defs (F := Ideal)) _ _).mono (fun _ h => ⟨fun c => (h c).2, sem_eq_zero_of_no_sems (by decide) _⟩) (Cert.MergeSampleReferenceIdeal.Value.run (F := Ideal) m ρ)

theorem frame_project_reference : Cert.quiescent_ProjectReferenceIdeal := fun m ρ _ =>
  (θ_run (Cert.ProjectReferenceIdeal.defs (F := Ideal)) _ _).mono (fun _ h => ⟨fun c => (h c).2.2, sem_eq_zero_of_no_sems (by decide) _⟩) (Cert.ProjectReferenceIdeal.Value.run (F := Ideal) m ρ)

theorem frame_project_sample_reference : Cert.quiescent_ProjectSampleReferenceIdeal := fun m ρ _ =>
  (θ_run (Cert.ProjectSampleReferenceIdeal.defs (F := Ideal)) _ _).mono (fun _ h => ⟨fun c => (h c).2.2, sem_eq_zero_of_no_sems (by decide) _⟩) (Cert.ProjectSampleReferenceIdeal.Value.run (F := Ideal) m ρ)

theorem frame_memory_reference : Cert.quiescent_MemoryReferenceIdeal := fun m ρ _ =>
  (θ_run (Cert.MemoryReferenceIdeal.defs (F := Ideal)) _ _).mono (fun _ h => ⟨fun c => (h c).2, sem_eq_zero_of_no_sems (by decide) _⟩) (Cert.MemoryReferenceIdeal.Value.run (F := Ideal) m ρ)

theorem frame_cross_reference : Cert.quiescent_CrossReferenceIdeal := fun m ρ _ =>
  (θ_run (Cert.CrossReferenceIdeal.defs (F := Ideal)) _ _).mono (fun _ h => ⟨fun c => (h c).2, sem_eq_zero_of_no_sems (by decide) _⟩) (Cert.CrossReferenceIdeal.Value.run (F := Ideal) m ρ)

theorem frame_cross_sample_reference : Cert.quiescent_CrossSampleReferenceIdeal := fun m ρ _ =>
  (θ_run (Cert.CrossSampleReferenceIdeal.defs (F := Ideal)) _ _).mono (fun _ h => ⟨fun c => (h c).2, sem_eq_zero_of_no_sems (by decide) _⟩) (Cert.CrossSampleReferenceIdeal.Value.run (F := Ideal) m ρ)

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.MergeSample.Gen.facts, Cert.MergeSampleIdeal.Gen.facts, Cert.MergeSampleReferenceIdeal.Gen.facts,
  Cert.Project.Gen.facts, Cert.ProjectIdeal.Gen.facts, Cert.ProjectReferenceIdeal.Gen.facts,
  Cert.ProjectSample.Gen.facts, Cert.ProjectSampleIdeal.Gen.facts, Cert.ProjectSampleReferenceIdeal.Gen.facts,
  Cert.Memory.Gen.facts, Cert.MemoryIdeal.Gen.facts, Cert.MemoryReferenceIdeal.Gen.facts,
  Cert.Cross.Gen.facts, Cert.CrossIdeal.Gen.facts, Cert.CrossReferenceIdeal.Gen.facts,
  Cert.CrossSample.Gen.facts, Cert.CrossSampleIdeal.Gen.facts, Cert.CrossSampleReferenceIdeal.Gen.facts,
  Cert.Pre_routed.Gen.facts, Cert.Pre_finite.Gen.facts, Cert.Pre_finite_sample.Gen.facts,
  frame_kernel, frame_ideal, frame_reference, frame_reference_routed,
  fun m ρ _ => Cert.Merge.Gen.frame m ρ, fun m ρ _ => Cert.MergeIdeal.Gen.frame m ρ, frame_merge_reference,
  fun m ρ _ => Cert.MergeSample.Gen.frame m ρ, fun m ρ _ => Cert.MergeSampleIdeal.Gen.frame m ρ, frame_merge_sample_reference,
  fun m ρ _ => Cert.Proof.InProjBits.frame m ρ, fun m ρ _ => Cert.Proof.InProj.frame m ρ, frame_project_reference,
  fun m ρ _ => Cert.Proof.InProjSampleBits.frame m ρ, fun m ρ _ => Cert.Proof.InProjSample.frame m ρ, frame_project_sample_reference,
  fun m ρ _ => Cert.Memory.Gen.frame m ρ, fun m ρ _ => Cert.MemoryIdeal.Gen.frame m ρ, frame_memory_reference,
  fun m ρ _ => Cert.Cross.Gen.frame m ρ, fun m ρ _ => Cert.CrossIdeal.Gen.frame m ρ, fun m ρ _ => Cert.CrossIdeal.Gen.frame m ρ,
  frame_cross_reference, fun m ρ _ => frame_cross_reference m ρ trivial,
  fun m ρ _ => Cert.CrossSample.Gen.frame m ρ, fun m ρ _ => Cert.CrossSampleIdeal.Gen.frame m ρ, fun m ρ _ => Cert.CrossSampleIdeal.Gen.frame m ρ,
  frame_cross_sample_reference, fun m ρ _ => frame_cross_sample_reference m ρ trivial,
  trivial, algebraic, trivial, Cert.Proof.Merge.algebraic, trivial, Cert.Proof.MergeSample.algebraic,
  trivial, Cert.Proof.InProj.algebraic,
  trivial, Cert.Proof.InProjSample.algebraic,
  trivial, Cert.Proof.Memory.algebraic,
  trivial, Cert.Proof.Cross.algebraic, trivial, Cert.Proof.CrossSample.algebraic⟩

end Cert.Proof

end
